-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)) (v3 : (c : Dev Cert.KernelIdeal.nD) → Buf (Elt Ideal) ((c.tc : Thread Cert.KernelIdeal.nD Cert.KernelIdeal.τ).loc Cert.KernelIdeal.main_v43_3)) (v4 : (c : Dev Cert.KernelIdeal.nD) → Buf (Elt Ideal) ((c.tc : Thread Cert.KernelIdeal.nD Cert.KernelIdeal.τ).loc Cert.KernelIdeal.main_v43_4)) (v5 : (c : Dev Cert.KernelIdeal.nD) → Buf (Elt Ideal) ((c.tc : Thread Cert.KernelIdeal.nD Cert.KernelIdeal.τ).loc Cert.KernelIdeal.main_v43_5)) (v6 : (c : Dev Cert.KernelIdeal.nD) → Buf (Elt Ideal) ((c.tc : Thread Cert.KernelIdeal.nD Cert.KernelIdeal.τ).loc Cert.KernelIdeal.main_v43_6)) (v7 : (c : Dev Cert.KernelIdeal.nD) → Buf (Elt Ideal) ((c.tc : Thread Cert.KernelIdeal.nD Cert.KernelIdeal.τ).loc Cert.KernelIdeal.main_v43_7)) (v8 : (c : Dev Cert.KernelIdeal.nD) → Buf (Elt Ideal) ((c.tc : Thread Cert.KernelIdeal.nD Cert.KernelIdeal.τ).loc Cert.KernelIdeal.main_v43_8)) (v9 : (c : Dev Cert.KernelIdeal.nD) → Buf (Elt Ideal) ((c.tc : Thread Cert.KernelIdeal.nD Cert.KernelIdeal.τ).loc Cert.KernelIdeal.main_v43_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v43_0) i = v0 c i)
          ∧ (∀ i : (⟨2, ![2048, 9216]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v43_1) i = v1 c i)
          ∧ (∀ i : (⟨2, ![2048, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.KernelIdeal.nD Cert.KernelIdeal.τ).loc Cert.KernelIdeal.main_v43_2) i = v2 c i)
          ∧ (∀ i : (⟨2, ![2048, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.KernelIdeal.nD Cert.KernelIdeal.τ).loc Cert.KernelIdeal.main_v43_3) i = v3 c i)
          ∧ (∀ i : (⟨2, ![2048, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.KernelIdeal.nD Cert.KernelIdeal.τ).loc Cert.KernelIdeal.main_v43_4) i = v4 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.KernelIdeal.nD Cert.KernelIdeal.τ).loc Cert.KernelIdeal.main_v43_5) i = v5 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.KernelIdeal.nD Cert.KernelIdeal.τ).loc Cert.KernelIdeal.main_v43_6) i = v6 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.KernelIdeal.nD Cert.KernelIdeal.τ).loc Cert.KernelIdeal.main_v43_7) i = v7 c i)
          ∧ (∀ i : (⟨4, ![4, 3, 512, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 i = 1#1 → r.2.mem ((c.tc : Thread Cert.KernelIdeal.nD Cert.KernelIdeal.τ).loc Cert.KernelIdeal.main_v43_8) i = v8 c i)
          ∧ (∀ i : (⟨3, ![4, 256, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 i = 1#1 → r.2.mem ((c.tc : Thread Cert.KernelIdeal.nD Cert.KernelIdeal.τ).loc Cert.KernelIdeal.main_v43_9) i = v9 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v117) i = v0 c i)
          ∧ (∀ i : (⟨2, ![2048, 9216]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v151) i = v1 c i)
          ∧ (∀ i : (⟨2, ![2048, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.ReferenceIdeal.nD Cert.ReferenceIdeal.τ).loc Cert.ReferenceIdeal.main_v142) i = v2 c i)
          ∧ (∀ i : (⟨2, ![2048, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.ReferenceIdeal.nD Cert.ReferenceIdeal.τ).loc Cert.ReferenceIdeal.main_v133) i = v3 c i)
          ∧ (∀ i : (⟨2, ![2048, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.ReferenceIdeal.nD Cert.ReferenceIdeal.τ).loc Cert.ReferenceIdeal.main_v125) i = v4 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.ReferenceIdeal.nD Cert.ReferenceIdeal.τ).loc Cert.ReferenceIdeal.main_v86) i = v5 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.ReferenceIdeal.nD Cert.ReferenceIdeal.τ).loc Cert.ReferenceIdeal.main_v83) i = v6 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.ReferenceIdeal.nD Cert.ReferenceIdeal.τ).loc Cert.ReferenceIdeal.main_v115) i = v7 c i)
          ∧ (∀ i : (⟨4, ![4, 3, 512, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 i = 1#1 → r.2.mem ((c.tc : Thread Cert.ReferenceIdeal.nD Cert.ReferenceIdeal.τ).loc Cert.ReferenceIdeal.main_v152) i = v8 c i)
          ∧ (∀ i : (⟨3, ![4, 256, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 i = 1#1 → r.2.mem ((c.tc : Thread Cert.ReferenceIdeal.nD Cert.ReferenceIdeal.τ).loc Cert.ReferenceIdeal.main_v154) i = v9 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v34) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v38) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_v56) = v1 c
          ∧ r.2.mem ((c.tc : Thread Cert.Reference8Ideal.nD Cert.Reference8Ideal.τ).loc Cert.Reference8Ideal.main_v57) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite4 : Cert.Pre_finite4.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_written.lean ====
abbrev S2048x1024 : Shape := ⟨2, ![2048, 1024]⟩
abbrev S1x3072 : Shape := ⟨2, ![1, 3072]⟩
abbrev S2048x9216 : Shape := ⟨2, ![2048, 9216]⟩
abbrev S2048x512 : Shape := ⟨2, ![2048, 512]⟩
abbrev S3x512x1024 : Shape := ⟨3, ![3, 512, 1024]⟩
abbrev S1024x1024 : Shape := ⟨2, ![1024, 1024]⟩
abbrev S2x1024 : Shape := ⟨2, ![2, 1024]⟩
abbrev S_ : Shape := ⟨0, ![]⟩
abbrev S1x1024 : Shape := ⟨2, ![1, 1024]⟩
abbrev S4x3x512x256 : Shape := ⟨4, ![4, 3, 512, 256]⟩
abbrev S4x256x1024 : Shape := ⟨3, ![4, 256, 1024]⟩

class Facts : Prop where
  bcast_S_S2048x9216 : S_.BroadcastsInDim S2048x9216 (![] : Fin 0 → Fin S2048x9216.rank)
  bcast_S_S2048x1024 : S_.BroadcastsInDim S2048x1024 (![] : Fin 0 → Fin S2048x1024.rank)
  bcast_S_S2048x512 : S_.BroadcastsInDim S2048x512 (![] : Fin 0 → Fin S2048x512.rank)
  bcast_S_S1x1024 : S_.BroadcastsInDim S1x1024 (![] : Fin 0 → Fin S1x1024.rank)
  bcast_S_S4x3x512x256 : S_.BroadcastsInDim S4x3x512x256 (![] : Fin 0 → Fin S4x3x512x256.rank)
  bcast_S_S4x256x1024 : S_.BroadcastsInDim S4x256x1024 (![] : Fin 0 → Fin S4x256x1024.rank)

variable [Facts]

def fn {F : FTy → Type} [FloatOps F] (main_arg0 : FVec F S2048x1024 .f32) (main_arg1 : FVec F S2048x1024 .f32) (main_arg2 : FVec F S1x3072 .f32) (main_arg3 : FVec F S2048x9216 .f32) (main_arg4 : FVec F S2048x512 .bf16) (main_arg5 : FVec F S2048x512 .bf16) (main_arg6 : FVec F S2048x512 .bf16) (main_arg7 : FVec F S3x512x1024 .f32) (main_arg8 : FVec F S1024x1024 .f32) (main_arg9 : FVec F S2x1024 .f32) : IVec S2048x1024 1 × IVec S2048x9216 1 × IVec S2048x512 1 × IVec S2048x512 1 × IVec S2048x512 1 × IVec S1x1024 1 × IVec S1x1024 1 × IVec S1x1024 1 × IVec S4x3x512x256 1 × IVec S4x256x1024 1 :=
  let main_v0 : IVec S2048x9216 32 := iotaInDim S2048x9216 32 1
  let main_c : IVec S_ 32 := constantI S_ 32 6144#32
  let main_v1 : IVec S2048x9216 32 := broadcastInDim S2048x9216 ![] bcast_S_S2048x9216 main_c
  let main_v2 : IVec S2048x9216 1 := cmpi .sge main_v0 main_v1
  let main_c_0 : IVec S_ 1 := constantI S_ 1 1#1
  let main_v3 : IVec S2048x1024 1 := broadcastInDim S2048x1024 ![] bcast_S_S2048x1024 main_c_0
  let main_c_1 : IVec S_ 1 := constantI S_ 1 1#1
  let main_v4 : IVec S2048x512 1 := broadcastInDim S2048x512 ![] bcast_S_S2048x512 main_c_1
  let main_c_2 : IVec S_ 1 := constantI S_ 1 1#1
  let main_v5 : IVec S2048x512 1 := broadcastInDim S2048x512 ![] bcast_S_S2048x512 main_c_2
  let main_c_3 : IVec S_ 1 := constantI S_ 1 1#1
  let main_v6 : IVec S2048x512 1 := broadcastInDim S2048x512 ![] bcast_S_S2048x512 main_c_3
  let main_c_4 : IVec S_ 1 := constantI S_ 1 1#1
  let main_v7 : IVec S1x1024 1 := broadcastInDim S1x1024 ![] bcast_S_S1x1024 main_c_4
  let main_c_5 : IVec S_ 1 := constantI S_ 1 1#1
  let main_v8 : IVec S1x1024 1 := broadcastInDim S1x1024 ![] bcast_S_S1x1024 main_c_5
  let main_c_6 : IVec S_ 1 := constantI S_ 1 1#1
  let main_v9 : IVec S1x1024 1 := broadcastInDim S1x1024 ![] bcast_S_S1x1024 main_c_6
  let main_c_7 : IVec S_ 1 := constantI S_ 1 1#1
  let main_v10 : IVec S4x3x512x256 1 := broadcastInDim S4x3x512x256 ![] bcast_S_S4x3x512x256 main_c_7
  let main_c_8 : IVec S_ 1 := constantI S_ 1 1#1
  let main_v11 : IVec S4x256x1024 1 := broadcastInDim S4x256x1024 ![] bcast_S_S4x256x1024 main_c_8
  (main_v3, main_v2, main_v4, main_v5, main_v6, main_v7, main_v8, main_v9, main_v10, main_v11)
-- ==== Pre_finite.lean ====
abbrev S2048x1024 : Shape := ⟨2, ![2048, 1024]⟩
abbrev S1x3072 : Shape := ⟨2, ![1, 3072]⟩
abbrev S2048x9216 : Shape := ⟨2, ![2048, 9216]⟩
abbrev S2048x512 : Shape := ⟨2, ![2048, 512]⟩
abbrev S3x512x1024 : Shape := ⟨3, ![3, 512, 1024]⟩
abbrev S1024x1024 : Shape := ⟨2, ![1024, 1024]⟩
abbrev S2x1024 : Shape := ⟨2, ![2, 1024]⟩
abbrev S_ : Shape := ⟨0, ![]⟩

class Facts : Prop where
  bcast_S_S2048x1024 : S_.BroadcastsInDim S2048x1024 (![] : Fin 0 → Fin S2048x1024.rank)
  bcast_S_S1x3072 : S_.BroadcastsInDim S1x3072 (![] : Fin 0 → Fin S1x3072.rank)
  bitsLt_bf16_f32 : FTy.bits .bf16 < FTy.bits .f32
  bcast_S_S2048x512 : S_.BroadcastsInDim S2048x512 (![] : Fin 0 → Fin S2048x512.rank)
  bcast_S_S3x512x1024 : S_.BroadcastsInDim S3x512x1024 (![] : Fin 0 → Fin S3x512x1024.rank)
  bcast_S_S1024x1024 : S_.BroadcastsInDim S1024x1024 (![] : Fin 0 → Fin S1024x1024.rank)
  bcast_S_S2x1024 : S_.BroadcastsInDim S2x1024 (![] : Fin 0 → Fin S2x1024.rank)

variable [Facts]

def fn_part1 {F : FTy → Type} [FloatOps F] (main_arg7 : FVec F S3x512x1024 .f32) (main_arg8 : FVec F S1024x1024 .f32) (main_arg9 : FVec F S2x1024 .f32) (main_v2 : IVec S2048x1024 1) (main_v5 : IVec S2048x1024 1) (main_v8 : IVec S1x3072 1) (main_v12 : IVec S2048x512 1) (main_v16 : IVec S2048x512 1) (main_v18 : FVec F S2048x512 .f32) : IVec S2048x1024 1 × IVec S2048x1024 1 × IVec S1x3072 1 × IVec S2048x512 1 × IVec S2048x512 1 × IVec S2048x512 1 × IVec S3x512x1024 1 × IVec S1024x1024 1 × IVec S2x1024 1 :=
  let main_cst_4 : FVec F S_ .f32 := constant S_ .f32 0x7F800000#32
  let main_v19 : FVec F S2048x512 .f32 := broadcastInDim S2048x512 ![] bcast_S_S2048x512 main_cst_4
  let main_v20 : IVec S2048x512 1 := cmpf .olt main_v18 main_v19
  let main_v21 : FVec F S3x512x1024 .f32 := Host.absf main_arg7
  let main_cst_5 : FVec F S_ .f32 := constant S_ .f32 0x7F800000#32
  let main_v22 : FVec F S3x512x1024 .f32 := broadcastInDim S3x512x1024 ![] bcast_S_S3x512x1024 main_cst_5
  let main_v23 : IVec S3x512x1024 1 := cmpf .olt main_v21 main_v22
  let main_v24 : FVec F S1024x1024 .f32 := Host.absf main_arg8
  let main_cst_6 : FVec F S_ .f32 := constant S_ .f32 0x7F800000#32
  let main_v25 : FVec F S1024x1024 .f32 := broadcastInDim S1024x1024 ![] bcast_S_S1024x1024 main_cst_6
  let main_v26 : IVec S1024x1024 1 := cmpf .olt main_v24 main_v25
  let main_v27 : FVec F S2x1024 .f32 := Host.absf main_arg9
  let main_cst_7 : FVec F S_ .f32 := constant S_ .f32 0x7F800000#32
  let main_v28 : FVec F S2x1024 .f32 := broadcastInDim S2x1024 ![] bcast_S_S2x1024 main_cst_7
  let main_v29 : IVec S2x1024 1 := cmpf .olt main_v27 main_v28
  (main_v2, main_v5, main_v8, main_v12, main_v16, main_v20, main_v23, main_v26, main_v29)

def fn {F : FTy → Type} [FloatOps F] (main_arg0 : FVec F S2048x1024 .f32) (main_arg1 : FVec F S2048x1024 .f32) (main_arg2 : FVec F S1x3072 .f32) (main_arg3 : FVec F S2048x9216 .f32) (main_arg4 : FVec F S2048x512 .bf16) (main_arg5 : FVec F S2048x512 .bf16) (main_arg6 : FVec F S2048x512 .bf16) (main_arg7 : FVec F S3x512x1024 .f32) (main_arg8 : FVec F S1024x1024 .f32) (main_arg9 : FVec F S2x1024 .f32) : IVec S2048x1024 1 × IVec S2048x1024 1 × IVec S1x3072 1 × IVec S2048x512 1 × IVec S2048x512 1 × IVec S2048x512 1 × IVec S3x512x1024 1 × IVec S1024x1024 1 × IVec S2x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x3072 .f32 := Host.absf main_arg2
  let main_cst_1 : FVec F S_ .f32 := constant S_ .f32 0x7F800000#32
  let main_v7 : FVec F S1x3072 .f32 := broadcastInDim S1x3072 ![] bcast_S_S1x3072 main_cst_1
  let main_v8 : IVec S1x3072 1 := cmpf .olt main_v6 main_v7
  let main_v9 : FVec F S2048x512 .f32 := (extf .f32 · bitsLt_bf16_f32) main_arg4
  let main_v10 : FVec F S2048x512 .f32 := Host.absf main_v9
  let main_cst_2 : FVec F S_ .f32 := constant S_ .f32 0x7F800000#32
  let main_v11 : FVec F S2048x512 .f32 := broadcastInDim S2048x512 ![] bcast_S_S2048x512 main_cst_2
  let main_v12 : IVec S2048x512 1 := cmpf .olt main_v10 main_v11
  let main_v13 : FVec F S2048x512 .f32 := (extf .f32 · bitsLt_bf16_f32) main_arg5
  let main_v14 : FVec F S2048x512 .f32 := Host.absf main_v13
  let main_cst_3 : FVec F S_ .f32 := constant S_ .f32 0x7F800000#32
  let main_v15 : FVec F S2048x512 .f32 := broadcastInDim S2048x512 ![] bcast_S_S2048x512 main_cst_3
  let main_v16 : IVec S2048x512 1 := cmpf .olt main_v14 main_v15
  let main_v17 : FVec F S2048x512 .f32 := (extf .f32 · bitsLt_bf16_f32) main_arg6
  let main_v18 : FVec F S2048x512 .f32 := Host.absf main_v17
  fn_part1 (F := F) main_arg7 main_arg8 main_arg9 main_v2 main_v5 main_v8 main_v12 main_v16 main_v18
-- ==== Pre_finite4.lean ====
abbrev S2048x9216 : Shape := ⟨2, ![2048, 9216]⟩
abbrev S2048x1024 : Shape := ⟨2, ![2048, 1024]⟩
abbrev S1x3072 : Shape := ⟨2, ![1, 3072]⟩
abbrev S1024x9216 : Shape := ⟨2, ![1024, 9216]⟩
abbrev S_ : Shape := ⟨0, ![]⟩
abbrev S1x1024 : Shape := ⟨2, ![1, 1024]⟩

class Facts : Prop where
  bitsLt_bf16_f32 : FTy.bits .bf16 < FTy.bits .f32
  bcast_S_S2048x9216 : S_.BroadcastsInDim S2048x9216 (![] : Fin 0 → Fin S2048x9216.rank)
  bcast_S_S2048x1024 : S_.BroadcastsInDim S2048x1024 (![] : Fin 0 → Fin S2048x1024.rank)
  slices_S1x3072_S1x1024_0_1024 : S1x3072.Slices ![0, 1024] S1x1024
  bcast_S_S1x1024 : S_.BroadcastsInDim S1x1024 (![] : Fin 0 → Fin S1x1024.rank)
  bcast_S_S1024x9216 : S_.BroadcastsInDim S1024x9216 (![] : Fin 0 → Fin S1024x9216.rank)

variable [Facts]

def fn {F : FTy → Type} [FloatOps F] (main_arg0 : FVec F S2048x9216 .bf16) (main_arg1 : FVec F S2048x1024 .f32) (main_arg2 : FVec F S1x3072 .f32) (main_arg3 : FVec F S1024x9216 .f32) (main_arg4 : FVec F S2048x1024 .f32) : IVec S2048x9216 1 × IVec S2048x1024 1 × IVec S1x1024 1 × IVec S1024x9216 1 :=
  let main_v0 : FVec F S2048x9216 .f32 := (extf .f32 · bitsLt_bf16_f32) main_arg0
  let main_v1 : FVec F S2048x9216 .f32 := Host.absf main_v0
  let main_cst : FVec F S_ .f32 := constant S_ .f32 0x7F800000#32
  let main_v2 : FVec F S2048x9216 .f32 := broadcastInDim S2048x9216 ![] bcast_S_S2048x9216 main_cst
  let main_v3 : IVec S2048x9216 1 := cmpf .olt main_v1 main_v2
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : FVec F S1x1024 .f32 := (extractStridedSlice S1x1024 ![0, 1024] · slices_S1x3072_S1x1024_0_1024) main_arg2
  let main_v8 : FVec F S1x1024 .f32 := Host.absf main_v7
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S1024x9216 .f32 := Host.absf main_arg3
  let main_cst_2 : FVec F S_ .f32 := constant S_ .f32 0x7F800000#32
  let main_v12 : FVec F S1024x9216 .f32 := broadcastInDim S1024x9216 ![] bcast_S_S1024x9216 main_cst_2
  let main_v13 : IVec S1024x9216 1 := cmpf .olt main_v11 main_v12
  (main_v3, main_v6, main_v10, main_v13)
-- ==== Kernel.lean ====
abbrev S2048x1024 : Shape := ⟨2, ![2048, 1024]⟩
abbrev S1x3072 : Shape := ⟨2, ![1, 3072]⟩
abbrev S2048x9216 : Shape := ⟨2, ![2048, 9216]⟩
abbrev S2048x512 : Shape := ⟨2, ![2048, 512]⟩
abbrev S3x512x1024 : Shape := ⟨3, ![3, 512, 1024]⟩
abbrev S1024x1024 : Shape := ⟨2, ![1024, 1024]⟩
abbrev S2x1024 : Shape := ⟨2, ![2, 1024]⟩
abbrev S_ : Shape := ⟨0, ![]⟩
abbrev S1x512x1024 : Shape := ⟨3, ![1, 512, 1024]⟩
abbrev S512x1024 : Shape := ⟨2, ![512, 1024]⟩
abbrev S4x256x1024 : Shape := ⟨3, ![4, 256, 1024]⟩
abbrev S1x1024 : Shape := ⟨2, ![1, 1024]⟩
abbrev S4x3x512x256 : Shape := ⟨4, ![4, 3, 512, 256]⟩
abbrev S256x1024 : Shape := ⟨2, ![256, 1024]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩
abbrev S1024 : Shape := ⟨1, ![1024]⟩
abbrev S1x256x1024 : Shape := ⟨3, ![1, 256, 1024]⟩
abbrev S1x512x256 : Shape := ⟨3, ![1, 512, 256]⟩
abbrev S512x256 : Shape := ⟨2, ![512, 256]⟩
abbrev S1x1x512x256 : Shape := ⟨4, ![1, 1, 512, 256]⟩

abbrev nBuf : Space → Nat
  | .hbm => 69
  | .vmem => 41
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x3072, .f32⟩
  | .hbm, ⟨3, _⟩ => ⟨S2048x9216, .f32⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S3x512x1024, .f32⟩
  | .hbm, ⟨8, _⟩ => ⟨S1024x1024, .f32⟩
  | .hbm, ⟨9, _⟩ => ⟨S2x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x512, .f32⟩
  | .hbm, ⟨22, _⟩ => ⟨S1x512x1024, .f32⟩
  | .hbm, ⟨23, _⟩ => ⟨S512x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x512, .f32⟩
  | .hbm, ⟨35, _⟩ => ⟨S1x512x1024, .f32⟩
  | .hbm, ⟨36, _⟩ => ⟨S512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x512, .f32⟩
  | .hbm, ⟨49, _⟩ => ⟨S1x512x1024, .f32⟩
  | .hbm, ⟨50, _⟩ => ⟨S512x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .bf16⟩
  | .hbm, ⟨56, _⟩ => ⟨S3x512x1024, .bf16⟩
  | .hbm, ⟨57, _⟩ => ⟨S1024x1024, .bf16⟩
  | .hbm, ⟨58, _⟩ => ⟨S4x256x1024, .bf16⟩
  | .hbm, ⟨59, _⟩ => ⟨S2048x1024, .f32⟩
  | .hbm, ⟨60, _⟩ => ⟨S2048x9216, .bf16⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S4x3x512x256, .bf16⟩
  | .hbm, ⟨68, _⟩ => ⟨S4x256x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x3072, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S3x512x1024, .bf16⟩
  | .local _ .vmem, ⟨22, _⟩ => ⟨S4x256x1024, .bf16⟩
  | .local _ .vmem, ⟨23, _⟩ => ⟨S2x1024, .f32⟩
  | .local _ .vmem, ⟨24, _⟩ => ⟨S256x1024, .f32⟩
  | .local _ .vmem, ⟨25, _⟩ => ⟨S256x1024, .f32⟩
  | .local _ .vmem, ⟨26, _⟩ => ⟨S256x3072, .bf16⟩
  | .local _ .vmem, ⟨27, _⟩ => ⟨S256x3072, .bf16⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S4x3x512x256, .bf16⟩
  | .local _ .vmem, ⟨38, _⟩ => ⟨S4x256x1024, .bf16⟩
  | .local _ .vmem, ⟨39, _⟩ => ⟨S3x512x1024, .f32⟩
  | .local _ .vmem, ⟨40, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v43_2 : Ref sig .tc := ⟨.hbm, 61, rfl⟩
abbrev main_v43_3 : Ref sig .tc := ⟨.hbm, 62, rfl⟩
abbrev main_v43_4 : Ref sig .tc := ⟨.hbm, 63, rfl⟩
abbrev main_v43_5 : Ref sig .tc := ⟨.hbm, 64, rfl⟩
abbrev main_v43_6 : Ref sig .tc := ⟨.hbm, 65, rfl⟩
abbrev main_v43_7 : Ref sig .tc := ⟨.hbm, 66, rfl⟩
abbrev main_v43_8 : Ref sig .tc := ⟨.hbm, 67, rfl⟩
abbrev main_v43_9 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35
abbrev cc0_sem21_0 : DmaSem sig := 36
abbrev cc0_sem22_0 : DmaSem sig := 37
abbrev cc0_sem23_0 : DmaSem sig := 38

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v187 : BitVec 1 := Scalar.cmpi .eq arg0 c7_i32
  let v188 : BitVec 32 := Scalar.extui v187
  let c0_i32_132 : BitVec 32 := 0#32
  let v189 : BitVec 1 := Scalar.cmpi .ne v188 c0_i32_132
  v189

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x3x512x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x256x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== ReferenceIdeal.lean ====
abbrev S2048x1024 : Shape := ⟨2, ![2048, 1024]⟩
abbrev S1x3072 : Shape := ⟨2, ![1, 3072]⟩
abbrev S2048x9216 : Shape := ⟨2, ![2048, 9216]⟩
abbrev S2048x512 : Shape := ⟨2, ![2048, 512]⟩
abbrev S3x512x1024 : Shape := ⟨3, ![3, 512, 1024]⟩
abbrev S1024x1024 : Shape := ⟨2, ![1024, 1024]⟩
abbrev S2x1024 : Shape := ⟨2, ![2, 1024]⟩
abbrev S1x1024 : Shape := ⟨2, ![1, 1024]⟩
abbrev S_ : Shape := ⟨0, ![]⟩
abbrev S1x512x1024 : Shape := ⟨3, ![1, 512, 1024]⟩
abbrev S512x1024 : Shape := ⟨2, ![512, 1024]⟩
abbrev S2048 : Shape := ⟨1, ![2048]⟩
abbrev S2048x1 : Shape := ⟨2, ![2048, 1]⟩
abbrev S1024 : Shape := ⟨1, ![1024]⟩
abbrev S1024x512 : Shape := ⟨2, ![1024, 512]⟩
abbrev S2048x6144 : Shape := ⟨2, ![2048, 6144]⟩
abbrev S3x512x4x256 : Shape := ⟨4, ![3, 512, 4, 256]⟩
abbrev S4x3x512x256 : Shape := ⟨4, ![4, 3, 512, 256]⟩
abbrev S4x256x1024 : Shape := ⟨3, ![4, 256, 1024]⟩

abbrev nBuf : Space → Nat
  | .hbm => 197
  | .vmem => 0
  | .smem => 0
  | _ => 0

abbrev hbmTy0_0 (i : Nat) : BufTy := match i % 128 with
  | 0 => ⟨S2048x1024, .f32⟩
  | 1 => ⟨S2048x1024, .f32⟩
  | 2 => ⟨S1x3072, .f32⟩
  | 3 => ⟨S2048x9216, .f32⟩
  | 4 => ⟨S2048x512, .bf16⟩
  | 5 => ⟨S2048x512, .bf16⟩
  | 6 => ⟨S2048x512, .bf16⟩
  | 7 => ⟨S3x512x1024, .f32⟩
  | 8 => ⟨S1024x1024, .f32⟩
  | 9 => ⟨S2x1024, .f32⟩
  | 10 => ⟨S2048x1024, .f32⟩
  | 11 => ⟨S2048x1024, .f32⟩
  | 12 => ⟨S2048x1024, .f32⟩
  | 13 => ⟨S1x1024, .f32⟩
  | 14 => ⟨S2048x512, .f32⟩
  | 15 => ⟨S2048x512, .f32⟩
  | 16 => ⟨S2048x512, .f32⟩
  | 17 => ⟨S1x1024, .f32⟩
  | 18 => ⟨S_, .f32⟩
  | 19 => ⟨S1x1024, .f32⟩
  | 20 => ⟨S2048x1024, .f32⟩
  | 21 => ⟨S2048x1024, .f32⟩
  | 22 => ⟨S_, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S_, .f32⟩
  | 29 => ⟨S2048x1024, .f32⟩
  | 30 => ⟨S2048x1024, .f32⟩
  | 31 => ⟨S2048x1024, .f32⟩
  | 32 => ⟨S1x512x1024, .f32⟩
  | 33 => ⟨S512x1024, .f32⟩
  | 34 => ⟨S2048x1024, .f32⟩
  | 35 => ⟨S2048x1024, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S_, .f32⟩
  | 45 => ⟨S2048x1024, .f32⟩
  | 46 => ⟨S2048x1024, .f32⟩
  | 47 => ⟨S2048x1024, .f32⟩
  | 48 => ⟨S1x512x1024, .f32⟩
  | 49 => ⟨S512x1024, .f32⟩
  | 50 => ⟨S2048x1024, .f32⟩
  | 51 => ⟨S2048x1024, .f32⟩
  | 52 => ⟨S2048x1024, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S2048x1024, .f32⟩
  | 65 => ⟨S1x512x1024, .f32⟩
  | 66 => ⟨S512x1024, .f32⟩
  | 67 => ⟨S2048x1024, .f32⟩
  | 68 => ⟨S2048x1024, .f32⟩
  | 69 => ⟨S2048x1024, .f32⟩
  | 70 => ⟨S2048x1024, .f32⟩
  | 71 => ⟨S_, .f32⟩
  | 72 => ⟨S2048x1024, .f32⟩
  | 73 => ⟨S2048x1024, .f32⟩
  | 74 => ⟨S_, .f32⟩
  | 75 => ⟨S1x1024, .f32⟩
  | 76 => ⟨S1x1024, .f32⟩
  | 77 => ⟨S2048x1024, .f32⟩
  | 78 => ⟨S2048x1024, .f32⟩
  | 79 => ⟨S2048x1024, .f32⟩
  | 80 => ⟨S_, .f32⟩
  | 81 => ⟨S2048, .f32⟩
  | 82 => ⟨S2048x1, .f32⟩
  | 83 => ⟨S_, .f32⟩
  | 84 => ⟨S2048x1, .f32⟩
  | 85 => ⟨S2048x1, .f32⟩
  | 86 => ⟨S2048x1024, .f32⟩
  | 87 => ⟨S2048x1024, .f32⟩
  | 88 => ⟨S2048x1024, .f32⟩
  | 89 => ⟨S_, .f32⟩
  | 90 => ⟨S2048, .f32⟩
  | 91 => ⟨S2048x1, .f32⟩
  | 92 => ⟨S_, .f32⟩
  | 93 => ⟨S2048x1, .f32⟩
  | 94 => ⟨S2048x1, .f32⟩
  | 95 => ⟨S_, .f32⟩
  | 96 => ⟨S2048x1, .f32⟩
  | 97 => ⟨S2048x1, .f32⟩
  | 98 => ⟨S2048x1, .f32⟩
  | 99 => ⟨S2048x1, .f32⟩
  | 100 => ⟨S_, .f32⟩
  | 101 => ⟨S2048x1, .f32⟩
  | 102 => ⟨S2048x1, .f32⟩
  | 103 => ⟨S2048x1024, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S2048x1024, .f32⟩
  | 110 => ⟨S_, .f32⟩
  | 111 => ⟨S1024, .f32⟩
  | 112 => ⟨S1x1024, .f32⟩
  | 113 => ⟨S2048x1024, .f32⟩
  | 114 => ⟨S_, .f32⟩
  | 115 => ⟨S1024, .f32⟩
  | 116 => ⟨S1x1024, .f32⟩
  | 117 => ⟨S2048x1024, .f32⟩
  | 118 => ⟨S2048x1024, .f32⟩
  | 119 => ⟨S2048x1024, .f32⟩
  | 120 => ⟨S_, .f32⟩
  | 121 => ⟨S2048, .f32⟩
  | 122 => ⟨S2048x1, .f32⟩
  | 123 => ⟨S2048x1024, .f32⟩
  | 124 => ⟨S2048x1024, .f32⟩
  | 125 => ⟨S2048x1, .f32⟩
  | 126 => ⟨S_, .f32⟩
  | 127 => ⟨S2048x1, .f32⟩
  | _ => ⟨S2048x1024, .f32⟩

abbrev hbmTy0_1 (i : Nat) : BufTy := match i % 128 with
  | 0 => ⟨S2048x1, .f32⟩
  | 1 => ⟨S_, .f32⟩
  | 2 => ⟨S2048, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S_, .f32⟩
  | 23 => ⟨S1024, .f32⟩
  | 24 => ⟨S1x1024, .f32⟩
  | 25 => ⟨S_, .f32⟩
  | 26 => ⟨S2048x1024, .f32⟩
  | 27 => ⟨S2048x1024, .f32⟩
  | 28 => ⟨S1024x1024, .f32⟩
  | 29 => ⟨S1024x1024, .f32⟩
  | 30 => ⟨S2048x1024, .f32⟩
  | 31 => ⟨S2048x1024, .f32⟩
  | 32 => ⟨S2048x1024, .f32⟩
  | 33 => ⟨S1024x512, .f32⟩
  | 34 => ⟨S512x1024, .f32⟩
  | 35 => ⟨S2048x512, .f32⟩
  | 36 => ⟨S1x512x1024, .f32⟩
  | 37 => ⟨S_, .f32⟩
  | 38 => ⟨S3x512x1024, .f32⟩
  | 39 => ⟨S2048x1024, .f32⟩
  | 40 => ⟨S2048x1024, .f32⟩
  | 41 => ⟨S2048x1024, .f32⟩
  | 42 => ⟨S1024x512, .f32⟩
  | 43 => ⟨S512x1024, .f32⟩
  | 44 => ⟨S2048x512, .f32⟩
  | 45 => ⟨S1x512x1024, .f32⟩
  | 46 => ⟨S_, .f32⟩
  | 47 => ⟨S3x512x1024, .f32⟩
  | 48 => ⟨S3x512x1024, .f32⟩
  | 49 => ⟨S2048x1024, .f32⟩
  | 50 => ⟨S2048x1024, .f32⟩
  | 51 => ⟨S2048x1024, .f32⟩
  | 52 => ⟨S1024x512, .f32⟩
  | 53 => ⟨S512x1024, .f32⟩
  | 54 => ⟨S2048x512, .f32⟩
  | 55 => ⟨S1x512x1024, .f32⟩
  | 56 => ⟨S_, .f32⟩
  | 57 => ⟨S3x512x1024, .f32⟩
  | 58 => ⟨S3x512x1024, .f32⟩
  | 59 => ⟨S2048x1024, .f32⟩
  | 60 => ⟨S_, .f32⟩
  | 61 => ⟨S2048x6144, .f32⟩
  | 62 => ⟨S2048x9216, .f32⟩
  | 63 => ⟨S3x512x4x256, .f32⟩
  | 64 => ⟨S4x3x512x256, .f32⟩
  | 65 => ⟨S2048x9216, .bf16⟩
  | 66 => ⟨S4x3x512x256, .bf16⟩
  | 67 => ⟨S4x256x1024, .f32⟩
  | 68 => ⟨S4x256x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_18 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_19 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_20 : Ref sig .tc := ⟨.hbm, 126, rfl⟩
abbrev main_v95 : Ref sig .tc := ⟨.hbm, 127, rfl⟩
abbrev main_v96 : Ref sig .tc := ⟨.hbm, 128, rfl⟩
abbrev main_cst_21 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_22 : Ref sig .tc := ⟨.hbm, 137, rfl⟩
abbrev main_v104 : Ref sig .tc := ⟨.hbm, 138, rfl⟩
abbrev main_v105 : Ref sig .tc := ⟨.hbm, 139, rfl⟩
abbrev main_cst_23 : Ref sig .tc := ⟨.hbm, 140, rfl⟩
abbrev main_v106 : Ref sig .tc := ⟨.hbm, 141, rfl⟩
abbrev main_v107 : Ref sig .tc := ⟨.hbm, 142, rfl⟩
abbrev main_cst_24 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_25 : Ref sig .tc := ⟨.hbm, 150, rfl⟩
abbrev main_v114 : Ref sig .tc := ⟨.hbm, 151, rfl⟩
abbrev main_v115 : Ref sig .tc := ⟨.hbm, 152, rfl⟩
abbrev main_cst_26 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_27 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_28 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_29 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_30 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩

abbrev nD : Nat := 1
abbrev τ : Topo := Topo.v7x

variable {F : FTy → Type} [FloatOps F]
-- ==== Kernel2.lean ====
abbrev S2048x1024 : Shape := ⟨2, ![2048, 1024]⟩
abbrev S1x3072 : Shape := ⟨2, ![1, 3072]⟩
abbrev S2048x9216 : Shape := ⟨2, ![2048, 9216]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S4x1024x2304 : Shape := ⟨3, ![4, 1024, 2304]⟩
abbrev S2048x2304 : Shape := ⟨2, ![2048, 2304]⟩
abbrev S1x1024x2304 : Shape := ⟨3, ![1, 1024, 2304]⟩
abbrev S1024x2304 : Shape := ⟨2, ![1024, 2304]⟩

abbrev nBuf : Space → Nat
  | .hbm => 35
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x3072, .f32⟩
  | .hbm, ⟨2, _⟩ => ⟨S2048x9216, .bf16⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | .hbm, ⟨34, _⟩ => ⟨S4x1024x2304, .bf16⟩
  | .local _ .vmem, ⟨0, _⟩ => ⟨S2048x1024, .bf16⟩
  | .local _ .vmem, ⟨1, _⟩ => ⟨S2048x2304, .bf16⟩
  | .local _ .vmem, ⟨2, _⟩ => ⟨S2048x2304, .bf16⟩
  | .local _ .vmem, ⟨3, _⟩ => ⟨S1x1024x2304, .bf16⟩
  | .local _ .vmem, ⟨4, _⟩ => ⟨S1x1024x2304, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S2048x1024 : Shape := ⟨2, ![2048, 1024]⟩
abbrev S1x3072 : Shape := ⟨2, ![1, 3072]⟩
abbrev S2048x9216 : Shape := ⟨2, ![2048, 9216]⟩
abbrev S_ : Shape := ⟨0, ![]⟩
abbrev S1024x9216 : Shape := ⟨2, ![1024, 9216]⟩
abbrev S1x1024 : Shape := ⟨2, ![1, 1024]⟩
abbrev S2048 : Shape := ⟨1, ![2048]⟩
abbrev S2048x1 : Shape := ⟨2, ![2048, 1]⟩
abbrev S9216x1024 : Shape := ⟨2, ![9216, 1024]⟩
abbrev S1024x4x2304 : Shape := ⟨3, ![1024, 4, 2304]⟩
abbrev S4x1024x2304 : Shape := ⟨3, ![4, 1024, 2304]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x3072, .f32⟩
  | .hbm, ⟨2, _⟩ => ⟨S2048x9216, .bf16⟩
  | .hbm, ⟨3, _⟩ => ⟨S_, .f32⟩
  | .hbm, ⟨4, _⟩ => ⟨S1024x9216, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x9216, .f32⟩
  | .hbm, ⟨36, _⟩ => ⟨S2048x9216, .f32⟩
  | .hbm, ⟨37, _⟩ => ⟨S9216x1024, .f32⟩
  | .hbm, ⟨38, _⟩ => ⟨S1024x9216, .f32⟩
  | .hbm, ⟨39, _⟩ => ⟨S1024x4x2304, .f32⟩
  | .hbm, ⟨40, _⟩ => ⟨S4x1024x2304, .f32⟩
  | .hbm, ⟨41, _⟩ => ⟨S4x1024x2304, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel3.lean ====
abbrev S2048x1024 : Shape := ⟨2, ![2048, 1024]⟩
abbrev S1x3072 : Shape := ⟨2, ![1, 3072]⟩
abbrev S1024x9216 : Shape := ⟨2, ![1024, 9216]⟩
abbrev S1024x4x2304 : Shape := ⟨3, ![1024, 4, 2304]⟩
abbrev S4x1024x2304 : Shape := ⟨3, ![4, 1024, 2304]⟩
abbrev S2048x9216 : Shape := ⟨2, ![2048, 9216]⟩
abbrev S512x1024 : Shape := ⟨2, ![512, 1024]⟩
abbrev S1x1024x2304 : Shape := ⟨3, ![1, 1024, 2304]⟩
abbrev S512x2304 : Shape := ⟨2, ![512, 2304]⟩
abbrev S512 : Shape := ⟨1, ![512]⟩
abbrev S512x1 : Shape := ⟨2, ![512, 1]⟩
abbrev S1x1024 : Shape := ⟨2, ![1, 1024]⟩
abbrev S1024x2304 : Shape := ⟨2, ![1024, 2304]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x3072, .f32⟩
  | .hbm, ⟨2, _⟩ => ⟨S1024x9216, .f32⟩
  | .hbm, ⟨3, _⟩ => ⟨S1024x4x2304, .f32⟩
  | .hbm, ⟨4, _⟩ => ⟨S4x1024x2304, .f32⟩
  | .hbm, ⟨5, _⟩ => ⟨S4x1024x2304, .bf16⟩
  | .hbm, ⟨6, _⟩ => ⟨S2048x9216, .f32⟩
  | .hbm, ⟨7, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x3072, .f32⟩
  | .local _ .vmem, ⟨3, _⟩ => ⟨S1x1024x2304, .bf16⟩
  | .local _ .vmem, ⟨4, _⟩ => ⟨S1x1024x2304, .bf16⟩
  | .local _ .vmem, ⟨5, _⟩ => ⟨S512x2304, .f32⟩
  | .local _ .vmem, ⟨6, _⟩ => ⟨S512x2304, .f32⟩
  | .local _ .vmem, ⟨7, _⟩ => ⟨S512x1024, .bf16⟩
  | .local _ .vmem, ⟨8, _⟩ => ⟨S512x1024, .bf16⟩
  | .local _ .vmem, ⟨9, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v37 : Index := Scalar.indexCast v1
  let c0_17 : Index := 0#32
  ![v37.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v5 : Index := Scalar.indexCast v1
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2048x1024 : Shape := ⟨2, ![2048, 1024]⟩
abbrev S1x3072 : Shape := ⟨2, ![1, 3072]⟩
abbrev S1024x9216 : Shape := ⟨2, ![1024, 9216]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x9216 : Shape := ⟨2, ![2048, 9216]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x3072, .f32⟩
  | .hbm, ⟨2, _⟩ => ⟨S1024x9216, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x9216, .f32⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S2048x9216 : Shape := ⟨2, ![2048, 9216]⟩
abbrev S2048x1024 : Shape := ⟨2, ![2048, 1024]⟩
abbrev S1x3072 : Shape := ⟨2, ![1, 3072]⟩
abbrev S1024x9216 : Shape := ⟨2, ![1024, 9216]⟩
abbrev S1024x4x2304 : Shape := ⟨3, ![1024, 4, 2304]⟩
abbrev S4x1024x2304 : Shape := ⟨3, ![4, 1024, 2304]⟩
abbrev S1x1024 : Shape := ⟨2, ![1, 1024]⟩
abbrev S512x768 : Shape := ⟨2, ![512, 768]⟩
abbrev S1x1024x768 : Shape := ⟨3, ![1, 1024, 768]⟩
abbrev S512x1024 : Shape := ⟨2, ![512, 1024]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S2048x9216, .bf16⟩
  | .hbm, ⟨1, _⟩ => ⟨S2048x1024, .f32⟩
  | .hbm, ⟨2, _⟩ => ⟨S1x3072, .f32⟩
  | .hbm, ⟨3, _⟩ => ⟨S1024x9216, .f32⟩
  | .hbm, ⟨4, _⟩ => ⟨S2048x1024, .f32⟩
  | .hbm, ⟨5, _⟩ => ⟨S1024x4x2304, .f32⟩
  | .hbm, ⟨6, _⟩ => ⟨S4x1024x2304, .f32⟩
  | .hbm, ⟨7, _⟩ => ⟨S4x1024x2304, .bf16⟩
  | .hbm, ⟨8, _⟩ => ⟨S2048x1024, .f32⟩
  | .hbm, ⟨9, _⟩ => ⟨S1x1024, .f32⟩
  | .hbm, ⟨10, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S512x1024, .f32⟩
  | .local _ .vmem, ⟨5, _⟩ => ⟨S512x1024, .f32⟩
  | .local _ .vmem, ⟨6, _⟩ => ⟨S1x3072, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S2048x1024, .f32⟩
  | _, _ => ⟨S2048x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![12, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v27 : Index := Scalar.indexCast v1
  let c0 : Index := 0#32
  ![v27.toNat, 0]
def k0_cond3 (i : grid0.Coords) : BitVec 1 :=
  let arg0 : BitVec 32 := BitVec.ofNat 32 (i 0).val
  let c1_i32 : BitVec 32 := 1#32
  let c0_i32_4 : BitVec 32 := 0#32
  let v10 : BitVec 1 := Scalar.cmpi .eq c1_i32 c0_i32_4
  let c1_i32_5 : BitVec 32 := 1#32
  let v11 : BitVec 32 := Scalar.select v10 c1_i32_5 c1_i32
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v21 : BitVec 32 := Scalar.extui v20
  let c0_i32_10 : BitVec 32 := 0#32
  let v22 : BitVec 1 := Scalar.cmpi .ne v21 c0_i32_10
  v22

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v26 : Index := Scalar.indexCast v1
  let c0 : Index := 0#32
  ![v26.toNat, 0]
def k0_cond4 (i : grid0.Coords) : BitVec 1 :=
  let arg0 : BitVec 32 := BitVec.ofNat 32 (i 0).val
  let c11_i32 : BitVec 32 := 11#32
  let v23 : BitVec 1 := Scalar.cmpi .eq arg0 c11_i32
  let v24 : BitVec 32 := Scalar.extui v23
  let c0_i32_11 : BitVec 32 := 0#32
  let v25 : BitVec 1 := Scalar.cmpi .ne v24 c0_i32_11
  v25

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v26 : Index := Scalar.indexCast v1
  let c0 : Index := 0#32
  ![v26.toNat, 0]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c0_i32_0 : BitVec 32 := 0#32
  let v3 : BitVec 1 := Scalar.cmpi .eq arg0 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .eq arg0 c11_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .eq arg0 c11_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .eq arg0 c11_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference4Ideal.lean ====
abbrev S2048x9216 : Shape := ⟨2, ![2048, 9216]⟩
abbrev S2048x1024 : Shape := ⟨2, ![2048, 1024]⟩
abbrev S1x3072 : Shape := ⟨2, ![1, 3072]⟩
abbrev S1024x9216 : Shape := ⟨2, ![1024, 9216]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S2048x9216, .bf16⟩
  | .hbm, ⟨1, _⟩ => ⟨S2048x1024, .f32⟩
  | .hbm, ⟨2, _⟩ => ⟨S1x3072, .f32⟩
  | .hbm, ⟨3, _⟩ => ⟨S1024x9216, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x9216, .f32⟩
  | .hbm, ⟨40, _⟩ => ⟨S2048x9216, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S2048, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | .hbm, ⟨79, _⟩ => ⟨S2048x1024, .f32⟩
  | _, _ => ⟨S2048x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel5.lean ====
abbrev S2048x1024 : Shape := ⟨2, ![2048, 1024]⟩
abbrev S1x3072 : Shape := ⟨2, ![1, 3072]⟩
abbrev S2048x9216 : Shape := ⟨2, ![2048, 9216]⟩
abbrev S2048x512 : Shape := ⟨2, ![2048, 512]⟩
abbrev S3x512x1024 : Shape := ⟨3, ![3, 512, 1024]⟩
abbrev S1024x1024 : Shape := ⟨2, ![1024, 1024]⟩
abbrev S2x1024 : Shape := ⟨2, ![2, 1024]⟩
abbrev S4x256x1024 : Shape := ⟨3, ![4, 256, 1024]⟩
abbrev S512x1024 : Shape := ⟨2, ![512, 1024]⟩
abbrev S512x512 : Shape := ⟨2, ![512, 512]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩

abbrev nBuf : Space → Nat
  | .hbm => 16
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S1x3072, .f32⟩
  | .hbm, ⟨2, _⟩ => ⟨S2048x9216, .f32⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S3x512x1024, .f32⟩
  | .hbm, ⟨7, _⟩ => ⟨S1024x1024, .f32⟩
  | .hbm, ⟨8, _⟩ => ⟨S2x1024, .f32⟩
  | .hbm, ⟨9, _⟩ => ⟨S2x1024, .f32⟩
  | .hbm, ⟨10, _⟩ => ⟨S3x512x1024, .bf16⟩
  | .hbm, ⟨11, _⟩ => ⟨S1024x1024, .bf16⟩
  | .hbm, ⟨12, _⟩ => ⟨S4x256x1024, .bf16⟩
  | .hbm, ⟨13, _⟩ => ⟨S2048x1024, .f32⟩
  | .hbm, ⟨14, _⟩ => ⟨S2048x1024, .bf16⟩
  | .hbm, ⟨15, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x3072, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S3x512x1024, .bf16⟩
  | .local _ .vmem, ⟨16, _⟩ => ⟨S4x256x1024, .bf16⟩
  | .local _ .vmem, ⟨17, _⟩ => ⟨S2x1024, .f32⟩
  | .local _ .vmem, ⟨18, _⟩ => ⟨S2x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S2048x1024 : Shape := ⟨2, ![2048, 1024]⟩
abbrev S1x3072 : Shape := ⟨2, ![1, 3072]⟩
abbrev S2048x9216 : Shape := ⟨2, ![2048, 9216]⟩
abbrev S2048x512 : Shape := ⟨2, ![2048, 512]⟩
abbrev S3x512x1024 : Shape := ⟨3, ![3, 512, 1024]⟩
abbrev S1024x1024 : Shape := ⟨2, ![1024, 1024]⟩
abbrev S2x1024 : Shape := ⟨2, ![2, 1024]⟩
abbrev S_ : Shape := ⟨0, ![]⟩
abbrev S1x512x1024 : Shape := ⟨3, ![1, 512, 1024]⟩
abbrev S512x1024 : Shape := ⟨2, ![512, 1024]⟩
abbrev S1x1024 : Shape := ⟨2, ![1, 1024]⟩
abbrev S2048 : Shape := ⟨1, ![2048]⟩
abbrev S2048x1 : Shape := ⟨2, ![2048, 1]⟩

abbrev nBuf : Space → Nat
  | .hbm => 93
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x3072, .f32⟩
  | .hbm, ⟨2, _⟩ => ⟨S2048x9216, .f32⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S3x512x1024, .f32⟩
  | .hbm, ⟨7, _⟩ => ⟨S1024x1024, .f32⟩
  | .hbm, ⟨8, _⟩ => ⟨S2x1024, .f32⟩
  | .hbm, ⟨9, _⟩ => ⟨S2x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x512, .f32⟩
  | .hbm, ⟨22, _⟩ => ⟨S1x512x1024, .f32⟩
  | .hbm, ⟨23, _⟩ => ⟨S512x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x512, .f32⟩
  | .hbm, ⟨35, _⟩ => ⟨S1x512x1024, .f32⟩
  | .hbm, ⟨36, _⟩ => ⟨S512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x512, .f32⟩
  | .hbm, ⟨49, _⟩ => ⟨S1x512x1024, .f32⟩
  | .hbm, ⟨50, _⟩ => ⟨S512x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S1x1024, .f32⟩
  | .hbm, ⟨87, _⟩ => ⟨S2048x1024, .f32⟩
  | .hbm, ⟨88, _⟩ => ⟨S2048x1024, .f32⟩
  | .hbm, ⟨89, _⟩ => ⟨S1x1024, .f32⟩
  | .hbm, ⟨90, _⟩ => ⟨S2048x1024, .f32⟩
  | .hbm, ⟨91, _⟩ => ⟨S2048x1024, .f32⟩
  | .hbm, ⟨92, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== Kernel6.lean ====
abbrev S8x1024 : Shape := ⟨2, ![8, 1024]⟩
abbrev S2x8x768 : Shape := ⟨3, ![2, 8, 768]⟩
abbrev S2x1024x768 : Shape := ⟨3, ![2, 1024, 768]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8x1024 : Shape := ⟨2, ![8, 1024]⟩
abbrev S2x8x768 : Shape := ⟨3, ![2, 8, 768]⟩
abbrev S_ : Shape := ⟨0, ![]⟩
abbrev S2x1024x768 : Shape := ⟨3, ![2, 1024, 768]⟩
abbrev S8x2x768 : Shape := ⟨3, ![8, 2, 768]⟩
abbrev S2x768x1024 : Shape := ⟨3, ![2, 768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S_, .f32⟩
  | .hbm, ⟨3, _⟩ => ⟨S2x1024x768, .f32⟩
  | .hbm, ⟨4, _⟩ => ⟨S8x2x768, .f32⟩
  | .hbm, ⟨5, _⟩ => ⟨S2x8x768, .f32⟩
  | .hbm, ⟨6, _⟩ => ⟨S8x2x768, .f32⟩
  | .hbm, ⟨7, _⟩ => ⟨S2x768x1024, .f32⟩
  | .hbm, ⟨8, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8x1024 : Shape := ⟨2, ![8, 1024]⟩
abbrev S2x1024x768 : Shape := ⟨3, ![2, 1024, 768]⟩
abbrev S8x1536 : Shape := ⟨2, ![8, 1536]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S8x1536, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S8x768, .f32⟩
  | .local _ .vmem, ⟨4, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8x1024 : Shape := ⟨2, ![8, 1024]⟩
abbrev S2x1024x768 : Shape := ⟨3, ![2, 1024, 768]⟩
abbrev S8x2x768 : Shape := ⟨3, ![8, 2, 768]⟩
abbrev S8x1536 : Shape := ⟨2, ![8, 1536]⟩

abbrev nBuf : Space → Nat
  | .hbm => 4
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S8x2x768, .f32⟩
  | .hbm, ⟨3, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S2048x9216 : Shape := ⟨2, ![2048, 9216]⟩
abbrev S2048x512 : Shape := ⟨2, ![2048, 512]⟩
abbrev S2x128 : Shape := ⟨2, ![2, 128]⟩
abbrev S2x3x512 : Shape := ⟨3, ![2, 3, 512]⟩
abbrev S2x3x4x128 : Shape := ⟨4, ![2, 3, 4, 128]⟩
abbrev S4x2x3x128 : Shape := ⟨4, ![4, 2, 3, 128]⟩
abbrev S2048x128 : Shape := ⟨2, ![2048, 128]⟩
abbrev S1x1x3x128 : Shape := ⟨4, ![1, 1, 3, 128]⟩
abbrev S2048 : Shape := ⟨1, ![2048]⟩
abbrev S2048x1 : Shape := ⟨2, ![2048, 1]⟩
abbrev S1x128 : Shape := ⟨2, ![1, 128]⟩
abbrev S1x1x1x128 : Shape := ⟨4, ![1, 1, 1, 128]⟩

abbrev nBuf : Space → Nat
  | .hbm => 10
  | .vmem => 25
  | .smem => 0
  | _ => 0

abbrev bufTy : (tb : Table) → Fin (tcTables nBuf tb) → BufTy
  | .hbm, ⟨0, _⟩ => ⟨S2048x9216, .f32⟩
  | .hbm, ⟨1, _⟩ => ⟨S2048x512, .f32⟩
  | .hbm, ⟨2, _⟩ => ⟨S2048x512, .f32⟩
  | .hbm, ⟨3, _⟩ => ⟨S2x128, .f32⟩
  | .hbm, ⟨4, _⟩ => ⟨S2x3x512, .f32⟩
  | .hbm, ⟨5, _⟩ => ⟨S2x3x4x128, .f32⟩
  | .hbm, ⟨6, _⟩ => ⟨S4x2x3x128, .f32⟩
  | .hbm, ⟨7, _⟩ => ⟨S2048x512, .bf16⟩
  | .hbm, ⟨8, _⟩ => ⟨S2048x512, .bf16⟩
  | .hbm, ⟨9, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S1x1x3x128, .f32⟩
  | .local _ .vmem, ⟨18, _⟩ => ⟨S1x1x3x128, .f32⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S2048x9216 : Shape := ⟨2, ![2048, 9216]⟩
abbrev S2048x512 : Shape := ⟨2, ![2048, 512]⟩
abbrev S2x128 : Shape := ⟨2, ![2, 128]⟩
abbrev S2x3x512 : Shape := ⟨3, ![2, 3, 512]⟩
abbrev S_ : Shape := ⟨0, ![]⟩
abbrev S2048x4x128 : Shape := ⟨3, ![2048, 4, 128]⟩
abbrev S2048x4 : Shape := ⟨2, ![2048, 4]⟩
abbrev S2048x4x1 : Shape := ⟨3, ![2048, 4, 1]⟩
abbrev S1x128 : Shape := ⟨2, ![1, 128]⟩
abbrev S128 : Shape := ⟨1, ![128]⟩
abbrev S1x1x128 : Shape := ⟨3, ![1, 1, 128]⟩
abbrev S1x3x512 : Shape := ⟨3, ![1, 3, 512]⟩
abbrev S3x512 : Shape := ⟨2, ![3, 512]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩

abbrev nBuf : Space → Nat
  | .hbm => 91
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S2048x512, .f32⟩
  | .hbm, ⟨2, _⟩ => ⟨S2048x512, .f32⟩
  | .hbm, ⟨3, _⟩ => ⟨S2x128, .f32⟩
  | .hbm, ⟨4, _⟩ => ⟨S2x3x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x4x128, .f32⟩
  | .hbm, ⟨22, _⟩ => ⟨S2048x4x128, .f32⟩
  | .hbm, ⟨23, _⟩ => ⟨S_, .f32⟩
  | .hbm, ⟨24, _⟩ => ⟨S2048x4, .f32⟩
  | .hbm, ⟨25, _⟩ => ⟨S2048x4x1, .f32⟩
  | .hbm, ⟨26, _⟩ => ⟨S_, .f32⟩
  | .hbm, ⟨27, _⟩ => ⟨S2048x4x1, .f32⟩
  | .hbm, ⟨28, _⟩ => ⟨S2048x4x1, .f32⟩
  | .hbm, ⟨29, _⟩ => ⟨S_, .f32⟩
  | .hbm, ⟨30, _⟩ => ⟨S2048x4x1, .f32⟩
  | .hbm, ⟨31, _⟩ => ⟨S2048x4x1, .f32⟩
  | .hbm, ⟨32, _⟩ => ⟨S2048x4x1, .f32⟩
  | .hbm, ⟨33, _⟩ => ⟨S2048x4x128, .f32⟩
  | .hbm, ⟨34, _⟩ => ⟨S2048x4x128, .f32⟩
  | .hbm, ⟨35, _⟩ => ⟨S1x128, .f32⟩
  | .hbm, ⟨36, _⟩ => ⟨S128, .f32⟩
  | .hbm, ⟨37, _⟩ => ⟨S1x1x128, .f32⟩
  | .hbm, ⟨38, _⟩ => ⟨S2048x4x128, .f32⟩
  | .hbm, ⟨39, _⟩ => ⟨S2048x4x128, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S_, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S1x3x512, .f32⟩
  | .hbm, ⟨53, _⟩ => ⟨S3x512, .f32⟩
  | .hbm, ⟨54, _⟩ => ⟨S_, .f32⟩
  | .hbm, ⟨55, _⟩ => ⟨S2x512, .f32⟩
  | .hbm, ⟨56, _⟩ => ⟨S2050x512, .f32⟩
  | .hbm, ⟨57, _⟩ => ⟨S1x512, .f32⟩
  | .hbm, ⟨58, _⟩ => ⟨S512, .f32⟩
  | .hbm, ⟨59, _⟩ => ⟨S2048x512, .f32⟩
  | .hbm, ⟨60, _⟩ => ⟨S1x512, .f32⟩
  | .hbm, ⟨61, _⟩ => ⟨S2048x512, .f32⟩
  | .hbm, ⟨62, _⟩ => ⟨S2048x512, .f32⟩
  | .hbm, ⟨63, _⟩ => ⟨S1x512, .f32⟩
  | .hbm, ⟨64, _⟩ => ⟨S512, .f32⟩
  | .hbm, ⟨65, _⟩ => ⟨S2048x512, .f32⟩
  | .hbm, ⟨66, _⟩ => ⟨S1x512, .f32⟩
  | .hbm, ⟨67, _⟩ => ⟨S2048x512, .f32⟩
  | .hbm, ⟨68, _⟩ => ⟨S2048x512, .f32⟩
  | .hbm, ⟨69, _⟩ => ⟨S2048x512, .f32⟩
  | .hbm, ⟨70, _⟩ => ⟨S1x512, .f32⟩
  | .hbm, ⟨71, _⟩ => ⟨S512, .f32⟩
  | .hbm, ⟨72, _⟩ => ⟨S2048x512, .f32⟩
  | .hbm, ⟨73, _⟩ => ⟨S1x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x512, .f32⟩
  | .hbm, ⟨79, _⟩ => ⟨S2048x512, .f32⟩
  | .hbm, ⟨80, _⟩ => ⟨S_, .f32⟩
  | .hbm, ⟨81, _⟩ => ⟨S2048x512, .f32⟩
  | .hbm, ⟨82, _⟩ => ⟨S2048x512, .f32⟩
  | .hbm, ⟨83, _⟩ => ⟨S_, .f32⟩
  | .hbm, ⟨84, _⟩ => ⟨S2048x512, .f32⟩
  | .hbm, ⟨85, _⟩ => ⟨S2048x512, .f32⟩
  | .hbm, ⟨86, _⟩ => ⟨S2048x512, .f32⟩
  | .hbm, ⟨87, _⟩ => ⟨S2048x512, .f32⟩
  | .hbm, ⟨88, _⟩ => ⟨S2048x512, .bf16⟩
  | .hbm, ⟨89, _⟩ => ⟨S2048x512, .bf16⟩
  | .hbm, ⟨90, _⟩ => ⟨S2048x512, .bf16⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Kernel9.lean ====
abbrev S2048x1024 : Shape := ⟨2, ![2048, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference9Ideal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Bufs.lean ====
/-
The buffers and the values the body works on: the 26 memrefs it is called with (14 input tiles, 10 result tiles and the
two accumulators in scratch memory), the 14 input tiles' contents, and the values carried from one grid point to the next.
-/
module

public import proofs.«01_k».proof.Proof.Gen.KernelIdeal.Frame.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs of one call of the body, each a whole buffer. -/
structure Bufs where
  a1 : Memref sig .tc .vmem S256x1024 .f32
  h1 : a1.IsWhole
  a2 : Memref sig .tc .vmem S256x1024 .f32
  h2 : a2.IsWhole
  a3 : Memref sig .tc .vmem S256x1024 .f32
  h3 : a3.IsWhole
  a4 : Memref sig .tc .vmem S256x1024 .bf16
  h4 : a4.IsWhole
  a5 : Memref sig .tc .vmem S1x3072 .f32
  h5 : a5.IsWhole
  a6 : Memref sig .tc .vmem S256x1024 .f32
  h6 : a6.IsWhole
  a7 : Memref sig .tc .vmem S256x1024 .f32
  h7 : a7.IsWhole
  a8 : Memref sig .tc .vmem S256x1024 .f32
  h8 : a8.IsWhole
  a9 : Memref sig .tc .vmem S256x512 .bf16
  h9 : a9.IsWhole
  a10 : Memref sig .tc .vmem S256x512 .bf16
  h10 : a10.IsWhole
  a11 : Memref sig .tc .vmem S256x512 .bf16
  h11 : a11.IsWhole
  a12 : Memref sig .tc .vmem S3x512x1024 .bf16
  h12 : a12.IsWhole
  a13 : Memref sig .tc .vmem S4x256x1024 .bf16
  h13 : a13.IsWhole
  a14 : Memref sig .tc .vmem S2x1024 .f32
  h14 : a14.IsWhole
  a15 : Memref sig .tc .vmem S256x1024 .f32
  h15 : a15.IsWhole
  a16 : Memref sig .tc .vmem S256x3072 .bf16
  h16 : a16.IsWhole
  a17 : Memref sig .tc .vmem S256x512 .f32
  h17 : a17.IsWhole
  a18 : Memref sig .tc .vmem S256x512 .f32
  h18 : a18.IsWhole
  a19 : Memref sig .tc .vmem S256x512 .f32
  h19 : a19.IsWhole
  a20 : Memref sig .tc .vmem S1x1024 .f32
  h20 : a20.IsWhole
  a21 : Memref sig .tc .vmem S1x1024 .f32
  h21 : a21.IsWhole
  a22 : Memref sig .tc .vmem S1x1024 .f32
  h22 : a22.IsWhole
  a23 : Memref sig .tc .vmem S4x3x512x256 .bf16
  h23 : a23.IsWhole
  a24 : Memref sig .tc .vmem S4x256x1024 .bf16
  h24 : a24.IsWhole
  a25 : Memref sig .tc .vmem S3x512x1024 .f32
  h25 : a25.IsWhole
  a26 : Memref sig .tc .vmem S1024x1024 .f32
  h26 : a26.IsWhole

/-- The contents of the 14 input tiles. -/
structure Ins (F : FTy → Type) where
  dxo : Vec F S256x1024 .f32
  x : Vec F S256x1024 .f32
  y : Vec F S256x1024 .f32
  mg : Vec F S256x1024 .bf16
  md : Vec F S1x3072 .f32
  ga : Vec F S256x1024 .f32
  gb : Vec F S256x1024 .f32
  gc : Vec F S256x1024 .f32
  ya : Vec F S256x512 .bf16
  yb : Vec F S256x512 .bf16
  yc : Vec F S256x512 .bf16
  wb : Vec F S3x512x1024 .bf16
  wo : Vec F S4x256x1024 .bf16
  lg : Vec F S2x1024 .f32

/-- What one grid point hands to the next: the row sums for the normalisation's scale and shift and for the gate, and the
    two weight gradients' accumulators. -/
structure Carry (F : FTy → Type) where
  dlg : Vec F S1x1024 .f32
  dlb : Vec F S1x1024 .f32
  dgt : Vec F S1x1024 .f32
  wb : Vec F S3x512x1024 .f32
  wo : Vec F S1024x1024 .f32

/-- The input tiles, each owned at its contents. -/
def Bufs.ins (c : Dev nD) (M : Bufs) (X : Ins F) : sProp 𝕄 :=
  iprop(owns (c : Thread nD τ) M.a1 fullShare X.dxo ∗ owns (c : Thread nD τ) M.a2 fullShare X.x ∗ owns (c : Thread nD τ) M.a3 fullShare X.y ∗ owns (c : Thread nD τ) M.a4 fullShare X.mg ∗ owns (c : Thread nD τ) M.a5 fullShare X.md ∗ owns (c : Thread nD τ) M.a6 fullShare X.ga ∗ owns (c : Thread nD τ) M.a7 fullShare X.gb ∗ owns (c : Thread nD τ) M.a8 fullShare X.gc ∗ owns (c : Thread nD τ) M.a9 fullShare X.ya ∗ owns (c : Thread nD τ) M.a10 fullShare X.yb ∗ owns (c : Thread nD τ) M.a11 fullShare X.yc ∗ owns (c : Thread nD τ) M.a12 fullShare X.wb ∗ owns (c : Thread nD τ) M.a13 fullShare X.wo ∗ owns (c : Thread nD τ) M.a14 fullShare X.lg)

/-- The body called with these memrefs at grid coordinates `i`. -/
abbrev Bufs.call (M : Bufs) (i : grid0.Coords) :=
  cc0_merge_bwd (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26

end Cert.KernelIdeal.Hand

end
-- ==== Proof.Step.lean ====
/-
What the body computes from its input tiles and from what the grid point before handed on, as plain functions: the five
result tiles that every point stores, the values handed on, and the two weight gradients that the last point stores.
-/
module

public import proofs.«01_k».proof.Proof.Bufs
public import Idealize.ShloMosaic.Lib.KernelVsHost
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen
open Idealize.ShloMosaic hiding ix1 ix2 ix3 ix4
open Idealize.ShloMosaic.TcCoe Idealize.ShloMosaic.Tactic
open Idealize.ShloMosaic.ValueIdx

variable {F : FTy → Type} [FloatOps F]

namespace Ins

variable (X : Ins F)

/-- The output gate's part of the modulation vector. -/
abbrev gt : Vec F S1x1024 .f32 := View.ld (Val := Elt F) (e' := .f32) X.md (Rect.unit ![0, 2048] S1x1024.size inb_S1x3072_S1x1024_0_2048)
/-- The norm's scale. -/
abbrev sc : Vec F S1x1024 .f32 := View.ld (Val := Elt F) (e' := .f32) X.lg (Rect.unit ![1, 0] S1x1024.size inb_S2x1024_S1x1024_1_0)
/-- The three branch projections. -/
abbrev w0 : Vec F S1x512x1024 .bf16 := View.ld (Val := Elt F) (e' := .bf16) X.wb (Rect.unit ![0, 0, 0] S1x512x1024.size inb_S3x512x1024_S1x512x1024_0_0_0)
abbrev w1 : Vec F S1x512x1024 .bf16 := View.ld (Val := Elt F) (e' := .bf16) X.wb (Rect.unit ![1, 0, 0] S1x512x1024.size inb_S3x512x1024_S1x512x1024_1_0_0)
abbrev w2 : Vec F S1x512x1024 .bf16 := View.ld (Val := Elt F) (e' := .bf16) X.wb (Rect.unit ![2, 0, 0] S1x512x1024.size inb_S3x512x1024_S1x512x1024_2_0_0)

/-- One plus the output gate. -/
abbrev og : FVec F S1x1024 .f32 := k0_pay28 X.gt
/-- The reciprocal standard deviations. -/
abbrev rs : FVec F S256x1 .f32 := k0_pay31 X.gt X.y X.x
/-- The standardised rows. -/
abbrev xn : FVec F S256x1024 .f32 := k0_pay32 X.gt X.y X.x
/-- The gradient of the residual. -/
abbrev dr : FVec F S256x1024 .f32 := k0_pay35 X.rs X.xn X.dxo X.sc
/-- The gradient of the merged branches. -/
abbrev dm : FVec F S256x1024 .f32 := k0_pay40 X.og X.dr X.wo

/-- The gradient of the residual stream. -/
abbrev dx : FVec F S256x1024 .f32 := k0_pay36 X.rs X.xn X.dxo X.sc
/-- The gradients of the three branch gates. -/
abbrev dg0 : FVec F S256x1024 .bf16 := k0_pay45 X.dm (k0_pay41 X.ya X.w0) X.ga
abbrev dg1 : FVec F S256x1024 .bf16 := k0_pay51 X.dm (k0_pay42 X.yb X.w1) (k0_pay49 X.gb) (FloatOps.ofBits .f32 0x3F800000#32)
abbrev dg2 : FVec F S256x1024 .bf16 := k0_pay1 X.dm (k0_pay43 X.yc X.w2) (k0_pay55 X.gc)
/-- The gradients of the three branches. -/
abbrev dy0 : FVec F S256x512 .f32 := k0_pay48 X.dm X.ga X.w0
abbrev dy1 : FVec F S256x512 .f32 := k0_pay54 X.dm (k0_pay49 X.gb) (FloatOps.ofBits .f32 0x3F800000#32) X.w1
abbrev dy2 : FVec F S256x512 .f32 := k0_pay4 X.dm (k0_pay55 X.gc) X.w2

/-- The three gates' gradients side by side. -/
def dg : FVec F S256x3072 .bf16 := fun i =>
  if h0 : (i 1).val < 1024 then X.dg0 (ix2 (i 0) ⟨(i 1).val, h0⟩)
  else if h1 : (i 1).val < 2048 then X.dg1 (ix2 (i 0) ⟨(i 1).val - 1024, by omega⟩)
  else X.dg2 (ix2 (i 0) ⟨(i 1).val - 2048, by have : (i 1).val < 3072 := (i 1).isLt; omega⟩)

end Ins

/-- An index of a stack, as an index of its slab. -/
def inSlab (i : S3x512x1024.Idx) : S1x512x1024.Idx := ix3 0 (i 1) (i 2)

/-- Three slabs stacked. -/
def slabs {α : Type} (s0 s1 s2 : S1x512x1024.Idx → α) : S3x512x1024.Idx → α := fun i =>
  (if (i 0).val = 0 then s0 else if (i 0).val = 1 then s1 else s2) (inSlab i)

/-- The slabs of a stack. -/
abbrev slab0 (w : Vec F S3x512x1024 .f32) : Vec F S1x512x1024 .f32 := View.ld (Val := Elt F) (e' := .f32) w (Rect.unit ![0, 0, 0] S1x512x1024.size inb_S3x512x1024_S1x512x1024_0_0_0)
abbrev slab1 (w : Vec F S3x512x1024 .f32) : Vec F S1x512x1024 .f32 := View.ld (Val := Elt F) (e' := .f32) w (Rect.unit ![1, 0, 0] S1x512x1024.size inb_S3x512x1024_S1x512x1024_1_0_0)
abbrev slab2 (w : Vec F S3x512x1024 .f32) : Vec F S1x512x1024 .f32 := View.ld (Val := Elt F) (e' := .f32) w (Rect.unit ![2, 0, 0] S1x512x1024.size inb_S3x512x1024_S1x512x1024_2_0_0)

/-- What the body hands on, from what it was handed. -/
def Carry.next (p : Carry F) (X : Ins F) : Carry F where
  dlg := k0_pay33 X.gt X.y X.x X.dxo p.dlg
  dlb := k0_pay34 X.dxo p.dlb
  dgt := k0_pay37 (k0_pay29 X.y) X.rs X.xn X.dxo X.sc p.dgt
  wb := slabs (k0_pay47 X.dm X.ga (slab0 p.wb) X.ya)
    (k0_pay53 X.dm (k0_pay49 X.gb) (FloatOps.ofBits .f32 0x3F800000#32) (slab1 p.wb) X.yb)
    (k0_pay3 X.dm (k0_pay55 X.gc) (slab2 p.wb) X.yc)
  wo := k0_pay39 X.og X.dr p.wo X.mg

/-- What the first point starts from: zeros. -/
def Carry.zero : Carry F where
  dlg := k0_pay23
  dlb := k0_pay24
  dgt := k0_pay25
  wb := k0_pay26
  wo := k0_pay27

/-- The branch projections' gradient as the last point stores it: rounded, the channels in four groups. -/
def Carry.wbOut (p : Carry F) : FVec F S4x3x512x256 .bf16 :=
  truncf .bf16 (fun i => p.wb (ix3 (i 1) (i 2) ⟨256 * (i 0).val + (i 3).val, by
    have : (i 0).val < 4 := (i 0).isLt
    have : (i 3).val < 256 := (i 3).isLt
    omega⟩) : FVec F S4x3x512x256 .f32) bitsLt_bf16_f32

/-- The output projection's gradient as the last point stores it: rounded, the rows in four groups. -/
def Carry.woOut (p : Carry F) : FVec F S4x256x1024 .bf16 :=
  truncf .bf16 (fun i => p.wo (ix2 ⟨256 * (i 0).val + (i 1).val, by
    have : (i 0).val < 4 := (i 0).isLt
    have : (i 1).val < 256 := (i 1).isLt
    omega⟩ (i 2)) : FVec F S4x256x1024 .f32) bitsLt_bf16_f32

/-! ## The stacks and their slabs at an index -/

theorem Ins.dg_at0 (X : Ins F) (x : S256x1024.Idx) (y : S256x3072.Idx)
    (e : ∀ a, (y a : ℕ) = (![0, 0] : Fin 2 → ℕ) a + x a) : X.dg0 x = X.dg y := by
  have e0 : (y 0).val = 0 + (x 0).val := e 0
  have e1 : (y 1).val = 0 + (x 1).val := e 1
  have hx : (x 1).val < 1024 := (x 1).isLt
  unfold Ins.dg
  rw [dif_pos (show (y 1).val < 1024 by omega)]
  refine congrArg X.dg0 (funext fun a => Fin.ext ?_)
  match a with
  | ⟨0, _⟩ => show (x 0).val = (y 0).val; omega
  | ⟨1, _⟩ => show (x 1).val = (y 1).val; omega

theorem Ins.dg_at1 (X : Ins F) (x : S256x1024.Idx) (y : S256x3072.Idx)
    (e : ∀ a, (y a : ℕ) = (![0, 1024] : Fin 2 → ℕ) a + x a) : X.dg1 x = X.dg y := by
  have e0 : (y 0).val = 0 + (x 0).val := e 0
  have e1 : (y 1).val = 1024 + (x 1).val := e 1
  have hx : (x 1).val < 1024 := (x 1).isLt
  unfold Ins.dg
  rw [dif_neg (show ¬(y 1).val < 1024 by omega), dif_pos (show (y 1).val < 2048 by omega)]
  refine congrArg X.dg1 (funext fun a => Fin.ext ?_)
  match a with
  | ⟨0, _⟩ => show (x 0).val = (y 0).val; omega
  | ⟨1, _⟩ => show (x 1).val = (y 1).val - 1024; omega

theorem Ins.dg_at2 (X : Ins F) (x : S256x1024.Idx) (y : S256x3072.Idx)
    (e : ∀ a, (y a : ℕ) = (![0, 2048] : Fin 2 → ℕ) a + x a) : X.dg2 x = X.dg y := by
  have e0 : (y 0).val = 0 + (x 0).val := e 0
  have e1 : (y 1).val = 2048 + (x 1).val := e 1
  have hx : (x 1).val < 1024 := (x 1).isLt
  unfold Ins.dg
  rw [dif_neg (show ¬(y 1).val < 1024 by omega), dif_neg (show ¬(y 1).val < 2048 by omega)]
  refine congrArg X.dg2 (funext fun a => Fin.ext ?_)
  match a with
  | ⟨0, _⟩ => show (x 0).val = (y 0).val; omega
  | ⟨1, _⟩ => show (x 1).val = (y 1).val - 2048; omega

/-- Slab `k` of three stacked slabs. -/
theorem slabs_at {α : Type} (s : Fin 3 → S1x512x1024.Idx → α) (k : Fin 3) (x : S1x512x1024.Idx) (y : S3x512x1024.Idx)
    (e : ∀ a, (y a : ℕ) = (![k.val, 0, 0] : Fin 3 → ℕ) a + x a) : s k x = slabs (s 0) (s 1) (s 2) y := by
  have h0 : (x 0).val < 1 := (x 0).isLt
  have e0 : (y 0).val = k.val := by have : (y 0).val = k.val + (x 0).val := e 0; omega
  have hx : inSlab y = x := funext fun a => Fin.ext (by
    match a with
    | ⟨0, _⟩ => show 0 = (x 0).val; omega
    | ⟨1, _⟩ => have : (y 1).val = 0 + (x 1).val := e 1; show (y 1).val = (x 1).val; omega
    | ⟨2, _⟩ => have : (y 2).val = 0 + (x 2).val := e 2; show (y 2).val = (x 2).val; omega)
  unfold slabs
  rw [hx]
  match k, e0 with
  | ⟨0, _⟩, e0 => rw [if_pos e0]; rfl
  | ⟨1, _⟩, e0 => rw [if_neg (by rw [e0]; simp), if_pos e0]; rfl
  | ⟨2, _⟩, e0 => rw [if_neg (by rw [e0]; simp), if_neg (by rw [e0]; simp)]; rfl

/-- Pieces that are blocks of one array and cover it leave that array. -/
theorem canon_of_blocks {Val : EltTy → Type} [∀ e, Nonempty (Val e)] {s : Shape} {e : EltTy} (G : s.Idx → Val e)
    (L : List (View.Piece Val s e)) (hc : ∀ y, ∃ p ∈ L, y ∈ p.1.set) (h : View.PiecesOf G L) : View.canon L = G := by
  funext y
  have := View.canon_append_of_piecesOf G [] L h y (hc y)
  rwa [List.append_nil] at this

section Slabs

variable (s0 s1 s2 : Vec F S1x512x1024 .f32)

/-- Three slabs written over anything leave the stack of them. -/
theorem canon_slabs (L : List (View.Piece (Elt F) S3x512x1024 .f32)) :
    View.canon (Val := Elt F) (e := .f32) (⟨Rect.unit (s := S3x512x1024) ![2, 0, 0] S1x512x1024.size inb_S3x512x1024_S1x512x1024_2_0_0, s2⟩ :: ⟨Rect.unit (s := S3x512x1024) ![1, 0, 0] S1x512x1024.size inb_S3x512x1024_S1x512x1024_1_0_0, s1⟩ :: ⟨Rect.unit (s := S3x512x1024) ![0, 0, 0] S1x512x1024.size inb_S3x512x1024_S1x512x1024_0_0_0, s0⟩ :: L) = slabs s0 s1 s2 := by
  funext y
  exact View.canon_append_of_piecesOf (Val := Elt F) (e := .f32) (slabs s0 s1 s2) L [⟨Rect.unit (s := S3x512x1024) ![2, 0, 0] S1x512x1024.size inb_S3x512x1024_S1x512x1024_2_0_0, s2⟩, ⟨Rect.unit (s := S3x512x1024) ![1, 0, 0] S1x512x1024.size inb_S3x512x1024_S1x512x1024_1_0_0, s1⟩, ⟨Rect.unit (s := S3x512x1024) ![0, 0, 0] S1x512x1024.size inb_S3x512x1024_S1x512x1024_0_0_0, s0⟩]
    ⟨fun x => slabs_at ![s0, s1, s2] 2 x _ fun a => Rect.idx_unit_val _ _ inb_S3x512x1024_S1x512x1024_2_0_0 x a,
      fun x => slabs_at ![s0, s1, s2] 1 x _ fun a => Rect.idx_unit_val _ _ inb_S3x512x1024_S1x512x1024_1_0_0 x a,
      fun x => slabs_at ![s0, s1, s2] 0 x _ fun a => Rect.idx_unit_val _ _ inb_S3x512x1024_S1x512x1024_0_0_0 x a, trivial⟩ y
    (View.cover_of_tiledL (s := S3x512x1024) _ S1x512x1024.size (by sl_kernel_rfl) y)

/-- So a load of any box of it reads the stack there. -/
theorem readCov_slabs {κ} {sp} (v : View sig κ sp S3x512x1024 .f32) (L : List (View.Piece (Elt F) S3x512x1024 .f32)) (B : Rect S3x512x1024) :
    v.readCov (Val := Elt F) (⟨Rect.unit (s := S3x512x1024) ![2, 0, 0] S1x512x1024.size inb_S3x512x1024_S1x512x1024_2_0_0, s2⟩ :: ⟨Rect.unit (s := S3x512x1024) ![1, 0, 0] S1x512x1024.size inb_S3x512x1024_S1x512x1024_1_0_0, s1⟩ :: ⟨Rect.unit (s := S3x512x1024) ![0, 0, 0] S1x512x1024.size inb_S3x512x1024_S1x512x1024_0_0_0, s0⟩ :: L) B.toLoadRect = View.ld (slabs s0 s1 s2) B := by
  rw [View.readCov_eq_canon', canon_slabs]

end Slabs

/-- A group of 256 columns of one slab, rounded, is the block of `wbOut` it is stored to. -/
theorem Carry.wbOut_at (p : Carry F) (o : Fin 3 → ℕ) (inb : ∀ a, o a + S1x512x256.size a ≤ S3x512x1024.size a) (o' : Fin 4 → ℕ)
    (h0 : o 0 = o' 1) (h1 : o 1 = o' 2) (h2 : o 2 = 256 * o' 0) (h3 : o' 3 = 0)
    (x : S1x1x512x256.Idx) (y : S4x3x512x256.Idx) (e : ∀ a, (y a : ℕ) = o' a + x a) :
    k0_pay6 (View.ld (Val := Elt F) (e' := .f32) p.wb (Rect.unit o S1x512x256.size inb)) x = p.wbOut y := by
  have x0 : (x 0).val < 1 := (x 0).isLt
  have x1 : (x 1).val < 1 := (x 1).isLt
  have x2 : (x 2).val < 512 := (x 2).isLt
  have x3 : (x 3).val < 256 := (x 3).isLt
  have e0 : (y 0).val = o' 0 + (x 0).val := e 0
  have e1 : (y 1).val = o' 1 + (x 1).val := e 1
  have e2 : (y 2).val = o' 2 + (x 2).val := e 2
  have e3 : (y 3).val = o' 3 + (x 3).val := e 3
  unfold k0_pay6 Carry.wbOut
  dsimp only
  rw [shapeCast_apply _ _ x (ix2 (x 2) (x 3) : S512x256.Idx) (by
    rw [Shape.rowMajor_val_two, Shape.rowMajor_val_four]
    show (x 2).val * 256 + (x 3).val = (((x 0).val * 1 + (x 1).val) * 512 + (x 2).val) * 256 + (x 3).val
    omega)]
  refine congrArg (FloatOps.truncf .bf16 bitsLt_bf16_f32) ?_
  rw [shapeCast_apply _ _ _ (ix3 0 (x 2) (x 3) : S1x512x256.Idx) (by
    rw [Shape.rowMajor_val_two, Shape.rowMajor_val_three]
    show (0 * 512 + (x 2).val) * 256 + (x 3).val = (x 2).val * 256 + (x 3).val
    omega)]
  refine View.ld_unit_apply_of _ _ _ _ _ _ fun a => ?_
  match a with
  | ⟨0, _⟩ => show (y 1).val = o 0 + 0; omega
  | ⟨1, _⟩ => show (y 2).val = o 1 + (x 2).val; omega
  | ⟨2, _⟩ => show 256 * (y 0).val + (y 3).val = o 2 + (x 3).val; omega

/-- A group of 256 rows, rounded, is the block of `woOut` it is stored to. -/
theorem Carry.woOut_at (p : Carry F) (o : Fin 2 → ℕ) (inb : ∀ a, o a + S256x1024.size a ≤ S1024x1024.size a) (o' : Fin 3 → ℕ)
    (h0 : o 0 = 256 * o' 0) (h1 : o 1 = o' 2) (h2 : o' 1 = 0)
    (x : S1x256x1024.Idx) (y : S4x256x1024.Idx) (e : ∀ a, (y a : ℕ) = o' a + x a) :
    k0_pay8 (View.ld (Val := Elt F) (e' := .f32) p.wo (Rect.unit o S256x1024.size inb)) x = p.woOut y := by
  have x0 : (x 0).val < 1 := (x 0).isLt
  have x1 : (x 1).val < 256 := (x 1).isLt
  have x2 : (x 2).val < 1024 := (x 2).isLt
  have e0 : (y 0).val = o' 0 + (x 0).val := e 0
  have e1 : (y 1).val = o' 1 + (x 1).val := e 1
  have e2 : (y 2).val = o' 2 + (x 2).val := e 2
  unfold k0_pay8 Carry.woOut
  dsimp only
  rw [shapeCast_apply _ _ x (ix2 (x 1) (x 2) : S256x1024.Idx) (by
    rw [Shape.rowMajor_val_two, Shape.rowMajor_val_three]
    show (x 1).val * 1024 + (x 2).val = ((x 0).val * 256 + (x 1).val) * 1024 + (x 2).val
    omega)]
  refine congrArg (FloatOps.truncf .bf16 bitsLt_bf16_f32) ?_
  refine View.ld_unit_apply_of _ _ _ _ _ _ fun a => ?_
  match a with
  | ⟨0, _⟩ => show 256 * (y 0).val + (y 1).val = o 0 + (x 1).val; omega
  | ⟨1, _⟩ => show (y 2).val = o 1 + (x 2).val; omega

end Cert.KernelIdeal.Hand

end
-- ==== Proof.RunA.lean ====
/-
The body's run at the first grid point, where the accumulators are cleared before they are added to: it ends with the input
tiles as they were and every other buffer at a list of pieces written over what it held.
-/
module

public import proofs.«01_k».proof.Proof.Bufs

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body leaves in each result tile and accumulator, last first, with its triple. -/
noncomputable def runA (c : Dev nD) (i : grid0.Coords) (M : Bufs) (hc0 : cond0_0 i) (hc1 : ¬cond0_1 i) (X : Ins F) :
    Σ' (L14 : List (View.Piece (Elt F) S256x1024 .f32)), Σ' (L15 : List (View.Piece (Elt F) S256x3072 .bf16)), Σ' (L16 : List (View.Piece (Elt F) S256x512 .f32)), Σ' (L17 : List (View.Piece (Elt F) S256x512 .f32)), Σ' (L18 : List (View.Piece (Elt F) S256x512 .f32)), Σ' (L19 : List (View.Piece (Elt F) S1x1024 .f32)), Σ' (L20 : List (View.Piece (Elt F) S1x1024 .f32)), Σ' (L21 : List (View.Piece (Elt F) S1x1024 .f32)), Σ' (L22 : List (View.Piece (Elt F) S4x3x512x256 .bf16)), Σ' (L23 : List (View.Piece (Elt F) S4x256x1024 .bf16)), Σ' (LS0 : List (View.Piece (Elt F) S3x512x1024 .f32)), { LS1 : List (View.Piece (Elt F) S1024x1024 .f32) //
      ∀ (xi22 : Vec F S4x3x512x256 .bf16) (xi23 : Vec F S4x256x1024 .bf16) (E : Set ℕ) (K : PUnit → sProp 𝕄),
        iprop(M.ins c X ∗
          (∃ d, owns (c : Thread nD τ) M.a15 fullShare d) ∗
          (∃ d, owns (c : Thread nD τ) M.a16 fullShare d) ∗
          (∃ d, owns (c : Thread nD τ) M.a17 fullShare d) ∗
          (∃ d, owns (c : Thread nD τ) M.a18 fullShare d) ∗
          (∃ d, owns (c : Thread nD τ) M.a19 fullShare d) ∗
          (∃ d, owns (c : Thread nD τ) M.a20 fullShare d) ∗
          (∃ d, owns (c : Thread nD τ) M.a21 fullShare d) ∗
          (∃ d, owns (c : Thread nD τ) M.a22 fullShare d) ∗
          owns (c : Thread nD τ) M.a23 fullShare xi22 ∗
          owns (c : Thread nD τ) M.a24 fullShare xi23 ∗
          (∃ d, owns (c : Thread nD τ) M.a25 fullShare d) ∗
          (∃ d, owns (c : Thread nD τ) M.a26 fullShare d) ∗
          (iprop(M.ins c X ∗
            (∃ f, M.a15.view.loc (c : Thread nD τ) ↦[M.a15.view.set]{fullShare} M.a15.view.writes (Elt F) f L14) ∗
            (∃ f, M.a16.view.loc (c : Thread nD τ) ↦[M.a16.view.set]{fullShare} M.a16.view.writes (Elt F) f L15) ∗
            (∃ f, M.a17.view.loc (c : Thread nD τ) ↦[M.a17.view.set]{fullShare} M.a17.view.writes (Elt F) f L16) ∗
            (∃ f, M.a18.view.loc (c : Thread nD τ) ↦[M.a18.view.set]{fullShare} M.a18.view.writes (Elt F) f L17) ∗
            (∃ f, M.a19.view.loc (c : Thread nD τ) ↦[M.a19.view.set]{fullShare} M.a19.view.writes (Elt F) f L18) ∗
            (∃ f, M.a20.view.loc (c : Thread nD τ) ↦[M.a20.view.set]{fullShare} M.a20.view.writes (Elt F) f L19) ∗
            (∃ f, M.a21.view.loc (c : Thread nD τ) ↦[M.a21.view.set]{fullShare} M.a21.view.writes (Elt F) f L20) ∗
            (∃ f, M.a22.view.loc (c : Thread nD τ) ↦[M.a22.view.set]{fullShare} M.a22.view.writes (Elt F) f L21) ∗
            owns (c : Thread nD τ) M.a23 fullShare xi22 ∗
            owns (c : Thread nD τ) M.a24 fullShare xi23 ∗
            (∃ f, M.a25.view.loc (c : Thread nD τ) ↦[M.a25.view.set]{fullShare} M.a25.view.writes (Elt F) f LS0) ∗
            (∃ f, M.a26.view.loc (c : Thread nD τ) ↦[M.a26.view.set]{fullShare} M.a26.view.writes (Elt F) f LS1)) -∗ K ⟨⟩))
        ⊢ wp frame (wpE (defs₀ (F := F)) Variants.none c none) E (M.call i) K } := by
  refine ⟨?_, ?_, ?_, ?_, ?_, ?_, ?_, ?_, [], [], ?_, ?_, fun xi22 xi23 E K => ?run⟩
  case run =>
    unfold Bufs.call; simp only [cc0_merge_bwd_eq_skeleton]; unfold cc0_merge_bwd_skel
    simp only [k0_part4_eq_skeleton, k0_part5_eq_skeleton, k0_part6_eq_skeleton, k0_part7_eq_skeleton, k0_part8_eq_skeleton]
    unfold Bufs.ins owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%d25, %f25, -, H25⟩, ⟨%d26, %f26, -, H26⟩, Hk⟩
    obtain rfl := M.h1.eq_unread hf1; obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h9.eq_unread hf9; obtain rfl := M.h10.eq_unread hf10; obtain rfl := M.h11.eq_unread hf11; obtain rfl := M.h12.eq_unread hf12; obtain rfl := M.h13.eq_unread hf13; obtain rfl := M.h14.eq_unread hf14; obtain rfl := M.h23.eq_unread hf23; obtain rfl := M.h24.eq_unread hf24
    sl_exec (disch := first | sl_exact hc0 | sl_exact hc1)
    sl_step
    iapply Hk
    isplitl [H1 H2 H3 H4 H5 H6 H7 H8 H9 H10 H11 H12 H13 H14]
    · isplitl [H1]
      · iexists _; isplitr; · ipureintro; exact M.h1.read_unread _
        iexact H1
      isplitl [H2]
      · iexists _; isplitr; · ipureintro; exact M.h2.read_unread _
        iexact H2
      isplitl [H3]
      · iexists _; isplitr; · ipureintro; exact M.h3.read_unread _
        iexact H3
      isplitl [H4]
      · iexists _; isplitr; · ipureintro; exact M.h4.read_unread _
        iexact H4
      isplitl [H5]
      · iexists _; isplitr; · ipureintro; exact M.h5.read_unread _
        iexact H5
      isplitl [H6]
      · iexists _; isplitr; · ipureintro; exact M.h6.read_unread _
        iexact H6
      isplitl [H7]
      · iexists _; isplitr; · ipureintro; exact M.h7.read_unread _
        iexact H7
      isplitl [H8]
      · iexists _; isplitr; · ipureintro; exact M.h8.read_unread _
        iexact H8
      isplitl [H9]
      · iexists _; isplitr; · ipureintro; exact M.h9.read_unread _
        iexact H9
      isplitl [H10]
      · iexists _; isplitr; · ipureintro; exact M.h10.read_unread _
        iexact H10
      isplitl [H11]
      · iexists _; isplitr; · ipureintro; exact M.h11.read_unread _
        iexact H11
      isplitl [H12]
      · iexists _; isplitr; · ipureintro; exact M.h12.read_unread _
        iexact H12
      isplitl [H13]
      · iexists _; isplitr; · ipureintro; exact M.h13.read_unread _
        iexact H13
      iexists _; isplitr; · ipureintro; exact M.h14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]
    · iexists _; isplitr; · ipureintro; exact M.h23.read_unread _
      iexact H23
    isplitl [H24]
    · iexists _; isplitr; · ipureintro; exact M.h24.read_unread _
      iexact H24
    isplitl [H25]; · iexists _; iexact H25
    iexists _; iexact H26

end Cert.KernelIdeal.Hand

end
-- ==== Proof.ReadA.lean ====
/-
What the body's run leaves in each buffer at a first grid point, read back: the functions of `Step`.
-/
module

public import proofs.«01_k».proof.Proof.Step
public import proofs.«01_k».proof.Proof.RunA

@[expose] public section

set_option maxRecDepth 16384
set_option maxHeartbeats 4000000

noncomputable section

namespace Cert.KernelIdeal.Hand

open Cert.KernelIdeal Cert.KernelIdeal.Gen
open Idealize.ShloMosaic hiding ix1 ix2 ix3 ix4
open Idealize.ShloMosaic.TcCoe Idealize.ShloMosaic.Tactic
open Idealize.ShloMosaic.ValueIdx

variable {F : FTy → Type} [FloatOps F]

variable (c : Dev nD) (i : grid0.Coords) (M : Bufs) (h0 : cond0_0 i) (h1 : ¬cond0_1 i) (X : Ins F)

theorem readA_14 (f) : M.a15.view.read (Elt F) (M.a15.view.writes (Elt F) f (runA c i M h0 h1 X).1) = X.dx := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x1024.size (by sl_kernel_rfl))]
  unfold runA; dsimp only; sl_unfold_words
  rw [View.canon_cons_unit_zero (S := S256x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readA_16 (f) : M.a17.view.read (Elt F) (M.a17.view.writes (Elt F) f (runA c i M h0 h1 X).2.2.1) = X.dy0 := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x512.size (by sl_kernel_rfl))]
  unfold runA; dsimp only; sl_unfold_words
  rw [View.canon_cons_unit_zero (S := S256x512) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readA_17 (f) : M.a18.view.read (Elt F) (M.a18.view.writes (Elt F) f (runA c i M h0 h1 X).2.2.2.1) = X.dy1 := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x512.size (by sl_kernel_rfl))]
  unfold runA; dsimp only; sl_unfold_words
  rw [View.canon_cons_unit_zero (S := S256x512) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readA_18 (f) : M.a19.view.read (Elt F) (M.a19.view.writes (Elt F) f (runA c i M h0 h1 X).2.2.2.2.1) = X.dy2 := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x512.size (by sl_kernel_rfl))]
  unfold runA; dsimp only; sl_unfold_words
  rw [View.canon_cons_unit_zero (S := S256x512) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readA_19 (f) : M.a20.view.read (Elt F) (M.a20.view.writes (Elt F) f (runA c i M h0 h1 X).2.2.2.2.2.1) = (Carry.zero.next X).dlg := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1x1024.size (by sl_kernel_rfl))]
  unfold runA; dsimp only; sl_unfold_words
  rw [View.canon_cons_unit_zero (S := S1x1024) hz2]
  rw [View.readCov_unit_zero (S := S1x1024) _ hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readA_20 (f) : M.a21.view.read (Elt F) (M.a21.view.writes (Elt F) f (runA c i M h0 h1 X).2.2.2.2.2.2.1) = (Carry.zero.next X).dlb := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1x1024.size (by sl_kernel_rfl))]
  unfold runA; dsimp only; sl_unfold_words
  rw [View.canon_cons_unit_zero (S := S1x1024) hz2]
  rw [View.readCov_unit_zero (S := S1x1024) _ hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readA_21 (f) : M.a22.view.read (Elt F) (M.a22.view.writes (Elt F) f (runA c i M h0 h1 X).2.2.2.2.2.2.2.1) = (Carry.zero.next X).dgt := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1x1024.size (by sl_kernel_rfl))]
  unfold runA; dsimp only; sl_unfold_words
  rw [View.canon_cons_unit_zero (S := S1x1024) hz2]
  rw [View.readCov_unit_zero (S := S1x1024) _ hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readA_s1 (f) : M.a26.view.read (Elt F) (M.a26.view.writes (Elt F) f (runA c i M h0 h1 X).2.2.2.2.2.2.2.2.2.2.2.1) = (Carry.zero.next X).wo := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1024x1024.size (by sl_kernel_rfl))]
  unfold runA; dsimp only; sl_unfold_words
  rw [View.canon_cons_unit_zero (S := S1024x1024) hz2]
  rw [View.readCov_unit_zero (S := S1024x1024) _ hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readA_15 (f) : M.a16.view.read (Elt F) (M.a16.view.writes (Elt F) f (runA c i M h0 h1 X).2.1) = X.dg := by
  have hz2 : (![0, 0] : Fin 2 → Nat) = fun _ => 0 := by funext a; fin_cases a <;> rfl
  have hz3 : (![0, 0, 0] : Fin 3 → Nat) = fun _ => 0 := by funext a; fin_cases a <;> rfl
  have hc := View.cover_of_tiledL (runA c i M h0 h1 X).2.1 S256x1024.size (by sl_kernel_rfl)
  rw [View.read_writes_eq_canon _ _ _ hc]
  refine canon_of_blocks _ _ hc ?_
  unfold runA; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  exact ⟨fun x => X.dg_at2 x _ fun a => Rect.idx_unit_val _ _ inb_S256x3072_S256x1024_0_2048 x a, fun x => X.dg_at1 x _ fun a => Rect.idx_unit_val _ _ inb_S256x3072_S256x1024_0_1024 x a,
    fun x => X.dg_at0 x _ fun a => Rect.idx_unit_val _ _ inb_S256x3072_S256x1024_0_0 x a, trivial⟩

theorem canonA_s0 : View.canon (runA c i M h0 h1 X).2.2.2.2.2.2.2.2.2.2.1 = (Carry.zero.next X).wb := by
  have hz2 : (![0, 0] : Fin 2 → Nat) = fun _ => 0 := by funext a; fin_cases a <;> rfl
  have hz3 : (![0, 0, 0] : Fin 3 → Nat) = fun _ => 0 := by funext a; fin_cases a <;> rfl
  unfold runA; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  refine (canon_slabs _ _ _ _).trans ?_
  rw [View.readCov_fill _ _ _ _ _ (by intro a; fin_cases a <;> rfl), View.readCov_skip _ _ _ _ _ (by rfl), View.readCov_fill _ _ _ _ _ (by intro a; fin_cases a <;> rfl), View.readCov_skip _ _ _ _ _ (by rfl), View.readCov_skip _ _ _ _ _ (by rfl), View.readCov_fill _ _ _ _ _ (by intro a; fin_cases a <;> rfl)]
  rfl

theorem readA_s0 (f) : M.a25.view.read (Elt F) (M.a25.view.writes (Elt F) f (runA c i M h0 h1 X).2.2.2.2.2.2.2.2.2.2.1) = (Carry.zero.next X).wb :=
  (View.read_writes_eq_canon _ _ _ (View.cover_of_tiledL (runA c i M h0 h1 X).2.2.2.2.2.2.2.2.2.2.1 S1x512x1024.size (by sl_kernel_rfl))).trans (canonA_s0 c i M h0 h1 X)

end Cert.KernelIdeal.Hand

end
-- ==== Proof.RunB.lean ====
/-
The body's run at a grid point that is neither the first nor the last: it ends with the input
tiles as they were and every other buffer at a list of pieces written over what it held.
-/
module

public import proofs.«01_k».proof.Proof.Bufs

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body leaves in each result tile and accumulator, last first, with its triple. -/
noncomputable def runB (c : Dev nD) (i : grid0.Coords) (M : Bufs) (hc0 : ¬cond0_0 i) (hc1 : ¬cond0_1 i) (X : Ins F) (p : Carry F) :
    Σ' (L14 : List (View.Piece (Elt F) S256x1024 .f32)), Σ' (L15 : List (View.Piece (Elt F) S256x3072 .bf16)), Σ' (L16 : List (View.Piece (Elt F) S256x512 .f32)), Σ' (L17 : List (View.Piece (Elt F) S256x512 .f32)), Σ' (L18 : List (View.Piece (Elt F) S256x512 .f32)), Σ' (L19 : List (View.Piece (Elt F) S1x1024 .f32)), Σ' (L20 : List (View.Piece (Elt F) S1x1024 .f32)), Σ' (L21 : List (View.Piece (Elt F) S1x1024 .f32)), Σ' (L22 : List (View.Piece (Elt F) S4x3x512x256 .bf16)), Σ' (L23 : List (View.Piece (Elt F) S4x256x1024 .bf16)), Σ' (LS0 : List (View.Piece (Elt F) S3x512x1024 .f32)), { LS1 : List (View.Piece (Elt F) S1024x1024 .f32) //
      ∀ (xi22 : Vec F S4x3x512x256 .bf16) (xi23 : Vec F S4x256x1024 .bf16) (E : Set ℕ) (K : PUnit → sProp 𝕄),
        iprop(M.ins c X ∗
          (∃ d, owns (c : Thread nD τ) M.a15 fullShare d) ∗
          (∃ d, owns (c : Thread nD τ) M.a16 fullShare d) ∗
          (∃ d, owns (c : Thread nD τ) M.a17 fullShare d) ∗
          (∃ d, owns (c : Thread nD τ) M.a18 fullShare d) ∗
          (∃ d, owns (c : Thread nD τ) M.a19 fullShare d) ∗
          owns (c : Thread nD τ) M.a20 fullShare p.dlg ∗
          owns (c : Thread nD τ) M.a21 fullShare p.dlb ∗
          owns (c : Thread nD τ) M.a22 fullShare p.dgt ∗
          owns (c : Thread nD τ) M.a23 fullShare xi22 ∗
          owns (c : Thread nD τ) M.a24 fullShare xi23 ∗
          owns (c : Thread nD τ) M.a25 fullShare p.wb ∗
          owns (c : Thread nD τ) M.a26 fullShare p.wo ∗
          (iprop(M.ins c X ∗
            (∃ f, M.a15.view.loc (c : Thread nD τ) ↦[M.a15.view.set]{fullShare} M.a15.view.writes (Elt F) f L14) ∗
            (∃ f, M.a16.view.loc (c : Thread nD τ) ↦[M.a16.view.set]{fullShare} M.a16.view.writes (Elt F) f L15) ∗
            (∃ f, M.a17.view.loc (c : Thread nD τ) ↦[M.a17.view.set]{fullShare} M.a17.view.writes (Elt F) f L16) ∗
            (∃ f, M.a18.view.loc (c : Thread nD τ) ↦[M.a18.view.set]{fullShare} M.a18.view.writes (Elt F) f L17) ∗
            (∃ f, M.a19.view.loc (c : Thread nD τ) ↦[M.a19.view.set]{fullShare} M.a19.view.writes (Elt F) f L18) ∗
            (∃ f, M.a20.view.loc (c : Thread nD τ) ↦[M.a20.view.set]{fullShare} M.a20.view.writes (Elt F) f L19) ∗
            (∃ f, M.a21.view.loc (c : Thread nD τ) ↦[M.a21.view.set]{fullShare} M.a21.view.writes (Elt F) f L20) ∗
            (∃ f, M.a22.view.loc (c : Thread nD τ) ↦[M.a22.view.set]{fullShare} M.a22.view.writes (Elt F) f L21) ∗
            owns (c : Thread nD τ) M.a23 fullShare xi22 ∗
            owns (c : Thread nD τ) M.a24 fullShare xi23 ∗
            (∃ f, M.a25.view.loc (c : Thread nD τ) ↦[M.a25.view.set]{fullShare} M.a25.view.writes (Elt F) f LS0) ∗
            (∃ f, M.a26.view.loc (c : Thread nD τ) ↦[M.a26.view.set]{fullShare} M.a26.view.writes (Elt F) f LS1)) -∗ K ⟨⟩))
        ⊢ wp frame (wpE (defs₀ (F := F)) Variants.none c none) E (M.call i) K } := by
  refine ⟨?_, ?_, ?_, ?_, ?_, ?_, ?_, ?_, [], [], ?_, ?_, fun xi22 xi23 E K => ?run⟩
  case run =>
    unfold Bufs.call; simp only [cc0_merge_bwd_eq_skeleton]; unfold cc0_merge_bwd_skel
    simp only [k0_part4_eq_skeleton, k0_part5_eq_skeleton, k0_part6_eq_skeleton, k0_part7_eq_skeleton, k0_part8_eq_skeleton]
    unfold Bufs.ins owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    obtain rfl := M.h1.eq_unread hf1; obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h9.eq_unread hf9; obtain rfl := M.h10.eq_unread hf10; obtain rfl := M.h11.eq_unread hf11; obtain rfl := M.h12.eq_unread hf12; obtain rfl := M.h13.eq_unread hf13; obtain rfl := M.h14.eq_unread hf14; obtain rfl := M.h20.eq_unread hf20; obtain rfl := M.h21.eq_unread hf21; obtain rfl := M.h22.eq_unread hf22; obtain rfl := M.h23.eq_unread hf23; obtain rfl := M.h24.eq_unread hf24; obtain rfl := M.h25.eq_unread hf25; obtain rfl := M.h26.eq_unread hf26
    sl_exec (disch := first | sl_exact hc0 | sl_exact hc1)
    sl_step
    iapply Hk
    isplitl [H1 H2 H3 H4 H5 H6 H7 H8 H9 H10 H11 H12 H13 H14]
    · isplitl [H1]
      · iexists _; isplitr; · ipureintro; exact M.h1.read_unread _
        iexact H1
      isplitl [H2]
      · iexists _; isplitr; · ipureintro; exact M.h2.read_unread _
        iexact H2
      isplitl [H3]
      · iexists _; isplitr; · ipureintro; exact M.h3.read_unread _
        iexact H3
      isplitl [H4]
      · iexists _; isplitr; · ipureintro; exact M.h4.read_unread _
        iexact H4
      isplitl [H5]
      · iexists _; isplitr; · ipureintro; exact M.h5.read_unread _
        iexact H5
      isplitl [H6]
      · iexists _; isplitr; · ipureintro; exact M.h6.read_unread _
        iexact H6
      isplitl [H7]
      · iexists _; isplitr; · ipureintro; exact M.h7.read_unread _
        iexact H7
      isplitl [H8]
      · iexists _; isplitr; · ipureintro; exact M.h8.read_unread _
        iexact H8
      isplitl [H9]
      · iexists _; isplitr; · ipureintro; exact M.h9.read_unread _
        iexact H9
      isplitl [H10]
      · iexists _; isplitr; · ipureintro; exact M.h10.read_unread _
        iexact H10
      isplitl [H11]
      · iexists _; isplitr; · ipureintro; exact M.h11.read_unread _
        iexact H11
      isplitl [H12]
      · iexists _; isplitr; · ipureintro; exact M.h12.read_unread _
        iexact H12
      isplitl [H13]
      · iexists _; isplitr; · ipureintro; exact M.h13.read_unread _
        iexact H13
      iexists _; isplitr; · ipureintro; exact M.h14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]
    · iexists _; isplitr; · ipureintro; exact M.h23.read_unread _
      iexact H23
    isplitl [H24]
    · iexists _; isplitr; · ipureintro; exact M.h24.read_unread _
      iexact H24
    isplitl [H25]; · iexists _; iexact H25
    iexists _; iexact H26

end Cert.KernelIdeal.Hand

end
-- ==== Proof.ReadB.lean ====
/-
What the body's run leaves in each buffer at a middle grid point, read back: the functions of `Step`.
-/
module

public import proofs.«01_k».proof.Proof.Step
public import proofs.«01_k».proof.Proof.RunB

@[expose] public section

set_option maxRecDepth 16384
set_option maxHeartbeats 4000000

noncomputable section

namespace Cert.KernelIdeal.Hand

open Cert.KernelIdeal Cert.KernelIdeal.Gen
open Idealize.ShloMosaic hiding ix1 ix2 ix3 ix4
open Idealize.ShloMosaic.TcCoe Idealize.ShloMosaic.Tactic
open Idealize.ShloMosaic.ValueIdx

variable {F : FTy → Type} [FloatOps F]

variable (c : Dev nD) (i : grid0.Coords) (M : Bufs) (h0 : ¬cond0_0 i) (h1 : ¬cond0_1 i) (X : Ins F) (p : Carry F)

theorem readB_14 (f) : M.a15.view.read (Elt F) (M.a15.view.writes (Elt F) f (runB c i M h0 h1 X p).1) = X.dx := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x1024.size (by sl_kernel_rfl))]
  unfold runB; dsimp only; sl_unfold_words
  rw [View.canon_cons_unit_zero (S := S256x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readB_16 (f) : M.a17.view.read (Elt F) (M.a17.view.writes (Elt F) f (runB c i M h0 h1 X p).2.2.1) = X.dy0 := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x512.size (by sl_kernel_rfl))]
  unfold runB; dsimp only; sl_unfold_words
  rw [View.canon_cons_unit_zero (S := S256x512) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readB_17 (f) : M.a18.view.read (Elt F) (M.a18.view.writes (Elt F) f (runB c i M h0 h1 X p).2.2.2.1) = X.dy1 := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x512.size (by sl_kernel_rfl))]
  unfold runB; dsimp only; sl_unfold_words
  rw [View.canon_cons_unit_zero (S := S256x512) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readB_18 (f) : M.a19.view.read (Elt F) (M.a19.view.writes (Elt F) f (runB c i M h0 h1 X p).2.2.2.2.1) = X.dy2 := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x512.size (by sl_kernel_rfl))]
  unfold runB; dsimp only; sl_unfold_words
  rw [View.canon_cons_unit_zero (S := S256x512) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readB_19 (f) : M.a20.view.read (Elt F) (M.a20.view.writes (Elt F) f (runB c i M h0 h1 X p).2.2.2.2.2.1) = (p.next X).dlg := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1x1024.size (by sl_kernel_rfl))]
  unfold runB; dsimp only; sl_unfold_words
  rw [View.canon_cons_unit_zero (S := S1x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readB_20 (f) : M.a21.view.read (Elt F) (M.a21.view.writes (Elt F) f (runB c i M h0 h1 X p).2.2.2.2.2.2.1) = (p.next X).dlb := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1x1024.size (by sl_kernel_rfl))]
  unfold runB; dsimp only; sl_unfold_words
  rw [View.canon_cons_unit_zero (S := S1x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readB_21 (f) : M.a22.view.read (Elt F) (M.a22.view.writes (Elt F) f (runB c i M h0 h1 X p).2.2.2.2.2.2.2.1) = (p.next X).dgt := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1x1024.size (by sl_kernel_rfl))]
  unfold runB; dsimp only; sl_unfold_words
  rw [View.canon_cons_unit_zero (S := S1x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readB_s1 (f) : M.a26.view.read (Elt F) (M.a26.view.writes (Elt F) f (runB c i M h0 h1 X p).2.2.2.2.2.2.2.2.2.2.2.1) = (p.next X).wo := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1024x1024.size (by sl_kernel_rfl))]
  unfold runB; dsimp only; sl_unfold_words
  rw [View.canon_cons_unit_zero (S := S1024x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readB_15 (f) : M.a16.view.read (Elt F) (M.a16.view.writes (Elt F) f (runB c i M h0 h1 X p).2.1) = X.dg := by
  have hz2 : (![0, 0] : Fin 2 → Nat) = fun _ => 0 := by funext a; fin_cases a <;> rfl
  have hz3 : (![0, 0, 0] : Fin 3 → Nat) = fun _ => 0 := by funext a; fin_cases a <;> rfl
  have hc := View.cover_of_tiledL (runB c i M h0 h1 X p).2.1 S256x1024.size (by sl_kernel_rfl)
  rw [View.read_writes_eq_canon _ _ _ hc]
  refine canon_of_blocks _ _ hc ?_
  unfold runB; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  exact ⟨fun x => X.dg_at2 x _ fun a => Rect.idx_unit_val _ _ inb_S256x3072_S256x1024_0_2048 x a, fun x => X.dg_at1 x _ fun a => Rect.idx_unit_val _ _ inb_S256x3072_S256x1024_0_1024 x a,
    fun x => X.dg_at0 x _ fun a => Rect.idx_unit_val _ _ inb_S256x3072_S256x1024_0_0 x a, trivial⟩

theorem canonB_s0 : View.canon (runB c i M h0 h1 X p).2.2.2.2.2.2.2.2.2.2.1 = (p.next X).wb := by
  have hz2 : (![0, 0] : Fin 2 → Nat) = fun _ => 0 := by funext a; fin_cases a <;> rfl
  have hz3 : (![0, 0, 0] : Fin 3 → Nat) = fun _ => 0 := by funext a; fin_cases a <;> rfl
  unfold runB; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  refine (canon_slabs _ _ _ _).trans ?_
  rfl

theorem readB_s0 (f) : M.a25.view.read (Elt F) (M.a25.view.writes (Elt F) f (runB c i M h0 h1 X p).2.2.2.2.2.2.2.2.2.2.1) = (p.next X).wb :=
  (View.read_writes_eq_canon _ _ _ (View.cover_of_tiledL (runB c i M h0 h1 X p).2.2.2.2.2.2.2.2.2.2.1 S1x512x1024.size (by sl_kernel_rfl))).trans (canonB_s0 c i M h0 h1 X p)

end Cert.KernelIdeal.Hand

end
-- ==== Proof.RunC.lean ====
/-
The body's run at the last grid point, where the accumulated weight gradients are also rounded and stored: it ends with the input
tiles as they were and every other buffer at a list of pieces written over what it held.
-/
module

public import proofs.«01_k».proof.Proof.Bufs

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the body leaves in each result tile and accumulator, last first, with its triple. -/
noncomputable def runC (c : Dev nD) (i : grid0.Coords) (M : Bufs) (hc0 : ¬cond0_0 i) (hc1 : cond0_1 i) (X : Ins F) (p : Carry F) :
    Σ' (L14 : List (View.Piece (Elt F) S256x1024 .f32)), Σ' (L15 : List (View.Piece (Elt F) S256x3072 .bf16)), Σ' (L16 : List (View.Piece (Elt F) S256x512 .f32)), Σ' (L17 : List (View.Piece (Elt F) S256x512 .f32)), Σ' (L18 : List (View.Piece (Elt F) S256x512 .f32)), Σ' (L19 : List (View.Piece (Elt F) S1x1024 .f32)), Σ' (L20 : List (View.Piece (Elt F) S1x1024 .f32)), Σ' (L21 : List (View.Piece (Elt F) S1x1024 .f32)), Σ' (L22 : List (View.Piece (Elt F) S4x3x512x256 .bf16)), Σ' (L23 : List (View.Piece (Elt F) S4x256x1024 .bf16)), Σ' (LS0 : List (View.Piece (Elt F) S3x512x1024 .f32)), { LS1 : List (View.Piece (Elt F) S1024x1024 .f32) //
      ∀ (E : Set ℕ) (K : PUnit → sProp 𝕄),
        iprop(M.ins c X ∗
          (∃ d, owns (c : Thread nD τ) M.a15 fullShare d) ∗
          (∃ d, owns (c : Thread nD τ) M.a16 fullShare d) ∗
          (∃ d, owns (c : Thread nD τ) M.a17 fullShare d) ∗
          (∃ d, owns (c : Thread nD τ) M.a18 fullShare d) ∗
          (∃ d, owns (c : Thread nD τ) M.a19 fullShare d) ∗
          owns (c : Thread nD τ) M.a20 fullShare p.dlg ∗
          owns (c : Thread nD τ) M.a21 fullShare p.dlb ∗
          owns (c : Thread nD τ) M.a22 fullShare p.dgt ∗
          (∃ d, owns (c : Thread nD τ) M.a23 fullShare d) ∗
          (∃ d, owns (c : Thread nD τ) M.a24 fullShare d) ∗
          owns (c : Thread nD τ) M.a25 fullShare p.wb ∗
          owns (c : Thread nD τ) M.a26 fullShare p.wo ∗
          (iprop(M.ins c X ∗
            (∃ f, M.a15.view.loc (c : Thread nD τ) ↦[M.a15.view.set]{fullShare} M.a15.view.writes (Elt F) f L14) ∗
            (∃ f, M.a16.view.loc (c : Thread nD τ) ↦[M.a16.view.set]{fullShare} M.a16.view.writes (Elt F) f L15) ∗
            (∃ f, M.a17.view.loc (c : Thread nD τ) ↦[M.a17.view.set]{fullShare} M.a17.view.writes (Elt F) f L16) ∗
            (∃ f, M.a18.view.loc (c : Thread nD τ) ↦[M.a18.view.set]{fullShare} M.a18.view.writes (Elt F) f L17) ∗
            (∃ f, M.a19.view.loc (c : Thread nD τ) ↦[M.a19.view.set]{fullShare} M.a19.view.writes (Elt F) f L18) ∗
            (∃ f, M.a20.view.loc (c : Thread nD τ) ↦[M.a20.view.set]{fullShare} M.a20.view.writes (Elt F) f L19) ∗
            (∃ f, M.a21.view.loc (c : Thread nD τ) ↦[M.a21.view.set]{fullShare} M.a21.view.writes (Elt F) f L20) ∗
            (∃ f, M.a22.view.loc (c : Thread nD τ) ↦[M.a22.view.set]{fullShare} M.a22.view.writes (Elt F) f L21) ∗
            (∃ f, M.a23.view.loc (c : Thread nD τ) ↦[M.a23.view.set]{fullShare} M.a23.view.writes (Elt F) f L22) ∗
            (∃ f, M.a24.view.loc (c : Thread nD τ) ↦[M.a24.view.set]{fullShare} M.a24.view.writes (Elt F) f L23) ∗
            (∃ f, M.a25.view.loc (c : Thread nD τ) ↦[M.a25.view.set]{fullShare} M.a25.view.writes (Elt F) f LS0) ∗
            (∃ f, M.a26.view.loc (c : Thread nD τ) ↦[M.a26.view.set]{fullShare} M.a26.view.writes (Elt F) f LS1)) -∗ K ⟨⟩))
        ⊢ wp frame (wpE (defs₀ (F := F)) Variants.none c none) E (M.call i) K } := by
  refine ⟨?_, ?_, ?_, ?_, ?_, ?_, ?_, ?_, ?_, ?_, ?_, ?_, fun E K => ?run⟩
  case run =>
    unfold Bufs.call; simp only [cc0_merge_bwd_eq_skeleton]; unfold cc0_merge_bwd_skel
    simp only [k0_part4_eq_skeleton, k0_part5_eq_skeleton, k0_part6_eq_skeleton, k0_part7_eq_skeleton, k0_part8_eq_skeleton, k0_part1_eq_skeleton, k0_part2_eq_skeleton, k0_part3_eq_skeleton]
    unfold Bufs.ins owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, ⟨%f22, %hf22, H22⟩, ⟨%d23, %f23, -, H23⟩, ⟨%d24, %f24, -, H24⟩, ⟨%f25, %hf25, H25⟩, ⟨%f26, %hf26, H26⟩, Hk⟩
    obtain rfl := M.h1.eq_unread hf1; obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h8.eq_unread hf8; obtain rfl := M.h9.eq_unread hf9; obtain rfl := M.h10.eq_unread hf10; obtain rfl := M.h11.eq_unread hf11; obtain rfl := M.h12.eq_unread hf12; obtain rfl := M.h13.eq_unread hf13; obtain rfl := M.h14.eq_unread hf14; obtain rfl := M.h20.eq_unread hf20; obtain rfl := M.h21.eq_unread hf21; obtain rfl := M.h22.eq_unread hf22; obtain rfl := M.h25.eq_unread hf25; obtain rfl := M.h26.eq_unread hf26
    sl_exec (disch := first | sl_exact hc0 | sl_exact hc1)
    sl_step
    iapply Hk
    isplitl [H1 H2 H3 H4 H5 H6 H7 H8 H9 H10 H11 H12 H13 H14]
    · isplitl [H1]
      · iexists _; isplitr; · ipureintro; exact M.h1.read_unread _
        iexact H1
      isplitl [H2]
      · iexists _; isplitr; · ipureintro; exact M.h2.read_unread _
        iexact H2
      isplitl [H3]
      · iexists _; isplitr; · ipureintro; exact M.h3.read_unread _
        iexact H3
      isplitl [H4]
      · iexists _; isplitr; · ipureintro; exact M.h4.read_unread _
        iexact H4
      isplitl [H5]
      · iexists _; isplitr; · ipureintro; exact M.h5.read_unread _
        iexact H5
      isplitl [H6]
      · iexists _; isplitr; · ipureintro; exact M.h6.read_unread _
        iexact H6
      isplitl [H7]
      · iexists _; isplitr; · ipureintro; exact M.h7.read_unread _
        iexact H7
      isplitl [H8]
      · iexists _; isplitr; · ipureintro; exact M.h8.read_unread _
        iexact H8
      isplitl [H9]
      · iexists _; isplitr; · ipureintro; exact M.h9.read_unread _
        iexact H9
      isplitl [H10]
      · iexists _; isplitr; · ipureintro; exact M.h10.read_unread _
        iexact H10
      isplitl [H11]
      · iexists _; isplitr; · ipureintro; exact M.h11.read_unread _
        iexact H11
      isplitl [H12]
      · iexists _; isplitr; · ipureintro; exact M.h12.read_unread _
        iexact H12
      isplitl [H13]
      · iexists _; isplitr; · ipureintro; exact M.h13.read_unread _
        iexact H13
      iexists _; isplitr; · ipureintro; exact M.h14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

end Cert.KernelIdeal.Hand

end
-- ==== Proof.ReadC.lean ====
/-
What the body's run leaves in each buffer at a last grid point, read back: the functions of `Step`.
-/
module

public import proofs.«01_k».proof.Proof.Step
public import proofs.«01_k».proof.Proof.RunC

@[expose] public section

set_option maxRecDepth 16384
set_option maxHeartbeats 4000000

noncomputable section

namespace Cert.KernelIdeal.Hand

open Cert.KernelIdeal Cert.KernelIdeal.Gen
open Idealize.ShloMosaic hiding ix1 ix2 ix3 ix4
open Idealize.ShloMosaic.TcCoe Idealize.ShloMosaic.Tactic
open Idealize.ShloMosaic.ValueIdx

variable {F : FTy → Type} [FloatOps F]

variable (c : Dev nD) (i : grid0.Coords) (M : Bufs) (h0 : ¬cond0_0 i) (h1 : cond0_1 i) (X : Ins F) (p : Carry F)

theorem readC_14 (f) : M.a15.view.read (Elt F) (M.a15.view.writes (Elt F) f (runC c i M h0 h1 X p).1) = X.dx := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x1024.size (by sl_kernel_rfl))]
  unfold runC; dsimp only; sl_unfold_words
  rw [View.canon_cons_unit_zero (S := S256x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readC_16 (f) : M.a17.view.read (Elt F) (M.a17.view.writes (Elt F) f (runC c i M h0 h1 X p).2.2.1) = X.dy0 := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x512.size (by sl_kernel_rfl))]
  unfold runC; dsimp only; sl_unfold_words
  rw [View.canon_cons_unit_zero (S := S256x512) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readC_17 (f) : M.a18.view.read (Elt F) (M.a18.view.writes (Elt F) f (runC c i M h0 h1 X p).2.2.2.1) = X.dy1 := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x512.size (by sl_kernel_rfl))]
  unfold runC; dsimp only; sl_unfold_words
  rw [View.canon_cons_unit_zero (S := S256x512) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readC_18 (f) : M.a19.view.read (Elt F) (M.a19.view.writes (Elt F) f (runC c i M h0 h1 X p).2.2.2.2.1) = X.dy2 := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S256x512.size (by sl_kernel_rfl))]
  unfold runC; dsimp only; sl_unfold_words
  rw [View.canon_cons_unit_zero (S := S256x512) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readC_19 (f) : M.a20.view.read (Elt F) (M.a20.view.writes (Elt F) f (runC c i M h0 h1 X p).2.2.2.2.2.1) = (p.next X).dlg := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1x1024.size (by sl_kernel_rfl))]
  unfold runC; dsimp only; sl_unfold_words
  rw [View.canon_cons_unit_zero (S := S1x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readC_20 (f) : M.a21.view.read (Elt F) (M.a21.view.writes (Elt F) f (runC c i M h0 h1 X p).2.2.2.2.2.2.1) = (p.next X).dlb := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1x1024.size (by sl_kernel_rfl))]
  unfold runC; dsimp only; sl_unfold_words
  rw [View.canon_cons_unit_zero (S := S1x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readC_21 (f) : M.a22.view.read (Elt F) (M.a22.view.writes (Elt F) f (runC c i M h0 h1 X p).2.2.2.2.2.2.2.1) = (p.next X).dgt := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1x1024.size (by sl_kernel_rfl))]
  unfold runC; dsimp only; sl_unfold_words
  rw [View.canon_cons_unit_zero (S := S1x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readC_s1 (f) : M.a26.view.read (Elt F) (M.a26.view.writes (Elt F) f (runC c i M h0 h1 X p).2.2.2.2.2.2.2.2.2.2.2.1) = (p.next X).wo := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S1024x1024.size (by sl_kernel_rfl))]
  unfold runC; dsimp only; sl_unfold_words
  rw [View.canon_cons_unit_zero (S := S1024x1024) hz2]
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  try rfl

theorem readC_15 (f) : M.a16.view.read (Elt F) (M.a16.view.writes (Elt F) f (runC c i M h0 h1 X p).2.1) = X.dg := by
  have hz2 : (![0, 0] : Fin 2 → Nat) = fun _ => 0 := by funext a; fin_cases a <;> rfl
  have hz3 : (![0, 0, 0] : Fin 3 → Nat) = fun _ => 0 := by funext a; fin_cases a <;> rfl
  have hc := View.cover_of_tiledL (runC c i M h0 h1 X p).2.1 S256x1024.size (by sl_kernel_rfl)
  rw [View.read_writes_eq_canon _ _ _ hc]
  refine canon_of_blocks _ _ hc ?_
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  exact ⟨fun x => X.dg_at2 x _ fun a => Rect.idx_unit_val _ _ inb_S256x3072_S256x1024_0_2048 x a, fun x => X.dg_at1 x _ fun a => Rect.idx_unit_val _ _ inb_S256x3072_S256x1024_0_1024 x a,
    fun x => X.dg_at0 x _ fun a => Rect.idx_unit_val _ _ inb_S256x3072_S256x1024_0_0 x a, trivial⟩

theorem canonC_s0 : View.canon (runC c i M h0 h1 X p).2.2.2.2.2.2.2.2.2.2.1 = (p.next X).wb := by
  have hz2 : (![0, 0] : Fin 2 → Nat) = fun _ => 0 := by funext a; fin_cases a <;> rfl
  have hz3 : (![0, 0, 0] : Fin 3 → Nat) = fun _ => 0 := by funext a; fin_cases a <;> rfl
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  refine (canon_slabs _ _ _ _).trans ?_
  rfl

theorem readC_s0 (f) : M.a25.view.read (Elt F) (M.a25.view.writes (Elt F) f (runC c i M h0 h1 X p).2.2.2.2.2.2.2.2.2.2.1) = (p.next X).wb :=
  (View.read_writes_eq_canon _ _ _ (View.cover_of_tiledL (runC c i M h0 h1 X p).2.2.2.2.2.2.2.2.2.2.1 S1x512x1024.size (by sl_kernel_rfl))).trans (canonC_s0 c i M h0 h1 X p)

theorem readC_22 (f) : M.a23.view.read (Elt F) (M.a23.view.writes (Elt F) f (runC c i M h0 h1 X p).2.2.2.2.2.2.2.2.1) = (p.next X).wbOut := by
  have hz2 : (![0, 0] : Fin 2 → Nat) = fun _ => 0 := by funext a; fin_cases a <;> rfl
  have hz3 : (![0, 0, 0] : Fin 3 → Nat) = fun _ => 0 := by funext a; fin_cases a <;> rfl
  have hc := View.cover_of_tiledL (runC c i M h0 h1 X p).2.2.2.2.2.2.2.2.1 S1x1x512x256.size (by sl_kernel_rfl)
  rw [View.read_writes_eq_canon _ _ _ hc]
  refine canon_of_blocks _ _ hc ?_
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  exact ⟨fun x => (congrArg (fun z => k0_pay7 z x) (readCov_slabs _ _ _ _ [] _)).trans ((p.next X).wbOut_at ![2, 0, 768] inb_S3x512x1024_S1x512x256_2_0_768 ![3, 2, 0, 0] rfl rfl rfl rfl x _ fun a => Rect.idx_unit_val _ _ inb_S4x3x512x256_S1x1x512x256_3_2_0_0 x a),
    fun x => (congrArg (fun z => k0_pay6 z x) (readCov_slabs _ _ _ _ [] _)).trans ((p.next X).wbOut_at ![1, 0, 768] inb_S3x512x1024_S1x512x256_1_0_768 ![3, 1, 0, 0] rfl rfl rfl rfl x _ fun a => Rect.idx_unit_val _ _ inb_S4x3x512x256_S1x1x512x256_3_1_0_0 x a),
    fun x => (congrArg (fun z => k0_pay5 (k0_pay22 z) x) (readCov_slabs _ _ _ _ [] _)).trans ((p.next X).wbOut_at ![0, 0, 768] inb_S3x512x1024_S1x512x256_0_0_768 ![3, 0, 0, 0] rfl rfl rfl rfl x _ fun a => Rect.idx_unit_val _ _ inb_S4x3x512x256_S1x1x512x256_3_0_0_0 x a),
    fun x => (congrArg (fun z => k0_pay20 z x) (readCov_slabs _ _ _ _ [] _)).trans ((p.next X).wbOut_at ![2, 0, 512] inb_S3x512x1024_S1x512x256_2_0_512 ![2, 2, 0, 0] rfl rfl rfl rfl x _ fun a => Rect.idx_unit_val _ _ inb_S4x3x512x256_S1x1x512x256_2_2_0_0 x a),
    fun x => (congrArg (fun z => k0_pay19 z x) (readCov_slabs _ _ _ _ [] _)).trans ((p.next X).wbOut_at ![1, 0, 512] inb_S3x512x1024_S1x512x256_1_0_512 ![2, 1, 0, 0] rfl rfl rfl rfl x _ fun a => Rect.idx_unit_val _ _ inb_S4x3x512x256_S1x1x512x256_2_1_0_0 x a),
    fun x => (congrArg (fun z => k0_pay18 z x) (readCov_slabs _ _ _ _ [] _)).trans ((p.next X).wbOut_at ![0, 0, 512] inb_S3x512x1024_S1x512x256_0_0_512 ![2, 0, 0, 0] rfl rfl rfl rfl x _ fun a => Rect.idx_unit_val _ _ inb_S4x3x512x256_S1x1x512x256_2_0_0_0 x a),
    fun x => (congrArg (fun z => k0_pay16 z x) (readCov_slabs _ _ _ _ [] _)).trans ((p.next X).wbOut_at ![2, 0, 256] inb_S3x512x1024_S1x512x256_2_0_256 ![1, 2, 0, 0] rfl rfl rfl rfl x _ fun a => Rect.idx_unit_val _ _ inb_S4x3x512x256_S1x1x512x256_1_2_0_0 x a),
    fun x => (congrArg (fun z => k0_pay15 z x) (readCov_slabs _ _ _ _ [] _)).trans ((p.next X).wbOut_at ![1, 0, 256] inb_S3x512x1024_S1x512x256_1_0_256 ![1, 1, 0, 0] rfl rfl rfl rfl x _ fun a => Rect.idx_unit_val _ _ inb_S4x3x512x256_S1x1x512x256_1_1_0_0 x a),
    fun x => (congrArg (fun z => k0_pay14 z x) (readCov_slabs _ _ _ _ [] _)).trans ((p.next X).wbOut_at ![0, 0, 256] inb_S3x512x1024_S1x512x256_0_0_256 ![1, 0, 0, 0] rfl rfl rfl rfl x _ fun a => Rect.idx_unit_val _ _ inb_S4x3x512x256_S1x1x512x256_1_0_0_0 x a),
    fun x => (congrArg (fun z => k0_pay11 z x) (readCov_slabs _ _ _ _ [] _)).trans ((p.next X).wbOut_at ![2, 0, 0] inb_S3x512x1024_S1x512x256_2_0_0 ![0, 2, 0, 0] rfl rfl rfl rfl x _ fun a => Rect.idx_unit_val _ _ inb_S4x3x512x256_S1x1x512x256_0_2_0_0 x a),
    fun x => (congrArg (fun z => k0_pay10 z x) (readCov_slabs _ _ _ _ [] _)).trans ((p.next X).wbOut_at ![1, 0, 0] inb_S3x512x1024_S1x512x256_1_0_0 ![0, 1, 0, 0] rfl rfl rfl rfl x _ fun a => Rect.idx_unit_val _ _ inb_S4x3x512x256_S1x1x512x256_0_1_0_0 x a),
    fun x => (congrArg (fun z => k0_pay9 z x) (readCov_slabs _ _ _ _ [] _)).trans ((p.next X).wbOut_at ![0, 0, 0] inb_S3x512x1024_S1x512x256_0_0_0 ![0, 0, 0, 0] rfl rfl rfl rfl x _ fun a => Rect.idx_unit_val _ _ inb_S4x3x512x256_S1x1x512x256_0_0_0_0 x a), trivial⟩

theorem readC_23 (f) : M.a24.view.read (Elt F) (M.a24.view.writes (Elt F) f (runC c i M h0 h1 X p).2.2.2.2.2.2.2.2.2.1) = (p.next X).woOut := by
  have hz2 : (![0, 0] : Fin 2 → Nat) = fun _ => 0 := by funext a; fin_cases a <;> rfl
  have hz3 : (![0, 0, 0] : Fin 3 → Nat) = fun _ => 0 := by funext a; fin_cases a <;> rfl
  have hc := View.cover_of_tiledL (runC c i M h0 h1 X p).2.2.2.2.2.2.2.2.2.1 S1x256x1024.size (by sl_kernel_rfl)
  rw [View.read_writes_eq_canon _ _ _ hc]
  refine canon_of_blocks _ _ hc ?_
  unfold runC; dsimp only; sl_unfold_words
  simp only [View.readAt_eq_ld, M.h1.read_unread, M.h2.read_unread, M.h3.read_unread, M.h4.read_unread, M.h5.read_unread, M.h6.read_unread, M.h7.read_unread, M.h8.read_unread, M.h9.read_unread, M.h10.read_unread, M.h11.read_unread, M.h12.read_unread, M.h13.read_unread, M.h14.read_unread, M.h15.read_unread, M.h16.read_unread, M.h17.read_unread, M.h18.read_unread, M.h19.read_unread, M.h20.read_unread, M.h21.read_unread, M.h22.read_unread, M.h23.read_unread, M.h24.read_unread, M.h25.read_unread, M.h26.read_unread, View.ld_unit_zero (S := S256x1024) hz2, View.ld_unit_zero (S := S256x512) hz2, View.ld_unit_zero (S := S4x256x1024) hz3, View.ld_unit_zero (S := S1x1024) hz2, View.ld_unit_zero (S := S1024x1024) hz2]
  exact ⟨fun x => (congrArg (fun z => k0_pay21 z x) (View.readCov_fill _ _ _ [] _ (by intro a; fin_cases a <;> rfl))).trans ((p.next X).woOut_at ![768, 0] inb_S1024x1024_S256x1024_768_0 ![3, 0, 0] rfl rfl rfl x _ fun a => Rect.idx_unit_val _ _ inb_S4x256x1024_S1x256x1024_3_0_0 x a),
    fun x => (congrArg (fun z => k0_pay17 z x) (View.readCov_fill _ _ _ [] _ (by intro a; fin_cases a <;> rfl))).trans ((p.next X).woOut_at ![512, 0] inb_S1024x1024_S256x1024_512_0 ![2, 0, 0] rfl rfl rfl x _ fun a => Rect.idx_unit_val _ _ inb_S4x256x1024_S1x256x1024_2_0_0 x a),
    fun x => (congrArg (fun z => k0_pay13 (k0_pay12 z) x) (View.readCov_fill _ _ _ [] _ (by intro a; fin_cases a <;> rfl))).trans ((p.next X).woOut_at ![256, 0] inb_S1024x1024_S256x1024_256_0 ![1, 0, 0] rfl rfl rfl x _ fun a => Rect.idx_unit_val _ _ inb_S4x256x1024_S1x256x1024_1_0_0 x a),
    fun x => (congrArg (fun z => k0_pay8 z x) (View.readCov_fill _ _ _ [] _ (by intro a; fin_cases a <;> rfl))).trans ((p.next X).woOut_at ![0, 0] inb_S1024x1024_S256x1024_0_0 ![0, 0, 0] rfl rfl rfl x _ fun a => Rect.idx_unit_val _ _ inb_S4x256x1024_S1x256x1024_0_0_0 x a), trivial⟩

end Cert.KernelIdeal.Hand

end
-- ==== Proof.Body.lean ====
/-
The body's triple, the same at every grid point: from what the point was handed to what it hands on, a last point also storing
the rounded weight gradients. Each of the three cases is its run with the pieces read back.
-/
module

public import proofs.«01_k».proof.Proof.ReadA
public import proofs.«01_k».proof.Proof.ReadB
public import proofs.«01_k».proof.Proof.ReadC

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a call of the body is handed: its inputs, the tiles it writes at anything, the carried sums, and the two results that
    only a last point stores. -/
def Bufs.pre (c : Dev nD) (M : Bufs) (X : Ins F) (p : Carry F) (u : FVec F S4x3x512x256 .bf16) (v : FVec F S4x256x1024 .bf16) : sProp 𝕄 :=
  iprop(M.ins c X ∗
    (∃ d, owns (c : Thread nD τ) M.a15 fullShare d) ∗ (∃ d, owns (c : Thread nD τ) M.a16 fullShare d) ∗
    (∃ d, owns (c : Thread nD τ) M.a17 fullShare d) ∗ (∃ d, owns (c : Thread nD τ) M.a18 fullShare d) ∗ (∃ d, owns (c : Thread nD τ) M.a19 fullShare d) ∗
    owns (c : Thread nD τ) M.a20 fullShare p.dlg ∗ owns (c : Thread nD τ) M.a21 fullShare p.dlb ∗ owns (c : Thread nD τ) M.a22 fullShare p.dgt ∗
    owns (c : Thread nD τ) M.a23 fullShare u ∗ owns (c : Thread nD τ) M.a24 fullShare v ∗
    owns (c : Thread nD τ) M.a25 fullShare p.wb ∗ owns (c : Thread nD τ) M.a26 fullShare p.wo)

/-- What it hands back. -/
def Bufs.post (c : Dev nD) (M : Bufs) (X : Ins F) (q : Carry F) (u : FVec F S4x3x512x256 .bf16) (v : FVec F S4x256x1024 .bf16) : sProp 𝕄 :=
  iprop(M.ins c X ∗
    owns (c : Thread nD τ) M.a15 fullShare X.dx ∗ owns (c : Thread nD τ) M.a16 fullShare X.dg ∗
    owns (c : Thread nD τ) M.a17 fullShare X.dy0 ∗ owns (c : Thread nD τ) M.a18 fullShare X.dy1 ∗ owns (c : Thread nD τ) M.a19 fullShare X.dy2 ∗
    owns (c : Thread nD τ) M.a20 fullShare q.dlg ∗ owns (c : Thread nD τ) M.a21 fullShare q.dlb ∗ owns (c : Thread nD τ) M.a22 fullShare q.dgt ∗
    owns (c : Thread nD τ) M.a23 fullShare u ∗ owns (c : Thread nD τ) M.a24 fullShare v ∗
    owns (c : Thread nD τ) M.a25 fullShare q.wb ∗ owns (c : Thread nD τ) M.a26 fullShare q.wo)

variable (c : Dev nD) (i : grid0.Coords) (M : Bufs) (X : Ins F) (p : Carry F) (u : FVec F S4x3x512x256 .bf16) (v : FVec F S4x256x1024 .bf16)

/-- A first point. -/
theorem bodyA (h0 : cond0_0 i) (h1 : ¬cond0_1 i) (E : Set ℕ) (K : PUnit → sProp 𝕄) :
    iprop(M.pre c X p u v ∗ (M.post c X (Carry.zero.next X) u v -∗ K ⟨⟩)) ⊢ wp frame (wpE (defs₀ (F := F)) Variants.none c none) E (M.call i) K := by
  unfold Bufs.pre Bufs.post
  iintro ⟨⟨HI, H15, H16, H17, H18, H19, H20, H21, H22, H23, H24, H25, H26⟩, Hk⟩
  iapply ((runA c i M h0 h1 X).2.2.2.2.2.2.2.2.2.2.2.property u v E K)
  isplitl [HI]; · iexact HI
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexact H23
  isplitl [H24]; · iexact H24
  isplitl [H25]; · iexists _; iexact H25
  isplitl [H26]; · iexists _; iexact H26
  iintro ⟨HI, ⟨%f15, H15⟩, ⟨%f16, H16⟩, ⟨%f17, H17⟩, ⟨%f18, H18⟩, ⟨%f19, H19⟩, ⟨%f20, H20⟩, ⟨%f21, H21⟩, ⟨%f22, H22⟩, H23, H24, ⟨%f25, H25⟩, ⟨%f26, H26⟩⟩
  iapply Hk
  isplitl [HI]; · iexact HI
  isplitl [H15]
  · unfold owns; iexists _; isplitr
    swap; · iexact H15
    ipureintro; exact readA_14 c i M h0 h1 X f15
  isplitl [H16]
  · unfold owns; iexists _; isplitr
    swap; · iexact H16
    ipureintro; exact readA_15 c i M h0 h1 X f16
  isplitl [H17]
  · unfold owns; iexists _; isplitr
    swap; · iexact H17
    ipureintro; exact readA_16 c i M h0 h1 X f17
  isplitl [H18]
  · unfold owns; iexists _; isplitr
    swap; · iexact H18
    ipureintro; exact readA_17 c i M h0 h1 X f18
  isplitl [H19]
  · unfold owns; iexists _; isplitr
    swap; · iexact H19
    ipureintro; exact readA_18 c i M h0 h1 X f19
  isplitl [H20]
  · unfold owns; iexists _; isplitr
    swap; · iexact H20
    ipureintro; exact readA_19 c i M h0 h1 X f20
  isplitl [H21]
  · unfold owns; iexists _; isplitr
    swap; · iexact H21
    ipureintro; exact readA_20 c i M h0 h1 X f21
  isplitl [H22]
  · unfold owns; iexists _; isplitr
    swap; · iexact H22
    ipureintro; exact readA_21 c i M h0 h1 X f22
  isplitl [H23]; · iexact H23
  isplitl [H24]; · iexact H24
  isplitl [H25]
  · unfold owns; iexists _; isplitr
    swap; · iexact H25
    ipureintro; exact readA_s0 c i M h0 h1 X f25
  unfold owns; iexists _; isplitr
  swap; · iexact H26
  ipureintro; exact readA_s1 c i M h0 h1 X f26

/-- A middle point. -/
theorem bodyB (h0 : ¬cond0_0 i) (h1 : ¬cond0_1 i) (E : Set ℕ) (K : PUnit → sProp 𝕄) :
    iprop(M.pre c X p u v ∗ (M.post c X (p.next X) u v -∗ K ⟨⟩)) ⊢ wp frame (wpE (defs₀ (F := F)) Variants.none c none) E (M.call i) K := by
  unfold Bufs.pre Bufs.post
  iintro ⟨⟨HI, H15, H16, H17, H18, H19, H20, H21, H22, H23, H24, H25, H26⟩, Hk⟩
  iapply ((runB c i M h0 h1 X p).2.2.2.2.2.2.2.2.2.2.2.property u v E K)
  isplitl [HI]; · iexact HI
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨HI, ⟨%f15, H15⟩, ⟨%f16, H16⟩, ⟨%f17, H17⟩, ⟨%f18, H18⟩, ⟨%f19, H19⟩, ⟨%f20, H20⟩, ⟨%f21, H21⟩, ⟨%f22, H22⟩, H23, H24, ⟨%f25, H25⟩, ⟨%f26, H26⟩⟩
  iapply Hk
  isplitl [HI]; · iexact HI
  isplitl [H15]
  · unfold owns; iexists _; isplitr
    swap; · iexact H15
    ipureintro; exact readB_14 c i M h0 h1 X p f15
  isplitl [H16]
  · unfold owns; iexists _; isplitr
    swap; · iexact H16
    ipureintro; exact readB_15 c i M h0 h1 X p f16
  isplitl [H17]
  · unfold owns; iexists _; isplitr
    swap; · iexact H17
    ipureintro; exact readB_16 c i M h0 h1 X p f17
  isplitl [H18]
  · unfold owns; iexists _; isplitr
    swap; · iexact H18
    ipureintro; exact readB_17 c i M h0 h1 X p f18
  isplitl [H19]
  · unfold owns; iexists _; isplitr
    swap; · iexact H19
    ipureintro; exact readB_18 c i M h0 h1 X p f19
  isplitl [H20]
  · unfold owns; iexists _; isplitr
    swap; · iexact H20
    ipureintro; exact readB_19 c i M h0 h1 X p f20
  isplitl [H21]
  · unfold owns; iexists _; isplitr
    swap; · iexact H21
    ipureintro; exact readB_20 c i M h0 h1 X p f21
  isplitl [H22]
  · unfold owns; iexists _; isplitr
    swap; · iexact H22
    ipureintro; exact readB_21 c i M h0 h1 X p f22
  isplitl [H23]; · iexact H23
  isplitl [H24]; · iexact H24
  isplitl [H25]
  · unfold owns; iexists _; isplitr
    swap; · iexact H25
    ipureintro; exact readB_s0 c i M h0 h1 X p f25
  unfold owns; iexists _; isplitr
  swap; · iexact H26
  ipureintro; exact readB_s1 c i M h0 h1 X p f26

/-- A last point. -/
theorem bodyC (h0 : ¬cond0_0 i) (h1 : cond0_1 i) (E : Set ℕ) (K : PUnit → sProp 𝕄) :
    iprop(M.pre c X p u v ∗ (M.post c X (p.next X) (p.next X).wbOut (p.next X).woOut -∗ K ⟨⟩)) ⊢ wp frame (wpE (defs₀ (F := F)) Variants.none c none) E (M.call i) K := by
  unfold Bufs.pre Bufs.post
  iintro ⟨⟨HI, H15, H16, H17, H18, H19, H20, H21, H22, H23, H24, H25, H26⟩, Hk⟩
  iapply ((runC c i M h0 h1 X p).2.2.2.2.2.2.2.2.2.2.2.property E K)
  isplitl [HI]; · iexact HI
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexact H25
  isplitl [H26]; · iexact H26
  iintro ⟨HI, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩⟩
  iapply Hk
  isplitl [HI]; · iexact HI
  isplitl [H15]
  · unfold owns; iexists _; isplitr
    swap; · iexact H15
    ipureintro; exact readC_14 c i M h0 h1 X p f15
  isplitl [H16]
  · unfold owns; iexists _; isplitr
    swap; · iexact H16
    ipureintro; exact readC_15 c i M h0 h1 X p f16
  isplitl [H17]
  · unfold owns; iexists _; isplitr
    swap; · iexact H17
    ipureintro; exact readC_16 c i M h0 h1 X p f17
  isplitl [H18]
  · unfold owns; iexists _; isplitr
    swap; · iexact H18
    ipureintro; exact readC_17 c i M h0 h1 X p f18
  isplitl [H19]
  · unfold owns; iexists _; isplitr
    swap; · iexact H19
    ipureintro; exact readC_18 c i M h0 h1 X p f19
  isplitl [H20]
  · unfold owns; iexists _; isplitr
    swap; · iexact H20
    ipureintro; exact readC_19 c i M h0 h1 X p f20
  isplitl [H21]
  · unfold owns; iexists _; isplitr
    swap; · iexact H21
    ipureintro; exact readC_20 c i M h0 h1 X p f21
  isplitl [H22]
  · unfold owns; iexists _; isplitr
    swap; · iexact H22
    ipureintro; exact readC_21 c i M h0 h1 X p f22
  isplitl [H23]
  · unfold owns; iexists _; isplitr
    swap; · iexact H23
    ipureintro; exact readC_22 c i M h0 h1 X p f23
  isplitl [H24]
  · unfold owns; iexists _; isplitr
    swap; · iexact H24
    ipureintro; exact readC_23 c i M h0 h1 X p f24
  isplitl [H25]
  · unfold owns; iexists _; isplitr
    swap; · iexact H25
    ipureintro; exact readC_s0 c i M h0 h1 X p f25
  unfold owns; iexists _; isplitr
  swap; · iexact H26
  ipureintro; exact readC_s1 c i M h0 h1 X p f26

/-- Any point: a first one starts from zeros, a last one stores the rounded sums, every other leaves those two buffers as they were. -/
theorem body (q : Carry F) (u' : FVec F S4x3x512x256 .bf16) (v' : FVec F S4x256x1024 .bf16) (hne : ¬(cond0_0 i ∧ cond0_1 i))
    (hq : cond0_0 i → q = Carry.zero.next X) (hq' : ¬cond0_0 i → q = p.next X)
    (hu : cond0_1 i → u' = q.wbOut ∧ v' = q.woOut) (hu' : ¬cond0_1 i → u' = u ∧ v' = v) (E : Set ℕ) (K : PUnit → sProp 𝕄) :
    iprop(M.pre c X p u v ∗ (M.post c X q u' v' -∗ K ⟨⟩)) ⊢ wp frame (wpE (defs₀ (F := F)) Variants.none c none) E (M.call i) K := by
  by_cases h0 : cond0_0 i
  · have h1 : ¬cond0_1 i := fun h => hne ⟨h0, h⟩
    obtain ⟨rfl, rfl⟩ := hu' h1
    obtain rfl := hq h0
    exact bodyA c i M X p _ _ h0 h1 E K
  · obtain rfl := hq' h0
    by_cases h1 : cond0_1 i
    · obtain ⟨rfl, rfl⟩ := hu h1
      exact bodyC c i M X p u v h0 h1 E K
    · obtain ⟨rfl, rfl⟩ := hu' h1
      exact bodyB c i M X p _ _ h0 h1 E K

end Cert.KernelIdeal.Hand

end
-- ==== Proof.Launch.lean ====
/-
The launch: what every grid point leaves in the tiles, the sums it hands to the next point, the body's obligation at every point, the
run of the program and its frame, over any values.
-/
module

public import proofs.«01_k».proof.Proof.Body
public import Idealize.ShloMosaic.Lib.Claim

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memrefs the body is called with at point `t`. -/
abbrev bufs (t : Fin cfg0.N) : Bufs where
  a1 := ms0_0 t
  h1 := hs0_0 t
  a2 := ms0_1 t
  h2 := hs0_1 t
  a3 := ms0_2 t
  h3 := hs0_2 t
  a4 := ms0_3 t
  h4 := hs0_3 t
  a5 := ms0_4 t
  h5 := hs0_4 t
  a6 := ms0_5 t
  h6 := hs0_5 t
  a7 := ms0_6 t
  h7 := hs0_6 t
  a8 := ms0_7 t
  h8 := hs0_7 t
  a9 := ms0_8 t
  h9 := hs0_8 t
  a10 := ms0_9 t
  h10 := hs0_9 t
  a11 := ms0_10 t
  h11 := hs0_10 t
  a12 := ms0_11 t
  h12 := hs0_11 t
  a13 := ms0_12 t
  h13 := hs0_12 t
  a14 := ms0_13 t
  h14 := hs0_13 t
  a15 := ms0_14 t
  h15 := hs0_14 t
  a16 := ms0_15 t
  h16 := hs0_15 t
  a17 := ms0_16 t
  h17 := hs0_16 t
  a18 := ms0_17 t
  h18 := hs0_17 t
  a19 := ms0_18 t
  h19 := hs0_18 t
  a20 := ms0_19 t
  h20 := hs0_19 t
  a21 := ms0_20 t
  h21 := hs0_20 t
  a22 := ms0_21 t
  h22 := hs0_21 t
  a23 := ms0_22 t
  h23 := hs0_22 t
  a24 := ms0_23 t
  h24 := hs0_23 t
  a25 := scM0_0
  h25 := Memref.isWhole_whole cc0_scratch0
  a26 := scM0_1
  h26 := Memref.isWhole_whole cc0_scratch1

/-- The input tiles at point `t`. -/
abbrev tiles (c : Dev nD) (t : Fin cfg0.N) : Ins F where
  dxo := iblk m c 0 t
  x := iblk m c 1 t
  y := iblk m c 2 t
  mg := iblk m c 3 t
  md := iblk m c 4 t
  ga := iblk m c 5 t
  gb := iblk m c 6 t
  gc := iblk m c 7 t
  ya := iblk m c 8 t
  yb := iblk m c 9 t
  yc := iblk m c 10 t
  wb := iblk m c 11 t
  wo := iblk m c 12 t
  lg := iblk m c 13 t

/-- The sums after point `n`. -/
def sums (c : Dev nD) : (n : ℕ) → n < cfg0.N → Carry F
  | 0, h => Carry.zero.next (tiles m c ⟨0, h⟩)
  | n + 1, h => (sums c n (Nat.lt_of_succ_lt h)).next (tiles m c ⟨n + 1, h⟩)

/-- The invariant before position `n`: the two scratch accumulators at anything before the first point, then at the sums. -/
def inv (c : Dev nD) : (n : ℕ) → n ≤ cfg0.N → sProp 𝕄
  | 0, _ => Pipeline.ΦA spec0 c
  | n + 1, h => iprop(iprop(owns (c : Thread nD τ) scM0_0 fullShare (sums m c n h).wb ∗ owns (c : Thread nD τ) scM0_1 fullShare (sums m c n h).wo) ∗ (∃ r, prngReg c r))

/-- The proof data: each input's tile as staged, each result's tile at the body's function of the point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (tiles m c t).dx
    | ⟨15, _⟩ => (tiles m c t).dg
    | ⟨16, _⟩ => (tiles m c t).dy0
    | ⟨17, _⟩ => (tiles m c t).dy1
    | ⟨18, _⟩ => (tiles m c t).dy2
    | ⟨19, _⟩ => (sums m c t.val t.isLt).dlg
    | ⟨20, _⟩ => (sums m c t.val t.isLt).dlb
    | ⟨21, _⟩ => (sums m c t.val t.isLt).dgt
    | ⟨22, _⟩ => (sums m c t.val t.isLt).wbOut
    | ⟨23, _⟩ => (sums m c t.val t.isLt).woOut
    | ⟨_ + 24, h⟩ => absurd h (Nat.not_lt.2 (Nat.le_add_left _ _))
  Φ t := inv m c t.val (Nat.le_of_lt_succ t.isLt)
  q w := Pipeline.shareOf spec0 w
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem after_8 (c : Dev nD) (t : Fin cfg0.N) : (data m 0 c).after 8 t = iblk m c 8 t := by dsimp only [data]
theorem after_9 (c : Dev nD) (t : Fin cfg0.N) : (data m 0 c).after 9 t = iblk m c 9 t := by dsimp only [data]
theorem after_10 (c : Dev nD) (t : Fin cfg0.N) : (data m 0 c).after 10 t = iblk m c 10 t := by dsimp only [data]
theorem after_11 (c : Dev nD) (t : Fin cfg0.N) : (data m 0 c).after 11 t = iblk m c 11 t := by dsimp only [data]
theorem after_12 (c : Dev nD) (t : Fin cfg0.N) : (data m 0 c).after 12 t = iblk m c 12 t := by dsimp only [data]
theorem after_13 (c : Dev nD) (t : Fin cfg0.N) : (data m 0 c).after 13 t = iblk m c 13 t := by dsimp only [data]
theorem after_14 (c : Dev nD) (t : Fin cfg0.N) : (data m 0 c).after 14 t = (tiles m c t).dx := by dsimp only [data]
theorem after_15 (c : Dev nD) (t : Fin cfg0.N) : (data m 0 c).after 15 t = (tiles m c t).dg := by dsimp only [data]
theorem after_16 (c : Dev nD) (t : Fin cfg0.N) : (data m 0 c).after 16 t = (tiles m c t).dy0 := by dsimp only [data]
theorem after_17 (c : Dev nD) (t : Fin cfg0.N) : (data m 0 c).after 17 t = (tiles m c t).dy1 := by dsimp only [data]
theorem after_18 (c : Dev nD) (t : Fin cfg0.N) : (data m 0 c).after 18 t = (tiles m c t).dy2 := by dsimp only [data]
theorem after_19 (c : Dev nD) (t : Fin cfg0.N) : (data m 0 c).after 19 t = (sums m c t.val t.isLt).dlg := by dsimp only [data]
theorem after_20 (c : Dev nD) (t : Fin cfg0.N) : (data m 0 c).after 20 t = (sums m c t.val t.isLt).dlb := by dsimp only [data]
theorem after_21 (c : Dev nD) (t : Fin cfg0.N) : (data m 0 c).after 21 t = (sums m c t.val t.isLt).dgt := by dsimp only [data]
theorem after_22 (c : Dev nD) (t : Fin cfg0.N) : (data m 0 c).after 22 t = (sums m c t.val t.isLt).wbOut := by dsimp only [data]
theorem after_23 (c : Dev nD) (t : Fin cfg0.N) : (data m 0 c).after 23 t = (sums m c t.val t.isLt).woOut := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d
theorem before_5 (c : Dev nD) (t : Fin cfg0.N) (d) : (data m 0 c).before 5 t d = iblk m c 5 t :=
  before0_5_of m (data m 0 c) (data_A m c 5) (after_5 m c) t d
theorem before_6 (c : Dev nD) (t : Fin cfg0.N) (d) : (data m 0 c).before 6 t d = iblk m c 6 t :=
  before0_6_of m (data m 0 c) (data_A m c 6) (after_6 m c) t d
theorem before_7 (c : Dev nD) (t : Fin cfg0.N) (d) : (data m 0 c).before 7 t d = iblk m c 7 t :=
  before0_7_of m (data m 0 c) (data_A m c 7) (after_7 m c) t d
theorem before_8 (c : Dev nD) (t : Fin cfg0.N) (d) : (data m 0 c).before 8 t d = iblk m c 8 t :=
  before0_8_of m (data m 0 c) (data_A m c 8) (after_8 m c) t d
theorem before_9 (c : Dev nD) (t : Fin cfg0.N) (d) : (data m 0 c).before 9 t d = iblk m c 9 t :=
  before0_9_of m (data m 0 c) (data_A m c 9) (after_9 m c) t d
theorem before_10 (c : Dev nD) (t : Fin cfg0.N) (d) : (data m 0 c).before 10 t d = iblk m c 10 t :=
  before0_10_of m (data m 0 c) (data_A m c 10) (after_10 m c) t d
theorem before_11 (c : Dev nD) (t : Fin cfg0.N) (d) : (data m 0 c).before 11 t d = iblk m c 11 t :=
  before0_11_of m (data m 0 c) (data_A m c 11) (after_11 m c) t d
theorem before_12 (c : Dev nD) (t : Fin cfg0.N) (d) : (data m 0 c).before 12 t d = iblk m c 12 t :=
  before0_12_of m (data m 0 c) (data_A m c 12) (after_12 m c) t d
theorem before_13 (c : Dev nD) (t : Fin cfg0.N) (d) : (data m 0 c).before 13 t d = iblk m c 13 t :=
  before0_13_of m (data m 0 c) (data_A m c 13) (after_13 m c) t d

/-! The three row sums stay in their staging buffers from point to point. -/

theorem before_19 (c : Dev nD) (t : Fin cfg0.N) (h : t.val ≠ 0) (d) :
    (data m 0 c).before 19 t d = (sums m c (t.val - 1) (Nat.lt_of_le_of_lt (Nat.sub_le _ _) t.isLt)).dlg := by
  have hN : t.val < 8 := lt_of_lt_of_eq t.isLt (show cfg0.N = 8 from N_0)
  rw [Dat.before_out_kept _ 19 rfl t h (Bool.eq_false_iff.mpr fun h => by have := (flush0_19 _).mp h; dsimp only at this; omega)
    (fun _ => rfl) (fun _ _ => rfl)]
  dsimp only [data]
theorem before_20 (c : Dev nD) (t : Fin cfg0.N) (h : t.val ≠ 0) (d) :
    (data m 0 c).before 20 t d = (sums m c (t.val - 1) (Nat.lt_of_le_of_lt (Nat.sub_le _ _) t.isLt)).dlb := by
  have hN : t.val < 8 := lt_of_lt_of_eq t.isLt (show cfg0.N = 8 from N_0)
  rw [Dat.before_out_kept _ 20 rfl t h (Bool.eq_false_iff.mpr fun h => by have := (flush0_20 _).mp h; dsimp only at this; omega)
    (fun _ => rfl) (fun _ _ => rfl)]
  dsimp only [data]
theorem before_21 (c : Dev nD) (t : Fin cfg0.N) (h : t.val ≠ 0) (d) :
    (data m 0 c).before 21 t d = (sums m c (t.val - 1) (Nat.lt_of_le_of_lt (Nat.sub_le _ _) t.isLt)).dgt := by
  have hN : t.val < 8 := lt_of_lt_of_eq t.isLt (show cfg0.N = 8 from N_0)
  rw [Dat.before_out_kept _ 21 rfl t h (Bool.eq_false_iff.mpr fun h => by have := (flush0_21 _).mp h; dsimp only at this; omega)
    (fun _ => rfl) (fun _ _ => rfl)]
  dsimp only [data]

/-- A window written at every point is left at what the body writes. -/
theorem leaves (c : Dev nD) (t : Fin cfg0.N) (w : Fin cfg0.W) (h : cfg0.idle w (grid0.coords t) = false) :
    (data m 0 c).leavesExact w t = owns (c : Thread nD τ) ((cfg0.win w).stage (cfg0.slots t w)) fullShare ((data m 0 c).after w t) := by
  unfold Dat.leavesExact; rw [h]

/-- Window 22 is written at the last point and left alone at every other. -/
theorem leaves_22 (c : Dev nD) (t : Fin cfg0.N) (d) :
    (owns (c : Thread nD τ) (ms0_22 t) fullShare (if cond0_1 (grid0.coords t) then (sums m c t.val t.isLt).wbOut else (data m 0 c).before 22 t d) : sProp 𝕄)
      ⊢ (data m 0 c).leavesExact 22 t := by
  have hN : t.val < 8 := lt_of_lt_of_eq t.isLt (show cfg0.N = 8 from N_0)
  by_cases h1 : cond0_1 (grid0.coords t)
  · have h0 : ¬cond0_0 (grid0.coords t) := fun h => by
      have a := (hcond0_0 t).mp h
      have b := (hcond0_1 t).mp h1
      omega
    rw [if_pos h1, leaves m c t 22 (liveAt0_22_C t h0 h1), after_22]
  · rw [if_neg h1]
    by_cases h0 : cond0_0 (grid0.coords t)
    · rw [Dat.leavesExact_idle (data m 0 c) 22 t (idleAt0_22_A t h0 h1) (noFlush0_22_A t h0 h1)]
      iintro H
      iexists _; iexact H
    · rw [Dat.leavesExact_idle (data m 0 c) 22 t (idleAt0_22_B t h0 h1) (noFlush0_22_B t h0 h1)]
      iintro H
      iexists _; iexact H

/-- Window 23 is written at the last point and left alone at every other. -/
theorem leaves_23 (c : Dev nD) (t : Fin cfg0.N) (d) :
    (owns (c : Thread nD τ) (ms0_23 t) fullShare (if cond0_1 (grid0.coords t) then (sums m c t.val t.isLt).woOut else (data m 0 c).before 23 t d) : sProp 𝕄)
      ⊢ (data m 0 c).leavesExact 23 t := by
  have hN : t.val < 8 := lt_of_lt_of_eq t.isLt (show cfg0.N = 8 from N_0)
  by_cases h1 : cond0_1 (grid0.coords t)
  · have h0 : ¬cond0_0 (grid0.coords t) := fun h => by
      have a := (hcond0_0 t).mp h
      have b := (hcond0_1 t).mp h1
      omega
    rw [if_pos h1, leaves m c t 23 (liveAt0_23_C t h0 h1), after_23]
  · rw [if_neg h1]
    by_cases h0 : cond0_0 (grid0.coords t)
    · rw [Dat.leavesExact_idle (data m 0 c) 23 t (idleAt0_23_A t h0 h1) (noFlush0_23_A t h0 h1)]
      iintro H
      iexists _; iexact H
    · rw [Dat.leavesExact_idle (data m 0 c) 23 t (idleAt0_23_B t h0 h1) (noFlush0_23_B t h0 h1)]
      iintro H
      iexists _; iexact H

/-- What the body is called with at point `t`, -/
def starts (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d))
    ∗ (∃ d, owns (c : Thread nD τ) (ms0_16 t) fullShare ((data m 0 c).before 16 t d))
    ∗ (∃ d, owns (c : Thread nD τ) (ms0_17 t) fullShare ((data m 0 c).before 17 t d))
    ∗ (∃ d, owns (c : Thread nD τ) (ms0_18 t) fullShare ((data m 0 c).before 18 t d))
    ∗ (∃ d, owns (c : Thread nD τ) (ms0_19 t) fullShare ((data m 0 c).before 19 t d))
    ∗ (∃ d, owns (c : Thread nD τ) (ms0_20 t) fullShare ((data m 0 c).before 20 t d))
    ∗ (∃ d, owns (c : Thread nD τ) (ms0_21 t) fullShare ((data m 0 c).before 21 t d))
    ∗ (∃ d, owns (c : Thread nD τ) (ms0_22 t) fullShare ((data m 0 c).before 22 t d))
    ∗ (∃ d, owns (c : Thread nD τ) (ms0_23 t) fullShare ((data m 0 c).before 23 t d)))

/-- and what it returns. -/
def ends (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t
    ∗ (data m 0 c).leavesExact 12 t
    ∗ (data m 0 c).leavesExact 13 t
    ∗ (data m 0 c).leavesExact 14 t
    ∗ (data m 0 c).leavesExact 15 t
    ∗ (data m 0 c).leavesExact 16 t
    ∗ (data m 0 c).leavesExact 17 t
    ∗ (data m 0 c).leavesExact 18 t
    ∗ (data m 0 c).leavesExact 19 t
    ∗ (data m 0 c).leavesExact 20 t
    ∗ (data m 0 c).leavesExact 21 t
    ∗ (data m 0 c).leavesExact 22 t
    ∗ (data m 0 c).leavesExact 23 t)

/-- The invariant and the tiles before point `t`, the sums named: anything at the first point, the last point's at every other. -/
theorem starts_pre (c : Dev nD) (t : Fin cfg0.N) :
    starts m c t ⊢ iprop(∃ p : Carry F, ∃ u, ∃ v, ⌜t.val ≠ 0 → p = sums m c (t.val - 1) (Nat.lt_of_le_of_lt (Nat.sub_le _ _) t.isLt)⌝ ∗
      (bufs t).pre c (tiles m c t) p ((data m 0 c).before 22 t u) ((data m 0 c).before 23 t v) ∗ (data m 0 c).owesAt () t.castSucc ∗ (∃ r, prngReg c r)) := by
  unfold starts
  simp only [before_0, before_1, before_2, before_3, before_4, before_5, before_6, before_7, before_8, before_9, before_10, before_11, before_12, before_13]
  by_cases hz : t.val = 0
  · rw [show (data m 0 c).Φ t.castSucc = Pipeline.ΦA spec0 c from by
      dsimp only [data]
      obtain ⟨n, hn⟩ := t
      cases n with
      | zero => rfl
      | succ n => exact absurd hz (Nat.succ_ne_zero n), PhiA0_eq]
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iexists ⟨(data m 0 c).before 19 t d19, (data m 0 c).before 20 t d20, (data m 0 c).before 21 t d21, s0, s1⟩
    iexists d22; iexists d23
    isplitr; · ipureintro; exact fun h => absurd hz h
    unfold Bufs.pre Bufs.ins
    isplitr [Ho Hg]
    · isplitl [H0 H1 H2 H3 H4 H5 H6 H7 H8 H9 H10 H11 H12 H13]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexact H19
      isplitl [H20]; · iexact H20
      isplitl [H21]; · iexact H21
      isplitl [H22]; · iexact H22
      isplitl [H23]; · iexact H23
      isplitl [HS0]; · iexact HS0
      iexact HS1
    isplitl [Ho]; · iexact Ho
    iexact Hg
  · rw [show (data m 0 c).Φ t.castSucc = iprop(iprop(owns (c : Thread nD τ) scM0_0 fullShare (sums m c (t.val - 1) (Nat.lt_of_le_of_lt (Nat.sub_le _ _) t.isLt)).wb
        ∗ owns (c : Thread nD τ) scM0_1 fullShare (sums m c (t.val - 1) (Nat.lt_of_le_of_lt (Nat.sub_le _ _) t.isLt)).wo) ∗ (∃ r, prngReg c r)) from by
      dsimp only [data]
      obtain ⟨n, hn⟩ := t
      cases n with
      | zero => exact absurd rfl hz
      | succ n => rfl]
    simp only [before_19 m c t hz, before_20 m c t hz, before_21 m c t hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iexists sums m c (t.val - 1) (Nat.lt_of_le_of_lt (Nat.sub_le _ _) t.isLt)
    iexists d22; iexists d23
    isplitr; · ipureintro; exact fun _ => rfl
    unfold Bufs.pre Bufs.ins
    isplitr [Ho Hg]
    · isplitl [H0 H1 H2 H3 H4 H5 H6 H7 H8 H9 H10 H11 H12 H13]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexact H19
      isplitl [H20]; · iexact H20
      isplitl [H21]; · iexact H21
      isplitl [H22]; · iexact H22
      isplitl [H23]; · iexact H23
      isplitl [HS0]; · iexact HS0
      iexact HS1
    isplitl [Ho]; · iexact Ho
    iexact Hg

/-- What the body hands back is the invariant and the tiles after the point. -/
theorem post_ends (c : Dev nD) (t : Fin cfg0.N) (u v) :
    iprop((bufs t).post c (tiles m c t) (sums m c t.val t.isLt) (if cond0_1 (grid0.coords t) then (sums m c t.val t.isLt).wbOut else (data m 0 c).before 22 t u)
      (if cond0_1 (grid0.coords t) then (sums m c t.val t.isLt).woOut else (data m 0 c).before 23 t v) ∗ (data m 0 c).owesAt () t.castSucc ∗ (∃ r, prngReg c r)) ⊢ ends m c t := by
  unfold ends Bufs.post Bufs.ins
  rw [show (data m 0 c).owesAt () t.succ = (data m 0 c).owesAt () t.castSucc from rfl]
  rw [show (data m 0 c).Φ t.succ = iprop(iprop(owns (c : Thread nD τ) scM0_0 fullShare (sums m c t.val t.isLt).wb ∗ owns (c : Thread nD τ) scM0_1 fullShare (sums m c t.val t.isLt).wo) ∗ (∃ r, prngReg c r)) from rfl]
  rw [leaves m c t 0 (liveAt0_0 t), after_0, leaves m c t 1 (liveAt0_1 t), after_1, leaves m c t 2 (liveAt0_2 t), after_2, leaves m c t 3 (liveAt0_3 t), after_3, leaves m c t 4 (liveAt0_4 t), after_4, leaves m c t 5 (liveAt0_5 t), after_5, leaves m c t 6 (liveAt0_6 t), after_6, leaves m c t 7 (liveAt0_7 t), after_7, leaves m c t 8 (liveAt0_8 t), after_8, leaves m c t 9 (liveAt0_9 t), after_9, leaves m c t 10 (liveAt0_10 t), after_10, leaves m c t 11 (liveAt0_11 t), after_11, leaves m c t 12 (liveAt0_12 t), after_12, leaves m c t 13 (liveAt0_13 t), after_13, leaves m c t 14 (liveAt0_14 t), after_14, leaves m c t 15 (liveAt0_15 t), after_15, leaves m c t 16 (liveAt0_16 t), after_16, leaves m c t 17 (liveAt0_17 t), after_17, leaves m c t 18 (liveAt0_18 t), after_18, leaves m c t 19 (liveAt0_19 t), after_19, leaves m c t 20 (liveAt0_20 t), after_20, leaves m c t 21 (liveAt0_21 t), after_21]
  iintro ⟨⟨⟨H0, H1, H2, H3, H4, H5, H6, H7, H8, H9, H10, H11, H12, H13⟩, H14, H15, H16, H17, H18, H19, H20, H21, H22, H23, HS0, HS1⟩, Ho, Hg⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · iapply (leaves_22 m c t u); iexact H22
  iapply (leaves_23 m c t v); iexact H23

/-- The body at any point. -/
theorem sound (c : Dev nD) (t : Fin cfg0.N) :
    starts m c t ⊢ wp frame (wpE (defs₀ (F := F)) Variants.none c none) Set.univ (bodyAt0 t) (fun _ => ends m c t) := by
  have hN : t.val < 8 := lt_of_lt_of_eq t.isLt (show cfg0.N = 8 from N_0)
  refine (starts_pre m c t).trans ?_
  iintro ⟨%p, %u, %v, %hp, H, Ho, Hg⟩
  iapply (body c (grid0.coords t) (bufs t) (tiles m c t) p ((data m 0 c).before 22 t u) ((data m 0 c).before 23 t v) (sums m c t.val t.isLt)
    (if cond0_1 (grid0.coords t) then (sums m c t.val t.isLt).wbOut else (data m 0 c).before 22 t u)
    (if cond0_1 (grid0.coords t) then (sums m c t.val t.isLt).woOut else (data m 0 c).before 23 t v)
    (fun h => by
      have a := (hcond0_0 t).mp h.1
      have b := (hcond0_1 t).mp h.2
      omega)
    (fun h => by
      have a := (hcond0_0 t).mp h
      obtain ⟨n, hn⟩ := t
      cases n with
      | zero => rfl
      | succ n => exact absurd a (by dsimp only at hN ⊢; omega))
    (fun h => by
      have hz : t.val ≠ 0 := fun hz => h ((hcond0_0 t).mpr (by rw [hz]))
      rw [hp hz]
      obtain ⟨n, hn⟩ := t
      cases n with
      | zero => exact absurd rfl hz
      | succ n => rfl)
    (fun h => ⟨if_pos h, if_pos h⟩) (fun h => ⟨if_neg h, if_neg h⟩) Set.univ (fun _ => ends m c t))
  isplitl [H]; · iexact H
  iintro H
  iapply (post_ends m c t u v)
  isplitl [H]; · iexact H
  isplitl [Ho]; · iexact Ho
  iexact Hg

theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound m c t) rfl .rfl fun _ => .rfl

theorem enter (c : Dev nD) : Pipeline.ΦA spec0 c ⊢ (data m 0 c).Φ 0 := Entails.refl _

theorem leave (c : Dev nD) : (data m 0 c).Φ (Fin.last cfg0.N) ⊢ Pipeline.ΦA spec0 c := by
  rw [show (data m 0 c).Φ (Fin.last cfg0.N) = iprop(iprop(owns (c : Thread nD τ) scM0_0 fullShare (sums m c 7 (by rw [show cfg0.N = 8 from N_0]; omega)).wb
    ∗ owns (c : Thread nD τ) scM0_1 fullShare (sums m c 7 (by rw [show cfg0.N = 8 from N_0]; omega)).wo) ∗ (∃ r, prngReg c r)) from rfl, PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run ends with every array at what the proof data says and every counter at zero. -/
theorem launch : θ_run defs (onTc (τ := τ) (main (F := F))) (s₀ m ρ) (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hin := enter m) (hout := leave m)

/-- The arguments end as they began, and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (data m) (data_A m) ((θ_run defs _ _).mono (fun _ h => h.1) (launch m ρ)))
    ((θ_run defs _ _).mono (fun _ h => h.2) (launch m ρ))

end Cert.KernelIdeal.Hand

end
-- ==== Proof.Row.lean ====
/-
  The mathematics of the merge's backward pass on one row of the residual stream, over the extended reals.

  A row is a function of the 1024 channels. `DR` is the gradient of the normalised residual as the kernel computes it,
  `rstd * (dn - mean dn - xn * mean (dn * xn))`; `refDR` is the one reverse-mode differentiation of
  `xc * rsqrt (mean (xc * xc) + eps)` gives. `DR_eq_refDR` says that they agree on finite rows.
-/
module

public import Idealize.ShloMosaic.PureOps.Ideal.Laws
public import Idealize.ShloMosaic.Lib.ValueIdx

@[expose] public section

noncomputable section

open Idealize.ShloMosaic

namespace Cert.Merge

/-- The residual's scale: the f32 word of the fourth root of four. -/
def alpha : EReal := Ideal.ofBits .f32 0x3FB504F3#32
/-- The number of channels a mean runs over, as the programs spell it. -/
def width : EReal := Ideal.ofBits .f32 0x44800000#32
/-- The normalisation's guard, `1e-5`. -/
def eps : EReal := Ideal.ofBits .f32 0x3727C5AC#32
/-- Minus one half: the exponent's factor in the derivative of `rsqrt`. -/
def negHalf : EReal := Ideal.ofBits .f32 0xBF000000#32

theorem one_word : Ideal.ofBits .f32 0x3F800000#32 = 1 := by
  simp [Ideal.ofBits, Ideal.ieee, -EReal.coe_mul]; norm_num
theorem alpha_real : ∃ a : ℝ, alpha = (a : EReal) := by
  refine ⟨(11863283 : ℝ) / 2 ^ 23, ?_⟩
  simp [alpha, Ideal.ofBits, Ideal.ieee, -EReal.coe_mul]; norm_num
theorem width_real : width = ((1024 : ℝ) : EReal) := by
  simp [width, Ideal.ofBits, Ideal.ieee, -EReal.coe_mul]; norm_num
theorem eps_real : ∃ e : ℝ, 0 < e ∧ eps = (e : EReal) := by
  refine ⟨(10995116 : ℝ) / 2 ^ 40, by positivity, ?_⟩
  simp [eps, Ideal.ofBits, Ideal.ieee, -EReal.coe_mul]; norm_num
theorem negHalf_real : negHalf = ((-1 / 2 : ℝ) : EReal) := by
  simp [negHalf, Ideal.ofBits, Ideal.ieee, -EReal.coe_mul]; norm_num

/-- The residual before normalisation: `alpha * x + (1 + gate) * y`. -/
def res (g x y : Fin 1024 → EReal) (q : Fin 1024) : EReal := alpha * x q + (1 + g q) * y q
/-- A row's mean. -/
def mean (f : Fin 1024 → EReal) : EReal := Ideal.div (∑ k, f k) width
/-- The centred row. -/
def cen (r : Fin 1024 → EReal) (q : Fin 1024) : EReal := r q - mean r
/-- The guarded variance. -/
def var (r : Fin 1024 → EReal) : EReal := mean (fun k => cen r k * cen r k) + eps
/-- The reciprocal standard deviation. -/
def rstd (r : Fin 1024 → EReal) : EReal := Ideal.rsqrt (var r)
/-- The standardised row. -/
def std (r : Fin 1024 → EReal) (q : Fin 1024) : EReal := cen r q * rstd r

/-- The kernel's gradient of the residual, from the gradient `dn` of the standardised row. -/
def DR (r dn : Fin 1024 → EReal) (q : Fin 1024) : EReal :=
  rstd r * (dn q - mean dn - std r q * mean (fun k => dn k * std r k))

/-- What the variance's gradient adds to each channel, before the factor `cen`. -/
def dvar (r dn : Fin 1024 → EReal) : EReal :=
  Ideal.div ((∑ k, cen r k * dn k) * (negHalf * Ideal.div (rstd r) (var r))) width
/-- The gradient of the centred row, by reverse-mode differentiation. -/
def dcen (r dn : Fin 1024 → EReal) (q : Fin 1024) : EReal :=
  dn q * rstd r + cen r q * dvar r dn + dvar r dn * cen r q
/-- The gradient of the residual, by reverse-mode differentiation. -/
def refDR (r dn : Fin 1024 → EReal) (q : Fin 1024) : EReal :=
  dcen r dn q + mean (fun k => -dcen r dn k)

/-- A row every channel of which is a real number. -/
def IsReal (f : Fin 1024 → EReal) : Prop := ∃ a : Fin 1024 → ℝ, f = fun k => (a k : EReal)

theorem sum_coe {ι : Type} (s : Finset ι) (a : ι → ℝ) : ∑ k ∈ s, (a k : EReal) = ((∑ k ∈ s, a k : ℝ) : EReal) := by
  classical
  induction s using Finset.induction_on with
  | empty => simp
  | insert i s hi ih => rw [Finset.sum_insert hi, Finset.sum_insert hi, ih, EReal.coe_add]

theorem mean_coe (a : Fin 1024 → ℝ) : mean (fun k => (a k : EReal)) = (((∑ k, a k) / 1024 : ℝ) : EReal) := by
  rw [mean, width_real, Ideal.div_coe (by norm_num), sum_coe, ← EReal.coe_mul]; congr 1; ring

theorem cen_coe (a : Fin 1024 → ℝ) : cen (fun k => (a k : EReal)) = fun q => ((a q - (∑ k, a k) / 1024 : ℝ) : EReal) := by
  funext q; rw [cen, mean_coe, ← EReal.coe_sub]

/-- On finite rows the kernel's gradient of the residual is the reverse-mode one. -/
theorem DR_eq_refDR {r dn : Fin 1024 → EReal} (hr : IsReal r) (hd : IsReal dn) : DR r dn = refDR r dn := by
  obtain ⟨a, rfl⟩ := hr
  obtain ⟨d, rfl⟩ := hd
  obtain ⟨e, he, heps⟩ := eps_real
  generalize hc : (fun q : Fin 1024 => a q - (∑ k, a k) / 1024) = c
  have hcen : cen (fun k => (a k : EReal)) = fun q => (c q : EReal) := by rw [cen_coe, ← hc]
  have hc0 : ∑ k, c k = 0 := by
    rw [← hc, Finset.sum_sub_distrib, Finset.sum_const, Finset.card_univ, Fintype.card_fin, nsmul_eq_mul]; push_cast; ring
  generalize hv : (∑ k, c k * c k) / 1024 + e = v
  have hv0 : 0 < v := by
    rw [← hv]; exact add_pos_of_nonneg_of_pos (div_nonneg (Finset.sum_nonneg fun k _ => mul_self_nonneg _) (by norm_num)) he
  have hvar : var (fun k => (a k : EReal)) = (v : EReal) := by
    rw [var, hcen]; simp only [← EReal.coe_mul]; rw [mean_coe, heps, ← EReal.coe_add, hv]
  generalize hs : (Real.sqrt v)⁻¹ = s
  have hrs : rstd (fun k => (a k : EReal)) = (s : EReal) := by
    rw [rstd, hvar, Ideal.rsqrt_coe, if_neg (not_lt.mpr hv0.le), if_neg hv0.ne', hs]
  have hss : s * s = 1 / v := by
    rw [← hs, ← mul_inv, Real.mul_self_sqrt hv0.le, one_div]
  have hstd : std (fun k => (a k : EReal)) = fun q => ((c q * s : ℝ) : EReal) := by
    funext q; rw [std, hcen, hrs, ← EReal.coe_mul]
  generalize hA : ∑ k, c k * d k = A
  have hdv : dvar (fun k => (a k : EReal)) (fun k => (d k : EReal)) = ((A * (-1 / 2 * (s * (1 / v))) / 1024 : ℝ) : EReal) := by
    rw [dvar, hcen, hrs, hvar, width_real, negHalf_real, Ideal.div_coe (by norm_num), Ideal.div_coe hv0.ne']
    simp only [← EReal.coe_mul, sum_coe, hA]
    congr 1; ring
  generalize hw : A * (-1 / 2 * (s * (1 / v))) / 1024 = w at hdv
  have hdc : dcen (fun k => (a k : EReal)) (fun k => (d k : EReal)) = fun q => ((d q * s + c q * w + w * c q : ℝ) : EReal) := by
    funext q; rw [dcen, hcen, hrs, hdv]; simp only [← EReal.coe_mul, ← EReal.coe_add]
  funext q
  rw [DR, refDR, hrs, hstd, hdc]
  simp only [← EReal.coe_mul, ← EReal.coe_neg, mean_coe, ← EReal.coe_sub, ← EReal.coe_add]
  congr 1
  have h1 : ∑ k, d k * (c k * s) = A * s := by
    rw [← hA, Finset.sum_mul]; exact Finset.sum_congr rfl fun k _ => by ring
  have h2 : ∑ k, -(d k * s + c k * w + w * c k) = -((∑ k, d k) * s) := by
    have : ∀ k, -(d k * s + c k * w + w * c k) = -(d k * s) - 2 * w * c k := fun k => by ring
    simp only [this]
    rw [Finset.sum_sub_distrib, ← Finset.mul_sum, hc0, Finset.sum_neg_distrib, Finset.sum_mul]; ring
  rw [h1, h2, ← hw]
  have h3 : s * (c q * s * (A * s / 1024)) = s * (s * s) * c q * A / 1024 := by ring
  have h4 : s * (d q - (∑ k, d k) / 1024 - c q * s * (A * s / 1024)) = s * (d q - (∑ k, d k) / 1024) - s * (c q * s * (A * s / 1024)) := by ring
  rw [h4, h3, hss]; ring

end Cert.Merge

end
end
-- ==== Proof.Spec.lean ====
/-
  What the merge's backward pass computes, over the extended reals: the forward values it needs and its gradients, as
  functions of rows and channels. `Args` holds the arguments. The kernel's result is shown to be these values in
  `Finals`, the reference's in `RefVal`.
-/
module

public import proofs.«01_k».proof.Proof.Row

@[expose] public section

noncomputable section

open Idealize.ShloMosaic

namespace Cert.Merge

/-- The arguments, as functions of their indices: the incoming gradient, the residual stream, the output gate, the three
    branch gates before the logistic function, the three branch outputs, the branch projections, the output
    projection and the norm's scale. -/
structure Args where
  dxo : Fin 2048 → Fin 1024 → EReal
  x : Fin 2048 → Fin 1024 → EReal
  gate : Fin 1024 → EReal
  z : Fin 3 → Fin 2048 → Fin 1024 → EReal
  y : Fin 3 → Fin 2048 → Fin 512 → EReal
  wb : Fin 3 → Fin 512 → Fin 1024 → EReal
  wo : Fin 1024 → Fin 1024 → EReal
  lg : Fin 1024 → EReal

/-- The logistic function, as the programs spell it. -/
def sg (v : EReal) : EReal := Ideal.div 1 (1 + Ideal.exp (-v))

namespace Args

variable (A : Args)

/-- Branch `i`'s projection. -/
def ps (i : Fin 3) (r : Fin 2048) (q : Fin 1024) : EReal := ∑ j, A.y i r j * A.wb i j q
/-- The gated sum of the branches. -/
def merged (r : Fin 2048) (q : Fin 1024) : EReal :=
  sg (A.z 0 r q) * A.ps 0 r q + sg (A.z 1 r q) * A.ps 1 r q + sg (A.z 2 r q) * A.ps 2 r q
/-- The output projection of the merged branches. -/
def out (r : Fin 2048) (q : Fin 1024) : EReal := ∑ k, A.merged r k * A.wo k q
/-- The residual's row. -/
def row (r : Fin 2048) : Fin 1024 → EReal := res A.gate (A.x r) (A.out r)
/-- The gradient of the standardised row. -/
def dn (r : Fin 2048) (q : Fin 1024) : EReal := A.dxo r q * A.lg q
/-- The gradient of the residual. -/
def dr (r : Fin 2048) : Fin 1024 → EReal := DR (A.row r) (A.dn r)
/-- The gradient of the output projection's result. -/
def dyb (r : Fin 2048) (q : Fin 1024) : EReal := (1 + A.gate q) * A.dr r q
/-- The gradient of the merged branches. -/
def dm (r : Fin 2048) (q : Fin 1024) : EReal := ∑ k, A.dyb r k * A.wo q k
/-- The gradient of branch `i`'s gate. -/
def dz (i : Fin 3) (r : Fin 2048) (q : Fin 1024) : EReal :=
  A.dm r q * A.ps i r q * sg (A.z i r q) * (1 - sg (A.z i r q))
/-- The gradient of branch `i`'s projection. -/
def dp (i : Fin 3) (r : Fin 2048) (q : Fin 1024) : EReal := A.dm r q * sg (A.z i r q)
/-- The gradient of branch `i`'s output. -/
def dy (i : Fin 3) (r : Fin 2048) (j : Fin 512) : EReal := ∑ q, A.dp i r q * A.wb i j q
/-- The gradient of the norm's scale. -/
def dlg (q : Fin 1024) : EReal := ∑ r, A.dxo r q * std (A.row r) q
/-- The gradient of the norm's offset. -/
def dlb (q : Fin 1024) : EReal := ∑ r, A.dxo r q
/-- The gradient of the output gate. -/
def dgt (q : Fin 1024) : EReal := ∑ r, A.dr r q * A.out r q
/-- The gradient of the branch projections. -/
def dwb (i : Fin 3) (j : Fin 512) (q : Fin 1024) : EReal := ∑ r, A.y i r j * A.dp i r q
/-- The gradient of the output projection. -/
def dwo (k q : Fin 1024) : EReal := ∑ r, A.merged r k * A.dyb r q

/-- Every residual row and every gradient of a standardised row is real: what the normalisation's backward pass asks. -/
def Regular : Prop := ∀ r, IsReal (A.row r) ∧ IsReal (A.dn r)

theorem dr_eq (h : A.Regular) (r : Fin 2048) : A.dr r = refDR (A.row r) (A.dn r) := DR_eq_refDR (h r).1 (h r).2

end Args

end Cert.Merge

end
end
-- ==== Proof.RefVal.lean ====
/-
  The reference's results read as the values of `Spec`: one stage of the reference after another, at any index, in the
  program's order. Only the residual's gradient uses that the rows are real; the rest are the same sums and products
  up to the order of the factors.
-/
module

public import proofs.«01_k».proof.Proof.Spec
public import proofs.«01_k».proof.Proof.Gen.ReferenceIdeal.Read
public import Idealize.ShloMosaic.Lib.KernelVsHost

@[expose] public section

set_option maxRecDepth 16384

noncomputable section

namespace Cert.ReferenceIdeal.Hand

open Cert.ReferenceIdeal Cert.ReferenceIdeal.Gen Cert.ReferenceIdeal.Read Idealize.ShloMosaic Idealize.ShloMosaic.ValueIdx
open Cert.Merge

/-- The ten arrays the programs are given. -/
structure Arrays where
  x0 : (⟨S2048x1024, .f32⟩ : BufTy).Contents (Elt Ideal)
  x1 : (⟨S2048x1024, .f32⟩ : BufTy).Contents (Elt Ideal)
  x2 : (⟨S1x3072, .f32⟩ : BufTy).Contents (Elt Ideal)
  x3 : (⟨S2048x9216, .f32⟩ : BufTy).Contents (Elt Ideal)
  x4 : (⟨S2048x512, .bf16⟩ : BufTy).Contents (Elt Ideal)
  x5 : (⟨S2048x512, .bf16⟩ : BufTy).Contents (Elt Ideal)
  x6 : (⟨S2048x512, .bf16⟩ : BufTy).Contents (Elt Ideal)
  x7 : (⟨S3x512x1024, .f32⟩ : BufTy).Contents (Elt Ideal)
  x8 : (⟨S1024x1024, .f32⟩ : BufTy).Contents (Elt Ideal)
  x9 : (⟨S2x1024, .f32⟩ : BufTy).Contents (Elt Ideal)

/-- Branch `i`'s output. -/
def Arrays.pick (X : Arrays) (i : Fin 3) : (⟨S2048x512, .bf16⟩ : BufTy).Contents (Elt Ideal) :=
  match i with | 0 => X.x4 | 1 => X.x5 | 2 => X.x6

/-- The ten arrays as the specification's arguments. -/
def args (X : Arrays) : Args where
  dxo r q := X.x0 (ix2 r q)
  x r q := X.x1 (ix2 r q)
  gate q := X.x2 (ix2 0 ⟨2048 + q.val, by omega⟩)
  z i r q := X.x3 (ix2 r ⟨6144 + 1024 * i.val + q.val, by omega⟩)
  y i r j := X.pick i (ix2 r j)
  wb i j q := X.x7 (ix3 i j q)
  wo k q := X.x8 (ix2 k q)
  lg q := X.x9 (ix2 1 q)

variable (X : Arrays)

/-- A rank-2 array at an index is the array at the index's coordinates. -/
theorem at2 {n k : ℕ} {α : Type} (x : (⟨2, ![n, k]⟩ : Shape).Idx → α) (i : (⟨2, ![n, k]⟩ : Shape).Idx) (a : Fin n) (b : Fin k)
    (ha : (i 0).val = a.val) (hb : (i 1).val = b.val) : x i = x (ix2 a b) :=
  congrArg x (funext fun d => match d with | ⟨0, _⟩ => Fin.ext ha | ⟨1, _⟩ => Fin.ext hb)

/-- A rank-3 array at an index is the array at the index's coordinates. -/
theorem at3 {n k l : ℕ} {α : Type} (x : (⟨3, ![n, k, l]⟩ : Shape).Idx → α) (i : (⟨3, ![n, k, l]⟩ : Shape).Idx) (a : Fin n) (b : Fin k)
    (c : Fin l) (ha : (i 0).val = a.val) (hb : (i 1).val = b.val) (hc : (i 2).val = c.val) : x i = x (ix3 a b c) :=
  congrArg x (funext fun d => match d with | ⟨0, _⟩ => Fin.ext ha | ⟨1, _⟩ => Fin.ext hb | ⟨2, _⟩ => Fin.ext hc)

/-! ## The forward pass -/

theorem z0 (i : S2048x1024.Idx) : val_main_v14 (F := Ideal) X.x3 i = sg ((args X).z 0 (i 0) (i 1)) := by
  simp only [val_main_v14_apply, val_main_v13_apply, val_main_v12_apply, val_main_v11_apply, val_main_v10_apply, val_main_v9_apply,
    val_main_v0_apply, val_main_cst_0_apply, val_main_cst_1_apply, Ideal.ofBits_def, one_word]
  rw [at2 X.x3 (idx_main_v0 i) (i 0) ⟨6144 + 1024 * (0 : Fin 3).val + (i 1).val, _⟩ rfl rfl]; rfl
theorem z1 (i : S2048x1024.Idx) : val_main_v27 (F := Ideal) X.x3 i = sg ((args X).z 1 (i 0) (i 1)) := by
  simp only [val_main_v27_apply, val_main_v26_apply, val_main_v25_apply, val_main_v24_apply, val_main_v23_apply, val_main_v22_apply,
    val_main_v1_apply, val_main_cst_3_apply, val_main_cst_4_apply, Ideal.ofBits_def, one_word]
  rw [at2 X.x3 (idx_main_v1 i) (i 0) ⟨6144 + 1024 * (1 : Fin 3).val + (i 1).val, _⟩ rfl rfl]; rfl
theorem z2 (i : S2048x1024.Idx) : val_main_v41 (F := Ideal) X.x3 i = sg ((args X).z 2 (i 0) (i 1)) := by
  simp only [val_main_v41_apply, val_main_v40_apply, val_main_v39_apply, val_main_v38_apply, val_main_v37_apply, val_main_v36_apply,
    val_main_v2_apply, val_main_cst_6_apply, val_main_cst_7_apply, Ideal.ofBits_def, one_word]
  rw [at2 X.x3 (idx_main_v2 i) (i 0) ⟨6144 + 1024 * (2 : Fin 3).val + (i 1).val, _⟩ rfl rfl]; rfl

theorem wdiv (i : S512x1024.Idx) : ((i 0).val * 1024 + (i 1).val) / 1024 % 512 = (i 0).val := by
  have h0 : (i 0).val < 512 := (i 0).isLt
  have h1 : (i 1).val < 1024 := (i 1).isLt
  omega
theorem wmod (i : S512x1024.Idx) : ((i 0).val * 1024 + (i 1).val) % 1024 = (i 1).val := by
  have h1 : (i 1).val < 1024 := (i 1).isLt
  omega

theorem w0 (i : S512x1024.Idx) : val_main_v19 (F := Ideal) X.x7 i = (args X).wb 0 (i 0) (i 1) := by
  rw [val_main_v19_apply, val_main_v18_apply]
  exact at3 X.x7 _ 0 (i 0) (i 1) rfl (wdiv i) (wmod i)
theorem w1 (i : S512x1024.Idx) : val_main_v32 (F := Ideal) X.x7 i = (args X).wb 1 (i 0) (i 1) := by
  rw [val_main_v32_apply, val_main_v31_apply]
  exact at3 X.x7 _ 1 (i 0) (i 1) rfl (wdiv i) (wmod i)
theorem w2 (i : S512x1024.Idx) : val_main_v46 (F := Ideal) X.x7 i = (args X).wb 2 (i 0) (i 1) := by
  rw [val_main_v46_apply, val_main_v45_apply]
  exact at3 X.x7 _ 2 (i 0) (i 1) rfl (wdiv i) (wmod i)

theorem y0 (i : S2048x512.Idx) : val_main_v4 (F := Ideal) X.x4 i = (args X).y 0 (i 0) (i 1) := at2 X.x4 i (i 0) (i 1) rfl rfl
theorem y1 (i : S2048x512.Idx) : val_main_v5 (F := Ideal) X.x5 i = (args X).y 1 (i 0) (i 1) := at2 X.x5 i (i 0) (i 1) rfl rfl
theorem y2 (i : S2048x512.Idx) : val_main_v6 (F := Ideal) X.x6 i = (args X).y 2 (i 0) (i 1) := at2 X.x6 i (i 0) (i 1) rfl rfl

theorem p0 (i : S2048x1024.Idx) : val_main_v20 (F := Ideal) X.x4 X.x7 i = (args X).ps 0 (i 0) (i 1) := by
  rw [val_main_v20_apply]
  exact Finset.sum_congr rfl fun k _ => congrArg₂ (· * ·) (y0 X _) (w0 X _)

theorem p1 (i : S2048x1024.Idx) : val_main_v33 (F := Ideal) X.x5 X.x7 i = (args X).ps 1 (i 0) (i 1) := by
  rw [val_main_v33_apply]
  exact Finset.sum_congr rfl fun k _ => congrArg₂ (· * ·) (y1 X _) (w1 X _)
theorem p2 (i : S2048x1024.Idx) : val_main_v47 (F := Ideal) X.x6 X.x7 i = (args X).ps 2 (i 0) (i 1) := by
  rw [val_main_v47_apply]
  exact Finset.sum_congr rfl fun k _ => congrArg₂ (· * ·) (y2 X _) (w2 X _)

theorem mg (i : S2048x1024.Idx) : val_main_v49 (F := Ideal) X.x3 X.x4 X.x5 X.x6 X.x7 i = (args X).merged (i 0) (i 1) := by
  simp only [val_main_v49_apply, val_main_v48_apply, val_main_v35_apply, val_main_v34_apply, val_main_v21_apply,
    z0 X, z1 X, z2 X,
    p0 X, p1 X, p2 X]
  rfl

theorem ot (i : S2048x1024.Idx) : val_main_v50 (F := Ideal) X.x3 X.x4 X.x5 X.x6 X.x7 X.x8 i = (args X).out (i 0) (i 1) := by
  rw [val_main_v50_apply]
  exact Finset.sum_congr rfl fun k _ => congrArg₂ (· * ·) (mg X _) (at2 X.x8 _ k (i 1) rfl rfl)

theorem gt (i : S1x1024.Idx) : val_main_v54 (F := Ideal) X.x2 i = 1 + (args X).gate (i 1) := by
  simp only [val_main_v54_apply, val_main_v53_apply, val_main_v3_apply, val_main_cst_10_apply, Ideal.ofBits_def, one_word]
  exact congrArg (1 + ·) (at2 X.x2 _ 0 ⟨2048 + (i 1).val, _⟩ (Nat.lt_one_iff.mp (i 0).isLt) rfl)

theorem rw' (i : S2048x1024.Idx) : val_main_v57 (F := Ideal) X.x1 X.x2 X.x3 X.x4 X.x5 X.x6 X.x7 X.x8 i = (args X).row (i 0) (i 1) := by
  simp only [val_main_v57_apply, val_main_v52_apply, val_main_v51_apply, val_main_v56_apply, val_main_v55_apply, val_main_cst_9_apply,
    gt X, ot X]
  exact congrArg (fun v => alpha * v + _) (at2 X.x1 i (i 0) (i 1) rfl rfl)

/-! ## The normalisation -/

theorem mn (i : S2048x1.Idx) : val_main_v61 (F := Ideal) X.x1 X.x2 X.x3 X.x4 X.x5 X.x6 X.x7 X.x8 i = mean ((args X).row (i 0)) := by
  simp only [val_main_v61_apply, val_main_v60_apply, val_main_v59_apply, val_main_v58_apply, val_main_cst_11_apply, val_main_cst_12_apply,
    rw' X, Ideal.ofBits_def, Ideal.ofBits_zero_f32, zero_add]
  rfl
theorem cn (i : S2048x1024.Idx) : val_main_v63 (F := Ideal) X.x1 X.x2 X.x3 X.x4 X.x5 X.x6 X.x7 X.x8 i = cen ((args X).row (i 0)) (i 1) := by
  simp only [val_main_v63_apply, val_main_v62_apply, rw' X, mn X]
  rfl
theorem vr (i : S2048x1.Idx) : val_main_v70 (F := Ideal) X.x1 X.x2 X.x3 X.x4 X.x5 X.x6 X.x7 X.x8 i = var ((args X).row (i 0)) := by
  simp only [val_main_v70_apply, val_main_v69_apply, val_main_v68_apply, val_main_v67_apply, val_main_v66_apply, val_main_v65_apply,
    val_main_v64_apply, val_main_cst_13_apply, val_main_cst_14_apply, val_main_cst_15_apply,
    cn X, Ideal.ofBits_def, Ideal.ofBits_zero_f32, zero_add]
  rfl
theorem rs (i : S2048x1.Idx) : val_main_v71 (F := Ideal) X.x1 X.x2 X.x3 X.x4 X.x5 X.x6 X.x7 X.x8 i = rstd ((args X).row (i 0)) := by
  rw [val_main_v71_apply, vr X]; rfl
theorem st (i : S2048x1024.Idx) : val_main_v76 (F := Ideal) X.x1 X.x2 X.x3 X.x4 X.x5 X.x6 X.x7 X.x8 i = std ((args X).row (i 0)) (i 1) := by
  rw [val_main_v76_apply, val_main_v75_apply, cn X, rs X]; rfl

theorem dx (i : S2048x1024.Idx) : val_main_v81 (F := Ideal) X.x0 i = (args X).dxo (i 0) (i 1) := by
  rw [val_main_v81_apply]
  refine at2 X.x0 _ (i 0) (i 1) ?_ ?_ <;> have h0 := (i 0).isLt <;> have h1 : (i 1).val < 1024 := (i 1).isLt <;> simp <;> omega
theorem d_n (i : S2048x1024.Idx) : val_main_v88 (F := Ideal) X.x0 X.x9 i = (args X).dn (i 0) (i 1) := by
  rw [val_main_v88_apply, val_main_v87_apply, val_main_v7_apply, dx X]
  exact congrArg (_ * ·) (at2 X.x9 _ 1 (i 1) rfl rfl)

end Cert.ReferenceIdeal.Hand

end
end
-- ==== Proof.Host.lean ====
/-
What the call's arrays hold when it starts: the arguments as launched, and the six arrays the host lines before it
compute: the two forward values, read as `Spec`'s, and the casts and regroupings of the arguments.
-/
module

public import proofs.«01_k».proof.Proof.Launch
public import proofs.«01_k».proof.Proof.RefVal

@[expose] public section

set_option maxRecDepth 16384

noncomputable section

namespace Cert.KernelIdeal.Hand

open Cert.KernelIdeal Cert.KernelIdeal.Gen
open Idealize.ShloMosaic hiding ix1 ix2 ix3 ix4
open Idealize.ShloMosaic.TcCoe Idealize.ShloMosaic.Tactic Idealize.ShloMosaic.ValueIdx
open Cert.Merge
open Cert.ReferenceIdeal.Hand (Arrays args)

variable (m : (ℓ : Loc nD τ sig) → Buf (Elt Ideal) ℓ) (c : Dev nD)

/-- The ten arguments on device `c`. -/
abbrev given : Arrays where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)

theorem V_out : V m c main_v38 = Cert.ReferenceIdeal.Read.val_main_v50 (F := Ideal) (given m c).x3 (given m c).x4 (given m c).x5 (given m c).x6 (given m c).x7 (given m c).x8 := by
  sl_kernel_rfl

theorem V_mg : V m c main_v39 = Cert.ReferenceIdeal.Read.val_main_v49 (F := Ideal) (given m c).x3 (given m c).x4 (given m c).x5 (given m c).x6 (given m c).x7 := by
  sl_kernel_rfl

theorem V_wb : V m c main_v40 = (given m c).x7 := by
  sl_kernel_rfl

theorem V_wo : V m c main_v42 = shapeCast S4x256x1024 ((given m c).x8 : S1024x1024.Idx → EReal) shapeCasts_S1024x1024_S4x256x1024 := by
  sl_kernel_rfl

end Cert.KernelIdeal.Hand

end
end
-- ==== Proof.Ops.lean ====
/-
The body's sums, broadcasts and products over the extended reals, at an index.
-/
module

public import proofs.«01_k».proof.Proof.Step
public import Idealize.ShloMosaic.Lib.Pointwise.Contract
public import Idealize.ShloMosaic.PureOps.Ideal.Laws

@[expose] public section

set_option maxRecDepth 16384

noncomputable section

namespace Cert.KernelIdeal.Hand

open Cert.KernelIdeal Cert.KernelIdeal.Gen
open Idealize.ShloMosaic hiding ix1 ix2 ix3 ix4
open Idealize.ShloMosaic.ValueIdx

theorem ext2 {n k : ℕ} {x y : (⟨2, ![n, k]⟩ : Shape).Idx} (h0 : (x 0).val = (y 0).val) (h1 : (x 1).val = (y 1).val) : x = y :=
  funext fun a => match a with | ⟨0, _⟩ => Fin.ext h0 | ⟨1, _⟩ => Fin.ext h1

theorem ext3 {n k l : ℕ} {x y : (⟨3, ![n, k, l]⟩ : Shape).Idx} (h0 : (x 0).val = (y 0).val) (h1 : (x 1).val = (y 1).val)
    (h2 : (x 2).val = (y 2).val) : x = y :=
  funext fun a => match a with | ⟨0, _⟩ => Fin.ext h0 | ⟨1, _⟩ => Fin.ext h1 | ⟨2, _⟩ => Fin.ext h2

/-- A row's sum. -/
theorem rowSum (v : FVec Ideal S256x1024 .f32) (p : Fin 256) :
    shapeCast S256x1 (multiReduction .add [1] S256 v 0x00000000#32 reduces_S256x1024_S256 (.inl rfl) rfl) shapeCasts_S256_S256x1 (ix2 p 0)
      = ∑ k : Fin 1024, v (ix2 p k) := by
  rw [shapeCast_apply _ _ _ (ix1 p) (by rw [Shape.rowMajor_val_one, Shape.rowMajor_val_two]; show p.val = p.val * 1 + 0; omega)]
  refine (Ideal.multiReduction_add_single v 0x00000000#32 _ (.inl rfl) rfl _).trans ?_
  exact Finset.sum_congr rfl fun k _ => congrArg v (ext2 rfl rfl)

/-- A column's sum over the tile's rows. -/
theorem colSum (v : FVec Ideal S256x1024 .f32) (q : Fin 1024) :
    shapeCast S1x1024 (multiReduction .add [0] S1024 v 0x00000000#32 reduces_S256x1024_S1024 (.inl rfl) rfl) shapeCasts_S1024_S1x1024 (ix2 0 q)
      = ∑ p : Fin 256, v (ix2 p q) := by
  rw [shapeCast_apply _ _ _ (ix1 q) (by rw [Shape.rowMajor_val_one, Shape.rowMajor_val_two]; show q.val = 0 * 1024 + q.val; omega)]
  refine (Ideal.multiReduction_add_single v 0x00000000#32 _ (.inl rfl) rfl _).trans ?_
  exact Finset.sum_congr rfl fun k _ => congrArg v (ext2 rfl rfl)

/-- A row vector spread over the tile's rows. -/
theorem bcRow (v : FVec Ideal S1x1024 .f32) (p : Fin 256) (q : Fin 1024) :
    broadcastTo S256x1024 v broadcasts_S1x1024_S256x1024 (ix2 p q) = v (ix2 0 q) :=
  broadcastTo_apply v _ _ _ fun a => match a with | ⟨0, _⟩ => rfl | ⟨1, _⟩ => rfl

/-- A column vector spread over the channels. -/
theorem bcCol (v : FVec Ideal S256x1 .f32) (p : Fin 256) (q : Fin 1024) :
    broadcastTo S256x1024 v broadcasts_S256x1_S256x1024 (ix2 p q) = v (ix2 p 0) :=
  broadcastTo_apply v _ _ _ fun a => match a with | ⟨0, _⟩ => rfl | ⟨1, _⟩ => rfl

/-- A product over the tile's rows, into zeros. -/
theorem mmOut (a b : FVec Ideal S256x1024 .bf16) (k q : Fin 1024) :
    matmul dot_S256x1024_S256x1024_S1024x1024_0_0_1_1_n_n none a b (constant S1024x1024 .f32 0x00000000#32) (ix2 k q)
      = ∑ p : Fin 256, a (ix2 p k) * b (ix2 p q) := by
  refine (Ideal.matmul_constant_zero_apply _ none _ _ _).trans ((DotDims.sum_contr₁ _ rfl rfl _).trans ?_)
  exact Finset.sum_congr rfl fun p _ => congrArg₂ (· * ·) (congrArg a (ext2 rfl rfl)) (congrArg b (ext2 rfl rfl))

/-- A product with the transposed output projection, into zeros. -/
theorem mmBack (a : FVec Ideal S256x1024 .bf16) (b : FVec Ideal S1024x1024 .bf16) (p : Fin 256) (q : Fin 1024) :
    matmul dot_S256x1024_S1024x1024_S256x1024_1_1_0_0_n_n none a b (constant S256x1024 .f32 0x00000000#32) (ix2 p q)
      = ∑ k : Fin 1024, a (ix2 p k) * b (ix2 q k) := by
  refine (Ideal.matmul_constant_zero_apply _ none _ _ _).trans ((DotDims.sum_contr₁ _ rfl rfl _).trans ?_)
  exact Finset.sum_congr rfl fun k _ => congrArg₂ (· * ·) (congrArg a (ext2 rfl rfl)) (congrArg b (ext2 rfl rfl))

/-- A branch's projection, into zeros. -/
theorem mmProj (a : FVec Ideal S256x512 .bf16) (b : FVec Ideal S512x1024 .bf16) (p : Fin 256) (q : Fin 1024) :
    matmul dot_S256x512_S512x1024_S256x1024_1_0_0_1_n_n none a b (constant S256x1024 .f32 0x00000000#32) (ix2 p q)
      = ∑ j : Fin 512, a (ix2 p j) * b (ix2 j q) := by
  refine (Ideal.matmul_constant_zero_apply _ none _ _ _).trans ((DotDims.sum_contr₁ _ rfl rfl _).trans ?_)
  exact Finset.sum_congr rfl fun k _ => congrArg₂ (· * ·) (congrArg a (ext2 rfl rfl)) (congrArg b (ext2 rfl rfl))

/-- A branch projection's gradient over the tile's rows, into zeros. -/
theorem mmBr (a : FVec Ideal S256x512 .bf16) (b : FVec Ideal S256x1024 .bf16) (j : Fin 512) (q : Fin 1024) :
    matmul dot_S256x512_S256x1024_S512x1024_0_0_1_1_n_n none a b (constant S512x1024 .f32 0x00000000#32) (ix2 j q)
      = ∑ p : Fin 256, a (ix2 p j) * b (ix2 p q) := by
  refine (Ideal.matmul_constant_zero_apply _ none _ _ _).trans ((DotDims.sum_contr₁ _ rfl rfl _).trans ?_)
  exact Finset.sum_congr rfl fun k _ => congrArg₂ (· * ·) (congrArg a (ext2 rfl rfl)) (congrArg b (ext2 rfl rfl))

/-- A product with a transposed branch projection, into zeros. -/
theorem mmBrBack (a : FVec Ideal S256x1024 .bf16) (b : FVec Ideal S512x1024 .bf16) (p : Fin 256) (j : Fin 512) :
    matmul dot_S256x1024_S512x1024_S256x512_1_1_0_0_n_n none a b (constant S256x512 .f32 0x00000000#32) (ix2 p j)
      = ∑ q : Fin 1024, a (ix2 p q) * b (ix2 j q) := by
  refine (Ideal.matmul_constant_zero_apply _ none _ _ _).trans ((DotDims.sum_contr₁ _ rfl rfl _).trans ?_)
  exact Finset.sum_congr rfl fun k _ => congrArg₂ (· * ·) (congrArg a (ext2 rfl rfl)) (congrArg b (ext2 rfl rfl))

/-- A slab of one as a matrix. -/
theorem unstack {φ : FTy} (v : FVec Ideal S1x512x1024 φ) (j : Fin 512) (q : Fin 1024) :
    shapeCast S512x1024 v shapeCasts_S1x512x1024_S512x1024 (ix2 j q) = v (ix3 0 j q) :=
  shapeCast_apply _ _ _ _ (by rw [Shape.rowMajor_val_three, Shape.rowMajor_val_two]; show (0 * 512 + j.val) * 1024 + q.val = j.val * 1024 + q.val; omega)

/-- A matrix as a slab of one. -/
theorem stack {φ : FTy} (v : FVec Ideal S512x1024 φ) (j : Fin 512) (q : Fin 1024) :
    shapeCast S1x512x1024 v shapeCasts_S512x1024_S1x512x1024 (ix3 0 j q) = v (ix2 j q) :=
  shapeCast_apply _ _ _ _ (by rw [Shape.rowMajor_val_three, Shape.rowMajor_val_two]; show j.val * 1024 + q.val = (0 * 512 + j.val) * 1024 + q.val; omega)

/-- The output projection's four groups of rows as one matrix. -/
theorem ungroup {φ : FTy} (v : FVec Ideal S4x256x1024 φ) (k q : Fin 1024) :
    shapeCast S1024x1024 v shapeCasts_S4x256x1024_S1024x1024 (ix2 k q) = v (ix3 ⟨k.val / 256, by omega⟩ ⟨k.val % 256, by omega⟩ q) :=
  shapeCast_apply _ _ _ _ (by
    rw [Shape.rowMajor_val_three, Shape.rowMajor_val_two]
    show (k.val / 256 * 256 + k.val % 256) * 1024 + q.val = k.val * 1024 + q.val
    omega)

/-- A shape cast to the same shape. -/
theorem sameCast {α : Type} (s : Shape) (v : s.Idx → α) (h : s.ShapeCasts s) : shapeCast s v h = v :=
  funext fun i => shapeCast_apply v h i i rfl

end Cert.KernelIdeal.Hand

end
end
-- ==== Proof.Tile.lean ====
/-
One grid point's tiles, read as the values of `Spec`: where the input tiles are 256 rows of the arguments (and of the two
forward values computed before the call), the result tiles are those rows of the gradients, and the values handed on
grow by those rows' sums.
-/
module

public import proofs.«01_k».proof.Proof.Ops
public import proofs.«01_k».proof.Proof.Spec

@[expose] public section

set_option maxRecDepth 16384

noncomputable section

namespace Cert.KernelIdeal.Hand

open Cert.KernelIdeal Cert.KernelIdeal.Gen
open Idealize.ShloMosaic hiding ix1 ix2 ix3 ix4
open Idealize.ShloMosaic.ValueIdx
open Cert.Merge

/-- The tiles `X` hold the rows `r 0, …, r 255` of the arguments `A`. -/
structure TileOf (A : Args) (r : Fin 256 → Fin 2048) (X : Ins Ideal) : Prop where
  dxo : ∀ p q, X.dxo (ix2 p q) = A.dxo (r p) q
  x : ∀ p q, X.x (ix2 p q) = A.x (r p) q
  y : ∀ p q, X.y (ix2 p q) = A.out (r p) q
  mg : ∀ p q, X.mg (ix2 p q) = A.merged (r p) q
  md : ∀ q : Fin 1024, X.md (ix2 0 ⟨2048 + q.val, by omega⟩) = A.gate q
  ga : ∀ p q, X.ga (ix2 p q) = A.z 0 (r p) q
  gb : ∀ p q, X.gb (ix2 p q) = A.z 1 (r p) q
  gc : ∀ p q, X.gc (ix2 p q) = A.z 2 (r p) q
  ya : ∀ p j, X.ya (ix2 p j) = A.y 0 (r p) j
  yb : ∀ p j, X.yb (ix2 p j) = A.y 1 (r p) j
  yc : ∀ p j, X.yc (ix2 p j) = A.y 2 (r p) j
  wb : ∀ i j q, X.wb (ix3 i j q) = A.wb i j q
  wo : ∀ k q : Fin 1024, X.wo (ix3 ⟨k.val / 256, by omega⟩ ⟨k.val % 256, by omega⟩ q) = A.wo k q
  lg : ∀ q, X.lg (ix2 1 q) = A.lg q

/-! ## The normalisation's pieces, for any tile -/

/-- A row's mean. -/
theorem meanCol (v : FVec Ideal S256x1024 .f32) (p : Fin 256) :
    divf (shapeCast S256x1 (multiReduction .add [1] S256 v 0x00000000#32 reduces_S256x1024_S256 (.inl rfl) rfl) shapeCasts_S256_S256x1)
      (broadcast S256x1 (Scalar.ofBits (F := Ideal) .f32 0x44800000#32)) (ix2 p 0) = mean (fun k => v (ix2 p k)) :=
  congrArg (fun t => Ideal.div t width) (rowSum v p)

/-- A row's mean, spread over the row. -/
theorem meanRow (v : FVec Ideal S256x1024 .f32) (p : Fin 256) (q : Fin 1024) :
    broadcastTo S256x1024 (divf (shapeCast S256x1 (multiReduction .add [1] S256 v 0x00000000#32 reduces_S256x1024_S256 (.inl rfl) rfl) shapeCasts_S256_S256x1)
      (broadcast S256x1 (Scalar.ofBits (F := Ideal) .f32 0x44800000#32))) broadcasts_S256x1_S256x1024 (ix2 p q) = mean (fun k => v (ix2 p k)) :=
  (bcCol _ p q).trans (meanCol v p)

namespace TileOf

variable {A : Args} {r : Fin 256 → Fin 2048} {X : Ins Ideal} (h : TileOf A r X)
include h

theorem gt (q : Fin 1024) : X.gt (ix2 0 q) = A.gate q :=
  (View.ld_unit_apply_of X.md _ _ inb_S1x3072_S1x1024_0_2048 (ix2 0 q) (ix2 0 ⟨2048 + q.val, by omega⟩)
    fun a => match a with | ⟨0, _⟩ => rfl | ⟨1, _⟩ => rfl).trans (h.md q)
theorem sc (q : Fin 1024) : X.sc (ix2 0 q) = A.lg q :=
  (View.ld_unit_apply_of X.lg _ _ inb_S2x1024_S1x1024_1_0 (ix2 0 q) (ix2 1 q)
    fun a => match a with | ⟨0, _⟩ => rfl | ⟨1, _⟩ => (Nat.zero_add q.val).symm).trans (h.lg q)
theorem w0 (j : Fin 512) (q : Fin 1024) : X.w0 (ix3 0 j q) = A.wb 0 j q :=
  (View.ld_unit_apply_of X.wb _ _ inb_S3x512x1024_S1x512x1024_0_0_0 (ix3 0 j q) (ix3 0 j q)
    fun a => match a with | ⟨0, _⟩ => rfl | ⟨1, _⟩ => (Nat.zero_add j.val).symm | ⟨2, _⟩ => (Nat.zero_add q.val).symm).trans (h.wb 0 j q)
theorem w1 (j : Fin 512) (q : Fin 1024) : X.w1 (ix3 0 j q) = A.wb 1 j q :=
  (View.ld_unit_apply_of X.wb _ _ inb_S3x512x1024_S1x512x1024_1_0_0 (ix3 0 j q) (ix3 1 j q)
    fun a => match a with | ⟨0, _⟩ => rfl | ⟨1, _⟩ => (Nat.zero_add j.val).symm | ⟨2, _⟩ => (Nat.zero_add q.val).symm).trans (h.wb 1 j q)
theorem w2 (j : Fin 512) (q : Fin 1024) : X.w2 (ix3 0 j q) = A.wb 2 j q :=
  (View.ld_unit_apply_of X.wb _ _ inb_S3x512x1024_S1x512x1024_2_0_0 (ix3 0 j q) (ix3 2 j q)
    fun a => match a with | ⟨0, _⟩ => rfl | ⟨1, _⟩ => (Nat.zero_add j.val).symm | ⟨2, _⟩ => (Nat.zero_add q.val).symm).trans (h.wb 2 j q)

/-! ## The residual's gradient -/

theorem og (q : Fin 1024) : X.og (ix2 0 q) = 1 + A.gate q :=
  congrArg₂ (fun a b : EReal => a + b) one_word (h.gt q)

theorem y' (p : Fin 256) (q : Fin 1024) : k0_pay29 X.y (ix2 p q) = A.out (r p) q :=
  (congrFun (sameCast _ X.y _) _).trans (h.y p q)

theorem cen (p : Fin 256) (q : Fin 1024) : k0_pay30 X.gt X.y X.x (ix2 p q) = cen (A.row (r p)) q := by
  unfold k0_pay30
  dsimp only
  have hv : ∀ k, addf (mulf (broadcast S256x1024 (Scalar.ofBits (F := Ideal) .f32 0x3FB504F3#32)) X.x)
      (mulf (broadcastTo S256x1024 (k0_pay28 X.gt) broadcasts_S1x1024_S256x1024) (k0_pay29 X.y)) (ix2 p k) = A.row (r p) k := fun k =>
    congrArg₂ (fun a b : EReal => a + b) (congrArg (fun a : EReal => alpha * a) (h.x p k))
      (congrArg₂ (fun a b : EReal => a * b) ((bcRow _ p k).trans (h.og k)) (h.y' p k))
  exact congrArg₂ (fun a b : EReal => a - b) (hv q) ((meanRow _ p q).trans (congrArg mean (funext hv)))

theorem rs (p : Fin 256) : X.rs (ix2 p 0) = rstd (A.row (r p)) := by
  unfold Ins.rs k0_pay31
  dsimp only
  refine congrArg Ideal.rsqrt (congrArg (fun a : EReal => a + eps) ((meanCol _ p).trans (congrArg mean (funext fun k => ?_))))
  exact congrArg₂ (fun a b : EReal => a * b) (h.cen p k) (h.cen p k)

theorem xn (p : Fin 256) (q : Fin 1024) : X.xn (ix2 p q) = std (A.row (r p)) q :=
  congrArg₂ (fun a b : EReal => a * b) (h.cen p q) ((bcCol _ p q).trans (h.rs p))

theorem dr (p : Fin 256) (q : Fin 1024) : X.dr (ix2 p q) = A.dr (r p) q := by
  unfold Ins.dr k0_pay35
  dsimp only
  have hd : ∀ k, (X.dxo (ix2 p k) : EReal) * broadcastTo S256x1024 X.sc broadcasts_S1x1024_S256x1024 (ix2 p k) = A.dn (r p) k := fun k => by
    unfold Args.dn
    exact congrArg₂ (fun a b : EReal => a * b) (h.dxo p k) ((bcRow _ p k).trans (h.sc k))
  refine congrArg₂ (fun a b : EReal => a * b) ((bcCol _ p q).trans (h.rs p)) ?_
  refine congrArg₂ (fun a b : EReal => a - b) ?_ ?_
  · exact congrArg₂ (fun a b : EReal => a - b) (hd q) ((meanRow _ p q).trans (congrArg mean (funext hd)))
  refine congrArg₂ (fun a b : EReal => a * b) (h.xn p q) ((meanRow _ p q).trans (congrArg mean (funext fun k => ?_)))
  exact congrArg₂ (fun a b : EReal => a * b) (hd k) (h.xn p k)

theorem dx (p : Fin 256) (q : Fin 1024) : X.dx (ix2 p q) = alpha * A.dr (r p) q :=
  congrArg (fun a : EReal => alpha * a) (h.dr p q)

theorem dyb (p : Fin 256) (q : Fin 1024) : k0_pay38 X.og X.dr (ix2 p q) = A.dyb (r p) q :=
  congrArg₂ (fun a b : EReal => a * b) ((bcRow _ p q).trans (h.og q)) (h.dr p q)

/-! ## The branches -/

theorem dm (p : Fin 256) (q : Fin 1024) : X.dm (ix2 p q) = A.dm (r p) q := by
  unfold Ins.dm k0_pay40
  refine (mmBack _ _ p q).trans (Finset.sum_congr rfl fun k _ => ?_)
  refine congrArg₂ (fun a b : EReal => a * b) (h.dyb p k) ?_
  rw [ungroup, sameCast]
  exact h.wo q k

theorem p0 (p : Fin 256) (q : Fin 1024) : k0_pay41 X.ya X.w0 (ix2 p q) = A.ps 0 (r p) q :=
  (mmProj _ _ p q).trans (Finset.sum_congr rfl fun j _ =>
    congrArg₂ (fun a b : EReal => a * b) (h.ya p j) ((unstack _ j q).trans (h.w0 j q)))
theorem p1 (p : Fin 256) (q : Fin 1024) : k0_pay42 X.yb X.w1 (ix2 p q) = A.ps 1 (r p) q :=
  (mmProj _ _ p q).trans (Finset.sum_congr rfl fun j _ =>
    congrArg₂ (fun a b : EReal => a * b) (h.yb p j) ((unstack _ j q).trans (h.w1 j q)))
theorem p2 (p : Fin 256) (q : Fin 1024) : k0_pay43 X.yc X.w2 (ix2 p q) = A.ps 2 (r p) q :=
  (mmProj _ _ p q).trans (Finset.sum_congr rfl fun j _ =>
    congrArg₂ (fun a b : EReal => a * b) (h.yc p j) ((unstack _ j q).trans (h.w2 j q)))

omit h in
/-- The logistic function as the body spells it. -/
theorem sg_of {z v : EReal} (e : v = z) :
    Ideal.div (Ideal.ofBits .f32 0x3F800000#32) (Ideal.ofBits .f32 0x3F800000#32 + Ideal.exp (Ideal.ofBits .f32 0x00000000#32 - v)) = sg z := by
  rw [e, one_word, Ideal.ofBits_zero_f32, zero_sub]; rfl

theorem s0 (p : Fin 256) (q : Fin 1024) : k0_pay44 X.ga (ix2 p q) = sg (A.z 0 (r p) q) := sg_of (h.ga p q)
theorem s1 (p : Fin 256) (q : Fin 1024) :
    k0_pay50 (k0_pay49 X.gb) (FloatOps.ofBits .f32 0x3F800000#32) (ix2 p q) = sg (A.z 1 (r p) q) := sg_of (h.gb p q)
theorem s2 (p : Fin 256) (q : Fin 1024) : k0_pay55 X.gc (ix2 p q) = sg (A.z 2 (r p) q) := sg_of (h.gc p q)

omit h in
/-- A gate's gradient as the body spells it. -/
theorem dz_of {a a' b b' s s' : EReal} (ha : a = a') (hb : b = b') (hs : s = s') :
    a * b * s * (Ideal.ofBits .f32 0x3F800000#32 - s) = a' * b' * s' * (1 - s') := by
  rw [ha, hb, hs, one_word]

theorem dg0 (p : Fin 256) (q : Fin 1024) : X.dg0 (ix2 p q) = A.dz 0 (r p) q := dz_of (h.dm p q) (h.p0 p q) (h.s0 p q)
theorem dg1 (p : Fin 256) (q : Fin 1024) : X.dg1 (ix2 p q) = A.dz 1 (r p) q := dz_of (h.dm p q) (h.p1 p q) (h.s1 p q)
theorem dg2 (p : Fin 256) (q : Fin 1024) : X.dg2 (ix2 p q) = A.dz 2 (r p) q := dz_of (h.dm p q) (h.p2 p q) (h.s2 p q)

theorem dp0 (p : Fin 256) (q : Fin 1024) : k0_pay46 X.dm X.ga (ix2 p q) = A.dp 0 (r p) q :=
  congrArg₂ (fun a b : EReal => a * b) (h.dm p q) (h.s0 p q)
theorem dp1 (p : Fin 256) (q : Fin 1024) :
    k0_pay52 X.dm (k0_pay49 X.gb) (FloatOps.ofBits .f32 0x3F800000#32) (ix2 p q) = A.dp 1 (r p) q :=
  congrArg₂ (fun a b : EReal => a * b) (h.dm p q) (h.s1 p q)
theorem dp2 (p : Fin 256) (q : Fin 1024) : k0_pay2 X.dm (k0_pay55 X.gc) (ix2 p q) = A.dp 2 (r p) q :=
  congrArg₂ (fun a b : EReal => a * b) (h.dm p q) (h.s2 p q)

theorem dy0 (p : Fin 256) (j : Fin 512) : X.dy0 (ix2 p j) = A.dy 0 (r p) j :=
  (mmBrBack _ _ p j).trans (Finset.sum_congr rfl fun q _ =>
    congrArg₂ (fun a b : EReal => a * b) (h.dp0 p q) ((unstack _ j q).trans (h.w0 j q)))
theorem dy1 (p : Fin 256) (j : Fin 512) : X.dy1 (ix2 p j) = A.dy 1 (r p) j :=
  (mmBrBack _ _ p j).trans (Finset.sum_congr rfl fun q _ =>
    congrArg₂ (fun a b : EReal => a * b) (h.dp1 p q) ((unstack _ j q).trans (h.w1 j q)))
theorem dy2 (p : Fin 256) (j : Fin 512) : X.dy2 (ix2 p j) = A.dy 2 (r p) j :=
  (mmBrBack _ _ p j).trans (Finset.sum_congr rfl fun q _ =>
    congrArg₂ (fun a b : EReal => a * b) (h.dp2 p q) ((unstack _ j q).trans (h.w2 j q)))

/-! ## The values handed on -/

variable (C : Carry Ideal)

theorem next_dlg (q : Fin 1024) : (C.next X).dlg (ix2 0 q) = C.dlg (ix2 0 q) + ∑ p, A.dxo (r p) q * std (A.row (r p)) q :=
  congrArg₂ (fun a b : EReal => a + b) (congrFun (sameCast _ C.dlg _) _)
    ((colSum _ q).trans (Finset.sum_congr rfl fun p _ => congrArg₂ (fun a b : EReal => a * b) (h.dxo p q) (h.xn p q)))
theorem next_dlb (q : Fin 1024) : (C.next X).dlb (ix2 0 q) = C.dlb (ix2 0 q) + ∑ p, A.dxo (r p) q :=
  congrArg₂ (fun a b : EReal => a + b) (congrFun (sameCast _ C.dlb _) _)
    ((colSum _ q).trans (Finset.sum_congr rfl fun p _ => h.dxo p q))
theorem next_dgt (q : Fin 1024) : (C.next X).dgt (ix2 0 q) = C.dgt (ix2 0 q) + ∑ p, A.dr (r p) q * A.out (r p) q :=
  congrArg₂ (fun a b : EReal => a + b) (congrFun (sameCast _ C.dgt _) _)
    ((colSum _ q).trans (Finset.sum_congr rfl fun p _ => congrArg₂ (fun a b : EReal => a * b) (h.dr p q) (h.y' p q)))
theorem next_wo (k q : Fin 1024) : (C.next X).wo (ix2 k q) = C.wo (ix2 k q) + ∑ p, A.merged (r p) k * A.dyb (r p) q := by
  show k0_pay39 X.og X.dr C.wo X.mg (ix2 k q) = _
  unfold k0_pay39
  rw [sameCast, sameCast]
  refine congrArg (fun a : EReal => C.wo (ix2 k q) + a) ((mmOut _ _ k q).trans (Finset.sum_congr rfl fun p _ => ?_))
  exact congrArg₂ (fun a b : EReal => a * b) (h.mg p k) (h.dyb p q)

omit h in
/-- A slab of a stack at an index. -/
theorem slab_at (w : Vec Ideal S3x512x1024 .f32) (o : ℕ) (inb : ∀ a, (![o, 0, 0] : Fin 3 → ℕ) a + S1x512x1024.size a ≤ S3x512x1024.size a)
    (i : Fin 3) (hi : i.val = o) (j : Fin 512) (q : Fin 1024) :
    View.ld (Val := Elt Ideal) (e' := .f32) w (Rect.unit ![o, 0, 0] S1x512x1024.size inb) (ix3 0 j q) = w (ix3 i j q) :=
  View.ld_unit_apply_of w _ _ inb (ix3 0 j q) (ix3 i j q)
    fun a => match a with | ⟨0, _⟩ => hi | ⟨1, _⟩ => (Nat.zero_add j.val).symm | ⟨2, _⟩ => (Nat.zero_add q.val).symm

theorem next_wb (i : Fin 3) (j : Fin 512) (q : Fin 1024) :
    (C.next X).wb (ix3 i j q) = C.wb (ix3 i j q) + ∑ p, A.y i (r p) j * A.dp i (r p) q := by
  match i with
  | 0 =>
    show k0_pay47 X.dm X.ga (slab0 C.wb) X.ya (ix3 0 j q) = _
    unfold k0_pay47
    rw [stack]
    refine congrArg₂ (fun a b : EReal => a + b) ((unstack _ j q).trans (slab_at C.wb 0 inb_S3x512x1024_S1x512x1024_0_0_0 0 rfl j q)) ?_
    exact (mmBr _ _ j q).trans (Finset.sum_congr rfl fun p _ => congrArg₂ (fun a b : EReal => a * b) (h.ya p j) (h.dp0 p q))
  | 1 =>
    show k0_pay53 X.dm (k0_pay49 X.gb) (FloatOps.ofBits .f32 0x3F800000#32) (slab1 C.wb) X.yb (ix3 0 j q) = _
    unfold k0_pay53
    rw [stack]
    refine congrArg₂ (fun a b : EReal => a + b) ((unstack _ j q).trans (slab_at C.wb 1 inb_S3x512x1024_S1x512x1024_1_0_0 1 rfl j q)) ?_
    exact (mmBr _ _ j q).trans (Finset.sum_congr rfl fun p _ => congrArg₂ (fun a b : EReal => a * b) (h.yb p j) (h.dp1 p q))
  | 2 =>
    show k0_pay3 X.dm (k0_pay55 X.gc) (slab2 C.wb) X.yc (ix3 0 j q) = _
    unfold k0_pay3
    rw [stack]
    refine congrArg₂ (fun a b : EReal => a + b) ((unstack _ j q).trans (slab_at C.wb 2 inb_S3x512x1024_S1x512x1024_2_0_0 2 rfl j q)) ?_
    exact (mmBr _ _ j q).trans (Finset.sum_congr rfl fun p _ => congrArg₂ (fun a b : EReal => a * b) (h.yc p j) (h.dp2 p q))

end TileOf

end Cert.KernelIdeal.Hand

end
end
-- ==== Proof.Blocks.lean ====
/-
Point `t`'s input tiles are rows `256 t … 256 t + 255` of the arguments, and the values handed on after the last point are
the sums over all 2048 rows.
-/
module

public import proofs.«01_k».proof.Proof.Host
public import proofs.«01_k».proof.Proof.Tile

@[expose] public section

set_option maxRecDepth 16384

noncomputable section

namespace Cert.KernelIdeal.Hand

open Cert.KernelIdeal Cert.KernelIdeal.Gen
open Idealize.ShloMosaic hiding ix1 ix2 ix3 ix4
open Idealize.ShloMosaic.TcCoe Idealize.ShloMosaic.Tactic Idealize.ShloMosaic.ValueIdx
open Cert.Merge
open Cert.ReferenceIdeal.Hand (Arrays args at2 at3)

variable (m : (ℓ : Loc nD τ sig) → Buf (Elt Ideal) ℓ) (c : Dev nD)

theorem pt_lt (t : Fin cfg0.N) : t.val < 8 := lt_of_lt_of_eq t.isLt (show cfg0.N = 8 from N_0)

/-- Row `p` of point `t`'s tiles, as a row of the arrays. -/
def row (t : Fin cfg0.N) (p : Fin 256) : Fin 2048 := ⟨256 * t.val + p.val, by have := pt_lt t; omega⟩

/-! ## The blocks' places -/

theorem place0 : ∀ t : Fin cfg0.N, win0_0.index t 0 = t.val ∧ win0_0.index t 1 = 0 := (by decide +kernel : ∀ t : Fin grid0.N, _)
theorem place1 : ∀ t : Fin cfg0.N, win0_1.index t 0 = t.val ∧ win0_1.index t 1 = 0 := (by decide +kernel : ∀ t : Fin grid0.N, _)
theorem place2 : ∀ t : Fin cfg0.N, win0_2.index t 0 = t.val ∧ win0_2.index t 1 = 0 := (by decide +kernel : ∀ t : Fin grid0.N, _)
theorem place3 : ∀ t : Fin cfg0.N, win0_3.index t 0 = t.val ∧ win0_3.index t 1 = 0 := (by decide +kernel : ∀ t : Fin grid0.N, _)
theorem place4 : ∀ t : Fin cfg0.N, win0_4.index t 0 = 0 ∧ win0_4.index t 1 = 0 := (by decide +kernel : ∀ t : Fin grid0.N, _)
theorem place5 : ∀ t : Fin cfg0.N, win0_5.index t 0 = t.val ∧ win0_5.index t 1 = 6 := (by decide +kernel : ∀ t : Fin grid0.N, _)
theorem place6 : ∀ t : Fin cfg0.N, win0_6.index t 0 = t.val ∧ win0_6.index t 1 = 7 := (by decide +kernel : ∀ t : Fin grid0.N, _)
theorem place7 : ∀ t : Fin cfg0.N, win0_7.index t 0 = t.val ∧ win0_7.index t 1 = 8 := (by decide +kernel : ∀ t : Fin grid0.N, _)
theorem place8 : ∀ t : Fin cfg0.N, win0_8.index t 0 = t.val ∧ win0_8.index t 1 = 0 := (by decide +kernel : ∀ t : Fin grid0.N, _)
theorem place9 : ∀ t : Fin cfg0.N, win0_9.index t 0 = t.val ∧ win0_9.index t 1 = 0 := (by decide +kernel : ∀ t : Fin grid0.N, _)
theorem place10 : ∀ t : Fin cfg0.N, win0_10.index t 0 = t.val ∧ win0_10.index t 1 = 0 := (by decide +kernel : ∀ t : Fin grid0.N, _)
theorem place11 : ∀ t : Fin cfg0.N, win0_11.index t 0 = 0 ∧ win0_11.index t 1 = 0 ∧ win0_11.index t 2 = 0 := (by decide +kernel : ∀ t : Fin grid0.N, _)
theorem place12 : ∀ t : Fin cfg0.N, win0_12.index t 0 = 0 ∧ win0_12.index t 1 = 0 ∧ win0_12.index t 2 = 0 := (by decide +kernel : ∀ t : Fin grid0.N, _)
theorem place13 : ∀ t : Fin cfg0.N, win0_13.index t 0 = 0 ∧ win0_13.index t 1 = 0 := (by decide +kernel : ∀ t : Fin grid0.N, _)

/-- Row `p` of a block of 256 rows. -/
theorem inRow {a : ℕ} (t : Fin cfg0.N) (p : Fin 256) (h : a = t.val) : a * 256 + 1 * p.val = (row t p).val := by
  show _ = 256 * t.val + p.val; omega

/-- A column of a block at column `b * k`. -/
theorem inCol {a b k q : ℕ} (h : a = b) : a * k + 1 * q = b * k + q := by rw [h, one_mul]

theorem atZero {a k q : ℕ} (h : a = 0) : a * k + 1 * q = q := by rw [h, zero_mul, zero_add, one_mul]

set_option maxHeartbeats 4000000 in
/-- The input tiles at point `t`. -/
theorem tile (t : Fin cfg0.N) : TileOf (args (given m c)) (row t) (tiles m c t) where
  dxo p q := (at2 (V m c main_arg0 : S2048x1024.Idx → EReal) (((cfg0.win 0).blk t).view.emb (ix2 p q)) (row t p) q
    (inRow t p (place0 t).1) (atZero (place0 t).2)).trans (congrFun (V_main_arg0 m c) _)
  x p q := (at2 (V m c main_arg1 : S2048x1024.Idx → EReal) (((cfg0.win 1).blk t).view.emb (ix2 p q)) (row t p) q
    (inRow t p (place1 t).1) (atZero (place1 t).2)).trans (congrFun (V_main_arg1 m c) _)
  y p q := (at2 (V m c main_v38 : S2048x1024.Idx → EReal) (((cfg0.win 2).blk t).view.emb (ix2 p q)) (row t p) q
    (inRow t p (place2 t).1) (atZero (place2 t).2)).trans
      ((congrFun (V_out m c) _).trans (Cert.ReferenceIdeal.Hand.ot (given m c) (ix2 (row t p) q)))
  mg p q := (at2 (V m c main_v39 : S2048x1024.Idx → EReal) (((cfg0.win 3).blk t).view.emb (ix2 p q)) (row t p) q
    (inRow t p (place3 t).1) (atZero (place3 t).2)).trans
      ((congrFun (V_mg m c) _).trans (Cert.ReferenceIdeal.Hand.mg (given m c) (ix2 (row t p) q)))
  md q := (at2 (V m c main_arg2 : S1x3072.Idx → EReal) (((cfg0.win 4).blk t).view.emb (ix2 0 ⟨2048 + q.val, by omega⟩)) 0 ⟨2048 + q.val, by omega⟩
    (atZero (place4 t).1) (atZero (place4 t).2)).trans (congrFun (V_main_arg2 m c) _)
  ga p q := (at2 (V m c main_arg3 : S2048x9216.Idx → EReal) (((cfg0.win 5).blk t).view.emb (ix2 p q)) (row t p) ⟨6144 + 1024 * 0 + q.val, by omega⟩
    (inRow t p (place5 t).1) (inCol (place5 t).2)).trans (congrFun (V_main_arg3 m c) _)
  gb p q := (at2 (V m c main_arg3 : S2048x9216.Idx → EReal) (((cfg0.win 6).blk t).view.emb (ix2 p q)) (row t p) ⟨6144 + 1024 * 1 + q.val, by omega⟩
    (inRow t p (place6 t).1) (inCol (place6 t).2)).trans (congrFun (V_main_arg3 m c) _)
  gc p q := (at2 (V m c main_arg3 : S2048x9216.Idx → EReal) (((cfg0.win 7).blk t).view.emb (ix2 p q)) (row t p) ⟨6144 + 1024 * 2 + q.val, by omega⟩
    (inRow t p (place7 t).1) (inCol (place7 t).2)).trans (congrFun (V_main_arg3 m c) _)
  ya p j := (at2 (V m c main_arg4 : S2048x512.Idx → EReal) (((cfg0.win 8).blk t).view.emb (ix2 p j)) (row t p) j
    (inRow t p (place8 t).1) (atZero (place8 t).2)).trans (congrFun (V_main_arg4 m c) _)
  yb p j := (at2 (V m c main_arg5 : S2048x512.Idx → EReal) (((cfg0.win 9).blk t).view.emb (ix2 p j)) (row t p) j
    (inRow t p (place9 t).1) (atZero (place9 t).2)).trans (congrFun (V_main_arg5 m c) _)
  yc p j := (at2 (V m c main_arg6 : S2048x512.Idx → EReal) (((cfg0.win 10).blk t).view.emb (ix2 p j)) (row t p) j
    (inRow t p (place10 t).1) (atZero (place10 t).2)).trans (congrFun (V_main_arg6 m c) _)
  wb i j q := (at3 (V m c main_v40 : S3x512x1024.Idx → EReal) (((cfg0.win 11).blk t).view.emb (ix3 i j q)) i j q
    (atZero (place11 t).1) (atZero (place11 t).2.1) (atZero (place11 t).2.2)).trans (congrFun (V_wb m c) _)
  wo k q := (at3 (V m c main_v42 : S4x256x1024.Idx → EReal) (((cfg0.win 12).blk t).view.emb (ix3 ⟨k.val / 256, by omega⟩ ⟨k.val % 256, by omega⟩ q))
    ⟨k.val / 256, by omega⟩ ⟨k.val % 256, by omega⟩ q (atZero (place12 t).1) (atZero (place12 t).2.1) (atZero (place12 t).2.2)).trans
      ((congrFun (V_wo m c) _).trans (shapeCast_apply _ _ _ (ix2 k q) (by
        rw [Shape.rowMajor_val_three, Shape.rowMajor_val_two]
        show k.val * 1024 + q.val = (k.val / 256 * 256 + k.val % 256) * 1024 + q.val
        omega)))
  lg q := (at2 (V m c main_arg9 : S2x1024.Idx → EReal) (((cfg0.win 13).blk t).view.emb (ix2 1 q)) 1 q
    (atZero (place13 t).1) (atZero (place13 t).2)).trans (congrFun (V_main_arg9 m c) _)

/-! ## The sums -/

/-- What grows at every point by its 256 rows' terms is, after the last, the sum over the 2048 rows. -/
theorem total (f : Fin 2048 → EReal) (g : (n : ℕ) → n < cfg0.N → EReal)
    (h0 : ∀ h, g 0 h = ∑ p, f (row ⟨0, h⟩ p)) (hs : ∀ n h, g (n + 1) h = g n (Nat.lt_of_succ_lt h) + ∑ p, f (row ⟨n + 1, h⟩ p))
    (h : 7 < cfg0.N) : g 7 h = ∑ r, f r := by
  have key : ∀ n (h : n < cfg0.N), g n h = ∑ s : Fin (n + 1), ∑ p, f (row ⟨s.val, lt_of_lt_of_le s.isLt h⟩ p) := by
    intro n
    induction n with
    | zero => exact fun h => (h0 h).trans (Fin.sum_univ_one (fun s : Fin 1 => ∑ p, f (row ⟨s.val, lt_of_lt_of_le s.isLt h⟩ p))).symm
    | succ n ih =>
      intro h
      rw [hs, ih]
      exact (Fin.sum_univ_castSucc (fun s : Fin (n + 1 + 1) => ∑ p, f (row ⟨s.val, lt_of_lt_of_le s.isLt h⟩ p))).symm
  refine (key 7 h).trans ((Fintype.sum_prod_type' (fun (s : Fin 8) (p : Fin 256) => f (row ⟨s.val, lt_of_lt_of_le s.isLt h⟩ p))).symm.trans ?_)
  exact Fintype.sum_equiv finProdFinEquiv _ _ fun x => congrArg f (Fin.ext (show 256 * x.1.val + x.2.val = x.2.val + 256 * x.1.val from Nat.add_comm _ _))

theorem last_lt : 7 < cfg0.N := by rw [show cfg0.N = 8 from N_0]; omega

/-- The sums after the last point. -/
abbrev done : Carry Ideal := sums m c 7 last_lt

theorem word_zero : (Ideal.ofBits .f32 0x00000000#32 : EReal) = 0 := Ideal.ofBits_zero_f32

theorem done_dlg (q : Fin 1024) : (done m c).dlg (ix2 0 q) = (args (given m c)).dlg q :=
  total (fun r => (args (given m c)).dxo r q * std ((args (given m c)).row r) q) (fun n h => (sums m c n h).dlg (ix2 0 q))
    (fun h => ((tile m c ⟨0, h⟩).next_dlg Carry.zero q).trans ((congrArg (· + _) (show (Carry.zero (F := Ideal)).dlg (ix2 0 q) = (0 : EReal) from word_zero)).trans (zero_add _)))
    (fun n h => (tile m c ⟨n + 1, h⟩).next_dlg _ q) last_lt
theorem done_dlb (q : Fin 1024) : (done m c).dlb (ix2 0 q) = (args (given m c)).dlb q :=
  total (fun r => (args (given m c)).dxo r q) (fun n h => (sums m c n h).dlb (ix2 0 q))
    (fun h => ((tile m c ⟨0, h⟩).next_dlb Carry.zero q).trans ((congrArg (· + _) (show (Carry.zero (F := Ideal)).dlb (ix2 0 q) = (0 : EReal) from word_zero)).trans (zero_add _)))
    (fun n h => (tile m c ⟨n + 1, h⟩).next_dlb _ q) last_lt
theorem done_dgt (q : Fin 1024) : (done m c).dgt (ix2 0 q) = (args (given m c)).dgt q :=
  total (fun r => (args (given m c)).dr r q * (args (given m c)).out r q) (fun n h => (sums m c n h).dgt (ix2 0 q))
    (fun h => ((tile m c ⟨0, h⟩).next_dgt Carry.zero q).trans ((congrArg (· + _) (show (Carry.zero (F := Ideal)).dgt (ix2 0 q) = (0 : EReal) from word_zero)).trans (zero_add _)))
    (fun n h => (tile m c ⟨n + 1, h⟩).next_dgt _ q) last_lt

theorem zero_wb (i : S3x512x1024.Idx) : (Carry.zero (F := Ideal)).wb i = (0 : EReal) :=
  (congrFun (sameCast S3x512x1024 (broadcast S3x512x1024 (Scalar.ofBits (F := Ideal) .f32 0x00000000#32)) shapeCasts_S3x512x1024_S3x512x1024) i).trans word_zero
theorem zero_wo (i : S1024x1024.Idx) : (Carry.zero (F := Ideal)).wo i = (0 : EReal) :=
  (congrFun (sameCast S1024x1024 (broadcast S1024x1024 (Scalar.ofBits (F := Ideal) .f32 0x00000000#32)) shapeCasts_S1024x1024_S1024x1024) i).trans word_zero

theorem done_wb (i : Fin 3) (j : Fin 512) (q : Fin 1024) : (done m c).wb (ix3 i j q) = (args (given m c)).dwb i j q :=
  total (fun r => (args (given m c)).y i r j * (args (given m c)).dp i r q) (fun n h => (sums m c n h).wb (ix3 i j q))
    (fun h => ((tile m c ⟨0, h⟩).next_wb Carry.zero i j q).trans ((congrArg (· + _) (zero_wb _)).trans (zero_add _)))
    (fun n h => (tile m c ⟨n + 1, h⟩).next_wb _ i j q) last_lt
theorem done_wo (k q : Fin 1024) : (done m c).wo (ix2 k q) = (args (given m c)).dwo k q :=
  total (fun r => (args (given m c)).merged r k * (args (given m c)).dyb r q) (fun n h => (sums m c n h).wo (ix2 k q))
    (fun h => ((tile m c ⟨0, h⟩).next_wo Carry.zero k q).trans ((congrArg (· + _) (zero_wo _)).trans (zero_add _)))
    (fun n h => (tile m c ⟨n + 1, h⟩).next_wo _ k q) last_lt

end Cert.KernelIdeal.Hand

end
end
-- ==== Proof.Results.lean ====
/-
The ten results of the two programs, as arrays of `Spec`'s values.
-/
module

public import proofs.«01_k».proof.Proof.RefVal

@[expose] public section

noncomputable section

namespace Cert.Merge

open Cert.ReferenceIdeal

/-- The ten results, as arrays. -/
def Args.f0 (A : Args) : S2048x1024.Idx → EReal := fun i => alpha * A.dr (i 0) (i 1)
def Args.f1 (A : Args) : S2048x9216.Idx → EReal := fun i =>
  A.dz ⟨((i 1).val - 6144) / 1024, by have : (i 1).val < 9216 := (i 1).isLt; omega⟩ (i 0) ⟨((i 1).val - 6144) % 1024, Nat.mod_lt _ (by omega)⟩
def Args.f2 (A : Args) (b : Fin 3) : S2048x512.Idx → EReal := fun i => A.dy b (i 0) (i 1)
def Args.f5 (A : Args) : S1x1024.Idx → EReal := fun i => A.dlg (i 1)
def Args.f6 (A : Args) : S1x1024.Idx → EReal := fun i => A.dlb (i 1)
def Args.f7 (A : Args) : S1x1024.Idx → EReal := fun i => A.dgt (i 1)
def Args.f8 (A : Args) : S4x3x512x256.Idx → EReal := fun i => A.dwb (i 1) (i 2) ⟨256 * (i 0).val + (i 3).val, by
  have : (i 0).val < 4 := (i 0).isLt
  have : (i 3).val < 256 := (i 3).isLt
  omega⟩
def Args.f9 (A : Args) : S4x256x1024.Idx → EReal := fun i => A.dwo ⟨256 * (i 0).val + (i 1).val, by
  have : (i 0).val < 4 := (i 0).isLt
  have : (i 1).val < 256 := (i 1).isLt
  omega⟩ (i 2)

end Cert.Merge

end
end
-- ==== Proof.Finals.lean ====
/-
What the ten result arrays hold after the run: `Spec`'s gradients at the arguments; of the first projection's gradient the
three gates' columns, which are the ones this call writes.
-/
module

public import proofs.«01_k».proof.Proof.Blocks
public import proofs.«01_k».proof.Proof.Results

@[expose] public section

set_option maxRecDepth 16384

noncomputable section

namespace Cert.KernelIdeal.Hand

open Cert.KernelIdeal Cert.KernelIdeal.Gen
open Idealize.ShloMosaic hiding ix1 ix2 ix3 ix4
open Idealize.ShloMosaic.TcCoe Idealize.ShloMosaic.Tactic Idealize.ShloMosaic.ValueIdx
open Cert.Merge
open Cert.ReferenceIdeal.Hand (Arrays args at2 at3)

variable (m : (ℓ : Loc nD τ sig) → Buf (Elt Ideal) ℓ) (c : Dev nD)

theorem place14 : ∀ t : Fin cfg0.N, win0_14.index t 0 = t.val ∧ win0_14.index t 1 = 0 := (by decide +kernel : ∀ t : Fin grid0.N, _)
theorem place15 : ∀ t : Fin cfg0.N, win0_15.index t 0 = t.val ∧ win0_15.index t 1 = 2 := (by decide +kernel : ∀ t : Fin grid0.N, _)
theorem place16 : ∀ t : Fin cfg0.N, win0_16.index t 0 = t.val ∧ win0_16.index t 1 = 0 := (by decide +kernel : ∀ t : Fin grid0.N, _)
theorem place17 : ∀ t : Fin cfg0.N, win0_17.index t 0 = t.val ∧ win0_17.index t 1 = 0 := (by decide +kernel : ∀ t : Fin grid0.N, _)
theorem place18 : ∀ t : Fin cfg0.N, win0_18.index t 0 = t.val ∧ win0_18.index t 1 = 0 := (by decide +kernel : ∀ t : Fin grid0.N, _)

theorem final14 : (data m 0 c).arrAt 14 cfg0.N = (args (given m c)).f0 := by
  refine (data m 0 c).arrAt_eq_of_covers 14 _ (by decide +kernel) fun t hf y => ?_
  show (data m 0 c).after 14 t ((cfg0.win 14).xinj (grid0.coords t) y) = (args (given m c)).f0 (((cfg0.win 14).blk t).view.emb y)
  rw [after_14]
  have e : ∀ (p : Fin 256) (q : Fin 1024), (y 0).val = p.val → (y 1).val = q.val →
      (tiles m c t).dx ((cfg0.win 14).xinj (grid0.coords t) y) = (args (given m c)).f0 (((cfg0.win 14).blk t).view.emb y) := fun p q hp hq =>
    (at2 ((tiles m c t).dx : S256x1024.Idx → EReal) _ p q hp hq).trans (((tile m c t).dx p q).trans
      (at2 ((args (given m c)).f0) (((cfg0.win 14).blk t).view.emb y) (row t p) q (by
          refine Eq.trans ?_ (inRow t p (place14 t).1); rw [← hp]; rfl) (by refine Eq.trans ?_ (atZero (k := 1024) (q := q.val) (place14 t).2); rw [← hq]; rfl)).symm)
  exact e ⟨(y 0).val, (y 0).isLt⟩ ⟨(y 1).val, (y 1).isLt⟩ rfl rfl

/-- The three branches' gradients. -/
theorem final16 : (data m 0 c).arrAt 16 cfg0.N = (args (given m c)).f2 0 := by
  refine (data m 0 c).arrAt_eq_of_covers 16 _ (by decide +kernel) fun t hf y => ?_
  show (data m 0 c).after 16 t ((cfg0.win 16).xinj (grid0.coords t) y) = (args (given m c)).f2 0 (((cfg0.win 16).blk t).view.emb y)
  rw [after_16]
  have e : ∀ (p : Fin 256) (q : Fin 512), (y 0).val = p.val → (y 1).val = q.val →
      (tiles m c t).dy0 ((cfg0.win 16).xinj (grid0.coords t) y) = (args (given m c)).f2 0 (((cfg0.win 16).blk t).view.emb y) := fun p q hp hq =>
    (at2 ((tiles m c t).dy0 : S256x512.Idx → EReal) _ p q hp hq).trans (((tile m c t).dy0 p q).trans
      (at2 ((args (given m c)).f2 0) (((cfg0.win 16).blk t).view.emb y) (row t p) q (by
          refine Eq.trans ?_ (inRow t p (place16 t).1); rw [← hp]; rfl) (by refine Eq.trans ?_ (atZero (k := 512) (q := q.val) (place16 t).2); rw [← hq]; rfl)).symm)
  exact e ⟨(y 0).val, (y 0).isLt⟩ ⟨(y 1).val, (y 1).isLt⟩ rfl rfl
theorem final17 : (data m 0 c).arrAt 17 cfg0.N = (args (given m c)).f2 1 := by
  refine (data m 0 c).arrAt_eq_of_covers 17 _ (by decide +kernel) fun t hf y => ?_
  show (data m 0 c).after 17 t ((cfg0.win 17).xinj (grid0.coords t) y) = (args (given m c)).f2 1 (((cfg0.win 17).blk t).view.emb y)
  rw [after_17]
  have e : ∀ (p : Fin 256) (q : Fin 512), (y 0).val = p.val → (y 1).val = q.val →
      (tiles m c t).dy1 ((cfg0.win 17).xinj (grid0.coords t) y) = (args (given m c)).f2 1 (((cfg0.win 17).blk t).view.emb y) := fun p q hp hq =>
    (at2 ((tiles m c t).dy1 : S256x512.Idx → EReal) _ p q hp hq).trans (((tile m c t).dy1 p q).trans
      (at2 ((args (given m c)).f2 1) (((cfg0.win 17).blk t).view.emb y) (row t p) q (by
          refine Eq.trans ?_ (inRow t p (place17 t).1); rw [← hp]; rfl) (by refine Eq.trans ?_ (atZero (k := 512) (q := q.val) (place17 t).2); rw [← hq]; rfl)).symm)
  exact e ⟨(y 0).val, (y 0).isLt⟩ ⟨(y 1).val, (y 1).isLt⟩ rfl rfl
theorem final18 : (data m 0 c).arrAt 18 cfg0.N = (args (given m c)).f2 2 := by
  refine (data m 0 c).arrAt_eq_of_covers 18 _ (by decide +kernel) fun t hf y => ?_
  show (data m 0 c).after 18 t ((cfg0.win 18).xinj (grid0.coords t) y) = (args (given m c)).f2 2 (((cfg0.win 18).blk t).view.emb y)
  rw [after_18]
  have e : ∀ (p : Fin 256) (q : Fin 512), (y 0).val = p.val → (y 1).val = q.val →
      (tiles m c t).dy2 ((cfg0.win 18).xinj (grid0.coords t) y) = (args (given m c)).f2 2 (((cfg0.win 18).blk t).view.emb y) := fun p q hp hq =>
    (at2 ((tiles m c t).dy2 : S256x512.Idx → EReal) _ p q hp hq).trans (((tile m c t).dy2 p q).trans
      (at2 ((args (given m c)).f2 2) (((cfg0.win 18).blk t).view.emb y) (row t p) q (by
          refine Eq.trans ?_ (inRow t p (place18 t).1); rw [← hp]; rfl) (by refine Eq.trans ?_ (atZero (k := 512) (q := q.val) (place18 t).2); rw [← hq]; rfl)).symm)
  exact e ⟨(y 0).val, (y 0).isLt⟩ ⟨(y 1).val, (y 1).isLt⟩ rfl rfl

/-! ## The gates' columns -/

/-- The gates' gradients side by side. -/
theorem dg_of (t : Fin cfg0.N) (p : Fin 256) (k : Fin 3072) : (tiles m c t).dg (ix2 p k)
    = (args (given m c)).dz ⟨k.val / 1024, by omega⟩ (row t p) ⟨k.val % 1024, Nat.mod_lt _ (by omega)⟩ := by
  have k' : k.val < 3072 := k.isLt
  unfold Ins.dg
  by_cases h0 : k.val < 1024
  · rw [dif_pos (show ((ix2 p k : S256x3072.Idx) 1).val < 1024 from h0)]
    refine ((tile m c t).dg0 p ⟨k.val, h0⟩).trans ?_
    rw [show (⟨k.val / 1024, by omega⟩ : Fin 3) = 0 from Fin.ext (show k.val / 1024 = 0 by omega),
      show (⟨k.val % 1024, Nat.mod_lt _ (by omega)⟩ : Fin 1024) = ⟨k.val, h0⟩ from Fin.ext (show k.val % 1024 = k.val by omega)]
  · rw [dif_neg (show ¬((ix2 p k : S256x3072.Idx) 1).val < 1024 from h0)]
    by_cases h1 : k.val < 2048
    · rw [dif_pos (show ((ix2 p k : S256x3072.Idx) 1).val < 2048 from h1)]
      refine ((tile m c t).dg1 p ⟨k.val - 1024, by omega⟩).trans ?_
      rw [show (⟨k.val / 1024, by omega⟩ : Fin 3) = 1 from Fin.ext (show k.val / 1024 = 1 by omega),
        show (⟨k.val % 1024, Nat.mod_lt _ (by omega)⟩ : Fin 1024) = ⟨k.val - 1024, by omega⟩ from Fin.ext (show k.val % 1024 = k.val - 1024 by omega)]
    · rw [dif_neg (show ¬((ix2 p k : S256x3072.Idx) 1).val < 2048 from h1)]
      refine ((tile m c t).dg2 p ⟨k.val - 2048, by omega⟩).trans ?_
      rw [show (⟨k.val / 1024, by omega⟩ : Fin 3) = 2 from Fin.ext (show k.val / 1024 = 2 by omega),
        show (⟨k.val % 1024, Nat.mod_lt _ (by omega)⟩ : Fin 1024) = ⟨k.val - 2048, by omega⟩ from Fin.ext (show k.val % 1024 = k.val - 2048 by omega)]

theorem f1_at (A : Args) (i : S2048x9216.Idx) (r : Fin 2048) (k : Fin 3072) (h0 : (i 0).val = r.val) (h1 : (i 1).val = 6144 + k.val) :
    A.f1 i = A.dz ⟨k.val / 1024, by omega⟩ r ⟨k.val % 1024, Nat.mod_lt _ (by omega)⟩ := by
  unfold Args.f1
  have e : (i 1).val - 6144 = k.val := by omega
  rw [show (i 0 : Fin 2048) = r from Fin.ext h0]
  exact congrArg₂ (fun b q => A.dz b r q) (Fin.ext (congrArg (· / 1024) e)) (Fin.ext (congrArg (· % 1024) e))

theorem final15 (i : S2048x9216.Idx) (hi : 6144 ≤ (i 1).val) : (data m 0 c).arrAt 15 cfg0.N i = (args (given m c)).f1 i := by
  have h0 : (i 0).val < 2048 := (i 0).isLt
  have h1 : (i 1).val < 9216 := (i 1).isLt
  have hN : (i 0).val / 256 < cfg0.N := by rw [show cfg0.N = 8 from N_0]; omega
  refine (data m 0 c).arrAt_apply_of_mem 15 _ (fun t hf => ?_) cfg0.N ⟨(i 0).val / 256, hN⟩ i hN
    ((by decide +kernel : ∀ t : Fin grid0.N, win0_15.flush t = true) _) ?_
  · show (cfg0.win 15).cut (grid0.coords t) ((data m 0 c).after 15 t) = _
    rw [after_15]
    funext y
    have e : ∀ (p : Fin 256) (k : Fin 3072), (y 0).val = p.val → (y 1).val = k.val →
        (tiles m c t).dg ((cfg0.win 15).xinj (grid0.coords t) y) = (args (given m c)).f1 (((cfg0.win 15).blk t).view.emb y) := fun p k hp hk =>
      (at2 ((tiles m c t).dg : S256x3072.Idx → EReal) _ p k hp hk).trans ((dg_of m c t p k).trans
        (f1_at (args (given m c)) (((cfg0.win 15).blk t).view.emb y) (row t p) k (by
            refine Eq.trans ?_ (inRow t p (place15 t).1); rw [← hp]; rfl)
          (by refine Eq.trans ?_ (inCol (place15 t).2 : win0_15.index t 1 * 3072 + 1 * k.val = 2 * 3072 + k.val); rw [← hk]; rfl)).symm)
    exact e ⟨(y 0).val, (y 0).isLt⟩ ⟨(y 1).val, (y 1).isLt⟩ rfl rfl
  · show i ∈ ((View.whole main_v43_1).slice (win0_15.rect ⟨(i 0).val / 256, hN⟩)).set
    rw [View.set_slice_whole, Rect.mem_set_unit]
    obtain ⟨e0, e1⟩ := place15 ⟨(i 0).val / 256, hN⟩
    dsimp only at e0
    intro a
    match a with
    | ⟨0, _⟩ =>
      show win0_15.index ⟨(i 0).val / 256, hN⟩ 0 * 256 ≤ (i 0).val ∧ (i 0).val < win0_15.index ⟨(i 0).val / 256, hN⟩ 0 * 256 + 256
      omega
    | ⟨1, _⟩ =>
      show win0_15.index ⟨(i 0).val / 256, hN⟩ 1 * 3072 ≤ (i 1).val ∧ (i 1).val < win0_15.index ⟨(i 0).val / 256, hN⟩ 1 * 3072 + 3072
      omega

/-! ## The arrays written back once, after the last point -/

/-- The last point. -/
abbrev end7 : Fin cfg0.N := ⟨7, last_lt⟩

theorem only0 (j : S1x1024.Idx) : (j 0).val = (0 : Fin 1).val := by have : (j 0).val < 1 := (j 0).isLt; show (j 0).val = 0; omega

theorem final19 : (data m 0 c).arrAt 19 cfg0.N = (args (given m c)).f5 := by
  refine (data m 0 c).arrAt_eq_of_after_last 19 end7 (by decide +kernel) _ fun j => ?_
  show (data m 0 c).after 19 end7 j = _
  rw [after_19]
  exact (at2 ((done m c).dlg : S1x1024.Idx → EReal) j 0 (j 1) (only0 j) rfl).trans (done_dlg m c (j 1))
theorem final20 : (data m 0 c).arrAt 20 cfg0.N = (args (given m c)).f6 := by
  refine (data m 0 c).arrAt_eq_of_after_last 20 end7 (by decide +kernel) _ fun j => ?_
  show (data m 0 c).after 20 end7 j = _
  rw [after_20]
  exact (at2 ((done m c).dlb : S1x1024.Idx → EReal) j 0 (j 1) (only0 j) rfl).trans (done_dlb m c (j 1))
theorem final21 : (data m 0 c).arrAt 21 cfg0.N = (args (given m c)).f7 := by
  refine (data m 0 c).arrAt_eq_of_after_last 21 end7 (by decide +kernel) _ fun j => ?_
  show (data m 0 c).after 21 end7 j = _
  rw [after_21]
  exact (at2 ((done m c).dgt : S1x1024.Idx → EReal) j 0 (j 1) (only0 j) rfl).trans (done_dgt m c (j 1))
theorem final22 : (data m 0 c).arrAt 22 cfg0.N = (args (given m c)).f8 := by
  refine (data m 0 c).arrAt_eq_of_after_last 22 end7 (by decide +kernel) _ fun j => ?_
  show (data m 0 c).after 22 end7 j = _
  rw [after_22]
  exact done_wb m c (j 1) (j 2) _
theorem final23 : (data m 0 c).arrAt 23 cfg0.N = (args (given m c)).f9 := by
  refine (data m 0 c).arrAt_eq_of_after_last 23 end7 (by decide +kernel) _ fun j => ?_
  show (data m 0 c).after 23 end7 j = _
  rw [after_23]
  exact done_wo m c _ (j 2)

end Cert.KernelIdeal.Hand

end
end
-- ==== Proof.Finite.lean ====
/-
Finite arguments make the residual's rows and the standardised rows' gradients real.
-/
module

public import proofs.«01_k».proof.Proof.RefVal
public import proofs.«01_k».proof.Proof.Gen.Pre_finite

@[expose] public section

set_option maxRecDepth 16384

noncomputable section

open Idealize.ShloMosaic

namespace Cert.Merge

/-- A value that is a real number. -/
def R (v : EReal) : Prop := ∃ a : ℝ, v = (a : EReal)

theorem R.add {u v : EReal} (hu : R u) (hv : R v) : R (u + v) := by
  obtain ⟨a, rfl⟩ := hu; obtain ⟨b, rfl⟩ := hv; exact ⟨a + b, (EReal.coe_add a b).symm⟩
theorem R.mul {u v : EReal} (hu : R u) (hv : R v) : R (u * v) := by
  obtain ⟨a, rfl⟩ := hu; obtain ⟨b, rfl⟩ := hv; exact ⟨a * b, (EReal.coe_mul a b).symm⟩
theorem R.one : R 1 := ⟨1, rfl⟩
theorem R.sum {ι : Type} [Fintype ι] {f : ι → EReal} (h : ∀ i, R (f i)) : R (∑ i, f i) := by
  choose a ha using h
  exact ⟨∑ i, a i, (Finset.sum_congr rfl fun i _ => ha i).trans (sum_coe _ a)⟩

/-- The logistic function of anything is real. -/
theorem R.sg (v : EReal) : R (sg v) := by
  unfold Cert.Merge.sg
  induction v with
  | bot =>
    rw [EReal.neg_bot, Ideal.exp_top, EReal.add_top_of_ne_bot (show (1 : EReal) ≠ ⊥ from EReal.coe_ne_bot 1), Ideal.div, if_neg EReal.top_ne_zero,
      EReal.inv_top, mul_zero]
    exact ⟨0, rfl⟩
  | top =>
    rw [EReal.neg_top, Ideal.exp_bot, add_zero, show (1 : EReal) = ((1 : ℝ) : EReal) from rfl, Ideal.div_coe one_ne_zero, ← EReal.coe_mul]
    exact ⟨_, rfl⟩
  | coe a =>
    have h : (1 : ℝ) + Real.exp (-a) ≠ 0 := (add_pos one_pos (Real.exp_pos _)).ne'
    refine ⟨1 * (1 / (1 + Real.exp (-a))), ?_⟩
    rw [← EReal.coe_neg, show Ideal.exp ((-a : ℝ) : EReal) = ((Real.exp (-a) : ℝ) : EReal) from rfl, show (1 : EReal) = ((1 : ℝ) : EReal) from rfl,
      ← EReal.coe_add, Ideal.div_coe h, ← EReal.coe_mul]

namespace Args

/-- Every argument but the gates is real. -/
structure AllReal (A : Args) : Prop where
  dxo : ∀ r q, R (A.dxo r q)
  x : ∀ r q, R (A.x r q)
  gate : ∀ q, R (A.gate q)
  y : ∀ i r j, R (A.y i r j)
  wb : ∀ i j q, R (A.wb i j q)
  wo : ∀ k q, R (A.wo k q)
  lg : ∀ q, R (A.lg q)

variable {A : Args} (h : A.AllReal)
include h

theorem AllReal.ps (i : Fin 3) (r : Fin 2048) (q : Fin 1024) : R (A.ps i r q) := R.sum fun j => (h.y i r j).mul (h.wb i j q)
theorem AllReal.merged (r : Fin 2048) (q : Fin 1024) : R (A.merged r q) :=
  (((R.sg _).mul (h.ps 0 r q)).add ((R.sg _).mul (h.ps 1 r q))).add ((R.sg _).mul (h.ps 2 r q))
theorem AllReal.out (r : Fin 2048) (q : Fin 1024) : R (A.out r q) := R.sum fun k => (h.merged r k).mul (h.wo k q)
theorem AllReal.row (r : Fin 2048) (q : Fin 1024) : R (A.row r q) :=
  (R.mul alpha_real (h.x r q)).add ((R.one.add (h.gate q)).mul (h.out r q))

theorem AllReal.regular : A.Regular := fun r => by
  have h1 := h.row r
  have h2 : ∀ q, R (A.dn r q) := fun q => (h.dxo r q).mul (h.lg q)
  choose a ha using h1
  choose b hb using h2
  exact ⟨⟨a, funext ha⟩, ⟨b, funext hb⟩⟩

end Args

end Cert.Merge

namespace Cert.ReferenceIdeal.Hand

open Cert.Merge Cert.ReferenceIdeal

theorem real_of_abs (u : EReal) (h : max u (-u) < ⊤) : R u := by
  induction u with
  | bot => exact absurd h (by simp)
  | top => exact absurd h (by simp)
  | coe a => exact ⟨a, rfl⟩

/-- What `finite` tests at an index: below infinity in absolute value is a real number. -/
theorem real_of_test {s : Shape} (v : FVec Ideal s .f32) (w : FVec Ideal s .f32) (i : s.Idx) (hw : w i = Ideal.ofBits .f32 0x7F800000#32)
    (h : cmpf .olt (Host.absf v) w i = 1#1) : R (v i) := by
  have h' : max (v i) (-(v i)) < (⊤ : EReal) := by
    have e : w i = (⊤ : EReal) := hw.trans (by simp [Ideal.ofBits, Ideal.ieee])
    by_contra hn
    have : cmpf .olt (Host.absf v) w i = 0#1 := by
      show Ideal.cmp .olt (max (v i) (-(v i))) (w i) = 0#1
      rw [e]
      simp [Ideal.cmp, hn]
    rw [this] at h
    exact absurd h (by decide)
  exact real_of_abs _ h'

attribute [local instance] Cert.Pre_finite.Gen.facts

open Idealize.ShloMosaic.ValueIdx

variable (X : Arrays)

/-- What `finite` says of the ten arrays. -/
abbrev tests := Cert.Pre_finite.fn (F := Ideal) X.x0 X.x1 X.x2 X.x3 X.x4 X.x5 X.x6 X.x7 X.x8 X.x9

/-- Where `finite` holds, every argument but the gates is real. -/
theorem allReal (h : (tests X).1 = (fun _ => 1#1)
      ∧ (tests X).2.1 = (fun _ => 1#1)
      ∧ (tests X).2.2.1 = (fun _ => 1#1)
      ∧ (tests X).2.2.2.1 = (fun _ => 1#1)
      ∧ (tests X).2.2.2.2.1 = (fun _ => 1#1)
      ∧ (tests X).2.2.2.2.2.1 = (fun _ => 1#1)
      ∧ (tests X).2.2.2.2.2.2.1 = (fun _ => 1#1)
      ∧ (tests X).2.2.2.2.2.2.2.1 = (fun _ => 1#1)
      ∧ (tests X).2.2.2.2.2.2.2.2 = (fun _ => 1#1)) : (args X).AllReal := by
  obtain ⟨h0, h1, h2, h4, h5, h6, h7, h8, h9⟩ := h
  exact {
    dxo := fun r q => real_of_test X.x0 _ (ix2 r q) rfl (congrFun h0 (ix2 r q))
    x := fun r q => real_of_test X.x1 _ (ix2 r q) rfl (congrFun h1 (ix2 r q))
    gate := fun q => real_of_test X.x2 _ (ix2 0 ⟨2048 + q.val, by omega⟩) rfl (congrFun h2 (ix2 0 ⟨2048 + q.val, by omega⟩))
    y := fun i r j => match i with
      | 0 => real_of_test X.x4 _ (ix2 r j) rfl (congrFun h4 (ix2 r j))
      | 1 => real_of_test X.x5 _ (ix2 r j) rfl (congrFun h5 (ix2 r j))
      | 2 => real_of_test X.x6 _ (ix2 r j) rfl (congrFun h6 (ix2 r j))
    wb := fun i j q => real_of_test X.x7 _ (ix3 i j q) rfl (congrFun h7 (ix3 i j q))
    wo := fun k q => real_of_test X.x8 _ (ix2 k q) rfl (congrFun h8 (ix2 k q))
    lg := fun q => real_of_test X.x9 _ (ix2 1 q) rfl (congrFun h9 (ix2 1 q)) }

end Cert.ReferenceIdeal.Hand

end
end
-- ==== Proof.RefGrad.lean ====
/-
  The reference's backward stages read as the values of `Spec`, and its ten results at an index. The residual's gradient
  is the one stage that asks for real rows (`Args.Regular`).
-/
module

public import proofs.«01_k».proof.Proof.RefVal

@[expose] public section

set_option maxRecDepth 16384

noncomputable section

namespace Cert.ReferenceIdeal.Hand

open Cert.ReferenceIdeal Cert.ReferenceIdeal.Gen Cert.ReferenceIdeal.Read Idealize.ShloMosaic Idealize.ShloMosaic.ValueIdx
open Cert.Merge

variable (X : Arrays)

/-! ## The normalisation's gradient -/

theorem q91 (i : S2048x1.Idx) : val_main_v91 (F := Ideal) X.x0 X.x1 X.x2 X.x3 X.x4 X.x5 X.x6 X.x7 X.x8 X.x9 i = val_main_v90 (F := Ideal) X.x0 X.x1 X.x2 X.x3 X.x4 X.x5 X.x6 X.x7 X.x8 X.x9 (idx_main_v59 i) :=
  (val_main_v91_apply _ _ _ _ _ _ _ _ _ _ i).trans (congrArg _ (funext fun a => match a with
    | ⟨0, _⟩ => Fin.ext (by have h : (i 1).val < 1 := (i 1).isLt; show (i 0).val * 1 + (i 1).val = (i 0).val; omega)))
theorem q105 (i : S2048x1.Idx) : val_main_v105 (F := Ideal) X.x0 X.x1 X.x2 X.x3 X.x4 X.x5 X.x6 X.x7 X.x8 X.x9 i = val_main_v104 (F := Ideal) X.x0 X.x1 X.x2 X.x3 X.x4 X.x5 X.x6 X.x7 X.x8 X.x9 (idx_main_v59 i) :=
  (val_main_v105_apply _ _ _ _ _ _ _ _ _ _ i).trans (congrArg _ (funext fun a => match a with
    | ⟨0, _⟩ => Fin.ext (by have h : (i 1).val < 1 := (i 1).isLt; show (i 0).val * 1 + (i 1).val = (i 0).val; omega)))
theorem dv (i : S2048.Idx) : val_main_v97 (F := Ideal) X.x0 X.x1 X.x2 X.x3 X.x4 X.x5 X.x6 X.x7 X.x8 X.x9 i = dvar ((args X).row (i 0)) ((args X).dn (i 0)) := by
  simp only [val_main_v97_apply, val_main_v96_apply, val_main_v95_apply, val_main_v94_apply, q91 X, val_main_v90_apply,
    val_main_v89_apply, val_main_v74_apply, val_main_v73_apply, val_main_v72_apply, val_main_cst_16_apply, val_main_cst_19_apply,
    val_main_cst_20_apply, val_main_cst_21_apply, cn X, d_n X, rs X, vr X, Ideal.ofBits_def, Ideal.ofBits_zero_f32, zero_add,
    Fin.sum_univ_one]
  rfl
theorem dc (i : S2048x1024.Idx) : val_main_v102 (F := Ideal) X.x0 X.x1 X.x2 X.x3 X.x4 X.x5 X.x6 X.x7 X.x8 X.x9 i = dcen ((args X).row (i 0)) ((args X).dn (i 0)) (i 1) := by
  simp only [val_main_v102_apply, val_main_v101_apply, val_main_v100_apply, val_main_v99_apply, val_main_v98_apply, val_main_v93_apply,
    val_main_v92_apply, cn X, d_n X, rs X, dv X]
  rfl
theorem rdr (i : S2048x1024.Idx) : val_main_v110 (F := Ideal) X.x0 X.x1 X.x2 X.x3 X.x4 X.x5 X.x6 X.x7 X.x8 X.x9 i = refDR ((args X).row (i 0)) ((args X).dn (i 0)) (i 1) := by
  simp only [val_main_v110_apply, val_main_v109_apply, val_main_v108_apply, val_main_v107_apply, val_main_v106_apply, q105 X,
    val_main_v104_apply, val_main_v103_apply, val_main_cst_22_apply, val_main_cst_23_apply, val_main_cst_24_apply, dc X,
    Ideal.ofBits_def, Ideal.ofBits_zero_f32, zero_add, Fin.sum_univ_one]
  rfl

section Regular
variable (h : (args X).Regular)
include h

theorem dr_ (i : S2048x1024.Idx) : val_main_v110 (F := Ideal) X.x0 X.x1 X.x2 X.x3 X.x4 X.x5 X.x6 X.x7 X.x8 X.x9 i = (args X).dr (i 0) (i 1) := by
  rw [rdr X]; exact (congrFun ((args X).dr_eq h (i 0)) (i 1)).symm
theorem dyb_ (i : S2048x1024.Idx) : val_main_v112 (F := Ideal) X.x0 X.x1 X.x2 X.x3 X.x4 X.x5 X.x6 X.x7 X.x8 X.x9 i = (args X).dyb (i 0) (i 1) := by
  rw [val_main_v112_apply, val_main_v111_apply, gt X, dr_ X h]; rfl
theorem dm_ (i : S2048x1024.Idx) : val_main_v120 (F := Ideal) X.x0 X.x1 X.x2 X.x3 X.x4 X.x5 X.x6 X.x7 X.x8 X.x9 i = (args X).dm (i 0) (i 1) := by
  rw [val_main_v120_apply]
  exact Finset.sum_congr rfl fun k _ => congrArg₂ (· * ·) (dyb_ X h _) (at2 X.x8 _ (i 1) k rfl rfl)

/-! ## The ten results -/

/-- The residual stream's gradient. -/
theorem r0 (i : S2048x1024.Idx) : val_main_v117 (F := Ideal) X.x0 X.x1 X.x2 X.x3 X.x4 X.x5 X.x6 X.x7 X.x8 X.x9 i = alpha * (args X).dr (i 0) (i 1) := by
  rw [val_main_v117_apply, val_main_v116_apply, dr_ X h]; rfl
/-- The output gate's gradient. -/
theorem r7 (i : S1x1024.Idx) : val_main_v115 (F := Ideal) X.x0 X.x1 X.x2 X.x3 X.x4 X.x5 X.x6 X.x7 X.x8 X.x9 i = (args X).dgt (i 1) := by
  simp only [val_main_v115_apply, val_main_v114_apply, val_main_v113_apply, val_main_cst_25_apply, dr_ X h, ot X,
    Ideal.ofBits_def, Ideal.ofBits_zero_f32, zero_add]
  refine Finset.sum_congr rfl fun r _ => ?_
  have h1 : (i 1).val < 1024 := (i 1).isLt
  have e : (⟨(idx_main_v115 i 0).val, (idx_main_v115 i 0).isLt⟩ : Fin 1024) = i 1 := Fin.ext (by simp; omega)
  exact congrArg (fun q => (args X).dr r q * (args X).out r q) e

theorem dp0 (i : S2048x1024.Idx) : val_main_v138 (F := Ideal) X.x0 X.x1 X.x2 X.x3 X.x4 X.x5 X.x6 X.x7 X.x8 X.x9 i = (args X).dp 0 (i 0) (i 1) := by
  rw [val_main_v138_apply, dm_ X h, z0 X]; exact mul_comm _ _
/-- The gradient of branch 0's gate. -/
theorem dz0 (i : S2048x1024.Idx) : val_main_v146 (F := Ideal) X.x0 X.x1 X.x2 X.x3 X.x4 X.x5 X.x6 X.x7 X.x8 X.x9 i = (args X).dz 0 (i 0) (i 1) := by
  simp only [val_main_v146_apply, val_main_v139_apply, val_main_v17_apply, val_main_v16_apply, val_main_v15_apply,
    val_main_cst_2_apply, dm_ X h, z0 X, p0 X, Ideal.ofBits_def, one_word]
  exact (mul_assoc _ _ _).symm
/-- The gradient of branch 0's output. -/
theorem dy0 (i : S2048x512.Idx) : val_main_v142 (F := Ideal) X.x0 X.x1 X.x2 X.x3 X.x4 X.x5 X.x6 X.x7 X.x8 X.x9 i = (args X).dy 0 (i 0) (i 1) := by
  rw [val_main_v142_apply]
  exact Finset.sum_congr rfl fun k _ => congrArg₂ (· * ·) (dp0 X h _) (w0 X _)
/-- The gradient of branch 0's projection. -/
theorem dw0 (i : S1x512x1024.Idx) : val_main_v143 (F := Ideal) X.x0 X.x1 X.x2 X.x3 X.x4 X.x5 X.x6 X.x7 X.x8 X.x9 i = (args X).dwb 0 (i 1) (i 2) := by
  rw [val_main_v143_apply, val_main_v141_apply, val_main_v140_apply]
  exact Finset.sum_congr rfl fun k _ => (congrArg₂ (· * ·) (dp0 X h _) (y0 X _)).trans (mul_comm _ _)

theorem dp1 (i : S2048x1024.Idx) : val_main_v129 (F := Ideal) X.x0 X.x1 X.x2 X.x3 X.x4 X.x5 X.x6 X.x7 X.x8 X.x9 i = (args X).dp 1 (i 0) (i 1) := by
  rw [val_main_v129_apply, dm_ X h, z1 X]; exact mul_comm _ _
/-- The gradient of branch 1's gate. -/
theorem dz1 (i : S2048x1024.Idx) : val_main_v137 (F := Ideal) X.x0 X.x1 X.x2 X.x3 X.x4 X.x5 X.x6 X.x7 X.x8 X.x9 i = (args X).dz 1 (i 0) (i 1) := by
  simp only [val_main_v137_apply, val_main_v130_apply, val_main_v30_apply, val_main_v29_apply, val_main_v28_apply,
    val_main_cst_5_apply, dm_ X h, z1 X, p1 X, Ideal.ofBits_def, one_word]
  exact (mul_assoc _ _ _).symm
/-- The gradient of branch 1's output. -/
theorem dy1 (i : S2048x512.Idx) : val_main_v133 (F := Ideal) X.x0 X.x1 X.x2 X.x3 X.x4 X.x5 X.x6 X.x7 X.x8 X.x9 i = (args X).dy 1 (i 0) (i 1) := by
  rw [val_main_v133_apply]
  exact Finset.sum_congr rfl fun k _ => congrArg₂ (· * ·) (dp1 X h _) (w1 X _)
/-- The gradient of branch 1's projection. -/
theorem dw1 (i : S1x512x1024.Idx) : val_main_v134 (F := Ideal) X.x0 X.x1 X.x2 X.x3 X.x4 X.x5 X.x6 X.x7 X.x8 X.x9 i = (args X).dwb 1 (i 1) (i 2) := by
  rw [val_main_v134_apply, val_main_v132_apply, val_main_v131_apply]
  exact Finset.sum_congr rfl fun k _ => (congrArg₂ (· * ·) (dp1 X h _) (y1 X _)).trans (mul_comm _ _)

theorem dp2 (i : S2048x1024.Idx) : val_main_v121 (F := Ideal) X.x0 X.x1 X.x2 X.x3 X.x4 X.x5 X.x6 X.x7 X.x8 X.x9 i = (args X).dp 2 (i 0) (i 1) := by
  rw [val_main_v121_apply, dm_ X h, z2 X]; exact mul_comm _ _
/-- The gradient of branch 2's gate. -/
theorem dz2 (i : S2048x1024.Idx) : val_main_v128 (F := Ideal) X.x0 X.x1 X.x2 X.x3 X.x4 X.x5 X.x6 X.x7 X.x8 X.x9 i = (args X).dz 2 (i 0) (i 1) := by
  simp only [val_main_v128_apply, val_main_v122_apply, val_main_v44_apply, val_main_v43_apply, val_main_v42_apply,
    val_main_cst_8_apply, dm_ X h, z2 X, p2 X, Ideal.ofBits_def, one_word]
  exact (mul_assoc _ _ _).symm
/-- The gradient of branch 2's output. -/
theorem dy2 (i : S2048x512.Idx) : val_main_v125 (F := Ideal) X.x0 X.x1 X.x2 X.x3 X.x4 X.x5 X.x6 X.x7 X.x8 X.x9 i = (args X).dy 2 (i 0) (i 1) := by
  rw [val_main_v125_apply]
  exact Finset.sum_congr rfl fun k _ => congrArg₂ (· * ·) (dp2 X h _) (w2 X _)
/-- The gradient of branch 2's projection. -/
theorem dw2 (i : S1x512x1024.Idx) : val_main_v126 (F := Ideal) X.x0 X.x1 X.x2 X.x3 X.x4 X.x5 X.x6 X.x7 X.x8 X.x9 i = (args X).dwb 2 (i 1) (i 2) := by
  rw [val_main_v126_apply, val_main_v124_apply, val_main_v123_apply]
  exact Finset.sum_congr rfl fun k _ => (congrArg₂ (· * ·) (dp2 X h _) (y2 X _)).trans (mul_comm _ _)

end Regular

/-- The norm scale's gradient. -/
theorem r5 (i : S1x1024.Idx) : val_main_v86 (F := Ideal) X.x0 X.x1 X.x2 X.x3 X.x4 X.x5 X.x6 X.x7 X.x8 i = (args X).dlg (i 1) := by
  simp only [val_main_v86_apply, val_main_v85_apply, val_main_v84_apply, val_main_cst_18_apply, st X, dx X,
    Ideal.ofBits_def, Ideal.ofBits_zero_f32, zero_add]
  refine Finset.sum_congr rfl fun r _ => ?_
  have h1 : (i 1).val < 1024 := (i 1).isLt
  have e : (⟨(idx_main_v86 i 0).val, (idx_main_v86 i 0).isLt⟩ : Fin 1024) = i 1 := Fin.ext (by simp; omega)
  exact (mul_comm _ _).trans (congrArg (fun q => (args X).dxo r q * std ((args X).row r) q) e)
/-- The norm offset's gradient. -/
theorem r6 (i : S1x1024.Idx) : val_main_v83 (F := Ideal) X.x0 i = (args X).dlb (i 1) := by
  simp only [val_main_v83_apply, val_main_v82_apply, val_main_cst_17_apply, Ideal.ofBits_def, Ideal.ofBits_zero_f32, zero_add]
  refine Finset.sum_congr rfl fun r _ => at2 X.x0 _ r (i 1) rfl ?_
  have h0 : (i 0).val < 1 := (i 0).isLt
  have h1 : (i 1).val < 1024 := (i 1).isLt
  simp; omega

end Cert.ReferenceIdeal.Hand

end
end
-- ==== Proof.RefOut.lean ====
/-
  The reference's results that join several pieces: the projections' gradients, cut into the exchange's chunks, and the
  gradient of the first projection's result, of which this call's part is the three gates' columns.
-/
module

public import proofs.«01_k».proof.Proof.RefGrad

@[expose] public section

set_option maxRecDepth 16384

noncomputable section

namespace Cert.ReferenceIdeal.Hand

open Cert.ReferenceIdeal Cert.ReferenceIdeal.Gen Cert.ReferenceIdeal.Read Idealize.ShloMosaic Idealize.ShloMosaic.ValueIdx
open Cert.Merge

variable (X : Arrays)

/-- Branch 2's gradient, padded with zeros to the three branches. -/
theorem pad2 (h : (args X).Regular) (i : S3x512x1024.Idx) :
    val_main_v127 (F := Ideal) X.x0 X.x1 X.x2 X.x3 X.x4 X.x5 X.x6 X.x7 X.x8 X.x9 i = if (i 0).val = 2 then (args X).dwb 2 (i 1) (i 2) else 0 := by
  unfold val_main_v127
  split
  · rename_i e
    refine (pad_apply_of_inside (![2, 0, 0] : Fin 3 → ℕ) ![0, 0, 0] ![0, 0, 0] _ _ pads_S1x512x1024_S3x512x1024_200_000_000 h_S_ i
      (ix3 0 (i 1) (i 2)) (fun a => ?_)).trans (dw2 X h _)
    match a with
    | ⟨0, _⟩ => exact e
    | ⟨1, _⟩ => show (i 1).val = 0 + (i 1).val * 1; omega
    | ⟨2, _⟩ => show (i 2).val = 0 + (i 2).val * 1; omega
  · rename_i e
    refine (pad_apply_of_not_inside (s := S1x512x1024) (t := S3x512x1024) (![2, 0, 0] : Fin 3 → ℕ) ![0, 0, 0] ![0, 0, 0] _ _ pads_S1x512x1024_S3x512x1024_200_000_000 h_S_ i
      0 ?_).trans ?_
    · rintro ⟨h1, -, h2⟩
      have h1' : 2 ≤ (i 0).val := h1
      have h2' : ((i 0).val - 2) / 1 < 1 := h2
      omega
    · rw [val_main_cst_27_apply, Ideal.ofBits_def, Ideal.ofBits_zero_f32]
/-- Branch 1's gradient, padded with zeros to the three branches. -/
theorem pad1 (h : (args X).Regular) (i : S3x512x1024.Idx) :
    val_main_v135 (F := Ideal) X.x0 X.x1 X.x2 X.x3 X.x4 X.x5 X.x6 X.x7 X.x8 X.x9 i = if (i 0).val = 1 then (args X).dwb 1 (i 1) (i 2) else 0 := by
  unfold val_main_v135
  split
  · rename_i e
    refine (pad_apply_of_inside (![1, 0, 0] : Fin 3 → ℕ) ![1, 0, 0] ![0, 0, 0] _ _ pads_S1x512x1024_S3x512x1024_110_000_000 h_S_ i
      (ix3 0 (i 1) (i 2)) (fun a => ?_)).trans (dw1 X h _)
    match a with
    | ⟨0, _⟩ => exact e
    | ⟨1, _⟩ => show (i 1).val = 0 + (i 1).val * 1; omega
    | ⟨2, _⟩ => show (i 2).val = 0 + (i 2).val * 1; omega
  · rename_i e
    refine (pad_apply_of_not_inside (s := S1x512x1024) (t := S3x512x1024) (![1, 0, 0] : Fin 3 → ℕ) ![1, 0, 0] ![0, 0, 0] _ _ pads_S1x512x1024_S3x512x1024_110_000_000 h_S_ i
      0 ?_).trans ?_
    · rintro ⟨h1, -, h2⟩
      have h1' : 1 ≤ (i 0).val := h1
      have h2' : ((i 0).val - 1) / 1 < 1 := h2
      omega
    · rw [val_main_cst_28_apply, Ideal.ofBits_def, Ideal.ofBits_zero_f32]
/-- Branch 0's gradient, padded with zeros to the three branches. -/
theorem pad0 (h : (args X).Regular) (i : S3x512x1024.Idx) :
    val_main_v144 (F := Ideal) X.x0 X.x1 X.x2 X.x3 X.x4 X.x5 X.x6 X.x7 X.x8 X.x9 i = if (i 0).val = 0 then (args X).dwb 0 (i 1) (i 2) else 0 := by
  unfold val_main_v144
  split
  · rename_i e
    refine (pad_apply_of_inside (![0, 0, 0] : Fin 3 → ℕ) ![2, 0, 0] ![0, 0, 0] _ _ pads_S1x512x1024_S3x512x1024_020_000_000 h_S_ i
      (ix3 0 (i 1) (i 2)) (fun a => ?_)).trans (dw0 X h _)
    match a with
    | ⟨0, _⟩ => exact e
    | ⟨1, _⟩ => show (i 1).val = 0 + (i 1).val * 1; omega
    | ⟨2, _⟩ => show (i 2).val = 0 + (i 2).val * 1; omega
  · rename_i e
    refine (pad_apply_of_not_inside (s := S1x512x1024) (t := S3x512x1024) (![0, 0, 0] : Fin 3 → ℕ) ![2, 0, 0] ![0, 0, 0] _ _ pads_S1x512x1024_S3x512x1024_020_000_000 h_S_ i
      0 ?_).trans ?_
    · rintro ⟨h1, -, h2⟩
      have h1' : 0 ≤ (i 0).val := h1
      have h2' : ((i 0).val - 0) / 1 < 1 := h2
      omega
    · rw [val_main_cst_29_apply, Ideal.ofBits_def, Ideal.ofBits_zero_f32]

/-- The branch projections' gradients. -/
theorem dwb_ (h : (args X).Regular) (i : S3x512x1024.Idx) :
    val_main_v145 (F := Ideal) X.x0 X.x1 X.x2 X.x3 X.x4 X.x5 X.x6 X.x7 X.x8 X.x9 i = (args X).dwb (i 0) (i 1) (i 2) := by
  rw [val_main_v145_apply, val_main_v136_apply, pad0 X h, pad1 X h, pad2 X h]
  have key : ∀ b : Fin 3, FloatOps.addf (F := Ideal) (φ := .f32) (FloatOps.addf (F := Ideal) (φ := .f32)
        (if b.val = 2 then (args X).dwb 2 (i 1) (i 2) else 0) (if b.val = 1 then (args X).dwb 1 (i 1) (i 2) else 0))
        (if b.val = 0 then (args X).dwb 0 (i 1) (i 2) else 0) = (args X).dwb b (i 1) (i 2) := by
    intro b
    fin_cases b <;> simp [Ideal.addf_def]
  exact key (i 0)

/-- The branch projections' gradients, as the exchange's four chunks of 256 columns. -/
theorem r8 (h : (args X).Regular) (i : S4x3x512x256.Idx) (q : Fin 1024) (hq : 256 * (i 0).val + (i 3).val = q.val) :
    val_main_v152 (F := Ideal) X.x0 X.x1 X.x2 X.x3 X.x4 X.x5 X.x6 X.x7 X.x8 X.x9 i = (args X).dwb (i 1) (i 2) q := by
  rw [val_main_v152_apply, val_main_v150_apply, val_main_v149_apply]
  have h0 : (i 0).val < 4 := (i 0).isLt
  have h1 : (i 1).val < 3 := (i 1).isLt
  have h2 : (i 2).val < 512 := (i 2).isLt
  have h3 : (i 3).val < 256 := (i 3).isLt
  have hc : (((i 1).val * 512 + (i 2).val) * 4 + (i 0).val) * 256 + (i 3).val = (i 1).val * 524288 + (i 2).val * 1024 + q.val := by omega
  have hq' := q.isLt
  refine (at3 (val_main_v145 (F := Ideal) X.x0 X.x1 X.x2 X.x3 X.x4 X.x5 X.x6 X.x7 X.x8 X.x9) _ (i 1) (i 2) q ?_ ?_ ?_).trans (dwb_ X h (ix3 (i 1) (i 2) q))
  · show ((((i 1).val * 512 + (i 2).val) * 4 + (i 0).val) * 256 + (i 3).val) / 524288 = (i 1).val
    rw [hc]; omega
  · show ((((i 1).val * 512 + (i 2).val) * 4 + (i 0).val) * 256 + (i 3).val) / 1024 % 512 = (i 2).val
    rw [hc]; omega
  · show ((((i 1).val * 512 + (i 2).val) * 4 + (i 0).val) * 256 + (i 3).val) % 1024 = q.val
    rw [hc]; omega

/-- The output projection's gradient, as the exchange's four chunks of 256 rows. -/
theorem r9 (h : (args X).Regular) (i : S4x256x1024.Idx) (k : Fin 1024) (hk : 256 * (i 0).val + (i 1).val = k.val) :
    val_main_v154 (F := Ideal) X.x0 X.x1 X.x2 X.x3 X.x4 X.x5 X.x6 X.x7 X.x8 X.x9 i = (args X).dwo k (i 2) := by
  rw [val_main_v154_apply, val_main_v153_apply]
  have h2 : (i 2).val < 1024 := (i 2).isLt
  refine (at2 (val_main_v119 (F := Ideal) X.x0 X.x1 X.x2 X.x3 X.x4 X.x5 X.x6 X.x7 X.x8 X.x9) _ k (i 2) ?_ ?_).trans ?_
  · show (((i 0).val * 256 + (i 1).val) * 1024 + (i 2).val) / 1024 = k.val
    omega
  · show (((i 0).val * 256 + (i 1).val) * 1024 + (i 2).val) % 1024 = (i 2).val
    omega
  · rw [val_main_v119_apply, val_main_v118_apply]
    exact Finset.sum_congr rfl fun r _ => (congrArg₂ (· * ·) (dyb_ X h _) (mg X _)).trans (mul_comm _ _)

/-- Gate 0's columns of the first projection's gradient. -/
theorem gate0 (h : (args X).Regular) (i : S2048x9216.Idx) (q : Fin 1024) (hq : 6144 + q.val = (i 1).val) :
    val_main_v151 (F := Ideal) X.x0 X.x1 X.x2 X.x3 X.x4 X.x5 X.x6 X.x7 X.x8 X.x9 i = (args X).dz 0 (i 0) q := by
  rw [val_main_v151_apply]
  unfold val_main_v148
  refine (concatenate_apply_piece (t := S2048x9216) 1 _ _ i 1 (by simp) S2048x1024 (val_main_v146 (F := Ideal) X.x0 X.x1 X.x2 X.x3 X.x4 X.x5 X.x6 X.x7 X.x8 X.x9) rfl rfl 6144 rfl
    (ix2 (i 0) q) (fun b hb => ?_) hq).trans (dz0 X h (ix2 (i 0) q))
  match b with
  | ⟨0, _⟩ => rfl
  | ⟨1, _⟩ => exact absurd rfl hb

/-- Gate 1's columns of the first projection's gradient. -/
theorem gate1 (h : (args X).Regular) (i : S2048x9216.Idx) (q : Fin 1024) (hq : 7168 + q.val = (i 1).val) :
    val_main_v151 (F := Ideal) X.x0 X.x1 X.x2 X.x3 X.x4 X.x5 X.x6 X.x7 X.x8 X.x9 i = (args X).dz 1 (i 0) q := by
  rw [val_main_v151_apply]
  unfold val_main_v148
  refine (concatenate_apply_piece (t := S2048x9216) 1 _ _ i 2 (by simp) S2048x1024 (val_main_v137 (F := Ideal) X.x0 X.x1 X.x2 X.x3 X.x4 X.x5 X.x6 X.x7 X.x8 X.x9) rfl rfl 7168 rfl
    (ix2 (i 0) q) (fun b hb => ?_) hq).trans (dz1 X h (ix2 (i 0) q))
  match b with
  | ⟨0, _⟩ => rfl
  | ⟨1, _⟩ => exact absurd rfl hb

/-- Gate 2's columns of the first projection's gradient. -/
theorem gate2 (h : (args X).Regular) (i : S2048x9216.Idx) (q : Fin 1024) (hq : 8192 + q.val = (i 1).val) :
    val_main_v151 (F := Ideal) X.x0 X.x1 X.x2 X.x3 X.x4 X.x5 X.x6 X.x7 X.x8 X.x9 i = (args X).dz 2 (i 0) q := by
  rw [val_main_v151_apply]
  unfold val_main_v148
  refine (concatenate_apply_piece (t := S2048x9216) 1 _ _ i 3 (by simp) S2048x1024 (val_main_v128 (F := Ideal) X.x0 X.x1 X.x2 X.x3 X.x4 X.x5 X.x6 X.x7 X.x8 X.x9) rfl rfl 8192 rfl
    (ix2 (i 0) q) (fun b hb => ?_) hq).trans (dz2 X h (ix2 (i 0) q))
  match b with
  | ⟨0, _⟩ => rfl
  | ⟨1, _⟩ => exact absurd rfl hb

/-- The three gates' columns of the first projection's gradient. -/
theorem r1 (h : (args X).Regular) (i : S2048x9216.Idx) (b : Fin 3) (q : Fin 1024) (hq : 6144 + 1024 * b.val + q.val = (i 1).val) :
    val_main_v151 (F := Ideal) X.x0 X.x1 X.x2 X.x3 X.x4 X.x5 X.x6 X.x7 X.x8 X.x9 i = (args X).dz b (i 0) q := by
  match b with
  | ⟨0, _⟩ => exact gate0 X h i q hq
  | ⟨1, _⟩ => exact gate1 X h i q hq
  | ⟨2, _⟩ => exact gate2 X h i q hq

end Cert.ReferenceIdeal.Hand

end
end
-- ==== Proof.RefRun.lean ====
/-
The reference's run: its results are `Spec`'s gradients where the normalisation's rows are real.
-/
module

public import proofs.«01_k».proof.Proof.RefOut
public import proofs.«01_k».proof.Proof.Results
public import proofs.«01_k».proof.Proof.Gen.ReferenceIdeal.Run

@[expose] public section

set_option maxRecDepth 16384
set_option maxHeartbeats 1000000

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.Merge

variable (m : (ℓ : Loc nD τ sig) → Buf (Elt Ideal) ℓ) (ρ : Dev nD → PrngReg)

/-- The ten arguments on device `c`. -/
abbrev arrays (c : Dev nD) : Arrays where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)

theorem results (hA : ∀ c, (args (arrays m c)).Regular) :
    θ_run defs (onTc (τ := τ) (main (F := Ideal))) ⟨m, fun _ => 0, ρ⟩ (fun r => ∀ c : Dev nD,
      r.2.mem ((c.tc : Thread nD τ).loc main_v117) = (args (arrays m c)).f0
      ∧ (∀ i : S2048x9216.Idx, 6144 ≤ (i 1).val → r.2.mem ((c.tc : Thread nD τ).loc main_v151) i = (args (arrays m c)).f1 i)
      ∧ r.2.mem ((c.tc : Thread nD τ).loc main_v142) = (args (arrays m c)).f2 0
      ∧ r.2.mem ((c.tc : Thread nD τ).loc main_v133) = (args (arrays m c)).f2 1
      ∧ r.2.mem ((c.tc : Thread nD τ).loc main_v125) = (args (arrays m c)).f2 2
      ∧ r.2.mem ((c.tc : Thread nD τ).loc main_v86) = (args (arrays m c)).f5
      ∧ r.2.mem ((c.tc : Thread nD τ).loc main_v83) = (args (arrays m c)).f6
      ∧ r.2.mem ((c.tc : Thread nD τ).loc main_v115) = (args (arrays m c)).f7
      ∧ r.2.mem ((c.tc : Thread nD τ).loc main_v152) = (args (arrays m c)).f8
      ∧ r.2.mem ((c.tc : Thread nD τ).loc main_v154) = (args (arrays m c)).f9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (Cert.ReferenceIdeal.Value.run m ρ)
  obtain ⟨h0, h1, h2, h3, h4, h5, h6, h7, h8, h9, hargs⟩ := h c
  refine ⟨?_, ?_, ?_, ?_, ?_, ?_, ?_, ?_, ?_, ?_, hargs⟩
  · exact (h0.trans (val_main_v117_eq _)).trans (funext fun i => r0 (arrays m c) (hA c) i)
  · intro i hi
    have hi' : (i 1).val < 9216 := (i 1).isLt
    exact (congrFun (h1.trans (val_main_v151_eq _)) i).trans (r1 (arrays m c) (hA c) i ⟨((i 1).val - 6144) / 1024, by omega⟩
      ⟨((i 1).val - 6144) % 1024, Nat.mod_lt _ (by omega)⟩
      (show 6144 + 1024 * (((i 1).val - 6144) / 1024) + ((i 1).val - 6144) % 1024 = (i 1).val by omega))
  · exact (h2.trans (val_main_v142_eq _)).trans (funext fun i => dy0 (arrays m c) (hA c) i)
  · exact (h3.trans (val_main_v133_eq _)).trans (funext fun i => dy1 (arrays m c) (hA c) i)
  · exact (h4.trans (val_main_v125_eq _)).trans (funext fun i => dy2 (arrays m c) (hA c) i)
  · exact (h5.trans (val_main_v86_eq _)).trans (funext fun i => r5 (arrays m c) i)
  · exact (h6.trans (val_main_v83_eq _)).trans (funext fun i => r6 (arrays m c) i)
  · exact (h7.trans (val_main_v115_eq _)).trans (funext fun i => r7 (arrays m c) (hA c) i)
  · exact (h8.trans (val_main_v152_eq _)).trans (funext fun i => r8 (arrays m c) (hA c) i _ rfl)
  · exact (h9.trans (val_main_v154_eq _)).trans (funext fun i => r9 (arrays m c) (hA c) i _ rfl)

end Cert.ReferenceIdeal.Hand

end
end
-- ==== Proof.Algebra.lean ====
/-
The value claim: on finite arguments the kernel and the reference both end with `Spec`'s gradients.
-/
module

public import proofs.«01_k».proof.Defs
public import proofs.«01_k».proof.Proof.Gen.Pre_finite
public import proofs.«01_k».proof.Proof.Gen.On_written
public import proofs.«01_k».proof.Proof.Finals
public import proofs.«01_k».proof.Proof.Finite
public import proofs.«01_k».proof.Proof.RefRun

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.SL.Sem
open Cert.Merge
open Cert.ReferenceIdeal.Hand (Arrays args allReal arrays)

attribute [local instance] Cert.KernelIdeal.Gen.facts Cert.ReferenceIdeal.Gen.facts Cert.Pre_finite.Gen.facts Cert.On_written.Gen.facts

/-- The kernel's run: its results are `Spec`'s gradients. -/
theorem results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43_0) = (args (given m c)).f0
      ∧ (∀ i : S2048x9216.Idx, 6144 ≤ (i 1).val → r.2.mem ((c.tc : Thread nD τ).loc main_v43_1) i = (args (given m c)).f1 i)
      ∧ r.2.mem ((c.tc : Thread nD τ).loc main_v43_2) = (args (given m c)).f2 0
      ∧ r.2.mem ((c.tc : Thread nD τ).loc main_v43_3) = (args (given m c)).f2 1
      ∧ r.2.mem ((c.tc : Thread nD τ).loc main_v43_4) = (args (given m c)).f2 2
      ∧ r.2.mem ((c.tc : Thread nD τ).loc main_v43_5) = (args (given m c)).f5
      ∧ r.2.mem ((c.tc : Thread nD τ).loc main_v43_6) = (args (given m c)).f6
      ∧ r.2.mem ((c.tc : Thread nD τ).loc main_v43_7) = (args (given m c)).f7
      ∧ r.2.mem ((c.tc : Thread nD τ).loc main_v43_8) = (args (given m c)).f8
      ∧ r.2.mem ((c.tc : Thread nD τ).loc main_v43_9) = (args (given m c)).f9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (θ_run_and (launch m ρ) (kept m ρ))
  obtain ⟨⟨h, -⟩, hargs, -⟩ := h
  exact ⟨((h c).1 14).trans (final14 m c), fun i hi => (congrFun ((h c).1 15) i).trans (final15 m c i hi), ((h c).1 16).trans (final16 m c),
    ((h c).1 17).trans (final17 m c), ((h c).1 18).trans (final18 m c), ((h c).1 19).trans (final19 m c), ((h c).1 20).trans (final20 m c),
    ((h c).1 21).trans (final21 m c), ((h c).1 22).trans (final22 m c), ((h c).1 23).trans (final23 m c), hargs c⟩

/-- The mask of the second result is set from column 6144 on. -/
theorem masked (n : ℕ) (hn : n < 9216) (h : IntOp.cmpi .sge (BitVec.ofNat 32 n) 6144#32 = 1#1) : 6144 ≤ n := by
  by_contra hc
  change BitVec.ofBool (decide ((6144#32 : BitVec 32).toInt ≤ (BitVec.ofNat 32 n).toInt)) = 1#1 at h
  rw [decide_eq_false] at h
  · exact absurd h (by decide)
  · have e : (BitVec.ofNat 32 n).toNat = n := by rw [BitVec.toNat_ofNat]; exact Nat.mod_eq_of_lt (by omega)
    rw [show (6144#32 : BitVec 32).toInt = 6144 by decide, BitVec.toInt_eq_toNat_of_lt (by rw [e]; omega), e]
    omega

theorem algebraic : Cert.algebraic_KernelIdeal_ReferenceIdeal_on_written_pre_finite := by
  intro m g m' g' hpre hargs
  have hA : ∀ c, (args (given m c)).Regular := fun c => (allReal (given m c) (hpre c)).regular
  have same : ∀ c, arrays m' c = given m c := by
    intro c
    obtain ⟨e0, e1, e2, e3, e4, e5, e6, e7, e8, e9⟩ := hargs c
    unfold arrays given
    rw [e0, e1, e2, e3, e4, e5, e6, e7, e8, e9]
  refine ⟨fun c => (args (given m c)).f0, fun c => (args (given m c)).f1, fun c => (args (given m c)).f2 0, fun c => (args (given m c)).f2 1, fun c => (args (given m c)).f2 2, fun c => (args (given m c)).f5, fun c => (args (given m c)).f6, fun c => (args (given m c)).f7, fun c => (args (given m c)).f8, fun c => (args (given m c)).f9, ?_, ?_⟩
  · refine (θ_run _ _ _).mono (fun r h c => ?_) (results m g)
    obtain ⟨h0, h1, h2, h3, h4, h5, h6, h7, h8, h9, hk⟩ := h c
    exact ⟨fun i _ => congrFun h0 i, fun i hi => h1 i (masked _ (i 1).isLt hi), fun i _ => congrFun h2 i, fun i _ => congrFun h3 i,
      fun i _ => congrFun h4 i, fun i _ => congrFun h5 i, fun i _ => congrFun h6 i, fun i _ => congrFun h7 i, fun i _ => congrFun h8 i,
      fun i _ => congrFun h9 i, hk⟩
  · refine (θ_run _ _ _).mono (fun r h c => ?_) (Cert.ReferenceIdeal.Hand.results m' g' fun c => by rw [same c]; exact hA c)
    obtain ⟨h0, h1, h2, h3, h4, h5, h6, h7, h8, h9, hk⟩ := h c
    rw [same c] at h0 h1 h2 h3 h4 h5 h6 h7 h8 h9
    exact ⟨fun i _ => congrFun h0 i, fun i hi => h1 i (masked _ (i 1).isLt hi), fun i _ => congrFun h2 i, fun i _ => congrFun h3 i,
      fun i _ => congrFun h4 i, fun i _ => congrFun h5 i, fun i _ => congrFun h6 i, fun i _ => congrFun h7 i, fun i _ => congrFun h8 i,
      fun i _ => congrFun h9 i, hk⟩

end Cert.KernelIdeal.Hand

end
end
-- ==== Proof.ProjRun.lean ====
/-
The call `proj_fwd`: the runs of its body. At a point of the first pass the body normalises a tile of rows, keeps it in scratch
memory and in a result tile, and multiplies it; at any later point it multiplies the tile that it finds in scratch memory.
-/
module

public import proofs.«01_k».proof.Proof.Gen.Kernel3Ideal.Frame
public import Idealize.ShloMosaic.Lib.WritesUnit

@[expose] public section

set_option maxRecDepth 16384
set_option maxHeartbeats 4000000

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs of one call of the body, each a whole buffer: three input tiles, two result tiles, the scratch. -/
structure Bufs where
  a2 : Memref sig .tc .vmem S512x1024 .f32
  h2 : a2.IsWhole
  a3 : Memref sig .tc .vmem S1x3072 .f32
  h3 : a3.IsWhole
  a4 : Memref sig .tc .vmem S1x1024x2304 .bf16
  h4 : a4.IsWhole
  a5 : Memref sig .tc .vmem S512x2304 .f32
  h5 : a5.IsWhole
  a6 : Memref sig .tc .vmem S512x1024 .bf16
  h6 : a6.IsWhole
  a7 : Memref sig .tc .vmem S2048x1024 .bf16
  h7 : a7.IsWhole

/-- The body called with these memrefs at grid coordinates `i`. -/
abbrev Bufs.call (M : Bufs) (i : grid0.Coords) :=
  cc0_proj_fwd (F := F) i M.a2 M.h2 M.a3 M.h3 M.a4 M.h4 M.a5 M.h5 M.a6 M.h6 M.a7 M.h7

/-- The input tiles, each owned at its contents. -/
def Bufs.ins (c : Dev nD) (M : Bufs) (x : Vec F S512x1024 .f32) (md : Vec F S1x3072 .f32) (w : Vec F S1x1024x2304 .bf16) : sProp 𝕄 :=
  iprop(owns (c : Thread nD τ) M.a2 fullShare x ∗ owns (c : Thread nD τ) M.a3 fullShare md ∗ owns (c : Thread nD τ) M.a4 fullShare w)

variable (c : Dev nD) (i : grid0.Coords) (M : Bufs) (x : Vec F S512x1024 .f32) (md : Vec F S1x3072 .f32) (w : Vec F S1x1024x2304 .bf16)
  (s : Vec F S2048x1024 .bf16)

/-- A point of the first pass: the pieces the body leaves in each result tile and in scratch memory, with its triple. -/
noncomputable def runA (hc : k0_cond1 i = 1#1) :
    Σ' (L5 : List (View.Piece (Elt F) S512x2304 .f32)), Σ' (L6 : List (View.Piece (Elt F) S512x1024 .bf16)), { L7 : List (View.Piece (Elt F) S2048x1024 .bf16) //
      ∀ (E : Set ℕ) (K : PUnit → sProp 𝕄),
        iprop(M.ins c x md w ∗
          (∃ d, owns (c : Thread nD τ) M.a5 fullShare d) ∗
          (∃ d, owns (c : Thread nD τ) M.a6 fullShare d) ∗
          owns (c : Thread nD τ) M.a7 fullShare s ∗
          (iprop(M.ins c x md w ∗
            (∃ f, M.a5.view.loc (c : Thread nD τ) ↦[M.a5.view.set]{fullShare} M.a5.view.writes (Elt F) f L5) ∗
            (∃ f, M.a6.view.loc (c : Thread nD τ) ↦[M.a6.view.set]{fullShare} M.a6.view.writes (Elt F) f L6) ∗
            (M.a7.view.loc (c : Thread nD τ) ↦[M.a7.view.set]{fullShare} M.a7.view.writes (Elt F) (M.h7.unread s) L7)) -∗ K ⟨⟩))
        ⊢ wp frame (wpE (defs₀ (F := F)) Variants.none c none) E (M.call i) K } := by
  refine ⟨?_, ?_, ?_, fun E K => ?run⟩
  case run =>
    unfold Bufs.call cc0_proj_fwd
    unfold Bufs.ins owns
    iintro ⟨⟨⟨%f2, %hf2, H2⟩, ⟨%f3, %hf3, H3⟩, ⟨%f4, %hf4, H4⟩⟩, ⟨%d5, %f5, -, H5⟩, ⟨%d6, %f6, -, H6⟩, ⟨%f7, %hf7, H7⟩, Hk⟩
    obtain rfl := M.h2.eq_unread hf2; obtain rfl := M.h3.eq_unread hf3; obtain rfl := M.h4.eq_unread hf4; obtain rfl := M.h7.eq_unread hf7
    sl_exec (disch := sl_exact hc)
    sl_step
    iapply Hk
    isplitl [H2 H3 H4]
    · isplitl [H2]
      · iexists _; isplitr; · ipureintro; exact M.h2.read_unread _
        iexact H2
      isplitl [H3]
      · iexists _; isplitr; · ipureintro; exact M.h3.read_unread _
        iexact H3
      iexists _; isplitr; · ipureintro; exact M.h4.read_unread _
      iexact H4
    isplitl [H5]; · iexists _; iexact H5
    isplitl [H6]; · iexists _; iexact H6
    iexact H7

/-- A later point: the piece the body leaves in the result tile, with its triple. -/
noncomputable def runB (hc : ¬k0_cond1 i = 1#1) :
    { L5 : List (View.Piece (Elt F) S512x2304 .f32) //
      ∀ (E : Set ℕ) (K : PUnit → sProp 𝕄),
        iprop(M.ins c x md w ∗
          (∃ d, owns (c : Thread nD τ) M.a5 fullShare d) ∗
          owns (c : Thread nD τ) M.a7 fullShare s ∗
          (iprop(M.ins c x md w ∗
            (∃ f, M.a5.view.loc (c : Thread nD τ) ↦[M.a5.view.set]{fullShare} M.a5.view.writes (Elt F) f L5) ∗
            owns (c : Thread nD τ) M.a7 fullShare s) -∗ K ⟨⟩))
        ⊢ wp frame (wpE (defs₀ (F := F)) Variants.none c none) E (M.call i) K } := by
  refine ⟨?_, fun E K => ?run⟩
  case run =>
    unfold Bufs.call cc0_proj_fwd
    unfold Bufs.ins owns
    iintro ⟨⟨⟨%f2, %hf2, H2⟩, ⟨%f3, %hf3, H3⟩, ⟨%f4, %hf4, H4⟩⟩, ⟨%d5, %f5, -, H5⟩, ⟨%f7, %hf7, H7⟩, Hk⟩
    obtain rfl := M.h2.eq_unread hf2; obtain rfl := M.h3.eq_unread hf3; obtain rfl := M.h4.eq_unread hf4; obtain rfl := M.h7.eq_unread hf7
    sl_exec (disch := sl_exact hc)
    sl_step
    iapply Hk
    isplitl [H2 H3 H4]
    · isplitl [H2]
      · iexists _; isplitr; · ipureintro; exact M.h2.read_unread _
        iexact H2
      isplitl [H3]
      · iexists _; isplitr; · ipureintro; exact M.h3.read_unread _
        iexact H3
      iexists _; isplitr; · ipureintro; exact M.h4.read_unread _
      iexact H4
    isplitl [H5]; · iexists _; iexact H5
    iexists _; isplitr; · ipureintro; exact M.h7.read_unread _
    iexact H7

end Cert.Kernel3Ideal.Hand

end
-- ==== Proof.ProjBody.lean ====
/-
The call `proj_fwd`: its body as plain functions of the tiles. `normed` is the normalised and modulated tile, `product` a tile's
product with the weights; scratch memory holds a matrix of four tiles of rows.
-/
module

public import proofs.«01_k».proof.Proof.ProjRun
public import Idealize.ShloMosaic.Lib.Pipeline.ValueKit

@[expose] public section

set_option maxRecDepth 16384
set_option maxHeartbeats 4000000

noncomputable section

namespace Cert.Kernel3Ideal.Hand

open Cert.Kernel3Ideal Cert.Kernel3Ideal.Gen
open Idealize.ShloMosaic hiding ix1 ix2 ix3 ix4
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tiles -/

section Tile

variable (x : FVec F S512x1024 .f32)

/-- The rows' means, as a column. -/
def mu : FVec F S512x1 .f32 :=
  divf (shapeCast S512x1 (multiReduction .add [1] S512 x 0x00000000#32 reduces_S512x1024_S512 (.inl rfl) rfl) shapeCasts_S512_S512x1)
    (broadcast S512x1 (Scalar.ofBits .f32 0x44800000#32))
/-- The centred rows. -/
def cen : FVec F S512x1024 .f32 := subf x (broadcastTo S512x1024 (mu x) broadcasts_S512x1_S512x1024)
/-- The reciprocal standard deviations, as a column. -/
def rs : FVec F S512x1 .f32 := rsqrt (addf (mu (mulf (cen x) (cen x))) (broadcast S512x1 (Scalar.ofBits .f32 0x3727C5AC#32)))

/-- The scale and the shift of the modulation. -/
abbrev scale (md : Vec F S1x3072 .f32) : FVec F S1x1024 .f32 :=
  View.ld (Val := Elt F) (e' := .f32) md (Rect.unit ![0, 1024] S1x1024.size inb_S1x3072_S1x1024_0_1024)
abbrev shift (md : Vec F S1x3072 .f32) : FVec F S1x1024 .f32 :=
  View.ld (Val := Elt F) (e' := .f32) md (Rect.unit ![0, 0] S1x1024.size inb_S1x3072_S1x1024_0_0)

/-- The tile, normalised and modulated. -/
def normed (md : Vec F S1x3072 .f32) : FVec F S512x1024 .bf16 :=
  truncf .bf16 (addf (mulf (mulf (cen x) (broadcastTo S512x1024 (rs x) broadcasts_S512x1_S512x1024))
      (broadcastTo S512x1024 (addf (broadcast S1x1024 (Scalar.ofBits .f32 0x3F800000#32)) (scale md)) broadcasts_S1x1024_S512x1024))
    (broadcastTo S512x1024 (shift md) broadcasts_S1x1024_S512x1024)) bitsLt_bf16_f32

end Tile

/-- A tile's product with the weights. -/
def product (h : FVec F S512x1024 .bf16) (w : Vec F S1x1024x2304 .bf16) : FVec F S512x2304 .f32 :=
  matmul dot_S512x1024_S1024x2304_S512x2304_1_0_0_1_n_n none h (shapeCast S1024x2304 w shapeCasts_S1x1024x2304_S1024x2304) (constant S512x2304 .f32 0x00000000#32)

/-- Tile `o` of a matrix of four tiles of rows. -/
def rows {α : Type} (s : S2048x1024.Idx → α) (o : Fin 4) : S512x1024.Idx → α := fun y =>
  s (ix2 ⟨512 * o.val + (y 0).val, by have h : (y 0).val < 512 := (y 0).isLt; omega⟩ ⟨(y 1).val, (y 1).isLt⟩)

/-- The matrix with tile `o` replaced. -/
def keep {α : Type} (s : S2048x1024.Idx → α) (o : Fin 4) (h : S512x1024.Idx → α) : S2048x1024.Idx → α := fun y =>
  if hy : 512 * o.val ≤ (y 0).val ∧ (y 0).val < 512 * o.val + 512 then h (ix2 ⟨(y 0).val - 512 * o.val, by omega⟩ ⟨(y 1).val, (y 1).isLt⟩)
  else s y

theorem rows_keep {α : Type} (s : S2048x1024.Idx → α) (o : Fin 4) (h : S512x1024.Idx → α) : rows (keep s o h) o = h := by
  funext y
  have h0 : (y 0).val < 512 := (y 0).isLt
  unfold rows keep
  rw [dif_pos (show 512 * o.val ≤ 512 * o.val + (y 0).val ∧ 512 * o.val + (y 0).val < 512 * o.val + 512 by omega)]
  exact congrArg h (funext fun d => match d with
    | ⟨0, _⟩ => Fin.ext (show 512 * o.val + (y 0).val - 512 * o.val = (y 0).val by omega)
    | ⟨1, _⟩ => rfl)

theorem rows_keep_ne {α : Type} (s : S2048x1024.Idx → α) (o p : Fin 4) (h : S512x1024.Idx → α) (hp : p ≠ o) : rows (keep s o h) p = rows s p := by
  funext y
  have h0 : (y 0).val < 512 := (y 0).isLt
  have hv : p.val ≠ o.val := fun h => hp (Fin.ext h)
  unfold rows keep
  rw [dif_neg (show ¬(512 * o.val ≤ 512 * p.val + (y 0).val ∧ 512 * p.val + (y 0).val < 512 * o.val + 512) by omega)]

/-! ## The offsets -/

theorem offset : ∀ j : Fin 4, (Scalar.indexCast (Scalar.muli (BitVec.ofNat 32 j.val) 512#32)).toNat = 512 * j.val := by decide

theorem off1 (i : grid0.Coords) : k0_off1 i = ![512 * (i 1).val, 0] := congrArg (fun n => (![n, 0] : Fin 2 → ℕ)) (offset (i 1))
theorem off2 (i : grid0.Coords) : k0_off2 i = ![512 * (i 1).val, 0] := congrArg (fun n => (![n, 0] : Fin 2 → ℕ)) (offset (i 1))

/-- A load of the rectangle last stored reads what was stored. -/
theorem readAt_stored {κ : Kind} {sp : Space} {s : Shape} {e : EltTy} (v : View sig κ sp s e) (f : v.ty.Contents (Elt F)) {off off' size : Fin s.rank → ℕ}
    (inb : ∀ a, off a + size a ≤ s.size a) (inb' : ∀ a, off' a + size a ≤ s.size a) (w : (Rect.unit off size inb).shape.Idx → Elt F e)
    (L : List (View.Piece (Elt F) s e)) (h : off = off') :
    v.readAt (Elt F) (Rect.unit off' size inb').toLoadRect (v.writes (Elt F) f ((⟨Rect.unit off size inb, w⟩ : View.Piece (Elt F) s e) :: L)) = w := by
  funext y
  exact View.read_writes_cons_unit_of_mem v f inb w L _ y h fun a => Rect.idx_unit_val off' size inb' y a

/-- A tile stored over a matrix. -/
theorem read_stored {κ : Kind} {sp : Space} (v : View sig κ sp S2048x1024 .bf16) (f : v.ty.Contents (Elt F)) {off : Fin 2 → ℕ}
    (inb : ∀ a, off a + S512x1024.size a ≤ S2048x1024.size a) (w : S512x1024.Idx → Elt F .bf16) (o : Fin 4) (h : off = ![512 * o.val, 0]) :
    v.read (Elt F) (v.writes (Elt F) f [(⟨Rect.unit (s := S2048x1024) off S512x1024.size inb, w⟩ : View.Piece (Elt F) S2048x1024 .bf16)])
      = keep (v.read (Elt F) f) o w := by
  funext y
  unfold keep
  have h1 : (y 1).val < 1024 := (y 1).isLt
  by_cases hy : 512 * o.val ≤ (y 0).val ∧ (y 0).val < 512 * o.val + 512
  · rw [dif_pos hy]
    exact View.read_writes_cons_unit_of_mem v f (size := S512x1024.size) inb w [] y (ix2 ⟨(y 0).val - 512 * o.val, by omega⟩ ⟨(y 1).val, h1⟩) h fun a => match a with
      | ⟨0, _⟩ => show (y 0).val = 512 * o.val + ((y 0).val - 512 * o.val) by omega
      | ⟨1, _⟩ => show (y 1).val = 0 + (y 1).val by omega
  · rw [dif_neg hy]
    refine (View.read_writes_cons_unit_of_not_mem v f (size := S512x1024.size) inb w [] y h 0 ?_).trans rfl
    show (y 0).val < 512 * o.val ∨ 512 * o.val + 512 ≤ (y 0).val
    omega

/-! ## What the runs leave -/

variable (c : Dev nD) (i : grid0.Coords) (M : Bufs) (x : Vec F S512x1024 .f32) (md : Vec F S1x3072 .f32) (w : Vec F S1x1024x2304 .bf16)
  (s : Vec F S2048x1024 .bf16)

theorem readA_6 (hc : k0_cond1 i = 1#1) (f) : M.a6.view.read (Elt F) (M.a6.view.writes (Elt F) f (runA c i M x md w s hc).2.1) = normed x md := by
  have hz2 : (![0, 0] : Fin 2 → Nat) = fun _ => 0 := by funext a; fin_cases a <;> rfl
  rw [View.read_writes_eq_canon _ _ _ (View.cover_of_tiledL _ S512x1024.size (by sl_kernel_rfl))]
  unfold runA; dsimp only; sl_unfold_words
  rw [View.canon_cons_unit_zero (S := S512x1024) hz2]
  simp only [View.readAt_eq_ld, M.h2.read_unread, M.h3.read_unread, View.ld_unit_zero (S := S512x1024) hz2]
  rfl

theorem readA_5 (hc : k0_cond1 i = 1#1) (f) : M.a5.view.read (Elt F) (M.a5.view.writes (Elt F) f (runA c i M x md w s hc).1) = product (normed x md) w := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S512x2304.size (by sl_kernel_rfl))]
  unfold runA; dsimp only; sl_unfold_words
  rw [View.canon_cons_unit_zero (S := S512x2304) hz2]
  unfold product
  refine congrArg₂ (fun a b => matmul dot_S512x1024_S1024x2304_S512x2304_1_0_0_1_n_n none a b _) ?_ ?_
  · refine (readAt_stored _ _ _ _ _ _ rfl).trans ?_
    simp only [View.readAt_eq_ld, M.h2.read_unread, M.h3.read_unread, View.ld_unit_zero (S := S512x1024) hz2]
    funext y
    exact (shapeCast_apply _ _ y y rfl).trans rfl
  · simp only [View.readAt_eq_ld, M.h4.read_unread, View.ld_unit_zero (S := S1x1024x2304) hz3]

theorem readA_7 (hc : k0_cond1 i = 1#1) : M.a7.view.read (Elt F) (M.a7.view.writes (Elt F) (M.h7.unread s) (runA c i M x md w s hc).2.2.val) = keep s (i 1) (normed x md) := by
  have hz2 : (![0, 0] : Fin 2 → Nat) = fun _ => 0 := by funext a; fin_cases a <;> rfl
  unfold runA; dsimp only; sl_unfold_words
  refine (read_stored _ _ _ _ (i 1) (off1 i)).trans ?_
  rw [M.h7.read_unread]
  refine congrArg (keep s (i 1)) ?_
  simp only [View.readAt_eq_ld, M.h2.read_unread, M.h3.read_unread, View.ld_unit_zero (S := S512x1024) hz2]
  funext y
  exact (shapeCast_apply _ _ y y rfl).trans rfl

theorem readB_5 (hc : ¬k0_cond1 i = 1#1) (f) : M.a5.view.read (Elt F) (M.a5.view.writes (Elt F) f (runB c i M x md w s hc).val) = product (rows s (i 1)) w := by
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (View.cover_of_tiledL _ S512x2304.size (by sl_kernel_rfl))]
  unfold runB; dsimp only; sl_unfold_words
  rw [View.canon_cons_unit_zero (S := S512x2304) hz2]
  unfold product
  refine congrArg₂ (fun a b => matmul dot_S512x1024_S1024x2304_S512x2304_1_0_0_1_n_n none a b _) ?_ ?_
  · simp only [View.readAt_eq_ld, M.h7.read_unread]
    funext y
    unfold rows
    refine View.ld_unit_apply_of s _ _ _ y _ fun a => ?_
    have e := congrFun (off2 i) a
    refine Eq.trans ?_ (congrArg (fun n => n + (y a).val) e.symm)
    match a with
    | ⟨0, _⟩ => rfl
    | ⟨1, _⟩ => exact (Nat.zero_add _).symm
  · simp only [View.readAt_eq_ld, M.h4.read_unread, View.ld_unit_zero (S := S1x1024x2304) hz3]

/-! ## The body's triples -/

/-- A point of the first pass. -/
theorem bodyA (hc : k0_cond1 i = 1#1) (E : Set ℕ) (K : PUnit → sProp 𝕄) :
    iprop((M.ins c x md w ∗ (∃ d, owns (c : Thread nD τ) M.a5 fullShare d) ∗ (∃ d, owns (c : Thread nD τ) M.a6 fullShare d) ∗ owns (c : Thread nD τ) M.a7 fullShare s) ∗
      (iprop(M.ins c x md w ∗ owns (c : Thread nD τ) M.a5 fullShare (product (normed x md) w) ∗ owns (c : Thread nD τ) M.a6 fullShare (normed x md) ∗
        owns (c : Thread nD τ) M.a7 fullShare (keep s (i 1) (normed x md))) -∗ K ⟨⟩))
      ⊢ wp frame (wpE (defs₀ (F := F)) Variants.none c none) E (M.call i) K := by
  iintro ⟨⟨HI, H5, H6, H7⟩, Hk⟩
  iapply ((runA c i M x md w s hc).2.2.property E K)
  isplitl [HI]; · iexact HI
  isplitl [H5]; · iexact H5
  isplitl [H6]; · iexact H6
  isplitl [H7]; · iexact H7
  iintro ⟨HI, ⟨%f5, H5⟩, ⟨%f6, H6⟩, H7⟩
  iapply Hk
  isplitl [HI]; · iexact HI
  isplitl [H5]
  · unfold owns; iexists _; isplitr
    swap; · iexact H5
    ipureintro; exact readA_5 c i M x md w s hc f5
  isplitl [H6]
  · unfold owns; iexists _; isplitr
    swap; · iexact H6
    ipureintro; exact readA_6 c i M x md w s hc f6
  unfold owns; iexists _; isplitr
  swap; · iexact H7
  ipureintro; exact readA_7 c i M x md w s hc

/-- A later point. -/
theorem bodyB (hc : ¬k0_cond1 i = 1#1) (E : Set ℕ) (K : PUnit → sProp 𝕄) :
    iprop((M.ins c x md w ∗ (∃ d, owns (c : Thread nD τ) M.a5 fullShare d) ∗ owns (c : Thread nD τ) M.a7 fullShare s) ∗
      (iprop(M.ins c x md w ∗ owns (c : Thread nD τ) M.a5 fullShare (product (rows s (i 1)) w) ∗ owns (c : Thread nD τ) M.a7 fullShare s) -∗ K ⟨⟩))
      ⊢ wp frame (wpE (defs₀ (F := F)) Variants.none c none) E (M.call i) K := by
  iintro ⟨⟨HI, H5, H7⟩, Hk⟩
  iapply ((runB c i M x md w s hc).property E K)
  isplitl [HI]; · iexact HI
  isplitl [H5]; · iexact H5
  isplitl [H7]; · iexact H7
  iintro ⟨HI, ⟨%f5, H5⟩, H7⟩
  iapply Hk
  isplitl [HI]; · iexact HI
  isplitl [H5]
  · unfold owns; iexists _; isplitr
    swap; · iexact H5
    ipureintro; exact readB_5 c i M x md w s hc f5
  iexact H7

end Cert.Kernel3Ideal.Hand

end
-- ==== Proof.ProjLaunch.lean ====
/-
The call `proj_fwd`: what every grid point leaves in the result tiles, what scratch memory holds between the points, the body's
obligation at every point, the run of the program and its frame, over any values. The sixteen points are four passes over four tiles
of rows; the first pass normalises the tiles, and every pass multiplies them with a block of the weights of its own.
-/
module

public import proofs.«01_k».proof.Proof.ProjBody
public import Idealize.ShloMosaic.Lib.Claim
public import Idealize.ShloMosaic.Lib.Pipeline.TableIdle

@[expose] public section

set_option maxRecDepth 16384
set_option maxHeartbeats 4000000

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points -/

theorem pt_lt (t : Fin cfg0.N) : t.val < 16 := lt_of_lt_of_eq t.isLt (show cfg0.N = 16 from N_0)

/-- The point of the first pass at tile `o`. -/
def first (o : Fin 4) : Fin cfg0.N := ⟨o.val, lt_of_lt_of_eq (show o.val < 16 by omega) (show cfg0.N = 16 from N_0).symm⟩

theorem first_pass : ∀ t : Fin cfg0.N, k0_cond1 (grid0.coords t) = 1#1 ↔ t.val < 4 := (by decide +kernel : ∀ t : Fin grid0.N, _)
theorem tile_at : ∀ t : Fin cfg0.N, ((grid0.coords t) 1).val = t.val % 4 := (by decide +kernel : ∀ t : Fin grid0.N, _)
theorem pass_at : ∀ t : Fin cfg0.N, ((grid0.coords t) 0).val = t.val / 4 := (by decide +kernel : ∀ t : Fin grid0.N, _)
theorem idle_3 (t : Fin cfg0.N) : cfg0.idle 3 (grid0.coords t) = false := rfl
theorem idle_4 : ∀ t : Fin cfg0.N, cfg0.idle 4 (grid0.coords t) = decide (4 ≤ t.val) := (by decide +kernel : ∀ t : Fin grid0.N, _)
/-- After the first three points, nothing is stored in the second result's tile buffer before point 3 stores there. -/
theorem fresh_4 (n : ℕ) (h : n ≤ cfg0.N) : cfg0.fresh 4 n = decide (n < 4) ∨ n = 16 := by
  by_cases hn : n = 16
  · exact .inr hn
  refine .inl ?_
  have hN : n < grid0.N := lt_of_le_of_ne h fun e => hn (e.trans N_0)
  exact (by decide +kernel : ∀ t : Fin grid0.N, cfg0.fresh 4 t.val = decide (t.val < 4)) ⟨n, hN⟩

/-- The tile whose normalised rows the second result's tile buffer holds after point `t`. -/
def last (t : Fin cfg0.N) : Fin 4 := ⟨min t.val 3, by omega⟩

variable (m : (ℓ : Loc nD τ sig) → Buf (Elt F) ℓ) (ρ : Dev nD → PrngReg)

/-- The memrefs the body is called with at point `t`. -/
abbrev bufs (t : Fin cfg0.N) : Bufs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := Memref.whole cc0_scratch0
  h7 := Memref.isWhole_whole _

/-- Tile `o` of the normalised rows. -/
def tile (c : Dev nD) (o : Fin 4) : FVec F S512x1024 .bf16 := normed (iblk m c 0 (first o)) (iblk m c 1 (first o))

/-- The invariant before position `n`: scratch memory holds the tiles of the first `n` points. -/
def inv (c : Dev nD) (n : ℕ) : sProp 𝕄 :=
  iprop((∃ s, ⌜∀ o : Fin 4, o.val < n → rows s o = tile m c o⌝ ∗ owns (c : Thread nD τ) (Memref.whole cc0_scratch0 : Memref sig .tc .vmem S2048x1024 .bf16) fullShare s)
    ∗ (∃ r, prngReg c r))

/-- The proof data: each input's tile as staged, each result's tile at the body's function of the point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product (tile m c ((grid0.coords t) 1)) (iblk m c 2 t)
    | ⟨4, _⟩ => tile m c (last t)
    | ⟨_ + 5, h⟩ => absurd h (Nat.not_lt.2 (Nat.le_add_left _ _))
  Φ t := inv m c t.val
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = product (tile m c ((grid0.coords t) 1)) (iblk m c 2 t) := by dsimp only [data]
theorem after_4 (c : Dev nD) (t : Fin cfg0.N) : (data m 0 c).after 4 t = tile m c (last t) := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d

theorem last_pred (t : Fin cfg0.N) (h : 4 ≤ t.val) (h' : t.val - 1 < cfg0.N) : last ⟨t.val - 1, h'⟩ = last t :=
  Fin.ext (show min (t.val - 1) 3 = min t.val 3 by omega)

/-- After the first pass, the second result's tile buffer holds the last tile. -/
theorem before_4 (c : Dev nD) (t : Fin cfg0.N) (h : 4 ≤ t.val) (d) : (data m 0 c).before 4 t d = tile m c (last t) := by
  have hf : cfg0.fresh 4 t.val = false := by
    rcases fresh_4 t.val (Nat.le_of_lt t.isLt) with e | e
    · rw [e]; exact decide_eq_false (by omega)
    · exact absurd e (by have := pt_lt t; omega)
  rw [(data m 0 c).before_out_traj 4 rfl (fun _ _ => rfl) (fun t _ hi _ => by
    rw [idle_4] at hi
    rw [after_4, after_4, last_pred t (of_decide_eq_true hi)]) t.val t rfl d, hf, if_neg Bool.false_ne_true, after_4, last_pred t h]

theorem leaves (c : Dev nD) (t : Fin cfg0.N) (w : Fin cfg0.W) (h : cfg0.idle w (grid0.coords t) = false) :
    (data m 0 c).leavesExact w t = owns (c : Thread nD τ) ((cfg0.win w).stage (cfg0.slots t w)) fullShare ((data m 0 c).after w t) := by
  unfold Dat.leavesExact; rw [h]

/-- The second result's tile buffer holds the last tile normalised so far, stored at this point or before. -/
theorem leaves_4 (c : Dev nD) (t : Fin cfg0.N) :
    (owns (c : Thread nD τ) (win0_4.stage (cfg0.slots t 4)) fullShare (tile m c (last t)) : sProp 𝕄) ⊢ (data m 0 c).leavesExact 4 t := by
  by_cases h : 4 ≤ t.val
  · have hi : cfg0.idle 4 (grid0.coords t) = true := by rw [idle_4]; exact decide_eq_true h
    by_cases hf : (cfg0.win 4).flush t = true
    · unfold Dat.leavesExact; rw [hi, hf, after_4]
    · rw [(data m 0 c).leavesExact_idle 4 t hi (by rwa [Bool.not_eq_true] at hf)]
      iintro H
      iexists (fun _ => (FloatOps.ofBits .bf16 0 : F .bf16))
      rw [before_4 m c t h]
      iexact H
  · rw [leaves m c t 4 (by rw [idle_4]; exact decide_eq_false h), after_4]

/-- What the body finds at point `t`, -/
def starts (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d)))

/-- and what it leaves. -/
def ends (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t)

theorem first_eq (t : Fin cfg0.N) (h : t.val < 4) : first ((grid0.coords t) 1) = t :=
  Fin.ext ((tile_at t).trans (Nat.mod_eq_of_lt h))

theorem last_eq (t : Fin cfg0.N) (h : t.val < 4) : last t = (grid0.coords t) 1 :=
  Fin.ext (show min t.val 3 = _ by rw [tile_at t]; omega)

/-- The tile of a point of the first pass. -/
theorem tile_first (c : Dev nD) (t : Fin cfg0.N) (h : t.val < 4) : tile m c ((grid0.coords t) 1) = normed (iblk m c 0 t) (iblk m c 1 t) := by
  unfold tile; rw [first_eq t h]

/-- What the body hands back is the invariant and the tiles after the point. -/
theorem post_ends (c : Dev nD) (t : Fin cfg0.N) (s : Vec F S2048x1024 .bf16) (hs : ∀ o : Fin 4, o.val < t.val + 1 → rows s o = tile m c o) :
    iprop(((bufs t).ins c (iblk m c 0 t) (iblk m c 1 t) (iblk m c 2 t)
      ∗ owns (c : Thread nD τ) (bufs t).a5 fullShare (product (tile m c ((grid0.coords t) 1)) (iblk m c 2 t))
      ∗ owns (c : Thread nD τ) (bufs t).a6 fullShare (tile m c (last t)) ∗ owns (c : Thread nD τ) (bufs t).a7 fullShare s)
      ∗ (data m 0 c).owesAt () t.castSucc ∗ (∃ r, prngReg c r)) ⊢ ends m c t := by
  unfold ends Bufs.ins
  rw [show (data m 0 c).owesAt () t.succ = (data m 0 c).owesAt () t.castSucc from rfl]
  rw [show (data m 0 c).Φ t.succ = inv m c (t.val + 1) from rfl]
  rw [leaves m c t 0 rfl, after_0, leaves m c t 1 rfl, after_1, leaves m c t 2 rfl, after_2, leaves m c t 3 rfl, after_3]
  iintro ⟨⟨⟨H0, H1, H2⟩, H3, H4, HS⟩, Ho, Hg⟩
  isplitl [HS Hg]
  · unfold inv
    isplitl [HS]
    · iexists s
      isplitr
      · ipureintro; exact hs
      iexact HS
    iexact Hg
  isplitl [Ho]; · iexact Ho
  isplitl [H0]; · iexact H0
  isplitl [H1]; · iexact H1
  isplitl [H2]; · iexact H2
  isplitl [H3]; · iexact H3
  iapply (leaves_4 m c t); iexact H4

/-- The body at any point. -/
theorem sound (c : Dev nD) (t : Fin cfg0.N) :
    starts m c t ⊢ wp frame (wpE (defs₀ (F := F)) Variants.none c none) Set.univ (bodyAt0 t) (fun _ => ends m c t) := by
  have hN := pt_lt t
  unfold starts
  rw [show (data m 0 c).Φ t.castSucc = inv m c t.val from rfl]
  unfold inv
  simp only [before_0, before_1, before_2]
  iintro ⟨⟨⟨%s, %hs, HS⟩, Hg⟩, Ho, ⟨%d0, H0⟩, ⟨%d1, H1⟩, ⟨%d2, H2⟩, ⟨%d3, H3⟩, ⟨%d4, H4⟩⟩
  by_cases ht : t.val < 4
  · have hc := (first_pass t).mpr ht
    iapply (bodyA c (grid0.coords t) (bufs t) (iblk m c 0 t) (iblk m c 1 t) (iblk m c 2 t) s hc Set.univ (fun _ => ends m c t))
    rw [← tile_first m c t ht]
    isplitl [H0 H1 H2 H3 H4 HS]
    · unfold Bufs.ins
      isplitl [H0 H1 H2]
      · isplitl [H0]; · iexact H0
        isplitl [H1]; · iexact H1
        iexact H2
      isplitl [H3]; · iexists _; iexact H3
      isplitl [H4]; · iexists _; iexact H4
      iexact HS
    iintro ⟨HI, H3, H4, HS⟩
    iapply (post_ends m c t (keep s ((grid0.coords t) 1) (tile m c ((grid0.coords t) 1))) (fun o ho => by
      by_cases e : o = (grid0.coords t) 1
      · rw [e]; exact rows_keep s _ _
      · refine (rows_keep_ne s _ _ _ e).trans (hs o ?_)
        have hv : o.val ≠ t.val := fun h => e (Fin.ext (h.trans ((tile_at t).trans (Nat.mod_eq_of_lt ht)).symm))
        omega))
    rw [last_eq t ht]
    isplitl [HI H3 H4 HS]
    · isplitl [HI]; · iexact HI
      isplitl [H3]; · iexact H3
      isplitl [H4]; · iexact H4
      iexact HS
    isplitl [Ho]; · iexact Ho
    iexact Hg
  · have hc : ¬k0_cond1 (grid0.coords t) = 1#1 := fun h => ht ((first_pass t).mp h)
    have hr : rows s ((grid0.coords t) 1) = tile m c ((grid0.coords t) 1) := hs _ (by rw [tile_at t]; omega)
    iapply (bodyB c (grid0.coords t) (bufs t) (iblk m c 0 t) (iblk m c 1 t) (iblk m c 2 t) s hc Set.univ (fun _ => ends m c t))
    rw [hr, before_4 m c t (by omega)]
    isplitl [H0 H1 H2 H3 HS]
    · unfold Bufs.ins
      isplitl [H0 H1 H2]
      · isplitl [H0]; · iexact H0
        isplitl [H1]; · iexact H1
        iexact H2
      isplitl [H3]; · iexists _; iexact H3
      iexact HS
    iintro ⟨HI, H3, HS⟩
    iapply (post_ends m c t s (fun o ho => hs o (by omega)))
    isplitl [HI H3 H4 HS]
    · isplitl [HI]; · iexact HI
      isplitl [H3]; · iexact H3
      isplitl [H4]; · iexact H4
      iexact HS
    isplitl [Ho]; · iexact Ho
    iexact Hg

theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound m c t) rfl .rfl fun _ => .rfl

/-- The region's own invariant: scratch memory at anything. -/
theorem region_inv (c : Dev nD) : (Pipeline.ΦA spec0 c : sProp 𝕄)
    = iprop((∃ s, owns (c : Thread nD τ) (Memref.whole cc0_scratch0 : Memref sig .tc .vmem S2048x1024 .bf16) fullShare s) ∗ (∃ r, prngReg c r)) := by
  unfold Pipeline.ΦA
  rw [scopedRest0_eq]
  simp only [owns_whole]

theorem enter (c : Dev nD) : Pipeline.ΦA spec0 c ⊢ (data m 0 c).Φ 0 := by
  rw [show (data m 0 c).Φ 0 = inv m c 0 from rfl, region_inv]
  unfold inv
  iintro ⟨⟨%s, HS⟩, Hg⟩
  isplitl [HS]
  · iexists s
    isplitr
    · ipureintro; exact fun o ho => absurd ho (Nat.not_lt_zero _)
    iexact HS
  iexact Hg

theorem leave (c : Dev nD) : (data m 0 c).Φ (Fin.last cfg0.N) ⊢ Pipeline.ΦA spec0 c := by
  rw [show (data m 0 c).Φ (Fin.last cfg0.N) = inv m c cfg0.N from rfl, region_inv]
  unfold inv
  iintro ⟨⟨%s, %hs, HS⟩, Hg⟩
  isplitl [HS]
  · iexists s; iexact HS
  iexact Hg

set_option backward.isDefEq.respectTransparency.types false in
/-- The run ends with every array at what the proof data says and every counter at zero. -/
theorem launch : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := enter m) (hout := leave m)

/-- The arguments end as they began, and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_A m) ((θ_run defs _ _).mono (fun _ h => h.1) (launch m ρ)))
    ((θ_run defs _ _).mono (fun _ h => h.2) (launch m ρ))

end Cert.Kernel3Ideal.Hand

end
-- ==== Proof.Proj.lean ====
/-
The call `proj_fwd`: the normalised and modulated rows and their product with the weights. Both programs end with `hidden` and
`projected` of the arguments; the kernel reads the weights from an array grouped by chip, which its host lines make.
-/
module

public import proofs.«01_k».proof.Defs
public import proofs.«01_k».proof.Proof.Row
public import proofs.«01_k».proof.Proof.ProjLaunch
public import proofs.«01_k».proof.Proof.Gen.Reference3Ideal.Run
public import proofs.«01_k».proof.Proof.Gen.Reference3Ideal.Read
public import Idealize.ShloMosaic.Lib.Pipeline.ValueKit.Geometry
public import Idealize.ShloMosaic.Lib.Pointwise.Contract
public import Idealize.ShloMosaic.PureOps.Ideal.Laws

@[expose] public section

set_option maxRecDepth 16384
set_option maxHeartbeats 1000000

noncomputable section

namespace Cert.Proj

open Cert.Kernel3Ideal Cert.Kernel3Ideal.Gen Cert.Kernel3Ideal.Hand
open Idealize.ShloMosaic hiding ix1 ix2 ix3 ix4
open Idealize.ShloMosaic.TcCoe Idealize.ShloMosaic.Tactic Idealize.ShloMosaic.ValueIdx Idealize.SL.Sem
open Cert.Reference3Ideal.Read
open Cert.Merge (mean cen var rstd std width eps one_word)

attribute [local instance] Cert.Kernel3Ideal.Gen.facts Cert.Reference3Ideal.Gen.facts

/-- Two indices of rank 2 with one pair of coordinates. -/
theorem ext2 {n k : ℕ} {x y : (⟨2, ![n, k]⟩ : Shape).Idx} (h0 : (x 0).val = (y 0).val) (h1 : (x 1).val = (y 1).val) : x = y :=
  funext fun d => match d with | ⟨0, _⟩ => Fin.ext h0 | ⟨1, _⟩ => Fin.ext h1

/-- A row of the input. -/
def row (x : S2048x1024.Idx → EReal) (p : Fin 2048) (k : Fin 1024) : EReal := x (ix2 p k)

/-- The normalised row `r` at channel `q`, scaled and shifted by the modulation. -/
def modulated (r : Fin 1024 → EReal) (md : S1x3072.Idx → EReal) (q : Fin 1024) : EReal :=
  std r q * (1 + md (ix2 0 ⟨1024 + q.val, by omega⟩)) + md (ix2 0 ⟨q.val, by omega⟩)

/-- The projection's operand. -/
def hidden (x : S2048x1024.Idx → EReal) (md : S1x3072.Idx → EReal) (i : S2048x1024.Idx) : EReal :=
  modulated (row x ⟨(i 0).val, (i 0).isLt⟩) md ⟨(i 1).val, (i 1).isLt⟩

/-- The projection. -/
def projected (x : S2048x1024.Idx → EReal) (md : S1x3072.Idx → EReal) (w : S1024x9216.Idx → EReal) (i : S2048x9216.Idx) : EReal :=
  ∑ k : Fin 1024, modulated (row x ⟨(i 0).val, (i 0).isLt⟩) md k * w (ix2 k ⟨(i 1).val, (i 1).isLt⟩)

/-! ## The reference -/

section Reference

variable (x0 : S2048x1024.Idx → EReal) (x1 : S1x3072.Idx → EReal) (x2 : S1024x9216.Idx → EReal)

theorem ref_mean (i : Cert.Reference3Ideal.S2048x1.Idx) : (val_main_v5 (F := Ideal) x0 i : EReal) = mean (row x0 ⟨(i 0).val, (i 0).isLt⟩) := by
  simp only [val_main_v5_apply, val_main_v3_apply, val_main_v2_apply, val_main_v4_apply, val_main_cst_apply, val_main_cst_0_apply,
    Ideal.ofBits_def, Ideal.ofBits_zero_f32, zero_add]
  exact congrArg (fun t => Ideal.div t width) (Finset.sum_congr rfl fun k _ => congrArg x0 (ext2 rfl rfl))

theorem ref_cen (i : S2048x1024.Idx) : (val_main_v7 (F := Ideal) x0 i : EReal) = cen (row x0 ⟨(i 0).val, (i 0).isLt⟩) ⟨(i 1).val, (i 1).isLt⟩ := by
  rw [val_main_v7_apply, val_main_v6_apply, ref_mean]
  exact congrArg₂ (fun a b : EReal => a - b) (congrArg x0 (ext2 rfl rfl)) rfl

theorem ref_rstd (i : Cert.Reference3Ideal.S2048x1.Idx) : (val_main_v15 (F := Ideal) x0 i : EReal) = rstd (row x0 ⟨(i 0).val, (i 0).isLt⟩) := by
  simp only [val_main_v15_apply, val_main_v14_apply, val_main_v12_apply, val_main_v10_apply, val_main_v9_apply, val_main_v11_apply,
    val_main_v13_apply, val_main_v8_apply, ref_cen, val_main_cst_1_apply, val_main_cst_2_apply, val_main_cst_3_apply,
    Ideal.ofBits_def, Ideal.ofBits_zero_f32, zero_add]
  rfl

theorem ref_hidden (i : S2048x1024.Idx) : (val_main_v23 (F := Ideal) x0 x1 i : EReal) = hidden x0 x1 i := by
  simp only [val_main_v23_apply, val_main_v22_apply, val_main_v21_apply, val_main_v20_apply, val_main_v19_apply, val_main_v18_apply, val_main_v17_apply,
    val_main_v16_apply, val_main_v1_apply, val_main_v0_apply, ref_cen, ref_rstd, val_main_cst_4_apply, Ideal.ofBits_def, one_word]
  refine congrArg₂ (fun a b : EReal => a + b) (congrArg₂ (fun a b : EReal => a * b) rfl (congrArg (fun a : EReal => 1 + a) ?_)) ?_
  · exact congrArg x1 (ext2 rfl rfl)
  · exact congrArg x1 (ext2 rfl rfl)

theorem ref_projected : (val_main_v24 (F := Ideal) x0 x1 x2 : S2048x9216.Idx → EReal) = projected x0 x1 x2 := by
  funext i
  rw [val_main_v24_apply]
  exact Finset.sum_congr rfl fun k _ => congrArg₂ (fun a b : EReal => a * b) (ref_hidden x0 x1 _) (congrArg x2 (ext2 rfl rfl))

theorem ref_kept : (val_main_v25 (F := Ideal) x0 x1 : S2048x1024.Idx → EReal) = hidden x0 x1 :=
  funext fun i => (val_main_v25_apply (F := Ideal) x0 x1 i).trans (ref_hidden x0 x1 i)

end Reference

/-! ## The kernel's tiles -/

section Tile

variable (x : FVec Ideal S512x1024 .f32) (md : Vec Ideal S1x3072 .f32)

/-- A row of a tile. -/
def trow (p : Fin 512) (k : Fin 1024) : EReal := x (ix2 p k)

theorem mu_at (p : Fin 512) : (mu x (ix2 p 0) : EReal) = mean (trow x p) := by
  refine congrArg (fun t => Ideal.div t width) ?_
  rw [shapeCast_apply _ _ _ (ix1 p) (by rw [Shape.rowMajor_val_one, Shape.rowMajor_val_two]; show p.val = p.val * 1 + 0; omega)]
  refine (Ideal.multiReduction_add_single x 0x00000000#32 _ (.inl rfl) rfl _).trans ?_
  exact Finset.sum_congr rfl fun k _ => congrArg x (ext2 rfl rfl)

/-- A column vector spread over the channels, -/
theorem bcCol (v : FVec Ideal S512x1 .f32) (p : Fin 512) (q : Fin 1024) :
    broadcastTo S512x1024 v broadcasts_S512x1_S512x1024 (ix2 p q) = v (ix2 p 0) :=
  broadcastTo_apply v _ _ _ fun a => match a with | ⟨0, _⟩ => rfl | ⟨1, _⟩ => rfl
/-- and a row vector over the rows. -/
theorem bcRow (v : FVec Ideal S1x1024 .f32) (p : Fin 512) (q : Fin 1024) :
    broadcastTo S512x1024 v broadcasts_S1x1024_S512x1024 (ix2 p q) = v (ix2 0 q) :=
  broadcastTo_apply v _ _ _ fun a => match a with | ⟨0, _⟩ => rfl | ⟨1, _⟩ => rfl

theorem cen_at (p : Fin 512) (q : Fin 1024) : (Cert.Kernel3Ideal.Hand.cen x (ix2 p q) : EReal) = cen (trow x p) q :=
  congrArg (fun b : EReal => x (ix2 p q) - b) ((bcCol _ p q).trans (mu_at x p))

theorem rs_at (p : Fin 512) : (rs x (ix2 p 0) : EReal) = rstd (trow x p) := by
  refine congrArg Ideal.rsqrt (congrArg (fun a : EReal => a + eps) ((mu_at _ p).trans (congrArg mean (funext fun k => ?_))))
  exact congrArg₂ (fun a b : EReal => a * b) (cen_at x p k) (cen_at x p k)

theorem scale_at (q : Fin 1024) : (scale md (ix2 0 q) : EReal) = md (ix2 0 ⟨1024 + q.val, by omega⟩) :=
  View.ld_unit_apply_of md _ _ _ _ _ fun a => match a with
    | ⟨0, _⟩ => rfl
    | ⟨1, _⟩ => rfl

theorem shift_at (q : Fin 1024) : (shift md (ix2 0 q) : EReal) = md (ix2 0 ⟨q.val, by omega⟩) :=
  View.ld_unit_apply_of md _ _ _ _ _ fun a => match a with
    | ⟨0, _⟩ => rfl
    | ⟨1, _⟩ => (Nat.zero_add _).symm

theorem normed_at (p : Fin 512) (q : Fin 1024) : (normed x md (ix2 p q) : EReal) = modulated (trow x p) md q := by
  refine congrArg₂ (fun a b : EReal => a + b) (congrArg₂ (fun a b : EReal => a * b)
    (congrArg₂ (fun a b : EReal => a * b) (cen_at x p q) ((bcCol _ p q).trans (rs_at x p))) ((bcRow _ p q).trans ?_)) ((bcRow _ p q).trans (shift_at md q))
  exact congrArg₂ (fun a b : EReal => a + b) one_word (scale_at md q)

/-- The product of a tile with a block of the weights, into zeros. -/
theorem product_at (h : FVec Ideal S512x1024 .bf16) (w : Vec Ideal S1x1024x2304 .bf16) (p : Fin 512) (q : Fin 2304) :
    (product h w (ix2 p q) : EReal) = ∑ k : Fin 1024, h (ix2 p k) * w (ix3 0 k q) := by
  refine (Ideal.matmul_constant_zero_apply _ none _ _ _).trans ((DotDims.sum_contr₁ _ rfl rfl _).trans ?_)
  refine Finset.sum_congr rfl fun k _ => congrArg₂ (fun a b : EReal => a * b) (congrArg h (ext2 rfl rfl)) ?_
  exact shapeCast_apply _ _ _ (ix3 0 k q) (by
    rw [Shape.rowMajor_val_three, Shape.rowMajor_val_two]; show (0 * 1024 + k.val) * 2304 + q.val = k.val * 2304 + q.val; omega)

end Tile

/-! ## The blocks -/

variable (m : (ℓ : Loc nD τ sig) → Buf (Elt Ideal) ℓ) (ρ : Dev nD → PrngReg) (c : Dev nD)

/-- The arguments on device `c`. -/
abbrev X : S2048x1024.Idx → EReal := m ((c : Thread nD τ).loc main_arg0)
abbrev MD : S1x3072.Idx → EReal := m ((c : Thread nD τ).loc main_arg1)
abbrev W : S1024x9216.Idx → EReal := m ((c : Thread nD τ).loc main_arg2)

theorem V_weights : V m c main_v2
    = transpose S4x1024x2304 [1, 0, 2] (shapeCast S1024x4x2304 (W m c) shapeCasts_S1024x9216_S1024x4x2304) transposes_S1024x4x2304_S4x1024x2304_1_0_2 := by
  sl_kernel_rfl

/-- The weights of chip `j`: columns `2304 j …` of the argument. -/
theorem weights_at (j : Fin 4) (k : Fin 1024) (q : Fin 2304) :
    (V m c main_v2 : S4x1024x2304.Idx → EReal) (ix3 j k q) = W m c (ix2 k ⟨2304 * j.val + q.val, by omega⟩) := by
  refine (congrFun (V_weights m c) (ix3 j k q)).trans ?_
  refine (transpose_apply _ _ _ (ix3 j k q) (ix3 k j q : S1024x4x2304.Idx) fun b => match b with
    | ⟨0, _⟩ => rfl
    | ⟨1, _⟩ => rfl
    | ⟨2, _⟩ => rfl).trans ?_
  exact shapeCast_apply _ _ _ (ix2 k ⟨2304 * j.val + q.val, by omega⟩) (by
    rw [Shape.rowMajor_val_three, Shape.rowMajor_val_two]
    show k.val * 9216 + (2304 * j.val + q.val) = (k.val * 4 + j.val) * 2304 + q.val
    omega)

theorem place0 : ∀ o : Fin 4, win0_0.index (first o) 0 = o.val ∧ win0_0.index (first o) 1 = 0 := by decide +kernel
theorem place1 : ∀ t : Fin cfg0.N, win0_1.index t 0 = 0 ∧ win0_1.index t 1 = 0 := (by decide +kernel : ∀ t : Fin grid0.N, _)
theorem place2 : ∀ t : Fin cfg0.N, win0_2.index t 0 = t.val / 4 ∧ win0_2.index t 1 = 0 ∧ win0_2.index t 2 = 0 :=
  (by decide +kernel : ∀ t : Fin grid0.N, _)
theorem place3 : ∀ t : Fin cfg0.N, win0_3.index t 0 = t.val % 4 ∧ win0_3.index t 1 = t.val / 4 := (by decide +kernel : ∀ t : Fin grid0.N, _)
theorem place4 : ∀ t : Fin cfg0.N, win0_4.index t 0 = (last t).val ∧ win0_4.index t 1 = 0 := (by decide +kernel : ∀ t : Fin grid0.N, _)

theorem x_block (o : Fin 4) (p : Fin 512) (k : Fin 1024) :
    (iblk m c 0 (first o) : S512x1024.Idx → EReal) (ix2 p k) = X m c (ix2 ⟨512 * o.val + p.val, by omega⟩ k) := by
  refine Eq.trans (congrArg (V m c main_arg0 : S2048x1024.Idx → EReal) ?_) (congrFun (V_main_arg0 m c) _)
  exact ext2 (x := ((cfg0.win 0).blk (first o)).view.emb (ix2 p k))
    (show win0_0.index (first o) 0 * 512 + 1 * p.val = 512 * o.val + p.val by rw [(place0 o).1]; omega)
    (show win0_0.index (first o) 1 * 1024 + 1 * k.val = k.val by rw [(place0 o).2]; omega)

theorem md_block (t : Fin cfg0.N) : (iblk m c 1 t : S1x3072.Idx → EReal) = MD m c := by
  funext y
  refine Eq.trans (congrArg (V m c main_arg1 : S1x3072.Idx → EReal) ?_) (congrFun (V_main_arg1 m c) y)
  exact ext2 (x := ((cfg0.win 1).blk t).view.emb y)
    (show win0_1.index t 0 * 1 + 1 * (y 0).val = (y 0).val by rw [(place1 t).1]; omega)
    (show win0_1.index t 1 * 3072 + 1 * (y 1).val = (y 1).val by rw [(place1 t).2]; omega)

theorem w_block (t : Fin cfg0.N) (k : Fin 1024) (q : Fin 2304) :
    (iblk m c 2 t : S1x1024x2304.Idx → EReal) (ix3 0 k q) = W m c (ix2 k ⟨2304 * (t.val / 4) + q.val, by have := pt_lt t; omega⟩) := by
  have h4 : t.val / 4 < 4 := by have := pt_lt t; omega
  refine Eq.trans (congrArg (V m c main_v2 : S4x1024x2304.Idx → EReal) ?_) (weights_at m c ⟨t.val / 4, h4⟩ k q)
  exact funext fun d => match d with
    | ⟨0, _⟩ => Fin.ext (show win0_2.index t 0 * 1 + 1 * 0 = t.val / 4 by rw [(place2 t).1]; omega)
    | ⟨1, _⟩ => Fin.ext (show win0_2.index t 1 * 1024 + 1 * k.val = k.val by rw [(place2 t).2.1]; omega)
    | ⟨2, _⟩ => Fin.ext (show win0_2.index t 2 * 2304 + 1 * q.val = q.val by rw [(place2 t).2.2]; omega)

/-- A tile of the normalised rows. -/
theorem tile_at_row (o : Fin 4) (p : Fin 512) (k : Fin 1024) :
    (tile m c o (ix2 p k) : EReal) = modulated (row (X m c) ⟨512 * o.val + p.val, by omega⟩) (MD m c) k := by
  unfold tile
  refine (normed_at _ _ p k).trans ?_
  rw [md_block]
  exact congrArg (fun r => modulated r (MD m c) k) (funext fun k => x_block m c o p k)

/-! ## The results -/

/-- The second result's array after the run. -/
theorem final_hidden : (data m 0 c).arrAt 4 cfg0.N = hidden (X m c) (MD m c) := by
  refine (data m 0 c).arrAt_eq_of_covers 4 _ (by decide +kernel) fun t hf y => ?_
  show (data m 0 c).after 4 t ((cfg0.win 4).xinj (grid0.coords t) y) = hidden (X m c) (MD m c) (((cfg0.win 4).blk t).view.emb y)
  rw [after_4]
  have y0 : (y 0).val < 512 := (y 0).isLt
  have y1 : (y 1).val < 1024 := (y 1).isLt
  have e : (cfg0.win 4).xinj (grid0.coords t) y = (ix2 ⟨(y 0).val, y0⟩ ⟨(y 1).val, y1⟩ : S512x1024.Idx) := ext2 rfl rfl
  have e0 : ((((cfg0.win 4).blk t).view.emb y) 0).val = 512 * (last t).val + (y 0).val :=
    show win0_4.index t 0 * 512 + 1 * (y 0).val = _ by rw [(place4 t).1]; omega
  have e1 : ((((cfg0.win 4).blk t).view.emb y) 1).val = (y 1).val := show win0_4.index t 1 * 1024 + 1 * (y 1).val = _ by rw [(place4 t).2]; omega
  rw [e]
  refine (tile_at_row m c _ _ _).trans ?_
  exact congrArg₂ (fun a b => modulated (row (X m c) a) (MD m c) b) (Fin.ext e0.symm) (Fin.ext e1.symm)

/-- The first result's array after the run. -/
theorem final_projected : (data m 0 c).arrAt 3 cfg0.N = projected (X m c) (MD m c) (W m c) := by
  refine (data m 0 c).arrAt_eq_of_covers 3 _ (by decide +kernel) fun t hf y => ?_
  show (data m 0 c).after 3 t ((cfg0.win 3).xinj (grid0.coords t) y) = projected (X m c) (MD m c) (W m c) (((cfg0.win 3).blk t).view.emb y)
  rw [after_3]
  have y0 : (y 0).val < 512 := (y 0).isLt
  have y1 : (y 1).val < 2304 := (y 1).isLt
  have e : (cfg0.win 3).xinj (grid0.coords t) y = (ix2 ⟨(y 0).val, y0⟩ ⟨(y 1).val, y1⟩ : S512x2304.Idx) := ext2 rfl rfl
  have e0 : ((((cfg0.win 3).blk t).view.emb y) 0).val = 512 * ((grid0.coords t) 1).val + (y 0).val :=
    show win0_3.index t 0 * 512 + 1 * (y 0).val = _ by rw [(place3 t).1, tile_at t]; omega
  have e1 : ((((cfg0.win 3).blk t).view.emb y) 1).val = 2304 * (t.val / 4) + (y 1).val :=
    show win0_3.index t 1 * 2304 + 1 * (y 1).val = _ by rw [(place3 t).2]; omega
  rw [e]
  refine (product_at _ _ _ _).trans ?_
  unfold projected
  refine Finset.sum_congr rfl fun k _ => congrArg₂ (fun a b : EReal => a * b) ?_ ?_
  · refine (tile_at_row m c _ _ _).trans ?_
    exact congrArg (fun a => modulated (row (X m c) a) (MD m c) k) (Fin.ext e0.symm)
  · refine (w_block m c t k _).trans ?_
    exact congrArg (fun a => W m c (ix2 k a)) (Fin.ext e1.symm)

/-! ## The claim -/

theorem algebraic : Cert.algebraic_Kernel3Ideal_Reference3Ideal := by
  intro m g m' g' _ hargs
  refine ⟨fun c => projected (X m c) (MD m c) (W m c), fun c => hidden (X m c) (MD m c), ?_, ?_⟩
  · refine (θ_run _ _ _).mono (fun r h c => ?_) (θ_run_and (launch (F := Ideal) m g) (kept (F := Ideal) m g))
    exact ⟨((h.1.1 c).1 3).trans (final_projected m c), ((h.1.1 c).1 4).trans (final_hidden m c), h.2.1 c⟩
  · refine (θ_run _ _ _).mono (fun r h c => ?_) (Cert.Reference3Ideal.Value.run (F := Ideal) m' g')
    obtain ⟨h0, h1, hk⟩ := h c
    obtain ⟨e0, e1, e2⟩ := hargs c
    refine ⟨?_, ?_, hk⟩
    · rw [e0, e1, e2] at h0
      exact (h0.trans (val_main_v24_eq _ _ _)).trans (ref_projected _ _ _)
    · rw [e0, e1] at h1
      exact (h1.trans (val_main_v25_eq _ _)).trans (ref_kept _ _)

end Cert.Proj

end
end
-- ==== Proof.BackRef.lean ====
/-
The call `proj_bwd`: its three results as sums over the arguments, the reference's program read as these, and what the
precondition says of the rows. The gradient to the input asks for real rows: there the kernel's spelling of the normalisation's
gradient is the reference's.
-/
module

public import proofs.«01_k».proof.Proof.Proj
public import proofs.«01_k».proof.Proof.Finite
public import proofs.«01_k».proof.Proof.Gen.Pre_finite4
public import proofs.«01_k».proof.Proof.Gen.Reference4Ideal.Run
public import proofs.«01_k».proof.Proof.Gen.Reference4Ideal.Read

@[expose] public section

set_option maxRecDepth 16384
set_option maxHeartbeats 1000000

noncomputable section

namespace Cert.Back

open Cert.Reference4Ideal Cert.Reference4Ideal.Read
open Idealize.ShloMosaic hiding ix1 ix2 ix3 ix4
open Idealize.ShloMosaic.TcCoe Idealize.ShloMosaic.Tactic Idealize.ShloMosaic.ValueIdx Idealize.SL.Sem
open Cert.Merge (mean cen var rstd std dvar dcen DR refDR IsReal R width one_word)
open Cert.Proj (ext2 row)

attribute [local instance] Cert.Reference4Ideal.Gen.facts Cert.Pre_finite4.Gen.facts

variable (dp : S2048x9216.Idx → EReal) (x : S2048x1024.Idx → EReal) (md : S1x3072.Idx → EReal) (w : S1024x9216.Idx → EReal)
  (dr : S2048x1024.Idx → EReal)

/-- The gradient to the modulated rows, -/
def dh (p : Fin 2048) (q : Fin 1024) : EReal := ∑ k : Fin 9216, dp (ix2 p k) * w (ix2 q k)
/-- and to the normalised rows. -/
def dn (p : Fin 2048) (q : Fin 1024) : EReal := dh dp w p q * (1 + md (ix2 0 ⟨1024 + q.val, by omega⟩))

/-- The gradient to the input, to the shift and to the scale. -/
def gradX (i : S2048x1024.Idx) : EReal :=
  DR (row x ⟨(i 0).val, (i 0).isLt⟩) (dn dp md w ⟨(i 0).val, (i 0).isLt⟩) ⟨(i 1).val, (i 1).isLt⟩ + dr i
def gradShift (i : S1x1024.Idx) : EReal := ∑ p : Fin 2048, dh dp w p ⟨(i 1).val, (i 1).isLt⟩
def gradScale (i : S1x1024.Idx) : EReal := ∑ p : Fin 2048, dh dp w p ⟨(i 1).val, (i 1).isLt⟩ * std (row x p) ⟨(i 1).val, (i 1).isLt⟩

/-! ## The reference -/

theorem ref_mean (i : S2048x1.Idx) : (val_main_v5 (F := Ideal) x i : EReal) = mean (row x ⟨(i 0).val, (i 0).isLt⟩) := by
  simp only [val_main_v5_apply, val_main_v3_apply, val_main_v2_apply, val_main_v4_apply, val_main_cst_apply, val_main_cst_0_apply,
    Ideal.ofBits_def, Ideal.ofBits_zero_f32, zero_add]
  exact congrArg (fun t => Ideal.div t width) (Finset.sum_congr rfl fun k _ => congrArg x (ext2 rfl rfl))

theorem ref_cen (i : S2048x1024.Idx) : (val_main_v7 (F := Ideal) x i : EReal) = cen (row x ⟨(i 0).val, (i 0).isLt⟩) ⟨(i 1).val, (i 1).isLt⟩ := by
  rw [val_main_v7_apply, val_main_v6_apply, ref_mean]
  exact congrArg₂ (fun a b : EReal => a - b) (congrArg x (ext2 rfl rfl)) rfl

theorem ref_var (i : S2048x1.Idx) : (val_main_v14 (F := Ideal) x i : EReal) = var (row x ⟨(i 0).val, (i 0).isLt⟩) := by
  simp only [val_main_v14_apply, val_main_v12_apply, val_main_v10_apply, val_main_v9_apply, val_main_v11_apply,
    val_main_v13_apply, val_main_v8_apply, ref_cen, val_main_cst_1_apply, val_main_cst_2_apply, val_main_cst_3_apply,
    Ideal.ofBits_def, Ideal.ofBits_zero_f32, zero_add]
  rfl

theorem ref_rstd (i : S2048x1.Idx) : (val_main_v15 (F := Ideal) x i : EReal) = rstd (row x ⟨(i 0).val, (i 0).isLt⟩) := by
  rw [val_main_v15_apply, ref_var]; rfl

theorem ref_std (i : S2048x1024.Idx) : (val_main_v20 (F := Ideal) x i : EReal) = std (row x ⟨(i 0).val, (i 0).isLt⟩) ⟨(i 1).val, (i 1).isLt⟩ := by
  rw [val_main_v20_apply, val_main_v19_apply, ref_cen, ref_rstd]; rfl

theorem ref_dh (i : S2048x1024.Idx) : (val_main_v29 (F := Ideal) dp w i : EReal) = dh dp w ⟨(i 0).val, (i 0).isLt⟩ ⟨(i 1).val, (i 1).isLt⟩ := by
  rw [val_main_v29_apply]
  exact Finset.sum_congr rfl fun k _ => congrArg₂ (fun a b : EReal => a * b) (congrArg dp (ext2 rfl rfl)) (congrArg w (ext2 rfl rfl))

theorem ref_dn (i : S2048x1024.Idx) : (val_main_v36 (F := Ideal) dp md w i : EReal) = dn dp md w ⟨(i 0).val, (i 0).isLt⟩ ⟨(i 1).val, (i 1).isLt⟩ := by
  simp only [val_main_v36_apply, val_main_v35_apply, val_main_v22_apply, val_main_v21_apply, val_main_v1_apply, val_main_cst_5_apply, ref_dh,
    Ideal.ofBits_def, one_word]
  exact congrArg (fun a : EReal => dh dp w ⟨(i 0).val, (i 0).isLt⟩ ⟨(i 1).val, (i 1).isLt⟩ * (1 + a)) (congrArg md (ext2 rfl rfl))

theorem ref_shift : (val_main_v31 (F := Ideal) dp w : S1x1024.Idx → EReal) = gradShift dp w := by
  funext i
  simp only [val_main_v31_apply, val_main_v30_apply, val_main_cst_6_apply, ref_dh, Ideal.ofBits_def, Ideal.ofBits_zero_f32, zero_add]
  refine Finset.sum_congr rfl fun p _ => congrArg (dh dp w p) (Fin.ext ?_)
  have h0 : (i 0).val < 1 := (i 0).isLt
  show (i 0).val * 1024 + (i 1).val = (i 1).val
  omega

theorem ref_scale : (val_main_v34 (F := Ideal) dp x w : S1x1024.Idx → EReal) = gradScale dp x w := by
  funext i
  simp only [val_main_v34_apply, val_main_v33_apply, val_main_v32_apply, val_main_cst_7_apply, ref_dh, ref_std, Ideal.ofBits_def, Ideal.ofBits_zero_f32, zero_add]
  refine Finset.sum_congr rfl fun p _ => (mul_comm (G := EReal) _ _).trans ?_
  have h0 : (i 0).val < 1 := (i 0).isLt
  have e : (⟨(i 0).val * 1024 + (i 1).val, by have h1 : (i 1).val < 1024 := (i 1).isLt; omega⟩ : Fin 1024) = ⟨(i 1).val, (i 1).isLt⟩ :=
    Fin.ext (show (i 0).val * 1024 + (i 1).val = (i 1).val by omega)
  exact congrArg (fun q => dh dp w p q * std (row x p) q) e

theorem ref_dvar (i : S2048.Idx) : (val_main_v45 (F := Ideal) dp x md w i : EReal)
    = dvar (row x ⟨(i 0).val, (i 0).isLt⟩) (dn dp md w ⟨(i 0).val, (i 0).isLt⟩) := by
  simp only [val_main_v45_apply, val_main_v44_apply, val_main_v43_apply, val_main_v42_apply, val_main_v39_apply, val_main_v38_apply,
    val_main_v37_apply, val_main_v18_apply, val_main_v17_apply, val_main_v16_apply, val_main_cst_4_apply, val_main_cst_8_apply,
    val_main_cst_9_apply, val_main_cst_10_apply, ref_cen, ref_dn, ref_rstd, ref_var, Ideal.ofBits_def, Ideal.ofBits_zero_f32, zero_add,
    Fin.sum_univ_one, Nat.mul_one, Fin.val_zero, Nat.add_zero]
  rfl

theorem ref_dcen (i : S2048x1024.Idx) : (val_main_v50 (F := Ideal) dp x md w i : EReal)
    = dcen (row x ⟨(i 0).val, (i 0).isLt⟩) (dn dp md w ⟨(i 0).val, (i 0).isLt⟩) ⟨(i 1).val, (i 1).isLt⟩ := by
  simp only [val_main_v50_apply, val_main_v49_apply, val_main_v48_apply, val_main_v47_apply, val_main_v46_apply, val_main_v41_apply,
    val_main_v40_apply, ref_cen, ref_dn, ref_rstd, ref_dvar]
  rfl

theorem ref_dx (i : S2048x1024.Idx) : (val_main_v58 (F := Ideal) dp x md w i : EReal)
    = refDR (row x ⟨(i 0).val, (i 0).isLt⟩) (dn dp md w ⟨(i 0).val, (i 0).isLt⟩) ⟨(i 1).val, (i 1).isLt⟩ := by
  simp only [val_main_v58_apply, val_main_v57_apply, val_main_v56_apply, val_main_v55_apply, val_main_v54_apply, val_main_v53_apply,
    val_main_v52_apply, val_main_v51_apply, val_main_cst_11_apply, val_main_cst_12_apply, val_main_cst_13_apply, ref_dcen,
    Ideal.ofBits_def, Ideal.ofBits_zero_f32, zero_add, Fin.sum_univ_one, Nat.mul_one, Fin.val_zero, Nat.add_zero]
  rfl

/-! ## The precondition -/

/-- The rows the gradient to the input is made of are real. -/
def Regular : Prop := (∀ p, IsReal (row x p)) ∧ ∀ p, IsReal (dn dp md w p)

/-- What `finite4` says of the arrays. -/
abbrev tests := Cert.Pre_finite4.fn (F := Ideal) dp x md w dr

theorem regular (h : (tests dp x md w dr).1 = (fun _ => 1#1) ∧ (tests dp x md w dr).2.1 = (fun _ => 1#1)
    ∧ (tests dp x md w dr).2.2.1 = (fun _ => 1#1) ∧ (tests dp x md w dr).2.2.2 = (fun _ => 1#1)) : Regular dp x md w := by
  obtain ⟨h0, h1, h2, h3⟩ := h
  have hdp : ∀ p k, R (dp (ix2 p k)) := fun p k =>
    Cert.ReferenceIdeal.Hand.real_of_test (s := S2048x9216) dp _ (ix2 p k) rfl (congrFun h0 (ix2 p k))
  have hx : ∀ p q, R (row x p q) := fun p q =>
    Cert.ReferenceIdeal.Hand.real_of_test (s := S2048x1024) x _ (ix2 p q) rfl (congrFun h1 (ix2 p q))
  have hs : ∀ q : Fin 1024, R (md (ix2 0 ⟨1024 + q.val, by omega⟩)) := fun q => by
    have e := Cert.ReferenceIdeal.Hand.real_of_test (s := S1x1024) _ _ (ix2 0 q) rfl (congrFun h2 (ix2 0 q))
    refine cast (congrArg R ?_) e
    exact extractStridedSlice_apply ![0, 1024] md _ (ix2 0 q) (ix2 0 ⟨1024 + q.val, by omega⟩) fun a => match a with
      | ⟨0, _⟩ => rfl
      | ⟨1, _⟩ => rfl
  have hw : ∀ q k, R (w (ix2 q k)) := fun q k =>
    Cert.ReferenceIdeal.Hand.real_of_test (s := S1024x9216) w _ (ix2 q k) rfl (congrFun h3 (ix2 q k))
  refine ⟨fun p => ?_, fun p => ?_⟩
  · choose a ha using hx p
    exact ⟨a, funext ha⟩
  · have hd : ∀ q, R (dn dp md w p q) := fun q => (R.sum fun k => (hdp p k).mul (hw q k)).mul (R.one.add (hs q))
    choose a ha using hd
    exact ⟨a, funext ha⟩

theorem ref_grad (h : Regular dp x md w) : (val_main_v59 (F := Ideal) dp x md w dr : S2048x1024.Idx → EReal) = gradX dp x md w dr := by
  funext i
  rw [val_main_v59_apply, ref_dx]
  exact congrArg (fun a : EReal => a + dr i) (congrFun (Cert.Merge.DR_eq_refDR (h.1 _) (h.2 _)) _).symm

end Cert.Back

end
end
-- ==== Proof.BackRun.lean ====
/-
The call `proj_bwd`: the runs of its body. A point adds one product to a tile of rows of the scratch memory; the points of the first
pass start the tile from zeros, the first of all also zeroes the two sums over the rows, and those of the last pass turn the tile into
the gradient to the layer's input and add its rows to the sums.
-/
module

public import proofs.«01_k».proof.Proof.Gen.Kernel4Ideal.Frame
public import Idealize.ShloMosaic.Lib.WritesUnit

@[expose] public section

set_option maxRecDepth 16384
set_option maxHeartbeats 4000000

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs of one call of the body, each a whole buffer: five input tiles, the result tile and the two sums, the scratch. -/
structure Bufs where
  a2 : Memref sig .tc .vmem S512x768 .bf16
  h2 : a2.IsWhole
  a3 : Memref sig .tc .vmem S1x1024x768 .bf16
  h3 : a3.IsWhole
  a4 : Memref sig .tc .vmem S512x1024 .f32
  h4 : a4.IsWhole
  a5 : Memref sig .tc .vmem S1x3072 .f32
  h5 : a5.IsWhole
  a6 : Memref sig .tc .vmem S512x1024 .f32
  h6 : a6.IsWhole
  a7 : Memref sig .tc .vmem S512x1024 .f32
  h7 : a7.IsWhole
  a8 : Memref sig .tc .vmem S1x1024 .f32
  h8 : a8.IsWhole
  a9 : Memref sig .tc .vmem S1x1024 .f32
  h9 : a9.IsWhole
  a10 : Memref sig .tc .vmem S2048x1024 .f32
  h10 : a10.IsWhole

/-- The body called with these memrefs at grid coordinates `i`. -/
abbrev Bufs.call (M : Bufs) (i : grid0.Coords) :=
  cc0_proj_bwd (F := F) i M.a2 M.h2 M.a3 M.h3 M.a4 M.h4 M.a5 M.h5 M.a6 M.h6 M.a7 M.h7 M.a8 M.h8 M.a9 M.h9 M.a10 M.h10

/-- The input tiles of one point. -/
structure Ins (F : FTy → Type) where
  dp : Vec F S512x768 .bf16
  w : Vec F S1x1024x768 .bf16
  x : Vec F S512x1024 .f32
  md : Vec F S1x3072 .f32
  dr : Vec F S512x1024 .f32

/-- The input tiles, each owned at its contents. -/
def Bufs.ins (c : Dev nD) (M : Bufs) (X : Ins F) : sProp 𝕄 :=
  iprop(owns (c : Thread nD τ) M.a2 fullShare X.dp ∗ owns (c : Thread nD τ) M.a3 fullShare X.w ∗ owns (c : Thread nD τ) M.a4 fullShare X.x
    ∗ owns (c : Thread nD τ) M.a5 fullShare X.md ∗ owns (c : Thread nD τ) M.a6 fullShare X.dr)

theorem Bufs.ins_intro (c : Dev nD) (M : Bufs) (X : Ins F) :
    iprop((M.a2.view.loc (c : Thread nD τ) ↦[M.a2.view.set]{fullShare} M.h2.unread X.dp)
      ∗ (M.a3.view.loc (c : Thread nD τ) ↦[M.a3.view.set]{fullShare} M.h3.unread X.w)
      ∗ (M.a4.view.loc (c : Thread nD τ) ↦[M.a4.view.set]{fullShare} M.h4.unread X.x)
      ∗ (M.a5.view.loc (c : Thread nD τ) ↦[M.a5.view.set]{fullShare} M.h5.unread X.md)
      ∗ (M.a6.view.loc (c : Thread nD τ) ↦[M.a6.view.set]{fullShare} M.h6.unread X.dr)) ⊢ M.ins c X := by
  unfold Bufs.ins owns
  iintro ⟨H2, H3, H4, H5, H6⟩
  isplitl [H2]
  · iexists _; isplitr; · ipureintro; exact M.h2.read_unread _
    iexact H2
  isplitl [H3]
  · iexists _; isplitr; · ipureintro; exact M.h3.read_unread _
    iexact H3
  isplitl [H4]
  · iexists _; isplitr; · ipureintro; exact M.h4.read_unread _
    iexact H4
  isplitl [H5]
  · iexists _; isplitr; · ipureintro; exact M.h5.read_unread _
    iexact H5
  iexists _; isplitr; · ipureintro; exact M.h6.read_unread _
  iexact H6

variable (c : Dev nD) (i : grid0.Coords) (M : Bufs) (X : Ins F) (s : Vec F S2048x1024 .f32) (u v : Vec F S1x1024 .f32)

/-- The first point: the pieces the body leaves in the two sums and in scratch memory, with its triple. -/
noncomputable def runA (h1 : k0_cond1 i = 1#1) (h2 : k0_cond2 i = 1#1) (h3 : k0_cond3 i = 1#1) (h4 : ¬k0_cond4 i = 1#1) :
    Σ' (L8 : List (View.Piece (Elt F) S1x1024 .f32)), Σ' (L9 : List (View.Piece (Elt F) S1x1024 .f32)), { L10 : List (View.Piece (Elt F) S2048x1024 .f32) //
      ∀ (E : Set ℕ) (K : PUnit → sProp 𝕄),
        iprop(M.ins c X ∗
          (∃ d, owns (c : Thread nD τ) M.a8 fullShare d) ∗
          (∃ d, owns (c : Thread nD τ) M.a9 fullShare d) ∗
          owns (c : Thread nD τ) M.a10 fullShare s ∗
          (iprop(M.ins c X ∗
            (∃ f, M.a8.view.loc (c : Thread nD τ) ↦[M.a8.view.set]{fullShare} M.a8.view.writes (Elt F) f L8) ∗
            (∃ f, M.a9.view.loc (c : Thread nD τ) ↦[M.a9.view.set]{fullShare} M.a9.view.writes (Elt F) f L9) ∗
            (M.a10.view.loc (c : Thread nD τ) ↦[M.a10.view.set]{fullShare} M.a10.view.writes (Elt F) (M.h10.unread s) L10)) -∗ K ⟨⟩))
        ⊢ wp frame (wpE (defs₀ (F := F)) Variants.none c none) E (M.call i) K } := by
  refine ⟨?_, ?_, ?_, fun E K => ?run⟩
  case run =>
    unfold Bufs.call cc0_proj_bwd
    unfold Bufs.ins owns
    iintro ⟨⟨⟨%f2, %hf2, H2⟩, ⟨%f3, %hf3, H3⟩, ⟨%f4, %hf4, H4⟩, ⟨%f5, %hf5, H5⟩, ⟨%f6, %hf6, H6⟩⟩, ⟨%d8, %f8, -, H8⟩, ⟨%d9, %f9, -, H9⟩, ⟨%f10, %hf10, H10⟩, Hk⟩
    obtain rfl := M.h2.eq_unread hf2; obtain rfl := M.h3.eq_unread hf3; obtain rfl := M.h4.eq_unread hf4; obtain rfl := M.h5.eq_unread hf5
    obtain rfl := M.h6.eq_unread hf6; obtain rfl := M.h10.eq_unread hf10
    sl_exec (disch := first | sl_exact h1 | sl_exact h2 | sl_exact h3 | sl_exact h4)
    sl_step
    iapply Hk
    isplitl [H2 H3 H4 H5 H6]
    · have e := Bufs.ins_intro c M X
      unfold Bufs.ins owns at e
      iapply e
      isplitl [H2]; · iexact H2
      isplitl [H3]; · iexact H3
      isplitl [H4]; · iexact H4
      isplitl [H5]; · iexact H5
      iexact H6
    isplitl [H8]; · iexists _; iexact H8
    isplitl [H9]; · iexists _; iexact H9
    iexact H10

/-- Another point of the first pass. -/
noncomputable def runB (h1 : ¬k0_cond1 i = 1#1) (h2 : k0_cond2 i = 1#1) (h3 : k0_cond3 i = 1#1) (h4 : ¬k0_cond4 i = 1#1) :
    { L10 : List (View.Piece (Elt F) S2048x1024 .f32) //
      ∀ (E : Set ℕ) (K : PUnit → sProp 𝕄),
        iprop(M.ins c X ∗
          owns (c : Thread nD τ) M.a10 fullShare s ∗
          (iprop(M.ins c X ∗
            (M.a10.view.loc (c : Thread nD τ) ↦[M.a10.view.set]{fullShare} M.a10.view.writes (Elt F) (M.h10.unread s) L10)) -∗ K ⟨⟩))
        ⊢ wp frame (wpE (defs₀ (F := F)) Variants.none c none) E (M.call i) K } := by
  refine ⟨?_, fun E K => ?run⟩
  case run =>
    unfold Bufs.call cc0_proj_bwd
    unfold Bufs.ins owns
    iintro ⟨⟨⟨%f2, %hf2, H2⟩, ⟨%f3, %hf3, H3⟩, ⟨%f4, %hf4, H4⟩, ⟨%f5, %hf5, H5⟩, ⟨%f6, %hf6, H6⟩⟩, ⟨%f10, %hf10, H10⟩, Hk⟩
    obtain rfl := M.h2.eq_unread hf2; obtain rfl := M.h3.eq_unread hf3; obtain rfl := M.h4.eq_unread hf4; obtain rfl := M.h5.eq_unread hf5
    obtain rfl := M.h6.eq_unread hf6; obtain rfl := M.h10.eq_unread hf10
    sl_exec (disch := first | sl_exact h1 | sl_exact h2 | sl_exact h3 | sl_exact h4)
    sl_step
    iapply Hk
    isplitl [H2 H3 H4 H5 H6]
    · have e := Bufs.ins_intro c M X
      unfold Bufs.ins owns at e
      iapply e
      isplitl [H2]; · iexact H2
      isplitl [H3]; · iexact H3
      isplitl [H4]; · iexact H4
      isplitl [H5]; · iexact H5
      iexact H6
    iexact H10

/-- A point of a middle pass. -/
noncomputable def runC (h1 : ¬k0_cond1 i = 1#1) (h2 : ¬k0_cond2 i = 1#1) (h3 : k0_cond3 i = 1#1) (h4 : ¬k0_cond4 i = 1#1) :
    { L10 : List (View.Piece (Elt F) S2048x1024 .f32) //
      ∀ (E : Set ℕ) (K : PUnit → sProp 𝕄),
        iprop(M.ins c X ∗
          owns (c : Thread nD τ) M.a10 fullShare s ∗
          (iprop(M.ins c X ∗
            (M.a10.view.loc (c : Thread nD τ) ↦[M.a10.view.set]{fullShare} M.a10.view.writes (Elt F) (M.h10.unread s) L10)) -∗ K ⟨⟩))
        ⊢ wp frame (wpE (defs₀ (F := F)) Variants.none c none) E (M.call i) K } := by
  refine ⟨?_, fun E K => ?run⟩
  case run =>
    unfold Bufs.call cc0_proj_bwd
    unfold Bufs.ins owns
    iintro ⟨⟨⟨%f2, %hf2, H2⟩, ⟨%f3, %hf3, H3⟩, ⟨%f4, %hf4, H4⟩, ⟨%f5, %hf5, H5⟩, ⟨%f6, %hf6, H6⟩⟩, ⟨%f10, %hf10, H10⟩, Hk⟩
    obtain rfl := M.h2.eq_unread hf2; obtain rfl := M.h3.eq_unread hf3; obtain rfl := M.h4.eq_unread hf4; obtain rfl := M.h5.eq_unread hf5
    obtain rfl := M.h6.eq_unread hf6; obtain rfl := M.h10.eq_unread hf10
    sl_exec (disch := first | sl_exact h1 | sl_exact h2 | sl_exact h3 | sl_exact h4)
    sl_step
    iapply Hk
    isplitl [H2 H3 H4 H5 H6]
    · have e := Bufs.ins_intro c M X
      unfold Bufs.ins owns at e
      iapply e
      isplitl [H2]; · iexact H2
      isplitl [H3]; · iexact H3
      isplitl [H4]; · iexact H4
      isplitl [H5]; · iexact H5
      iexact H6
    iexact H10

/-- A point of the last pass: the pieces in the result tile, the two sums and scratch memory. -/
noncomputable def runD (h1 : ¬k0_cond1 i = 1#1) (h2 : ¬k0_cond2 i = 1#1) (h3 : k0_cond3 i = 1#1) (h4 : k0_cond4 i = 1#1) :
    Σ' (L7 : List (View.Piece (Elt F) S512x1024 .f32)), Σ' (L8 : List (View.Piece (Elt F) S1x1024 .f32)), Σ' (L9 : List (View.Piece (Elt F) S1x1024 .f32)), { L10 : List (View.Piece (Elt F) S2048x1024 .f32) //
      ∀ (E : Set ℕ) (K : PUnit → sProp 𝕄),
        iprop(M.ins c X ∗
          (∃ d, owns (c : Thread nD τ) M.a7 fullShare d) ∗
          owns (c : Thread nD τ) M.a8 fullShare u ∗
          owns (c : Thread nD τ) M.a9 fullShare v ∗
          owns (c : Thread nD τ) M.a10 fullShare s ∗
          (iprop(M.ins c X ∗
            (∃ f, M.a7.view.loc (c : Thread nD τ) ↦[M.a7.view.set]{fullShare} M.a7.view.writes (Elt F) f L7) ∗
            (M.a8.view.loc (c : Thread nD τ) ↦[M.a8.view.set]{fullShare} M.a8.view.writes (Elt F) (M.h8.unread u) L8) ∗
            (M.a9.view.loc (c : Thread nD τ) ↦[M.a9.view.set]{fullShare} M.a9.view.writes (Elt F) (M.h9.unread v) L9) ∗
            (M.a10.view.loc (c : Thread nD τ) ↦[M.a10.view.set]{fullShare} M.a10.view.writes (Elt F) (M.h10.unread s) L10)) -∗ K ⟨⟩))
        ⊢ wp frame (wpE (defs₀ (F := F)) Variants.none c none) E (M.call i) K } := by
  refine ⟨?_, ?_, ?_, ?_, fun E K => ?run⟩
  case run =>
    unfold Bufs.call cc0_proj_bwd k0_part1
    unfold Bufs.ins owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%f8, %hf8, H8⟩, ⟨%f9, %hf9, H9⟩, ⟨%f10, %hf10, H10⟩, Hk⟩
    obtain rfl := M.h2.eq_unread hf2; obtain rfl := M.h3.eq_unread hf3; obtain rfl := M.h4.eq_unread hf4; obtain rfl := M.h5.eq_unread hf5
    obtain rfl := M.h6.eq_unread hf6; obtain rfl := M.h10.eq_unread hf10; obtain rfl := M.h8.eq_unread hf8; obtain rfl := M.h9.eq_unread hf9
    sl_exec (disch := first | sl_exact h1 | sl_exact h2 | sl_exact h3 | sl_exact h4)
    sl_step
    iapply Hk
    isplitl [H2 H3 H4 H5 H6]
    · have e := Bufs.ins_intro c M X
      unfold Bufs.ins owns at e
      iapply e
      isplitl [H2]; · iexact H2
      isplitl [H3]; · iexact H3
      isplitl [H4]; · iexact H4
      isplitl [H5]; · iexact H5
      iexact H6
    isplitl [H7]; · iexists _; iexact H7
    isplitl [H8]; · iexact H8
    isplitl [H9]; · iexact H9
    iexact H10

end Cert.Kernel4Ideal.Hand

end
-- ==== Proof.BackBody.lean ====
/-
The call `proj_bwd`: its body as plain functions of the tiles. Scratch memory holds a matrix of four tiles of rows, to which every
point adds a product; `dxTile` is the gradient to the layer's input that the last pass makes of a tile, `shAdd` and `scAdd` what it
adds to the two sums.
-/
module

public import proofs.«01_k».proof.Proof.BackRun
public import proofs.«01_k».proof.Proof.ProjBody

@[expose] public section

set_option maxRecDepth 16384
set_option maxHeartbeats 4000000

noncomputable section

namespace Cert.Kernel4Ideal.Hand

open Cert.Kernel4Ideal Cert.Kernel4Ideal.Gen
open Cert.Kernel3Ideal.Hand (mu cen rs scale rows keep rows_keep rows_keep_ne offset)
open Idealize.ShloMosaic hiding ix1 ix2 ix3 ix4
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tiles -/

/-- The zeros a tile of scratch memory and a sum start at. -/
def zeroTile : FVec F S512x1024 .f32 := broadcast S512x1024 (Scalar.ofBits .f32 0x00000000#32)
def zeroRow : FVec F S1x1024 .f32 := broadcast S1x1024 (Scalar.ofBits .f32 0x00000000#32)

/-- A tile with the product of one point added. -/
def plus (g : FVec F S512x1024 .f32) (dp : Vec F S512x768 .bf16) (w : Vec F S1x1024x768 .bf16) : FVec F S512x1024 .f32 :=
  addf g (matmul dot_S512x768_S1024x768_S512x1024_1_1_0_0_n_n none (φ₁ := .bf16) (φ₂ := .bf16) dp (shapeCast S1024x768 w shapeCasts_S1x1024x768_S1024x768)
    (constant S512x1024 .f32 0x00000000#32))

/-- The normalised rows. -/
def std (x : FVec F S512x1024 .f32) : FVec F S512x1024 .f32 := mulf (cen x) (broadcastTo S512x1024 (rs x) broadcasts_S512x1_S512x1024)

/-- A tile times one plus the scale. -/
def scaled (g : FVec F S512x1024 .f32) (sc : FVec F S1x1024 .f32) : FVec F S512x1024 .f32 :=
  mulf g (broadcastTo S512x1024 (addf (broadcast S1x1024 (Scalar.ofBits .f32 0x3F800000#32)) sc) broadcasts_S1x1024_S512x1024)

/-- The gradient to the layer norm's input, of the gradient `d` to its result. -/
def normBack (x d : FVec F S512x1024 .f32) : FVec F S512x1024 .f32 :=
  mulf (broadcastTo S512x1024 (rs x) broadcasts_S512x1_S512x1024)
    (subf (subf d (broadcastTo S512x1024 (mu d) broadcasts_S512x1_S512x1024))
      (mulf (std x) (broadcastTo S512x1024 (mu (mulf d (std x))) broadcasts_S512x1_S512x1024)))

/-- The result tile. -/
def dxTile (g : FVec F S512x1024 .f32) (x : FVec F S512x1024 .f32) (sc : FVec F S1x1024 .f32) (dr : FVec F S512x1024 .f32) : FVec F S512x1024 .f32 :=
  addf (normBack x (scaled g sc)) dr

/-- A sum over the rows with a tile's rows added. -/
def shAdd (u : FVec F S1x1024 .f32) (g : FVec F S512x1024 .f32) : FVec F S1x1024 .f32 :=
  addf u (shapeCast S1x1024 (multiReduction .add [0] S1024 g 0x00000000#32 reduces_S512x1024_S1024 (.inl rfl) rfl) shapeCasts_S1024_S1x1024)
def scAdd (u : FVec F S1x1024 .f32) (g x : FVec F S512x1024 .f32) : FVec F S1x1024 .f32 := shAdd u (mulf g (std x))

/-! ## The offsets -/

theorem off1 (i : grid0.Coords) : k0_off1 i = ![512 * (i 1).val, 0] := congrArg (fun n => (![n, 0] : Fin 2 → ℕ)) (offset (i 1))
theorem off2 (i : grid0.Coords) : k0_off2 i = ![512 * (i 1).val, 0] := congrArg (fun n => (![n, 0] : Fin 2 → ℕ)) (offset (i 1))
theorem off3 (i : grid0.Coords) : k0_off3 i = ![512 * (i 1).val, 0] := congrArg (fun n => (![n, 0] : Fin 2 → ℕ)) (offset (i 1))

/-- A load of the rectangle last stored reads what was stored. -/
theorem readAt_stored {κ : Kind} {sp : Space} {s : Shape} {e : EltTy} (v : View sig κ sp s e) (f : v.ty.Contents (Elt F)) {off off' size : Fin s.rank → ℕ}
    (inb : ∀ a, off a + size a ≤ s.size a) (inb' : ∀ a, off' a + size a ≤ s.size a) (w : (Rect.unit off size inb).shape.Idx → Elt F e)
    (L : List (View.Piece (Elt F) s e)) (h : off = off') :
    v.readAt (Elt F) (Rect.unit off' size inb').toLoadRect (v.writes (Elt F) f ((⟨Rect.unit off size inb, w⟩ : View.Piece (Elt F) s e) :: L)) = w := by
  funext y
  exact View.read_writes_cons_unit_of_mem v f inb w L _ y h fun a => Rect.idx_unit_val off' size inb' y a

/-- A tile stored over a matrix. -/
theorem read_stored {κ : Kind} {sp : Space} (v : View sig κ sp S2048x1024 .f32) (f : v.ty.Contents (Elt F)) {off : Fin 2 → ℕ}
    (inb : ∀ a, off a + S512x1024.size a ≤ S2048x1024.size a) (w : S512x1024.Idx → Elt F .f32) (L : List (View.Piece (Elt F) S2048x1024 .f32))
    (o : Fin 4) (h : off = ![512 * o.val, 0]) :
    v.read (Elt F) (v.writes (Elt F) f ((⟨Rect.unit (s := S2048x1024) off S512x1024.size inb, w⟩ : View.Piece (Elt F) S2048x1024 .f32) :: L))
      = keep (v.read (Elt F) (v.writes (Elt F) f L)) o w := by
  funext y
  unfold keep
  have h1 : (y 1).val < 1024 := (y 1).isLt
  by_cases hy : 512 * o.val ≤ (y 0).val ∧ (y 0).val < 512 * o.val + 512
  · rw [dif_pos hy]
    exact View.read_writes_cons_unit_of_mem v f (size := S512x1024.size) inb w L y (ix2 ⟨(y 0).val - 512 * o.val, by omega⟩ ⟨(y 1).val, h1⟩) h fun a => match a with
      | ⟨0, _⟩ => show (y 0).val = 512 * o.val + ((y 0).val - 512 * o.val) by omega
      | ⟨1, _⟩ => show (y 1).val = 0 + (y 1).val by omega
  · rw [dif_neg hy]
    refine View.read_writes_cons_unit_of_not_mem v f (size := S512x1024.size) inb w L y h 0 ?_
    show (y 0).val < 512 * o.val ∨ 512 * o.val + 512 ≤ (y 0).val
    omega

/-- Of two tiles stored at one place the later is kept. -/
theorem keep_keep {α : Type} (s : S2048x1024.Idx → α) (o : Fin 4) (a b : S512x1024.Idx → α) : keep (keep s o a) o b = keep s o b := by
  funext y
  unfold keep
  by_cases hy : 512 * o.val ≤ (y 0).val ∧ (y 0).val < 512 * o.val + 512
  · rw [dif_pos hy, dif_pos hy]
  · rw [dif_neg hy, dif_neg hy, dif_neg hy]

/-- A load of a tile of rows. -/
theorem ld_rows (s : Vec F S2048x1024 .f32) {off : Fin 2 → ℕ} (inb : ∀ a, off a + S512x1024.size a ≤ S2048x1024.size a) (o : Fin 4) (h : off = ![512 * o.val, 0]) :
    View.ld (Val := Elt F) (e' := .f32) s (Rect.unit (s := S2048x1024) off S512x1024.size inb) = rows s o := by
  funext y
  unfold rows
  refine View.ld_unit_apply_of s _ _ _ y _ fun a => ?_
  have e := congrFun h a
  refine Eq.trans ?_ (congrArg (fun n => n + (y a).val) e.symm)
  match a with
  | ⟨0, _⟩ => rfl
  | ⟨1, _⟩ => exact (Nat.zero_add _).symm

theorem cast_same {S : Shape} {φ : FTy} (v : FVec F S φ) (h : S.ShapeCasts S) : shapeCast S v h = v := by
  funext y
  exact (shapeCast_apply _ _ y y rfl).trans rfl

/-! ## What the runs leave -/

variable (c : Dev nD) (i : grid0.Coords) (M : Bufs) (X : Ins F) (s : Vec F S2048x1024 .f32) (u v : Vec F S1x1024 .f32)

theorem zero2 : (![0, 0] : Fin 2 → Nat) = fun _ => 0 := by funext a; fin_cases a <;> rfl
theorem zero3 : (![0, 0, 0] : Fin 3 → Nat) = fun _ => 0 := by funext a; fin_cases a <;> rfl

section A

variable (h1 : k0_cond1 i = 1#1) (h2 : k0_cond2 i = 1#1) (h3 : k0_cond3 i = 1#1) (h4 : ¬k0_cond4 i = 1#1)

theorem readA_8 (f) : M.a8.view.read (Elt F) (M.a8.view.writes (Elt F) f (runA c i M X s h1 h2 h3 h4).1) = zeroRow := by
  rw [View.read_writes_eq_canon _ _ _ (View.cover_of_tiledL _ S1x1024.size (by sl_kernel_rfl))]
  unfold runA; dsimp only; sl_unfold_words
  rw [View.canon_cons_unit_zero (S := S1x1024) zero2]
  rfl

theorem readA_9 (f) : M.a9.view.read (Elt F) (M.a9.view.writes (Elt F) f (runA c i M X s h1 h2 h3 h4).2.1) = zeroRow := by
  rw [View.read_writes_eq_canon _ _ _ (View.cover_of_tiledL _ S1x1024.size (by sl_kernel_rfl))]
  unfold runA; dsimp only; sl_unfold_words
  rw [View.canon_cons_unit_zero (S := S1x1024) zero2]
  rfl

theorem readA_10 : M.a10.view.read (Elt F) (M.a10.view.writes (Elt F) (M.h10.unread s) (runA c i M X s h1 h2 h3 h4).2.2.val) = keep s (i 1) (plus zeroTile X.dp X.w) := by
  unfold runA; dsimp only; sl_unfold_words
  refine (read_stored _ _ _ _ _ (i 1) (off2 i)).trans ?_
  refine (congrArg (fun z => keep z (i 1) _) (read_stored _ _ _ _ _ (i 1) (off1 i))).trans ((keep_keep _ _ _ _).trans ?_)
  refine congrArg₂ (fun a b => keep a (i 1) b) (M.h10.read_unread s) ?_
  rw [cast_same]
  unfold plus
  refine congrArg₂ addf ((readAt_stored _ _ _ _ _ _ ((off1 i).trans (off2 i).symm)).trans (cast_same _ _)) ?_
  simp only [View.readAt_eq_ld, M.h2.read_unread, M.h3.read_unread, View.ld_unit_zero (S := S512x768) zero2, View.ld_unit_zero (S := S1x1024x768) zero3]

end A

section B

variable (h1 : ¬k0_cond1 i = 1#1) (h2 : k0_cond2 i = 1#1) (h3 : k0_cond3 i = 1#1) (h4 : ¬k0_cond4 i = 1#1)

theorem readB_10 : M.a10.view.read (Elt F) (M.a10.view.writes (Elt F) (M.h10.unread s) (runB c i M X s h1 h2 h3 h4).val) = keep s (i 1) (plus zeroTile X.dp X.w) := by
  unfold runB; dsimp only; sl_unfold_words
  refine (read_stored _ _ _ _ _ (i 1) (off2 i)).trans ?_
  refine (congrArg (fun z => keep z (i 1) _) (read_stored _ _ _ _ _ (i 1) (off1 i))).trans ((keep_keep _ _ _ _).trans ?_)
  refine congrArg₂ (fun a b => keep a (i 1) b) (M.h10.read_unread s) ?_
  rw [cast_same]
  unfold plus
  refine congrArg₂ addf ((readAt_stored _ _ _ _ _ _ ((off1 i).trans (off2 i).symm)).trans (cast_same _ _)) ?_
  simp only [View.readAt_eq_ld, M.h2.read_unread, M.h3.read_unread, View.ld_unit_zero (S := S512x768) zero2, View.ld_unit_zero (S := S1x1024x768) zero3]

end B

section C

variable (h1 : ¬k0_cond1 i = 1#1) (h2 : ¬k0_cond2 i = 1#1) (h3 : k0_cond3 i = 1#1) (h4 : ¬k0_cond4 i = 1#1)

theorem readC_10 : M.a10.view.read (Elt F) (M.a10.view.writes (Elt F) (M.h10.unread s) (runC c i M X s h1 h2 h3 h4).val)
    = keep s (i 1) (plus (rows s (i 1)) X.dp X.w) := by
  unfold runC; dsimp only; sl_unfold_words
  refine (read_stored _ _ _ _ _ (i 1) (off2 i)).trans ?_
  refine congrArg₂ (fun a b => keep a (i 1) b) (M.h10.read_unread s) ?_
  rw [cast_same]
  unfold plus
  simp only [View.readAt_eq_ld, M.h2.read_unread, M.h3.read_unread, M.h10.read_unread, View.ld_unit_zero (S := S512x768) zero2, View.ld_unit_zero (S := S1x1024x768) zero3]
  exact congrArg (fun a => addf a _) (ld_rows s _ (i 1) (off2 i))

end C

section D

variable (h1 : ¬k0_cond1 i = 1#1) (h2 : ¬k0_cond2 i = 1#1) (h3 : k0_cond3 i = 1#1) (h4 : k0_cond4 i = 1#1)

/-- The tile of scratch memory after the point. -/
abbrev whole : FVec F S512x1024 .f32 := plus (rows s (i 1)) X.dp X.w

/-- The tile the point stores. -/
theorem stored_tile (inb : ∀ a, k0_off2 i a + S512x1024.size a ≤ S2048x1024.size a)
    (hc : S512x1024.ShapeCasts S512x1024) :
    shapeCast S512x1024 (plus (View.readAt (Elt F) M.a10.view (Rect.unit (s := S2048x1024) (k0_off2 i) S512x1024.size inb).toLoadRect (M.h10.unread s))
        (View.readAt (Elt F) M.a2.view (Rect.unit (s := S512x768) ![0, 0] S512x768.size inb_S512x768_S512x768_0_0).toLoadRect (M.h2.unread X.dp))
        (View.readAt (Elt F) M.a3.view (Rect.unit (s := S1x1024x768) ![0, 0, 0] S1x1024x768.size inb_S1x1024x768_S1x1024x768_0_0_0).toLoadRect (M.h3.unread X.w))) hc
      = whole i X s := by
  rw [cast_same]
  unfold whole plus
  simp only [View.readAt_eq_ld, M.h2.read_unread, M.h3.read_unread, M.h10.read_unread, View.ld_unit_zero (S := S512x768) zero2, View.ld_unit_zero (S := S1x1024x768) zero3]
  rw [ld_rows s _ (i 1) (off2 i)]

theorem shAdd_congr {u u' : FVec F S1x1024 .f32} {g g' : FVec F S512x1024 .f32} (hu : u = u') (hg : g = g') : shAdd u g = shAdd u' g' := by
  subst hu; subst hg; rfl
theorem scAdd_congr {u u' : FVec F S1x1024 .f32} {g g' x x' : FVec F S512x1024 .f32} (hu : u = u') (hg : g = g') (hx : x = x') : scAdd u g x = scAdd u' g' x' := by
  subst hu; subst hg; subst hx; rfl
theorem dxTile_congr {g g' x x' : FVec F S512x1024 .f32} {sc sc' : FVec F S1x1024 .f32} {dr dr' : FVec F S512x1024 .f32} (hg : g = g') (hx : x = x')
    (hs : sc = sc') (hd : dr = dr') : dxTile g x sc dr = dxTile g' x' sc' dr' := by
  subst hg; subst hx; subst hs; subst hd; rfl

theorem readD_10 : M.a10.view.read (Elt F) (M.a10.view.writes (Elt F) (M.h10.unread s) (runD c i M X s u v h1 h2 h3 h4).2.2.2.val)
    = keep s (i 1) (whole i X s) := by
  unfold runD; dsimp only; sl_unfold_words
  refine (read_stored _ _ _ _ _ (i 1) (off2 i)).trans ?_
  exact congrArg₂ (fun a b => keep a (i 1) b) (M.h10.read_unread s) (stored_tile i M X s _ _)

theorem readD_8 : M.a8.view.read (Elt F) (M.a8.view.writes (Elt F) (M.h8.unread u) (runD c i M X s u v h1 h2 h3 h4).2.1) = shAdd u (whole i X s) := by
  rw [View.read_writes_eq_canon _ _ _ (View.cover_of_tiledL _ S1x1024.size (by sl_kernel_rfl))]
  unfold runD; dsimp only; sl_unfold_words
  rw [View.canon_cons_unit_zero (S := S1x1024) zero2]
  refine shAdd_congr ?_ ((readAt_stored _ _ _ _ _ _ ((off2 i).trans (off3 i).symm)).trans (stored_tile i M X s _ _))
  rw [cast_same]
  simp only [View.readAt_eq_ld, M.h8.read_unread, View.ld_unit_zero (S := S1x1024) zero2]

theorem readD_9 : M.a9.view.read (Elt F) (M.a9.view.writes (Elt F) (M.h9.unread v) (runD c i M X s u v h1 h2 h3 h4).2.2.1) = scAdd v (whole i X s) X.x := by
  rw [View.read_writes_eq_canon _ _ _ (View.cover_of_tiledL _ S1x1024.size (by sl_kernel_rfl))]
  unfold runD; dsimp only; sl_unfold_words
  rw [View.canon_cons_unit_zero (S := S1x1024) zero2]
  refine scAdd_congr ?_ ((readAt_stored _ _ _ _ _ _ ((off2 i).trans (off3 i).symm)).trans (stored_tile i M X s _ _)) ?_
  · rw [cast_same]
    simp only [View.readAt_eq_ld, M.h9.read_unread, View.ld_unit_zero (S := S1x1024) zero2]
  · simp only [View.readAt_eq_ld, M.h4.read_unread, View.ld_unit_zero (S := S512x1024) zero2]

theorem readD_7 (f) : M.a7.view.read (Elt F) (M.a7.view.writes (Elt F) f (runD c i M X s u v h1 h2 h3 h4).1) = dxTile (whole i X s) X.x (scale X.md) X.dr := by
  rw [View.read_writes_eq_canon _ _ _ (View.cover_of_tiledL _ S512x1024.size (by sl_kernel_rfl))]
  unfold runD; dsimp only; sl_unfold_words
  rw [View.canon_cons_unit_zero (S := S512x1024) zero2]
  refine dxTile_congr ((readAt_stored _ _ _ _ _ _ ((off2 i).trans (off3 i).symm)).trans (stored_tile i M X s _ _)) ?_ ?_ ?_
  · simp only [View.readAt_eq_ld, M.h4.read_unread, View.ld_unit_zero (S := S512x1024) zero2]
  · simp only [View.readAt_eq_ld, M.h5.read_unread]
  · simp only [View.readAt_eq_ld, M.h6.read_unread, View.ld_unit_zero (S := S512x1024) zero2]

end D

/-! ## The body's triples -/

/-- The first point. -/
theorem bodyA (h1 : k0_cond1 i = 1#1) (h2 : k0_cond2 i = 1#1) (h3 : k0_cond3 i = 1#1) (h4 : ¬k0_cond4 i = 1#1) (E : Set ℕ) (K : PUnit → sProp 𝕄) :
    iprop((M.ins c X ∗ (∃ d, owns (c : Thread nD τ) M.a8 fullShare d) ∗ (∃ d, owns (c : Thread nD τ) M.a9 fullShare d) ∗ owns (c : Thread nD τ) M.a10 fullShare s) ∗
      (iprop(M.ins c X ∗ owns (c : Thread nD τ) M.a8 fullShare (zeroRow) ∗ owns (c : Thread nD τ) M.a9 fullShare (zeroRow) ∗ owns (c : Thread nD τ) M.a10 fullShare (keep s (i 1) (plus zeroTile X.dp X.w))) -∗ K ⟨⟩))
      ⊢ wp frame (wpE (defs₀ (F := F)) Variants.none c none) E (M.call i) K := by
  iintro ⟨⟨HI, H8, H9, H10⟩, Hk⟩
  iapply ((runA c i M X s h1 h2 h3 h4).2.2.property E K)
  isplitl [HI]; · iexact HI
  isplitl [H8]; · iexact H8
  isplitl [H9]; · iexact H9
  isplitl [H10]; · iexact H10
  iintro ⟨HI, ⟨%f8, H8⟩, ⟨%f9, H9⟩, H10⟩
  iapply Hk
  isplitl [HI]; · iexact HI
  isplitl [H8]
  · unfold owns; iexists _; isplitr
    swap; · iexact H8
    ipureintro; exact readA_8 c i M X s h1 h2 h3 h4 f8
  isplitl [H9]
  · unfold owns; iexists _; isplitr
    swap; · iexact H9
    ipureintro; exact readA_9 c i M X s h1 h2 h3 h4 f9
  unfold owns; iexists _; isplitr
  swap; · iexact H10
  ipureintro; exact readA_10 c i M X s h1 h2 h3 h4

/-- Another point of the first pass. -/
theorem bodyB (h1 : ¬k0_cond1 i = 1#1) (h2 : k0_cond2 i = 1#1) (h3 : k0_cond3 i = 1#1) (h4 : ¬k0_cond4 i = 1#1) (E : Set ℕ) (K : PUnit → sProp 𝕄) :
    iprop((M.ins c X ∗ owns (c : Thread nD τ) M.a10 fullShare s) ∗
      (iprop(M.ins c X ∗ owns (c : Thread nD τ) M.a10 fullShare (keep s (i 1) (plus zeroTile X.dp X.w))) -∗ K ⟨⟩))
      ⊢ wp frame (wpE (defs₀ (F := F)) Variants.none c none) E (M.call i) K := by
  iintro ⟨⟨HI, H10⟩, Hk⟩
  iapply ((runB c i M X s h1 h2 h3 h4).property E K)
  isplitl [HI]; · iexact HI
  isplitl [H10]; · iexact H10
  iintro ⟨HI, H10⟩
  iapply Hk
  isplitl [HI]; · iexact HI
  unfold owns; iexists _; isplitr
  swap; · iexact H10
  ipureintro; exact readB_10 c i M X s h1 h2 h3 h4

/-- A point of a middle pass. -/
theorem bodyC (h1 : ¬k0_cond1 i = 1#1) (h2 : ¬k0_cond2 i = 1#1) (h3 : k0_cond3 i = 1#1) (h4 : ¬k0_cond4 i = 1#1) (E : Set ℕ) (K : PUnit → sProp 𝕄) :
    iprop((M.ins c X ∗ owns (c : Thread nD τ) M.a10 fullShare s) ∗
      (iprop(M.ins c X ∗ owns (c : Thread nD τ) M.a10 fullShare (keep s (i 1) (plus (rows s (i 1)) X.dp X.w))) -∗ K ⟨⟩))
      ⊢ wp frame (wpE (defs₀ (F := F)) Variants.none c none) E (M.call i) K := by
  iintro ⟨⟨HI, H10⟩, Hk⟩
  iapply ((runC c i M X s h1 h2 h3 h4).property E K)
  isplitl [HI]; · iexact HI
  isplitl [H10]; · iexact H10
  iintro ⟨HI, H10⟩
  iapply Hk
  isplitl [HI]; · iexact HI
  unfold owns; iexists _; isplitr
  swap; · iexact H10
  ipureintro; exact readC_10 c i M X s h1 h2 h3 h4

/-- A point of the last pass. -/
theorem bodyD (h1 : ¬k0_cond1 i = 1#1) (h2 : ¬k0_cond2 i = 1#1) (h3 : k0_cond3 i = 1#1) (h4 : k0_cond4 i = 1#1) (E : Set ℕ) (K : PUnit → sProp 𝕄) :
    iprop((M.ins c X ∗ (∃ d, owns (c : Thread nD τ) M.a7 fullShare d) ∗ owns (c : Thread nD τ) M.a8 fullShare u ∗ owns (c : Thread nD τ) M.a9 fullShare v ∗ owns (c : Thread nD τ) M.a10 fullShare s) ∗
      (iprop(M.ins c X ∗ owns (c : Thread nD τ) M.a7 fullShare (dxTile (whole i X s) X.x (scale X.md) X.dr) ∗ owns (c : Thread nD τ) M.a8 fullShare (shAdd u (whole i X s)) ∗ owns (c : Thread nD τ) M.a9 fullShare (scAdd v (whole i X s) X.x) ∗ owns (c : Thread nD τ) M.a10 fullShare (keep s (i 1) (whole i X s))) -∗ K ⟨⟩))
      ⊢ wp frame (wpE (defs₀ (F := F)) Variants.none c none) E (M.call i) K := by
  iintro ⟨⟨HI, H7, H8, H9, H10⟩, Hk⟩
  iapply ((runD c i M X s u v h1 h2 h3 h4).2.2.2.property E K)
  isplitl [HI]; · iexact HI
  isplitl [H7]; · iexact H7
  isplitl [H8]; · iexact H8
  isplitl [H9]; · iexact H9
  isplitl [H10]; · iexact H10
  iintro ⟨HI, ⟨%f7, H7⟩, H8, H9, H10⟩
  iapply Hk
  isplitl [HI]; · iexact HI
  isplitl [H7]
  · unfold owns; iexists _; isplitr
    swap; · iexact H7
    ipureintro; exact readD_7 c i M X s u v h1 h2 h3 h4 f7
  isplitl [H8]
  · unfold owns; iexists _; isplitr
    swap; · iexact H8
    ipureintro; exact readD_8 c i M X s u v h1 h2 h3 h4
  isplitl [H9]
  · unfold owns; iexists _; isplitr
    swap; · iexact H9
    ipureintro; exact readD_9 c i M X s u v h1 h2 h3 h4
  unfold owns; iexists _; isplitr
  swap; · iexact H10
  ipureintro; exact readD_10 c i M X s u v h1 h2 h3 h4

end Cert.Kernel4Ideal.Hand

end
-- ==== Proof.BackLaunch.lean ====
/-
The call `proj_bwd`: what every grid point leaves in the result tiles, what scratch memory holds between the points, the body's
obligation at every point, the run of the program and its frame, over any values. The forty-eight points are twelve passes over four
tiles of rows; every pass adds to each tile the product with a block of the weights of its own, and the last finishes the tiles.
-/
module

public import proofs.«01_k».proof.Proof.BackBody
public import Idealize.ShloMosaic.Lib.Claim
public import Idealize.ShloMosaic.Lib.Pipeline.TableIdle

@[expose] public section

set_option maxRecDepth 16384
set_option maxHeartbeats 4000000

noncomputable section

namespace Cert.Kernel4Ideal.Hand

open Cert.Kernel4Ideal Cert.Kernel4Ideal.Gen
open Cert.Kernel3Ideal.Hand (mu cen rs scale rows keep rows_keep rows_keep_ne)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points -/

theorem pt_lt (t : Fin cfg0.N) : t.val < 48 := lt_of_lt_of_eq t.isLt (show cfg0.N = 48 from N_0)

/-- The point of pass `n` at tile `o`. -/
def pt (o : Fin 4) (n : ℕ) : Fin cfg0.N := ⟨(4 * n + o.val) % 48, lt_of_lt_of_eq (Nat.mod_lt _ (by decide)) (show cfg0.N = 48 from N_0).symm⟩

theorem cond_1 : ∀ t : Fin cfg0.N, k0_cond1 (grid0.coords t) = 1#1 ↔ t.val = 0 := (by decide +kernel : ∀ t : Fin grid0.N, _)
theorem cond_2 : ∀ t : Fin cfg0.N, k0_cond2 (grid0.coords t) = 1#1 ↔ t.val < 4 := (by decide +kernel : ∀ t : Fin grid0.N, _)
theorem cond_3 : ∀ t : Fin cfg0.N, k0_cond3 (grid0.coords t) = 1#1 := (by decide +kernel : ∀ t : Fin grid0.N, _)
theorem cond_4 : ∀ t : Fin cfg0.N, k0_cond4 (grid0.coords t) = 1#1 ↔ 44 ≤ t.val := (by decide +kernel : ∀ t : Fin grid0.N, _)
theorem tile_at : ∀ t : Fin cfg0.N, ((grid0.coords t) 1).val = t.val % 4 := (by decide +kernel : ∀ t : Fin grid0.N, _)
theorem pass_at : ∀ t : Fin cfg0.N, ((grid0.coords t) 0).val = t.val / 4 := (by decide +kernel : ∀ t : Fin grid0.N, _)
theorem idle_5 : ∀ t : Fin cfg0.N, cfg0.idle 5 (grid0.coords t) = decide (t.val < 44) := (by decide +kernel : ∀ t : Fin grid0.N, _)
theorem idle_6 : ∀ t : Fin cfg0.N, cfg0.idle 6 (grid0.coords t) = decide (1 ≤ t.val ∧ t.val < 44) := (by decide +kernel : ∀ t : Fin grid0.N, _)
theorem idle_7 : ∀ t : Fin cfg0.N, cfg0.idle 7 (grid0.coords t) = decide (1 ≤ t.val ∧ t.val < 44) := (by decide +kernel : ∀ t : Fin grid0.N, _)
theorem flush_5 : ∀ t : Fin cfg0.N, t.val < 44 → (cfg0.win 5).flush t = false := (by decide +kernel : ∀ t : Fin grid0.N, _)
theorem flush_6 (t : Fin cfg0.N) (h : t.val < 44) : (cfg0.win 6).flush t = false :=
  Bool.eq_false_iff.mpr fun e => by have := (flush0_6 t).mp e; omega
theorem flush_7 (t : Fin cfg0.N) (h : t.val < 44) : (cfg0.win 7).flush t = false :=
  Bool.eq_false_iff.mpr fun e => by have := (flush0_7 t).mp e; omega
/-- From the second point on, the sums' buffers hold what was stored there. -/
theorem fresh_6 : ∀ t : Fin cfg0.N, 1 ≤ t.val → cfg0.fresh 6 t.val = false := (by decide +kernel : ∀ t : Fin grid0.N, _)
theorem fresh_7 : ∀ t : Fin cfg0.N, 1 ≤ t.val → cfg0.fresh 7 t.val = false := (by decide +kernel : ∀ t : Fin grid0.N, _)

variable (m : (ℓ : Loc nD τ sig) → Buf (Elt F) ℓ) (ρ : Dev nD → PrngReg)

/-- The memrefs the body is called with at point `t`. -/
abbrev bufs (t : Fin cfg0.N) : Bufs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := Memref.whole cc0_scratch0
  h10 := Memref.isWhole_whole _

/-- The input tiles of point `t`. -/
abbrev ins (c : Dev nD) (t : Fin cfg0.N) : Ins F := ⟨iblk m c 0 t, iblk m c 1 t, iblk m c 2 t, iblk m c 3 t, iblk m c 4 t⟩

/-- Tile `o` after `n` passes. -/
def part (c : Dev nD) (o : Fin 4) : ℕ → FVec F S512x1024 .f32
  | 0 => zeroTile
  | n + 1 => plus (part c o n) (iblk m c 0 (pt o n)) (iblk m c 1 (pt o n))

/-- The two sums after `n` tiles. -/
def shs (c : Dev nD) : ℕ → FVec F S1x1024 .f32
  | 0 => zeroRow
  | n + 1 => shAdd (shs c n) (part m c ⟨n % 4, Nat.mod_lt _ (by decide)⟩ 12)
def scs (c : Dev nD) : ℕ → FVec F S1x1024 .f32
  | 0 => zeroRow
  | n + 1 => scAdd (scs c n) (part m c ⟨n % 4, Nat.mod_lt _ (by decide)⟩ 12) (iblk m c 2 (pt ⟨n % 4, Nat.mod_lt _ (by decide)⟩ 11))

/-- The invariant before position `n`: each tile of scratch memory holds what the points before added. -/
def inv (c : Dev nD) (n : ℕ) : sProp 𝕄 :=
  iprop((∃ s, ⌜∀ o : Fin 4, o.val < n → rows s o = part m c o ((n + 3 - o.val) / 4)⌝ ∗ owns (c : Thread nD τ) (Memref.whole cc0_scratch0 : Memref sig .tc .vmem S2048x1024 .f32) fullShare s)
    ∗ (∃ r, prngReg c r))

/-- The proof data: each input's tile as staged, each result's tile at the body's function of the point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxTile (part m c ((grid0.coords t) 1) 12) (iblk m c 2 t) (scale (iblk m c 3 t)) (iblk m c 4 t)
    | ⟨6, _⟩ => shs m c (t.val + 1 - 44)
    | ⟨7, _⟩ => scs m c (t.val + 1 - 44)
    | ⟨_ + 8, h⟩ => absurd h (Nat.not_lt.2 (Nat.le_add_left _ _))
  Φ t := inv m c t.val
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t
    = dxTile (part m c ((grid0.coords t) 1) 12) (iblk m c 2 t) (scale (iblk m c 3 t)) (iblk m c 4 t) := by dsimp only [data]
theorem after_6 (c : Dev nD) (t : Fin cfg0.N) : (data m 0 c).after 6 t = shs m c (t.val + 1 - 44) := by dsimp only [data]
theorem after_7 (c : Dev nD) (t : Fin cfg0.N) : (data m 0 c).after 7 t = scs m c (t.val + 1 - 44) := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d

/-- Before point `t` of the last pass the sums' buffers hold the sums over the tiles before. -/
theorem before_6 (c : Dev nD) (t : Fin cfg0.N) (h : 44 ≤ t.val) (d) : (data m 0 c).before 6 t d = shs m c (t.val - 44) := by
  rw [(data m 0 c).before_out_traj 6 rfl (fun _ _ => rfl) (fun t _ hi _ => by
    rw [idle_6] at hi
    have h := of_decide_eq_true hi
    rw [after_6, after_6]
    exact congrArg (shs m c) (show t.val + 1 - 44 = t.val - 1 + 1 - 44 by omega)) t.val t rfl d, fresh_6 t (by omega), if_neg Bool.false_ne_true, after_6]
  exact congrArg (shs m c) (show t.val - 1 + 1 - 44 = t.val - 44 by omega)
theorem before_7 (c : Dev nD) (t : Fin cfg0.N) (h : 44 ≤ t.val) (d) : (data m 0 c).before 7 t d = scs m c (t.val - 44) := by
  rw [(data m 0 c).before_out_traj 7 rfl (fun _ _ => rfl) (fun t _ hi _ => by
    rw [idle_7] at hi
    have h := of_decide_eq_true hi
    rw [after_7, after_7]
    exact congrArg (scs m c) (show t.val + 1 - 44 = t.val - 1 + 1 - 44 by omega)) t.val t rfl d, fresh_7 t (by omega), if_neg Bool.false_ne_true, after_7]
  exact congrArg (scs m c) (show t.val - 1 + 1 - 44 = t.val - 44 by omega)

theorem leaves (c : Dev nD) (t : Fin cfg0.N) (w : Fin cfg0.W) (h : cfg0.idle w (grid0.coords t) = false) :
    (data m 0 c).leavesExact w t = owns (c : Thread nD τ) ((cfg0.win w).stage (cfg0.slots t w)) fullShare ((data m 0 c).after w t) := by
  unfold Dat.leavesExact; rw [h]

/-- What the body finds at point `t`, -/
def starts (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d)))

/-- and what it leaves. -/
def ends (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t)

theorem pt_self (t : Fin cfg0.N) : pt ((grid0.coords t) 1) (t.val / 4) = t :=
  Fin.ext (by have h := pt_lt t; show (4 * (t.val / 4) + ((grid0.coords t) 1).val) % 48 = t.val; rw [tile_at t]; omega)

/-- The tile after the point. -/
theorem part_step (c : Dev nD) (t : Fin cfg0.N) :
    part m c ((grid0.coords t) 1) (t.val / 4 + 1) = plus (part m c ((grid0.coords t) 1) (t.val / 4)) (iblk m c 0 t) (iblk m c 1 t) := by
  show plus _ (iblk m c 0 (pt ((grid0.coords t) 1) (t.val / 4))) (iblk m c 1 (pt ((grid0.coords t) 1) (t.val / 4))) = _
  rw [pt_self]

/-- Scratch memory after the point. -/
theorem grown (c : Dev nD) (t : Fin cfg0.N) (s : Vec F S2048x1024 .f32) (hs : ∀ o : Fin 4, o.val < t.val → rows s o = part m c o ((t.val + 3 - o.val) / 4))
    (g : FVec F S512x1024 .f32) (hg : g = part m c ((grid0.coords t) 1) (t.val / 4 + 1)) (o : Fin 4) (ho : o.val < t.val + 1) :
    rows (keep s ((grid0.coords t) 1) g) o = part m c o ((t.val + 1 + 3 - o.val) / 4) := by
  have hv := tile_at t
  by_cases e : o = (grid0.coords t) 1
  · subst e
    refine (rows_keep s _ _).trans (hg.trans (congrArg (part m c _) ?_))
    omega
  · have hne : o.val ≠ t.val % 4 := fun h => e (Fin.ext (h.trans hv.symm))
    refine (rows_keep_ne s _ _ _ e).trans ((hs o (by omega)).trans (congrArg (part m c o) ?_))
    omega

/-- What the body hands back is the invariant and the tiles after the point. -/
theorem post_ends (c : Dev nD) (t : Fin cfg0.N) (s : Vec F S2048x1024 .f32)
    (hs : ∀ o : Fin 4, o.val < t.val + 1 → rows s o = part m c o ((t.val + 1 + 3 - o.val) / 4)) :
    iprop(((bufs t).ins c (ins m c t) ∗ (data m 0 c).leavesExact 5 t ∗ (data m 0 c).leavesExact 6 t ∗ (data m 0 c).leavesExact 7 t
      ∗ owns (c : Thread nD τ) (bufs t).a10 fullShare s)
      ∗ (data m 0 c).owesAt () t.castSucc ∗ (∃ r, prngReg c r)) ⊢ ends m c t := by
  unfold ends Bufs.ins
  rw [show (data m 0 c).owesAt () t.succ = (data m 0 c).owesAt () t.castSucc from rfl]
  rw [show (data m 0 c).Φ t.succ = inv m c (t.val + 1) from rfl]
  rw [leaves m c t 0 rfl, after_0, leaves m c t 1 rfl, after_1, leaves m c t 2 rfl, after_2, leaves m c t 3 rfl, after_3, leaves m c t 4 rfl, after_4]
  iintro ⟨⟨⟨H0, H1, H2, H3, H4⟩, H5, H6, H7, HS⟩, Ho, Hg⟩
  isplitl [HS Hg]
  · unfold inv
    isplitl [HS]
    · iexists s
      isplitr
      · ipureintro; exact hs
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The sums after a point of the last pass. -/
theorem last_tile (t : Fin cfg0.N) (h : 44 ≤ t.val) : (⟨(t.val - 44) % 4, Nat.mod_lt _ (by decide)⟩ : Fin 4) = (grid0.coords t) 1 :=
  Fin.ext (show (t.val - 44) % 4 = ((grid0.coords t) 1).val by rw [tile_at t]; omega)
theorem last_sh (c : Dev nD) (t : Fin cfg0.N) (h : 44 ≤ t.val) :
    shs m c (t.val + 1 - 44) = shAdd (shs m c (t.val - 44)) (part m c ((grid0.coords t) 1) 12) := by
  rw [show t.val + 1 - 44 = t.val - 44 + 1 by omega, shs, last_tile t h]
theorem last_sc (c : Dev nD) (t : Fin cfg0.N) (h : 44 ≤ t.val) :
    scs m c (t.val + 1 - 44) = scAdd (scs m c (t.val - 44)) (part m c ((grid0.coords t) 1) 12) (iblk m c 2 t) := by
  have hN := pt_lt t
  have e : pt ((grid0.coords t) 1) 11 = t := (congrArg (pt _) (show 11 = t.val / 4 by omega)).trans (pt_self t)
  rw [show t.val + 1 - 44 = t.val - 44 + 1 by omega, scs, last_tile t h, e]

/-- The body at any point. -/
theorem sound (c : Dev nD) (t : Fin cfg0.N) :
    starts m c t ⊢ wp frame (wpE (defs₀ (F := F)) Variants.none c none) Set.univ (bodyAt0 t) (fun _ => ends m c t) := by
  have hN := pt_lt t
  have hv := tile_at t
  have h3 := cond_3 t
  unfold starts
  rw [show (data m 0 c).Φ t.castSucc = inv m c t.val from rfl]
  unfold inv
  simp only [before_0, before_1, before_2, before_3, before_4]
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases t0 : t.val = 0
  · have h1 : k0_cond1 (grid0.coords t) = 1#1 := (cond_1 t).mpr (by omega)
    have h2 : k0_cond2 (grid0.coords t) = 1#1 := (cond_2 t).mpr (by omega)
    have h4 : ¬k0_cond4 (grid0.coords t) = 1#1 := fun h => by have := (cond_4 t).mp h; omega
    have hg : plus zeroTile (iblk m c 0 t) (iblk m c 1 t) = part m c ((grid0.coords t) 1) (t.val / 4 + 1) := by
      rw [part_step, show t.val / 4 = 0 by omega]
      rfl
    iapply (bodyA c (grid0.coords t) (bufs t) (ins m c t) s h1 h2 h3 h4 Set.univ (fun _ => ends m c t))
    isplitl [H0 H1 H2 H3 H4 H6 H7 HS]
    · isplitl [H0 H1 H2 H3 H4]
      · unfold Bufs.ins
        isplitl [H0]; · iexact H0
        isplitl [H1]; · iexact H1
        isplitl [H2]; · iexact H2
        isplitl [H3]; · iexact H3
        iexact H4
      isplitl [H6]; · iexists _; iexact H6
      isplitl [H7]; · iexists _; iexact H7
      iexact HS
    iintro ⟨HI, H6, H7, HS⟩
    iapply (post_ends m c t (keep s ((grid0.coords t) 1) (plus zeroTile (iblk m c 0 t) (iblk m c 1 t))) (grown m c t s hs _ hg))
    rw [(data m 0 c).leavesExact_idle 5 t (by rw [idle_5]; exact decide_eq_true (by omega)) (flush_5 t (by omega))]
    rw [leaves m c t 6 (by rw [idle_6]; exact decide_eq_false (by omega)), after_6]
    rw [leaves m c t 7 (by rw [idle_7]; exact decide_eq_false (by omega)), after_7]
    rw [show t.val + 1 - 44 = 0 by omega]
    isplitl [HI H5 H6 H7 HS]
    · isplitl [HI]; · iexact HI
      isplitl [H5]; · iexists d5; iexact H5
      isplitl [H6]; · iexact H6
      isplitl [H7]; · iexact H7
      iexact HS
    isplitl [Ho]; · iexact Ho
    iexact Hg
  by_cases t4 : t.val < 4
  · have h1 : ¬k0_cond1 (grid0.coords t) = 1#1 := fun h => by have := (cond_1 t).mp h; omega
    have h2 : k0_cond2 (grid0.coords t) = 1#1 := (cond_2 t).mpr (by omega)
    have h4 : ¬k0_cond4 (grid0.coords t) = 1#1 := fun h => by have := (cond_4 t).mp h; omega
    have hg : plus zeroTile (iblk m c 0 t) (iblk m c 1 t) = part m c ((grid0.coords t) 1) (t.val / 4 + 1) := by
      rw [part_step, show t.val / 4 = 0 by omega]
      rfl
    iapply (bodyB c (grid0.coords t) (bufs t) (ins m c t) s h1 h2 h3 h4 Set.univ (fun _ => ends m c t))
    isplitl [H0 H1 H2 H3 H4 HS]
    · isplitl [H0 H1 H2 H3 H4]
      · unfold Bufs.ins
        isplitl [H0]; · iexact H0
        isplitl [H1]; · iexact H1
        isplitl [H2]; · iexact H2
        isplitl [H3]; · iexact H3
        iexact H4
      iexact HS
    iintro ⟨HI, HS⟩
    iapply (post_ends m c t (keep s ((grid0.coords t) 1) (plus zeroTile (iblk m c 0 t) (iblk m c 1 t))) (grown m c t s hs _ hg))
    rw [(data m 0 c).leavesExact_idle 5 t (by rw [idle_5]; exact decide_eq_true (by omega)) (flush_5 t (by omega))]
    rw [(data m 0 c).leavesExact_idle 6 t (by rw [idle_6]; exact decide_eq_true (by omega)) (flush_6 t (by omega))]
    rw [(data m 0 c).leavesExact_idle 7 t (by rw [idle_7]; exact decide_eq_true (by omega)) (flush_7 t (by omega))]
    isplitl [HI H5 H6 H7 HS]
    · isplitl [HI]; · iexact HI
      isplitl [H5]; · iexists d5; iexact H5
      isplitl [H6]; · iexists d6; iexact H6
      isplitl [H7]; · iexists d7; iexact H7
      iexact HS
    isplitl [Ho]; · iexact Ho
    iexact Hg
  by_cases t44 : t.val < 44
  · have h1 : ¬k0_cond1 (grid0.coords t) = 1#1 := fun h => by have := (cond_1 t).mp h; omega
    have h2 : ¬k0_cond2 (grid0.coords t) = 1#1 := fun h => by have := (cond_2 t).mp h; omega
    have h4 : ¬k0_cond4 (grid0.coords t) = 1#1 := fun h => by have := (cond_4 t).mp h; omega
    have hg : plus (rows s ((grid0.coords t) 1)) (iblk m c 0 t) (iblk m c 1 t) = part m c ((grid0.coords t) 1) (t.val / 4 + 1) := by
      rw [part_step]
      refine congrArg (fun g => plus g (iblk m c 0 t) (iblk m c 1 t)) ((hs _ (by omega)).trans (congrArg (part m c _) ?_))
      omega
    iapply (bodyC c (grid0.coords t) (bufs t) (ins m c t) s h1 h2 h3 h4 Set.univ (fun _ => ends m c t))
    isplitl [H0 H1 H2 H3 H4 HS]
    · isplitl [H0 H1 H2 H3 H4]
      · unfold Bufs.ins
        isplitl [H0]; · iexact H0
        isplitl [H1]; · iexact H1
        isplitl [H2]; · iexact H2
        isplitl [H3]; · iexact H3
        iexact H4
      iexact HS
    iintro ⟨HI, HS⟩
    iapply (post_ends m c t (keep s ((grid0.coords t) 1) (plus (rows s ((grid0.coords t) 1)) (iblk m c 0 t) (iblk m c 1 t))) (grown m c t s hs _ hg))
    rw [(data m 0 c).leavesExact_idle 5 t (by rw [idle_5]; exact decide_eq_true (by omega)) (flush_5 t (by omega))]
    rw [(data m 0 c).leavesExact_idle 6 t (by rw [idle_6]; exact decide_eq_true (by omega)) (flush_6 t (by omega))]
    rw [(data m 0 c).leavesExact_idle 7 t (by rw [idle_7]; exact decide_eq_true (by omega)) (flush_7 t (by omega))]
    isplitl [HI H5 H6 H7 HS]
    · isplitl [HI]; · iexact HI
      isplitl [H5]; · iexists d5; iexact H5
      isplitl [H6]; · iexists d6; iexact H6
      isplitl [H7]; · iexists d7; iexact H7
      iexact HS
    isplitl [Ho]; · iexact Ho
    iexact Hg
  have h1 : ¬k0_cond1 (grid0.coords t) = 1#1 := fun h => by have := (cond_1 t).mp h; omega
  have h2 : ¬k0_cond2 (grid0.coords t) = 1#1 := fun h => by have := (cond_2 t).mp h; omega
  have h4 : k0_cond4 (grid0.coords t) = 1#1 := (cond_4 t).mpr (by omega)
  have hg : plus (rows s ((grid0.coords t) 1)) (iblk m c 0 t) (iblk m c 1 t) = part m c ((grid0.coords t) 1) (t.val / 4 + 1) := by
    rw [part_step]
    refine congrArg (fun g => plus g (iblk m c 0 t) (iblk m c 1 t)) ((hs _ (by omega)).trans (congrArg (part m c _) ?_))
    omega
  rw [before_6 m c t (by omega), before_7 m c t (by omega)]
  iapply (bodyD c (grid0.coords t) (bufs t) (ins m c t) s (shs m c (t.val - 44)) (scs m c (t.val - 44)) h1 h2 h3 h4 Set.univ (fun _ => ends m c t))
  rw [show whole (grid0.coords t) (ins m c t) s = part m c ((grid0.coords t) 1) 12 from hg.trans (congrArg (part m c _) (by omega))]
  isplitl [H0 H1 H2 H3 H4 H5 H6 H7 HS]
  · isplitl [H0 H1 H2 H3 H4]
    · unfold Bufs.ins
      isplitl [H0]; · iexact H0
      isplitl [H1]; · iexact H1
      isplitl [H2]; · iexact H2
      isplitl [H3]; · iexact H3
      iexact H4
    isplitl [H5]; · iexists _; iexact H5
    isplitl [H6]; · iexact H6
    isplitl [H7]; · iexact H7
    iexact HS
  iintro ⟨HI, H5, H6, H7, HS⟩
  iapply (post_ends m c t (keep s ((grid0.coords t) 1) (part m c ((grid0.coords t) 1) 12)) (grown m c t s hs _ (congrArg (part m c _) (by omega))))
  rw [leaves m c t 5 (by rw [idle_5]; exact decide_eq_false (by omega)), after_5]
  rw [leaves m c t 6 (by rw [idle_6]; exact decide_eq_false (by omega)), after_6]
  rw [leaves m c t 7 (by rw [idle_7]; exact decide_eq_false (by omega)), after_7]
  rw [last_sh m c t (by omega), last_sc m c t (by omega)]
  isplitl [HI H5 H6 H7 HS]
  · isplitl [HI]; · iexact HI
    isplitl [H5]; · iexact H5
    isplitl [H6]; · iexact H6
    isplitl [H7]; · iexact H7
    iexact HS
  isplitl [Ho]; · iexact Ho
  iexact Hg

theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound m c t) rfl .rfl fun _ => .rfl

/-- The region's own invariant: scratch memory at anything. -/
theorem region_inv (c : Dev nD) : (Pipeline.ΦA spec0 c : sProp 𝕄)
    = iprop((∃ s, owns (c : Thread nD τ) (Memref.whole cc0_scratch0 : Memref sig .tc .vmem S2048x1024 .f32) fullShare s) ∗ (∃ r, prngReg c r)) := by
  unfold Pipeline.ΦA
  rw [scopedRest0_eq]
  simp only [owns_whole]

theorem enter (c : Dev nD) : Pipeline.ΦA spec0 c ⊢ (data m 0 c).Φ 0 := by
  rw [show (data m 0 c).Φ 0 = inv m c 0 from rfl, region_inv]
  unfold inv
  iintro ⟨⟨%s, HS⟩, Hg⟩
  isplitl [HS]
  · iexists s
    isplitr
    · ipureintro; exact fun o ho => absurd ho (Nat.not_lt_zero _)
    iexact HS
  iexact Hg

theorem leave (c : Dev nD) : (data m 0 c).Φ (Fin.last cfg0.N) ⊢ Pipeline.ΦA spec0 c := by
  rw [show (data m 0 c).Φ (Fin.last cfg0.N) = inv m c cfg0.N from rfl, region_inv]
  unfold inv
  iintro ⟨⟨%s, %hs, HS⟩, Hg⟩
  isplitl [HS]
  · iexists s; iexact HS
  iexact Hg

set_option backward.isDefEq.respectTransparency.types false in
/-- The run ends with every array at what the proof data says and every counter at zero. -/
theorem launch : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := enter m) (hout := leave m)

/-- The arguments end as they began, and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (data m) (data_A m) ((θ_run defs _ _).mono (fun _ h => h.1) (launch m ρ)))
    ((θ_run defs _ _).mono (fun _ h => h.2) (launch m ρ))

end Cert.Kernel4Ideal.Hand

end
-- ==== Proof.Back.lean ====
/-
The call `proj_bwd`: the kernel's three results as the sums of the arguments the reference ends with. Scratch memory gathers the
gradient to the modulated rows over the twelve blocks of channels; the weights are read from an array grouped by chip, which the host
lines make.
-/
module

public import proofs.«01_k».proof.Proof.BackRef
public import proofs.«01_k».proof.Proof.BackLaunch

@[expose] public section

set_option maxRecDepth 16384
set_option maxHeartbeats 1000000

noncomputable section

namespace Cert.Back

open Cert.Kernel4Ideal Cert.Kernel4Ideal.Gen Cert.Kernel4Ideal.Hand
open Cert.Kernel3Ideal.Hand (mu cen rs scale)
open Idealize.ShloMosaic hiding ix1 ix2 ix3 ix4
open Idealize.ShloMosaic.TcCoe Idealize.ShloMosaic.Tactic Idealize.ShloMosaic.ValueIdx Idealize.SL.Sem
open Cert.Merge (mean rstd DR width one_word)
open Cert.Proj (ext2 row trow mu_at bcCol bcRow cen_at rs_at scale_at)

attribute [local instance] Cert.Kernel4Ideal.Gen.facts Cert.Reference4Ideal.Gen.facts Cert.Pre_finite4.Gen.facts

/-! ## The tiles -/

section Tile

variable (x : FVec Ideal S512x1024 .f32)

theorem std_at (p : Fin 512) (q : Fin 1024) : (Cert.Kernel4Ideal.Hand.std x (ix2 p q) : EReal) = Cert.Merge.std (trow x p) q :=
  congrArg₂ (fun a b : EReal => a * b) (cen_at x p q) ((bcCol _ p q).trans (rs_at x p))

theorem scaled_at (g : FVec Ideal S512x1024 .f32) (sc : FVec Ideal S1x1024 .f32) (p : Fin 512) (q : Fin 1024) :
    (scaled g sc (ix2 p q) : EReal) = g (ix2 p q) * (1 + sc (ix2 0 q)) :=
  congrArg (fun b : EReal => g (ix2 p q) * b) ((bcRow _ p q).trans (congrArg (fun a : EReal => a + sc (ix2 0 q)) one_word))

theorem normBack_at (d : FVec Ideal S512x1024 .f32) (p : Fin 512) (q : Fin 1024) : (normBack x d (ix2 p q) : EReal) = DR (trow x p) (trow d p) q := by
  refine congrArg₂ (fun a b : EReal => a * b) ((bcCol _ p q).trans (rs_at x p)) (congrArg₂ (fun a b : EReal => a - b)
    (congrArg (fun b : EReal => d (ix2 p q) - b) ((bcCol _ p q).trans (mu_at d p)))
    (congrArg₂ (fun a b : EReal => a * b) (std_at x p q) ((bcCol _ p q).trans ((mu_at _ p).trans (congrArg mean (funext fun k => ?_))))))
  exact congrArg (fun b : EReal => d (ix2 p k) * b) (std_at x p k)

/-- The product one point adds. -/
theorem plus_at (g : FVec Ideal S512x1024 .f32) (a : Vec Ideal S512x768 .bf16) (w : Vec Ideal S1x1024x768 .bf16) (p : Fin 512) (q : Fin 1024) :
    (plus g a w (ix2 p q) : EReal) = g (ix2 p q) + ∑ k : Fin 768, a (ix2 p k) * w (ix3 0 q k) := by
  refine congrArg (fun b : EReal => g (ix2 p q) + b) ((Ideal.matmul_constant_zero_apply _ none _ _ _).trans ((DotDims.sum_contr₁ _ rfl rfl _).trans ?_))
  refine Finset.sum_congr rfl fun k _ => congrArg₂ (fun a b : EReal => a * b) (congrArg a (ext2 rfl rfl)) ?_
  exact shapeCast_apply _ _ _ (ix3 0 q k) (by
    rw [Shape.rowMajor_val_three, Shape.rowMajor_val_two]; show (0 * 1024 + q.val) * 768 + k.val = q.val * 768 + k.val; omega)

/-- A tile's rows added to a sum. -/
theorem shAdd_at (u : FVec Ideal S1x1024 .f32) (g : FVec Ideal S512x1024 .f32) (q : Fin 1024) :
    (shAdd u g (ix2 0 q) : EReal) = u (ix2 0 q) + ∑ p : Fin 512, g (ix2 p q) := by
  refine congrArg (fun b : EReal => u (ix2 0 q) + b) ?_
  rw [shapeCast_apply _ _ _ (ix1 q) (by rw [Shape.rowMajor_val_one, Shape.rowMajor_val_two]; show q.val = 0 * 1024 + q.val; omega)]
  refine (Ideal.multiReduction_add_single g 0x00000000#32 _ (.inl rfl) rfl _).trans ?_
  exact Finset.sum_congr rfl fun k _ => congrArg g (ext2 rfl rfl)

end Tile

/-- A sum over `a` blocks of `b` terms. -/
theorem blocks (a b : ℕ) (f : ℕ → EReal) : ∑ k ∈ Finset.range a, ∑ j : Fin b, f (b * k + j.val) = ∑ k ∈ Finset.range (a * b), f k := by
  induction a with
  | zero => rw [Nat.zero_mul]; rfl
  | succ a ih =>
    rw [Finset.sum_range_succ, ih, Nat.add_mul, Nat.one_mul, Finset.sum_range_add, Nat.mul_comm b a]
    exact congrArg (fun t => _ + t) (Finset.sum_range fun j => f (a * b + j)).symm

/-! ## The blocks -/

variable (m : (ℓ : Loc nD τ sig) → Buf (Elt Ideal) ℓ) (ρ : Dev nD → PrngReg) (c : Dev nD)

/-- The arguments on device `c`. -/
abbrev DP : S2048x9216.Idx → EReal := m ((c : Thread nD τ).loc main_arg0)
abbrev X : S2048x1024.Idx → EReal := m ((c : Thread nD τ).loc main_arg1)
abbrev MD : S1x3072.Idx → EReal := m ((c : Thread nD τ).loc main_arg2)
abbrev W : S1024x9216.Idx → EReal := m ((c : Thread nD τ).loc main_arg3)
abbrev DX : S2048x1024.Idx → EReal := m ((c : Thread nD τ).loc main_arg4)

theorem V_weights : V m c main_v2
    = (truncf (F := Ideal) .bf16 (transpose S4x1024x2304 [1, 0, 2] (shapeCast S1024x4x2304 (m ((c : Thread nD τ).loc main_arg3))
      shapeCasts_S1024x9216_S1024x4x2304) transposes_S1024x4x2304_S4x1024x2304_1_0_2 : FVec Ideal S4x1024x2304 .f32) bitsLt_bf16_f32 : FVec Ideal S4x1024x2304 .bf16) := by
  sl_kernel_rfl

/-- The weights of chip `j`: columns `2304 j …` of the argument. -/
theorem weights_at (j : Fin 4) (k : Fin 1024) (q : Fin 2304) :
    (V m c main_v2 : S4x1024x2304.Idx → EReal) (ix3 j k q) = W m c (ix2 k ⟨2304 * j.val + q.val, by omega⟩) := by
  refine (congrFun (V_weights m c) (ix3 j k q)).trans ?_
  show transpose S4x1024x2304 [1, 0, 2] (shapeCast S1024x4x2304 (W m c) shapeCasts_S1024x9216_S1024x4x2304)
    transposes_S1024x4x2304_S4x1024x2304_1_0_2 (ix3 j k q) = _
  refine (transpose_apply [1, 0, 2] _ transposes_S1024x4x2304_S4x1024x2304_1_0_2 (ix3 j k q) (ix3 k j q : S1024x4x2304.Idx) fun b => match b with
    | ⟨0, _⟩ => rfl
    | ⟨1, _⟩ => rfl
    | ⟨2, _⟩ => rfl).trans ?_
  exact shapeCast_apply _ _ _ (ix2 k ⟨2304 * j.val + q.val, by omega⟩) (by
    rw [Shape.rowMajor_val_three, Shape.rowMajor_val_two]
    show k.val * 9216 + (2304 * j.val + q.val) = (k.val * 4 + j.val) * 2304 + q.val
    omega)

theorem place0 : ∀ t : Fin cfg0.N, win0_0.index t 0 = t.val % 4 ∧ win0_0.index t 1 = t.val / 4 := (by decide +kernel : ∀ t : Fin grid0.N, _)
theorem place1 : ∀ t : Fin cfg0.N, win0_1.index t 0 = t.val / 12 ∧ win0_1.index t 1 = 0 ∧ win0_1.index t 2 = t.val / 4 % 3 :=
  (by decide +kernel : ∀ t : Fin grid0.N, _)
theorem place2 : ∀ t : Fin cfg0.N, 44 ≤ t.val → win0_2.index t 0 = t.val % 4 ∧ win0_2.index t 1 = 0 := (by decide +kernel : ∀ t : Fin grid0.N, _)
theorem place3 : ∀ t : Fin cfg0.N, win0_3.index t 0 = 0 ∧ win0_3.index t 1 = 0 := (by decide +kernel : ∀ t : Fin grid0.N, _)
theorem place4 : ∀ t : Fin cfg0.N, 44 ≤ t.val → win0_4.index t 0 = t.val % 4 ∧ win0_4.index t 1 = 0 := (by decide +kernel : ∀ t : Fin grid0.N, _)
theorem place5 : ∀ t : Fin cfg0.N, 44 ≤ t.val → win0_5.index t 0 = t.val % 4 ∧ win0_5.index t 1 = 0 := (by decide +kernel : ∀ t : Fin grid0.N, _)
theorem place6 : ∀ t : Fin cfg0.N, win0_6.index t 0 = 0 ∧ win0_6.index t 1 = 0 := (by decide +kernel : ∀ t : Fin grid0.N, _)
theorem place7 : ∀ t : Fin cfg0.N, win0_7.index t 0 = 0 ∧ win0_7.index t 1 = 0 := (by decide +kernel : ∀ t : Fin grid0.N, _)

theorem dp_block (t : Fin cfg0.N) (p : Fin 512) (k : Fin 768) :
    (iblk m c 0 t : S512x768.Idx → EReal) (ix2 p k) = DP m c (ix2 ⟨512 * (t.val % 4) + p.val, by omega⟩ ⟨768 * (t.val / 4) + k.val, by have := pt_lt t; omega⟩) := by
  refine Eq.trans (congrArg (V m c main_arg0 : S2048x9216.Idx → EReal) ?_) (congrFun (V_main_arg0 m c) _)
  exact ext2 (x := ((cfg0.win 0).blk t).view.emb (ix2 p k))
    (show win0_0.index t 0 * 512 + 1 * p.val = 512 * (t.val % 4) + p.val by rw [(place0 t).1]; omega)
    (show win0_0.index t 1 * 768 + 1 * k.val = 768 * (t.val / 4) + k.val by rw [(place0 t).2]; omega)

theorem w_block (t : Fin cfg0.N) (q : Fin 1024) (k : Fin 768) :
    (iblk m c 1 t : S1x1024x768.Idx → EReal) (ix3 0 q k) = W m c (ix2 q ⟨768 * (t.val / 4) + k.val, by have := pt_lt t; omega⟩) := by
  have hN := pt_lt t
  have e := weights_at m c ⟨t.val / 12, by omega⟩ q ⟨768 * (t.val / 4 % 3) + k.val, by omega⟩
  refine Eq.trans (congrArg (V m c main_v2 : S4x1024x2304.Idx → EReal) ?_) (e.trans (congrArg (W m c) (ext2 rfl ?_)))
  · exact funext fun d => match d with
      | ⟨0, _⟩ => Fin.ext (show win0_1.index t 0 * 1 + 1 * 0 = t.val / 12 by rw [(place1 t).1]; omega)
      | ⟨1, _⟩ => Fin.ext (show win0_1.index t 1 * 1024 + 1 * q.val = q.val by rw [(place1 t).2.1]; omega)
      | ⟨2, _⟩ => Fin.ext (show win0_1.index t 2 * 768 + 1 * k.val = 768 * (t.val / 4 % 3) + k.val by rw [(place1 t).2.2]; omega)
  · show 2304 * (t.val / 12) + (768 * (t.val / 4 % 3) + k.val) = 768 * (t.val / 4) + k.val
    omega

theorem x_block (t : Fin cfg0.N) (h : 44 ≤ t.val) (p : Fin 512) (k : Fin 1024) :
    (iblk m c 2 t : S512x1024.Idx → EReal) (ix2 p k) = X m c (ix2 ⟨512 * (t.val % 4) + p.val, by omega⟩ k) := by
  refine Eq.trans (congrArg (V m c main_arg1 : S2048x1024.Idx → EReal) ?_) (congrFun (V_main_arg1 m c) _)
  exact ext2 (x := ((cfg0.win 2).blk t).view.emb (ix2 p k))
    (show win0_2.index t 0 * 512 + 1 * p.val = 512 * (t.val % 4) + p.val by rw [(place2 t h).1]; omega)
    (show win0_2.index t 1 * 1024 + 1 * k.val = k.val by rw [(place2 t h).2]; omega)

theorem md_block (t : Fin cfg0.N) : (iblk m c 3 t : S1x3072.Idx → EReal) = MD m c := by
  funext y
  refine Eq.trans (congrArg (V m c main_arg2 : S1x3072.Idx → EReal) ?_) (congrFun (V_main_arg2 m c) y)
  exact ext2 (x := ((cfg0.win 3).blk t).view.emb y)
    (show win0_3.index t 0 * 1 + 1 * (y 0).val = (y 0).val by rw [(place3 t).1]; omega)
    (show win0_3.index t 1 * 3072 + 1 * (y 1).val = (y 1).val by rw [(place3 t).2]; omega)

theorem dx_block (t : Fin cfg0.N) (h : 44 ≤ t.val) (p : Fin 512) (k : Fin 1024) :
    (iblk m c 4 t : S512x1024.Idx → EReal) (ix2 p k) = DX m c (ix2 ⟨512 * (t.val % 4) + p.val, by omega⟩ k) := by
  refine Eq.trans (congrArg (V m c main_arg4 : S2048x1024.Idx → EReal) ?_) (congrFun (V_main_arg4 m c) _)
  exact ext2 (x := ((cfg0.win 4).blk t).view.emb (ix2 p k))
    (show win0_4.index t 0 * 512 + 1 * p.val = 512 * (t.val % 4) + p.val by rw [(place4 t h).1]; omega)
    (show win0_4.index t 1 * 1024 + 1 * k.val = k.val by rw [(place4 t h).2]; omega)

/-! ## The gathered tiles -/

/-- Term `k` of the gradient to the modulated rows. -/
def term (p : Fin 2048) (q : Fin 1024) (k : ℕ) : EReal :=
  DP m c (ix2 p ⟨k % 9216, Nat.mod_lt _ (by decide)⟩) * W m c (ix2 q ⟨k % 9216, Nat.mod_lt _ (by decide)⟩)

theorem part_at (o : Fin 4) (p : Fin 512) (q : Fin 1024) (n : ℕ) (h : n ≤ 12) :
    (part m c o n (ix2 p q) : EReal) = ∑ k ∈ Finset.range n, ∑ j : Fin 768, term m c ⟨512 * o.val + p.val, by omega⟩ q (768 * k + j.val) := by
  induction n with
  | zero => exact Ideal.ofBits_zero_f32
  | succ n ih =>
    rw [Finset.sum_range_succ, ← ih (by omega)]
    refine (plus_at _ _ _ p q).trans (congrArg (fun b : EReal => part m c o n (ix2 p q) + b) (Finset.sum_congr rfl fun k _ => ?_))
    have hv : (pt o n).val = 4 * n + o.val := Nat.mod_eq_of_lt (by omega)
    refine congrArg₂ (fun a b : EReal => a * b) ((dp_block m c _ p k).trans (congrArg (DP m c) (ext2 ?_ ?_))) ((w_block m c _ q k).trans (congrArg (W m c) (ext2 rfl ?_)))
    · show 512 * ((pt o n).val % 4) + p.val = 512 * o.val + p.val
      rw [hv]; omega
    · show 768 * ((pt o n).val / 4) + k.val = (768 * n + k.val) % 9216
      rw [hv]; omega
    · show 768 * ((pt o n).val / 4) + k.val = (768 * n + k.val) % 9216
      rw [hv]; omega

/-- A gathered tile. -/
theorem full_at (o : Fin 4) (p : Fin 512) (q : Fin 1024) : (part m c o 12 (ix2 p q) : EReal) = dh (DP m c) (W m c) ⟨512 * o.val + p.val, by omega⟩ q := by
  refine (part_at m c o p q 12 le_rfl).trans ((blocks 12 768 _).trans ((Finset.sum_range (n := 9216) _).trans ?_))
  exact Finset.sum_congr rfl fun k _ => congrArg (fun k => DP m c (ix2 _ k) * W m c (ix2 q k)) (Fin.ext (Nat.mod_eq_of_lt k.isLt))

theorem last_pt (o : Fin 4) : (pt o 11).val = 44 + o.val := Nat.mod_eq_of_lt (by omega)

/-- A row of the input's tile. -/
theorem row_at (t : Fin cfg0.N) (h : 44 ≤ t.val) (p : Fin 512) : trow (iblk m c 2 t : S512x1024.Idx → EReal) p = row (X m c) ⟨512 * (t.val % 4) + p.val, by omega⟩ :=
  funext fun k => x_block m c t h p k

theorem sh_at (q : Fin 1024) (n : ℕ) (h : n ≤ 4) : (shs m c n (ix2 0 q) : EReal)
    = ∑ k ∈ Finset.range n, ∑ p : Fin 512, dh (DP m c) (W m c) ⟨(512 * k + p.val) % 2048, Nat.mod_lt _ (by decide)⟩ q := by
  induction n with
  | zero => exact Ideal.ofBits_zero_f32
  | succ n ih =>
    rw [Finset.sum_range_succ, ← ih (by omega)]
    refine (shAdd_at _ _ q).trans (congrArg (fun b : EReal => shs m c n (ix2 0 q) + b) (Finset.sum_congr rfl fun p _ => ?_))
    refine (full_at m c _ p q).trans (congrArg (fun r => dh (DP m c) (W m c) r q) (Fin.ext ?_))
    show 512 * (n % 4) + p.val = (512 * n + p.val) % 2048
    omega

theorem sc_at (q : Fin 1024) (n : ℕ) (h : n ≤ 4) : (scs m c n (ix2 0 q) : EReal)
    = ∑ k ∈ Finset.range n, ∑ p : Fin 512, dh (DP m c) (W m c) ⟨(512 * k + p.val) % 2048, Nat.mod_lt _ (by decide)⟩ q
      * Cert.Merge.std (row (X m c) ⟨(512 * k + p.val) % 2048, Nat.mod_lt _ (by decide)⟩) q := by
  induction n with
  | zero => exact Ideal.ofBits_zero_f32
  | succ n ih =>
    rw [Finset.sum_range_succ, ← ih (by omega)]
    refine (shAdd_at _ _ q).trans (congrArg (fun b : EReal => scs m c n (ix2 0 q) + b) (Finset.sum_congr rfl fun p _ => ?_))
    have hv := last_pt ⟨n % 4, Nat.mod_lt _ (by decide)⟩
    have hv' : (pt ⟨n % 4, Nat.mod_lt _ (by decide)⟩ 11).val = 44 + n % 4 := hv
    refine congrArg₂ (fun a b : EReal => a * b) ((full_at m c _ p q).trans (congrArg (fun r => dh (DP m c) (W m c) r q) (Fin.ext ?_)))
      ((std_at _ p q).trans (congrArg (fun r => Cert.Merge.std r q) ((row_at m c _ (by omega) p).trans (congrArg (row (X m c)) (Fin.ext ?_)))))
    · show 512 * (n % 4) + p.val = (512 * n + p.val) % 2048
      omega
    · show 512 * ((pt ⟨n % 4, Nat.mod_lt _ (by decide)⟩ 11).val % 4) + p.val = (512 * n + p.val) % 2048
      omega

/-- The sum over four tiles of rows. -/
theorem rows_sum (f : Fin 2048 → EReal) :
    ∑ k ∈ Finset.range 4, ∑ p : Fin 512, f ⟨(512 * k + p.val) % 2048, Nat.mod_lt _ (by decide)⟩ = ∑ r, f r :=
  (blocks 4 512 fun k => f ⟨k % 2048, Nat.mod_lt _ (by decide)⟩).trans ((Finset.sum_range (n := 2048) _).trans
    (Finset.sum_congr rfl fun k _ => congrArg f (Fin.ext (Nat.mod_eq_of_lt k.isLt))))

/-! ## The results -/

/-- The first result's array after the run. -/
theorem final_dx : (data m 0 c).arrAt 5 cfg0.N = gradX (DP m c) (X m c) (MD m c) (W m c) (DX m c) := by
  refine (data m 0 c).arrAt_eq_of_covers 5 _ (by decide +kernel) fun t hf y => ?_
  have h44 : 44 ≤ t.val := by
    by_contra hn
    have := flush_5 t (by omega)
    rw [this] at hf
    exact Bool.false_ne_true hf
  show (data m 0 c).after 5 t ((cfg0.win 5).xinj (grid0.coords t) y) = gradX (DP m c) (X m c) (MD m c) (W m c) (DX m c) (((cfg0.win 5).blk t).view.emb y)
  rw [after_5]
  have y0 : (y 0).val < 512 := (y 0).isLt
  have y1 : (y 1).val < 1024 := (y 1).isLt
  have e : (cfg0.win 5).xinj (grid0.coords t) y = (ix2 ⟨(y 0).val, y0⟩ ⟨(y 1).val, y1⟩ : S512x1024.Idx) := ext2 rfl rfl
  have e0 : ((((cfg0.win 5).blk t).view.emb y) 0).val = 512 * (t.val % 4) + (y 0).val :=
    show win0_5.index t 0 * 512 + 1 * (y 0).val = _ by rw [(place5 t h44).1]; omega
  have e1 : ((((cfg0.win 5).blk t).view.emb y) 1).val = (y 1).val := show win0_5.index t 1 * 1024 + 1 * (y 1).val = _ by rw [(place5 t h44).2]; omega
  rw [e]
  have hr : (⟨512 * (t.val % 4) + (y 0).val, by omega⟩ : Fin 2048) = ⟨((((cfg0.win 5).blk t).view.emb y) 0).val, ((((cfg0.win 5).blk t).view.emb y) 0).isLt⟩ := Fin.ext e0.symm
  unfold gradX
  refine congrArg₂ (fun a b : EReal => a + b) ((normBack_at _ _ _ _).trans ?_) ((dx_block m c t h44 _ _).trans (congrArg (DX m c) (ext2 e0.symm e1.symm)))
  rw [row_at m c t h44, ← hr]
  refine congr (congrArg (DR _) (funext fun k => ?_)) (Fin.ext e1.symm)
  refine (scaled_at _ _ _ _).trans (congrArg₂ (fun a b : EReal => a * b) ((full_at m c _ _ _).trans ?_) (congrArg (fun a : EReal => 1 + a) ((scale_at _ _).trans ?_)))
  · exact congrArg (fun r => dh (DP m c) (W m c) r k) (Fin.ext (show 512 * ((grid0.coords t) 1).val + (y 0).val = _ by rw [tile_at t]))
  · exact congrFun (md_block m c t) _

/-- The second's -/
theorem final_shift : (data m 0 c).arrAt 6 cfg0.N = gradShift (DP m c) (W m c) := by
  refine (data m 0 c).arrAt_eq_of_covers 6 _ (by decide +kernel) fun t hf y => ?_
  have ht : t.val = 47 := by have := (flush0_6 t).mp hf; have := pt_lt t; omega
  show (data m 0 c).after 6 t ((cfg0.win 6).xinj (grid0.coords t) y) = gradShift (DP m c) (W m c) (((cfg0.win 6).blk t).view.emb y)
  rw [after_6, show t.val + 1 - 44 = 4 by omega]
  have y0 : (y 0).val < 1 := (y 0).isLt
  have y1 : (y 1).val < 1024 := (y 1).isLt
  have e : (cfg0.win 6).xinj (grid0.coords t) y = (ix2 0 ⟨(y 1).val, y1⟩ : S1x1024.Idx) := ext2 (show (y 0).val = 0 by omega) rfl
  have e1 : ((((cfg0.win 6).blk t).view.emb y) 1).val = (y 1).val := show win0_6.index t 1 * 1024 + 1 * (y 1).val = _ by rw [(place6 t).2]; omega
  rw [e]
  refine (sh_at m c _ 4 le_rfl).trans ((rows_sum fun r => dh (DP m c) (W m c) r ⟨(y 1).val, y1⟩).trans ?_)
  exact Finset.sum_congr rfl fun r _ => congrArg (dh (DP m c) (W m c) r) (Fin.ext e1.symm)

/-- and the third's. -/
theorem final_scale : (data m 0 c).arrAt 7 cfg0.N = gradScale (DP m c) (X m c) (W m c) := by
  refine (data m 0 c).arrAt_eq_of_covers 7 _ (by decide +kernel) fun t hf y => ?_
  have ht : t.val = 47 := by have := (flush0_7 t).mp hf; have := pt_lt t; omega
  show (data m 0 c).after 7 t ((cfg0.win 7).xinj (grid0.coords t) y) = gradScale (DP m c) (X m c) (W m c) (((cfg0.win 7).blk t).view.emb y)
  rw [after_7, show t.val + 1 - 44 = 4 by omega]
  have y0 : (y 0).val < 1 := (y 0).isLt
  have y1 : (y 1).val < 1024 := (y 1).isLt
  have e : (cfg0.win 7).xinj (grid0.coords t) y = (ix2 0 ⟨(y 1).val, y1⟩ : S1x1024.Idx) := ext2 (show (y 0).val = 0 by omega) rfl
  have e1 : ((((cfg0.win 7).blk t).view.emb y) 1).val = (y 1).val := show win0_7.index t 1 * 1024 + 1 * (y 1).val = _ by rw [(place7 t).2]; omega
  rw [e]
  refine (sc_at m c _ 4 le_rfl).trans ((rows_sum fun r => dh (DP m c) (W m c) r ⟨(y 1).val, y1⟩ * Cert.Merge.std (row (X m c) r) ⟨(y 1).val, y1⟩).trans ?_)
  exact Finset.sum_congr rfl fun r _ => congrArg (fun q => dh (DP m c) (W m c) r q * Cert.Merge.std (row (X m c) r) q) (Fin.ext e1.symm)

/-! ## The claim -/

theorem algebraic : Cert.algebraic_Kernel4Ideal_Reference4Ideal_pre_finite4 := by
  intro m g m' g' hpre hargs
  refine ⟨fun c => gradX (DP m c) (X m c) (MD m c) (W m c) (DX m c), fun c => gradShift (DP m c) (W m c), fun c => gradScale (DP m c) (X m c) (W m c), ?_, ?_⟩
  · refine (θ_run _ _ _).mono (fun r h c => ?_) (θ_run_and (launch (F := Ideal) m g) (kept (F := Ideal) m g))
    exact ⟨((h.1.1 c).1 5).trans (final_dx m c), ((h.1.1 c).1 6).trans (final_shift m c), ((h.1.1 c).1 7).trans (final_scale m c), h.2.1 c⟩
  · refine (θ_run _ _ _).mono (fun r h c => ?_) (Cert.Reference4Ideal.Value.run (F := Ideal) m' g')
    obtain ⟨h0, h1, h2, hk⟩ := h c
    obtain ⟨e0, e1, e2, e3, e4⟩ := hargs c
    refine ⟨?_, ?_, ?_, hk⟩
    · refine (h0.trans (Cert.Reference4Ideal.Read.val_main_v59_eq m' c)).trans ?_
      rw [e0, e1, e2, e3, e4]
      exact ref_grad _ _ _ _ _ (regular _ _ _ _ _ (hpre c))
    · rw [e0, e3] at h1
      exact (h1.trans (Cert.Reference4Ideal.Read.val_main_v31_eq _ _)).trans (ref_shift _ _)
    · rw [e0, e1, e3] at h2
      exact (h2.trans (Cert.Reference4Ideal.Read.val_main_v34_eq _ _ _)).trans (ref_scale _ _ _)

end Cert.Back

end
end
-- ==== Proof.BackFrame.lean ====
/-
The call `proj_bwd`: the program and its idealization have one text, and the run over any floats is a run of both.
-/
module

public import proofs.«01_k».proof.Defs
public import proofs.«01_k».proof.Proof.Gen.Kernel4
public import proofs.«01_k».proof.Proof.BackLaunch

@[expose] public section

set_option maxHeartbeats 2000000

noncomputable section

namespace Cert.Kernel4.Hand

open Idealize.ShloMosaic Idealize.ShloMosaic.TcCoe Idealize.SL.Sem Idealize.ShloMosaic.Tactic

attribute [local instance] Cert.Kernel4.Gen.facts Cert.Kernel4Ideal.Gen.facts

/-- A run of the program at machine floats is a run of the idealization's text at machine floats. -/
theorem run_eq (m : (ℓ : Loc Cert.Kernel4.nD Cert.Kernel4.τ Cert.Kernel4.sig) → Buf (Elt Bits) ℓ) (g : Dev Cert.Kernel4.nD → PrngReg)
    (Q : PUnit × MemSt Cert.Kernel4.nD Cert.Kernel4.τ Cert.Kernel4.sig (Elt Bits) → Prop) :
    θ_run (Cert.Kernel4.defs (F := Bits)) (onTc (τ := Cert.Kernel4.τ) (Cert.Kernel4.main (F := Bits))) ⟨m, fun _ => 0, g⟩ Q
      = θ_run (Cert.Kernel4Ideal.defs (F := Bits)) (onTc (τ := Cert.Kernel4Ideal.τ) (Cert.Kernel4Ideal.main (F := Bits))) ⟨m, fun _ => 0, g⟩ Q := by
  sl_kernel_rfl

/-- The program's frame. -/
theorem kept : Cert.quiescent_Kernel4 := fun m g _ =>
  (run_eq m g _).mpr ((θ_run Cert.Kernel4Ideal.defs _ _).mono (fun _ h => ⟨fun c => h.1 c, h.2⟩) (Cert.Kernel4Ideal.Hand.kept (F := Bits) m g))

end Cert.Kernel4.Hand

end
end
-- ==== Proof.BranchFwd.lean ====
/-
The call `branch_fwd`: what happens to the two attention branches' outputs and to the short convolution's inputs before the layer's
branches are merged. The kernel's three results, and the reference's, are `ya`, `yb` and `yc`.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.RefVal
public import proofs.«01_k».proof.Proof.Proj
public import Idealize.ShloMosaic.Lib.Pipeline.ValueKit.Geometry
public import Idealize.ShloMosaic.Lib.Pointwise.Contract
public import Idealize.ShloMosaic.Lib.KernelVsHost
public import Idealize.ShloMosaic.PureOps.Ideal.Laws

@[expose] public section

set_option maxRecDepth 16384
set_option maxHeartbeats 1000000

noncomputable section

namespace Cert.BranchFwd

open Cert.Kernel8Ideal Cert.Kernel8Ideal.Gen
open Idealize.ShloMosaic hiding ix1 ix2 ix3 ix4
open Idealize.ShloMosaic.TcCoe Idealize.ShloMosaic.Tactic Idealize.ShloMosaic.ValueIdx Idealize.SL.Sem
open Cert.Merge (sg one_word)
open Cert.ReferenceIdeal.Hand (at2 at3)
open Cert.Proj (ext2)

attribute [local instance] Cert.Kernel8Ideal.Gen.facts Cert.Reference8Ideal.Gen.facts

/-! ## The results -/

/-- The number's product with its logistic function. -/
def silu (z : EReal) : EReal := z * sg z

/-- The width of a head and the constant added to its mean square. -/
def width : EReal := Ideal.ofBits .f32 0x43000000#32
def eps : EReal := Ideal.ofBits .f32 0x358637BD#32

/-- A head divided by its root mean square. -/
def rms (o : Fin 128 → EReal) (d : Fin 128) : EReal := o d * Ideal.rsqrt (Ideal.div (∑ k : Fin 128, o k * o k) width + eps)

/-- What a sequence held `n` positions before, zero before the first position. -/
def back (n : ℕ) (v : Fin 2048 → EReal) (r : Fin 2048) : EReal := if n ≤ r.val then v ⟨r.val - n, by omega⟩ else 0

/-- A causal convolution with three taps, the last of which weighs the position itself. -/
def conv (w : Fin 3 → EReal) (v : Fin 2048 → EReal) (r : Fin 2048) : EReal := w 2 * v r + w 1 * back 1 v r + w 0 * back 2 v r

/-- The first attention branch: its output under its gate. -/
def ya (P : S2048x9216.Idx → EReal) (oa : S2048x512.Idx → EReal) (r : Fin 2048) (q : Fin 512) : EReal :=
  oa (ix2 r q) * silu (P (ix2 r ⟨1536 + q.val, by omega⟩))

/-- The second attention branch: each head of its output divided by its root mean square and scaled, under its gate. -/
def yb (P : S2048x9216.Idx → EReal) (ob : S2048x512.Idx → EReal) (nw : S2x128.Idx → EReal) (r : Fin 2048) (g : Fin 4) (d : Fin 128) : EReal :=
  rms (fun k => ob (ix2 r ⟨128 * g.val + k.val, by omega⟩)) d * nw (ix2 1 d) * silu (P (ix2 r ⟨3584 + (128 * g.val + d.val), by omega⟩))

/-- The short convolution between its two factors, under its gate. -/
def yc (P : S2048x9216.Idx → EReal) (cw : S2x3x512.Idx → EReal) (r : Fin 2048) (q : Fin 512) : EReal :=
  P (ix2 r ⟨4608 + q.val, by omega⟩)
    * conv (fun j => cw (ix3 1 j q)) (fun s => P (ix2 s ⟨4096 + q.val, by omega⟩) * P (ix2 s ⟨5120 + q.val, by omega⟩)) r
    * silu (P (ix2 r ⟨5632 + q.val, by omega⟩))

/-- A function of a row and a channel as an array. -/
def arr (f : Fin 2048 → Fin 512 → EReal) : S2048x512.Idx → EReal := fun i => f ⟨(i 0).val, (i 0).isLt⟩ ⟨(i 1).val, (i 1).isLt⟩

/-- A channel's head and its place there. -/
def headed (f : Fin 2048 → Fin 4 → Fin 128 → EReal) (r : Fin 2048) (q : Fin 512) : EReal :=
  f r ⟨q.val / 128, by omega⟩ ⟨q.val % 128, by omega⟩

theorem arr_of (x : S2048x512.Idx → EReal) (f : Fin 2048 → Fin 512 → EReal) (h : ∀ r q, x (ix2 r q) = f r q) : x = arr f :=
  funext fun i => (at2 x i ⟨(i 0).val, (i 0).isLt⟩ ⟨(i 1).val, (i 1).isLt⟩ rfl rfl).trans (h _ _)

/-! ## The reference -/

section Reference

open Cert.Reference8Ideal.Read

variable (x0 : S2048x9216.Idx → EReal) (x1 x2 : S2048x512.Idx → EReal) (x3 : S2x128.Idx → EReal) (x4 : S2x3x512.Idx → EReal)

theorem gate_a (r : Fin 2048) (q : Fin 512) : val_main_v6 (F := Ideal) x0 (ix2 r q) = silu (x0 (ix2 r ⟨1536 + q.val, by omega⟩)) := by
  simp only [val_main_v6_apply, val_main_call0_v5_apply, val_main_call0_v4_apply, val_main_call0_v3_apply, val_main_call0_v2_apply,
    val_main_call0_v1_apply, val_main_call0_v0_apply, val_main_v0_apply, val_main_call0_cst_apply, val_main_call0_cst_0_apply, Ideal.ofBits_def, one_word]
  rw [at2 x0 (idx_main_v0 (ix2 r q)) r ⟨1536 + q.val, by omega⟩ rfl rfl]; rfl
theorem gate_b (r : Fin 2048) (q : Fin 512) : val_main_v25 (F := Ideal) x0 (ix2 r q) = silu (x0 (ix2 r ⟨3584 + q.val, by omega⟩)) := by
  simp only [val_main_v25_apply, val_main_call1_v5_apply, val_main_call1_v4_apply, val_main_call1_v3_apply, val_main_call1_v2_apply,
    val_main_call1_v1_apply, val_main_call1_v0_apply, val_main_v1_apply, val_main_call1_cst_apply, val_main_call1_cst_0_apply, Ideal.ofBits_def, one_word]
  rw [at2 x0 (idx_main_v1 (ix2 r q)) r ⟨3584 + q.val, by omega⟩ rfl rfl]; rfl
theorem gate_c (r : Fin 2048) (q : Fin 512) : val_main_v53 (F := Ideal) x0 (ix2 r q) = silu (x0 (ix2 r ⟨5632 + q.val, by omega⟩)) := by
  simp only [val_main_v53_apply, val_main_call2_v5_apply, val_main_call2_v4_apply, val_main_call2_v3_apply, val_main_call2_v2_apply,
    val_main_call2_v1_apply, val_main_call2_v0_apply, val_main_v5_apply, val_main_call2_cst_apply, val_main_call2_cst_0_apply, Ideal.ofBits_def, one_word]
  rw [at2 x0 (idx_main_v5 (ix2 r q)) r ⟨5632 + q.val, by omega⟩ rfl rfl]; rfl

theorem ref_a : (val_main_v55 (F := Ideal) x0 x1 : S2048x512.Idx → EReal) = arr (ya x0 x1) :=
  arr_of _ _ fun r q => congrArg (fun b : EReal => x1 (ix2 r q) * b) (gate_a x0 r q)

/-- The heads of the second branch's output. -/
theorem heads (r : Fin 2048) (g : Fin 4) (d : Fin 128) : val_main_v8 (F := Ideal) x2 (ix3 r g d) = x2 (ix2 r ⟨128 * g.val + d.val, by omega⟩) := by
  rw [val_main_v8_apply]
  refine at2 x2 _ _ _ ?_ ?_
  · show ((r.val * 4 + g.val) * 128 + d.val) / 512 = r.val
    omega
  · show ((r.val * 4 + g.val) * 128 + d.val) % 512 = 128 * g.val + d.val
    omega

theorem rms_b (r : Fin 2048) (g : Fin 4) (d : Fin 128) :
    (val_main_v18 (F := Ideal) x2 (ix3 r g d) : EReal) = rms (fun k => x2 (ix2 r ⟨128 * g.val + k.val, by omega⟩)) d := by
  rw [val_main_v18_apply, val_main_v17_apply, val_main_v16_apply, val_main_v15_apply, val_main_v14_apply, val_main_v13_apply, val_main_v12_apply,
    val_main_v11_apply, val_main_v10_apply]
  refine congrArg₂ (fun a b : EReal => a * b) (heads x2 r g d) (congrArg Ideal.rsqrt (congrArg (fun a : EReal => a + eps)
    (congrArg (fun a : EReal => Ideal.div a width) ?_)))
  refine (congrArg₂ (fun a b : EReal => a + b) Ideal.ofBits_zero_f32 (Finset.sum_congr rfl fun k _ => ?_)).trans (zero_add _)
  have e := (at3 (val_main_v8 (F := Ideal) x2) (idx_main_v10 (idx_main_v11 (idx_main_v17 (ix3 r g d))) k) r g k rfl rfl rfl).trans (heads x2 r g k)
  exact congrArg₂ (fun a b : EReal => a * b) e e

theorem scale_b (r : Fin 2048) (g : Fin 4) (d : Fin 128) : (val_main_v22 (F := Ideal) x3 (ix3 r g d) : EReal) = x3 (ix2 1 d) := by
  rw [val_main_v22_apply, val_main_v21_apply, val_main_v20_apply, val_main_v19_apply]
  exact at2 x3 _ 1 d rfl (Nat.mod_eq_of_lt d.isLt)

theorem ref_b : (val_main_v56 (F := Ideal) x0 x2 x3 : S2048x512.Idx → EReal) = arr (headed (yb x0 x2 x3)) := by
  refine arr_of _ _ fun r q => congrArg₂ (fun a b : EReal => a * b) ?_ ((gate_b x0 r q).trans (congrArg silu (at2 x0 _ _ _ rfl ?_)))
  · rw [val_main_v24_apply]
    refine (at3 (val_main_v23 (F := Ideal) x2 x3) _ r ⟨q.val / 128, by omega⟩ ⟨q.val % 128, by omega⟩ ?_ ?_ ?_).trans
      (congrArg₂ (fun a b : EReal => a * b) (rms_b x2 _ _ _) (scale_b x3 _ _ _))
    · show (r.val * 512 + q.val) / 512 = r.val
      omega
    · show (r.val * 512 + q.val) / 128 % 4 = q.val / 128
      omega
    · show (r.val * 512 + q.val) % 128 = q.val % 128
      omega
  · show 3584 + q.val = 3584 + (128 * (q.val / 128) + q.val % 128)
    omega

/-- The convolution's input. -/
abbrev input (q : Fin 512) (s : Fin 2048) : EReal := x0 (ix2 s ⟨4096 + q.val, by omega⟩) * x0 (ix2 s ⟨5120 + q.val, by omega⟩)

theorem input_at (s : Fin 2048) (q : Fin 512) : (val_main_v27 (F := Ideal) x0 (ix2 s q) : EReal) = input x0 q s := by
  rw [val_main_v27_apply, val_main_v2_apply, val_main_v4_apply]
  exact congrArg₂ (fun a b : EReal => a * b) (at2 x0 _ _ _ rfl rfl) (at2 x0 _ _ _ rfl rfl)

/-- The input with two zeros before it, read `n` positions before position `r`. -/
theorem padded (n : ℕ) (hn : n ≤ 2) (r : Fin 2048) (q : Fin 512) (i : Cert.Reference8Ideal.S2050x512.Idx) (h0 : (i 0).val + n = r.val + 2) (h1 : (i 1).val = q.val) :
    (val_main_v31 (F := Ideal) x0 i : EReal) = back n (input x0 q) r := by
  unfold val_main_v31 back
  by_cases h : n ≤ r.val
  · rw [if_pos h]
    refine (concatenate_apply_piece (t := Cert.Reference8Ideal.S2050x512) 0 _ _ i 1 (by simp) S2048x512 (val_main_v27 (F := Ideal) x0) rfl rfl 2 rfl
      (ix2 ⟨r.val - n, by omega⟩ q) (fun b hb => ?_) (show 2 + (r.val - n) = (i 0).val by omega)).trans (input_at x0 _ q)
    match b with
    | ⟨0, _⟩ => exact absurd rfl hb
    | ⟨1, _⟩ => exact h1.symm
  · rw [if_neg h]
    refine (concatenate_apply_piece (t := Cert.Reference8Ideal.S2050x512) 0 _ _ i 0 (by simp) Cert.Reference8Ideal.S2x512 (val_main_v30 (F := Ideal)) rfl rfl 0 rfl
      (ix2 ⟨(i 0).val, by omega⟩ q) (fun b hb => ?_) (Nat.zero_add _)).trans ?_
    · match b with
      | ⟨0, _⟩ => exact absurd rfl hb
      | ⟨1, _⟩ => exact h1.symm
    · rw [val_main_v30_apply]
      exact Ideal.ofBits_zero_f32

/-- The taps. -/
theorem tap0 (r : Fin 2048) (q : Fin 512) : (val_main_v36 (F := Ideal) x4 (ix2 r q) : EReal) = x4 (ix3 1 0 q) := by
  rw [val_main_v36_apply, val_main_v35_apply, val_main_v33_apply, val_main_v32_apply, val_main_v29_apply, val_main_v28_apply]
  refine at3 x4 _ _ _ _ rfl ?_ ?_
  · show (0 * 512 + q.val % 512) / 512 % 3 = 0
    omega
  · show (0 * 512 + q.val % 512) % 512 = q.val
    omega
theorem tap1 (r : Fin 2048) (q : Fin 512) : (val_main_v42 (F := Ideal) x4 (ix2 r q) : EReal) = x4 (ix3 1 1 q) := by
  rw [val_main_v42_apply, val_main_v41_apply, val_main_v39_apply, val_main_v38_apply, val_main_v29_apply, val_main_v28_apply]
  refine at3 x4 _ _ _ _ rfl ?_ ?_
  · show ((1 + 0) * 512 + q.val % 512) / 512 % 3 = 1
    omega
  · show ((1 + 0) * 512 + q.val % 512) % 512 = q.val
    omega
theorem tap2 (r : Fin 2048) (q : Fin 512) : (val_main_v49 (F := Ideal) x4 (ix2 r q) : EReal) = x4 (ix3 1 2 q) := by
  rw [val_main_v49_apply, val_main_v48_apply, val_main_v46_apply, val_main_v45_apply, val_main_v29_apply, val_main_v28_apply]
  refine at3 x4 _ _ _ _ rfl ?_ ?_
  · show ((2 + 0) * 512 + q.val % 512) / 512 % 3 = 2
    omega
  · show ((2 + 0) * 512 + q.val % 512) % 512 = q.val
    omega

theorem back_zero (v : Fin 2048 → EReal) (r : Fin 2048) : back 0 v r = v r := if_pos (Nat.zero_le _)

theorem conv_at (r : Fin 2048) (q : Fin 512) : (val_main_v51 (F := Ideal) x0 x4 (ix2 r q) : EReal) = conv (fun j => x4 (ix3 1 j q)) (input x0 q) r := by
  rw [val_main_v51_apply, val_main_v44_apply, val_main_v37_apply, val_main_v43_apply, val_main_v50_apply, val_main_v34_apply, val_main_v40_apply,
    val_main_v47_apply, tap0, tap1, tap2,
    padded x0 2 (by omega) r q _ (show r.val + 2 = r.val + 2 from rfl) rfl, padded x0 1 (by omega) r q _ (show 1 + r.val + 1 = r.val + 2 by omega) rfl,
    padded x0 0 (by omega) r q _ (show 2 + r.val + 0 = r.val + 2 by omega) rfl, back_zero]
  show x4 (ix3 1 0 q) * back 2 (input x0 q) r + x4 (ix3 1 1 q) * back 1 (input x0 q) r + x4 (ix3 1 2 q) * input x0 q r = _
  rw [add_comm, add_comm (x4 (ix3 1 0 q) * back 2 (input x0 q) r), ← add_assoc]
  rfl

theorem ref_c : (val_main_v57 (F := Ideal) x0 x4 : S2048x512.Idx → EReal) = arr (yc x0 x4) :=
  arr_of _ _ fun r q => congrArg₂ (fun a b : EReal => a * b) (congrArg₂ (fun a b : EReal => a * b)
    ((val_main_v3_apply (F := Ideal) x0 (ix2 r q)).trans (at2 x0 _ _ _ rfl rfl)) (conv_at x0 x4 r q)) (gate_c x0 r q)

end Reference

/-! ## A head's block -/

section Block

theorem zeros2 : (![0, 0] : Fin 2 → ℕ) = 0 := funext fun a => match a with | ⟨0, _⟩ => rfl | ⟨1, _⟩ => rfl

theorem ld_x (x : Vec Ideal S2048x128 .f32) : View.ld x r0_0 = x := by rw [View.ld_unit_zero zeros2]

theorem bcRow (v : FVec Ideal S1x128 .f32) (p : Fin 2048) (d : Fin 128) :
    broadcastTo S2048x128 v broadcasts_S1x128_S2048x128 (ix2 p d) = v (ix2 0 d) :=
  broadcastTo_apply v _ _ _ fun a => match a with | ⟨0, _⟩ => rfl | ⟨1, _⟩ => rfl
theorem bcCol (v : FVec Ideal S2048x1 .f32) (p : Fin 2048) (d : Fin 128) :
    broadcastTo S2048x128 v broadcasts_S2048x1_S2048x128 (ix2 p d) = v (ix2 p 0) :=
  broadcastTo_apply v _ _ _ fun a => match a with | ⟨0, _⟩ => rfl | ⟨1, _⟩ => rfl

/-- A gate's tile. -/
def siluTile (v : FVec Ideal S2048x128 .f32) : FVec Ideal S2048x128 .f32 :=
  mulf v (divf (broadcast S2048x128 (Scalar.ofBits .f32 0x3F800000#32)) (addf (broadcast S2048x128 (Scalar.ofBits .f32 0x3F800000#32))
    (exp (subf (broadcast S2048x128 (Scalar.ofBits .f32 0x00000000#32)) v))))

theorem siluTile_at (v : FVec Ideal S2048x128 .f32) (i : S2048x128.Idx) : (siluTile v i : EReal) = silu (v i) := by
  show v i * Ideal.div (Ideal.ofBits .f32 0x3F800000#32) (Ideal.ofBits .f32 0x3F800000#32 + Ideal.exp (Ideal.ofBits .f32 0x00000000#32 - v i)) = _
  rw [one_word, Ideal.ofBits_zero_f32, zero_sub]
  rfl

theorem a_at (o z : Vec Ideal S2048x128 .f32) (i : S2048x128.Idx) : (k0_pay2 o z i : EReal) = o i * silu (z i) :=
  congrArg (fun b : EReal => o i * b) (siluTile_at z i)

/-- Each row's root mean square, inverted. -/
theorem rs_at (o : Vec Ideal S2048x128 .f32) (p : Fin 2048) :
    (rsqrt (addf (divf (shapeCast S2048x1 (multiReduction .add [1] S2048 (mulf o o : FVec Ideal S2048x128 .f32) 0x00000000#32 reduces_S2048x128_S2048 (.inl rfl) rfl) shapeCasts_S2048_S2048x1)
      (broadcast S2048x1 (Scalar.ofBits .f32 0x43000000#32))) (broadcast S2048x1 (Scalar.ofBits .f32 0x358637BD#32))) (ix2 p 0) : EReal)
      = Ideal.rsqrt (Ideal.div (∑ k : Fin 128, o (ix2 p k) * o (ix2 p k)) width + eps) := by
  refine congrArg Ideal.rsqrt (congrArg (fun a : EReal => a + eps) (congrArg (fun a : EReal => Ideal.div a width) ?_))
  rw [shapeCast_apply _ _ _ (ix1 p) (by rw [Shape.rowMajor_val_one, Shape.rowMajor_val_two]; show p.val = p.val * 1 + 0; omega)]
  refine (Ideal.multiReduction_add_single _ 0x00000000#32 _ (.inl rfl) rfl _).trans ?_
  exact Finset.sum_congr rfl fun k _ => congrArg (fun j => (o j * o j : EReal)) (ext2 rfl rfl)

theorem b_at (o z : Vec Ideal S2048x128 .f32) (w : Vec Ideal S1x128 .f32) (p : Fin 2048) (d : Fin 128) :
    (k0_pay4 (k0_pay3 o w z) (ix2 p d) : EReal) = rms (fun k => o (ix2 p k)) d * w (ix2 0 d) * silu (z (ix2 p d)) :=
  congrArg₂ (fun a b : EReal => a * b) (congrArg₂ (fun a b : EReal => a * b)
    (congrArg (fun b : EReal => o (ix2 p d) * b) ((bcCol _ p d).trans (rs_at o p))) (bcRow w p d)) (siluTile_at z _)

theorem from1 : ∀ p : Fin 2048, (1#32).sle (BitVec.ofNat 32 p.val) = decide (1 ≤ p.val) := by decide +kernel
theorem from2 : ∀ p : Fin 2048, (2#32).sle (BitVec.ofNat 32 p.val) = decide (2 ≤ p.val) := by decide +kernel

/-- A tile moved down by `n` rows, with zeros above. -/
theorem down (s : BitVec 32) (n : ℕ) (hs : s.toNat = n) (hn : n < 2048) (hf : ∀ p : Fin 2048, s.sle (BitVec.ofNat 32 p.val) = decide (n ≤ p.val))
    (v : FVec Ideal S2048x128 .f32) (p : Fin 2048) (d : Fin 128) :
    (select (cmpi .sge (iota .tc S2048x128 32 [0] iota_S2048x128_d0_w32) (broadcast S2048x128 s)) (dynamicRotate 0 s none v rotates_S2048x128_d0)
      (broadcast S2048x128 (Scalar.ofBits .f32 0x00000000#32) : FVec Ideal S2048x128 .f32) (ix2 p d) : EReal) = back n (fun r => v (ix2 r d)) p := by
  show (if BitVec.ofBool (s.sle (BitVec.ofNat 32 (0 * 2048 + p.val))) = 1#1 then dynamicRotate 0 s none v rotates_S2048x128_d0 (ix2 p d)
    else Ideal.ofBits .f32 0x00000000#32 : EReal) = _
  rw [Nat.zero_mul, Nat.zero_add, hf p, Ideal.ofBits_zero_f32]
  unfold back
  by_cases h : n ≤ p.val
  · rw [if_pos h, if_pos (by rw [decide_eq_true h]; rfl)]
    refine dynamicRotate_apply (s := S2048x128) 0 s v rotates_S2048x128_d0 (ix2 p d) (ix2 ⟨p.val - n, by omega⟩ d) fun b => match b with
      | ⟨0, _⟩ => ?_
      | ⟨1, _⟩ => rfl
    show p.val - n = (p.val + 2048 - s.toNat % 2048) % 2048
    rw [hs]
    omega
  · rw [if_neg h, if_neg (by rw [decide_eq_false h]; decide)]

theorem flat (w : Vec Ideal S1x1x1x128 .f32) (d : Fin 128) : shapeCast S1x128 w shapeCasts_S1x1x1x128_S1x128 (ix2 0 d) = w (ix4 0 0 0 d) :=
  shapeCast_apply _ _ _ _ (by rw [Shape.rowMajor_val_four, Shape.rowMajor_val_two]; rfl)

theorem c_at (pre u post z : Vec Ideal S2048x128 .f32) (w : Fin 3 → Vec Ideal S1x1x1x128 .f32) (p : Fin 2048) (d : Fin 128) :
    (k0_pay1 (k0_pay5 pre u (w 2) (w 1) (w 0) post) z (ix2 p d) : EReal)
      = post (ix2 p d) * conv (fun j => w j (ix4 0 0 0 d)) (fun r => pre (ix2 r d) * u (ix2 r d)) p * silu (z (ix2 p d)) := by
  have tap : ∀ j, (broadcastTo S2048x128 (shapeCast S1x128 (w j) shapeCasts_S1x1x1x128_S1x128) broadcasts_S1x128_S2048x128 (ix2 p d) : EReal) = w j (ix4 0 0 0 d) :=
    fun j => (bcRow _ p d).trans (flat (w j) d)
  refine congrArg₂ (fun a b : EReal => a * b) (congrArg (fun b : EReal => post (ix2 p d) * b) ?_) (siluTile_at z _)
  exact congrArg₂ (fun a b : EReal => a + b) (congrArg₂ (fun a b : EReal => a + b)
    (congrArg (fun a : EReal => a * (pre (ix2 p d) * u (ix2 p d))) (tap 2))
    (congrArg₂ (fun a b : EReal => a * b) (tap 1) (down 1#32 1 rfl (by omega) from1 (mulf pre u) p d)))
    (congrArg₂ (fun a b : EReal => a * b) (tap 0) (down 2#32 2 rfl (by omega) from2 (mulf pre u) p d))

end Block

/-! ## The blocks -/

variable (m : (ℓ : Loc nD τ sig) → Buf (Elt Ideal) ℓ) (ρ : Dev nD → PrngReg) (c : Dev nD)

/-- The arguments on device `c`. -/
abbrev proj : S2048x9216.Idx → EReal := m ((c : Thread nD τ).loc main_arg0)
abbrev oa : S2048x512.Idx → EReal := m ((c : Thread nD τ).loc main_arg1)
abbrev ob : S2048x512.Idx → EReal := m ((c : Thread nD τ).loc main_arg2)
abbrev nw : S2x128.Idx → EReal := m ((c : Thread nD τ).loc main_arg3)
abbrev cw : S2x3x512.Idx → EReal := m ((c : Thread nD τ).loc main_arg4)

theorem V_taps : V m c main_v1 = transpose S4x2x3x128 [2, 0, 1, 3] (shapeCast S2x3x4x128 (cw m c) shapeCasts_S2x3x512_S2x3x4x128)
    transposes_S2x3x4x128_S4x2x3x128_2_0_1_3 := by
  sl_kernel_rfl

theorem count (t : Fin cfg0.N) : t.val < 4 := t.isLt

theorem place : ∀ t : Fin cfg0.N, (win0_0.index t 0 = 0 ∧ win0_0.index t 1 = t.val) ∧ (win0_1.index t 0 = 0 ∧ win0_1.index t 1 = 12 + t.val)
    ∧ (win0_2.index t 0 = 0 ∧ win0_2.index t 1 = t.val) ∧ (win0_3.index t 0 = 0 ∧ win0_3.index t 1 = 28 + t.val) ∧ (win0_4.index t 0 = 0 ∧ win0_4.index t 1 = 0) :=
  (by decide +kernel : ∀ t : Fin grid0.N, _)
theorem placeC : ∀ t : Fin cfg0.N, (win0_5.index t 0 = 0 ∧ win0_5.index t 1 = 32 + t.val) ∧ (win0_6.index t 0 = 0 ∧ win0_6.index t 1 = 36 + t.val)
    ∧ (win0_7.index t 0 = 0 ∧ win0_7.index t 1 = 40 + t.val) ∧ (win0_8.index t 0 = 0 ∧ win0_8.index t 1 = 44 + t.val)
    ∧ (win0_9.index t 0 = t.val ∧ win0_9.index t 1 = 1 ∧ win0_9.index t 2 = 0 ∧ win0_9.index t 3 = 0) := (by decide +kernel : ∀ t : Fin grid0.N, _)
theorem placeOut : ∀ t : Fin cfg0.N, (win0_10.index t 0 = 0 ∧ win0_10.index t 1 = t.val) ∧ (win0_11.index t 0 = 0 ∧ win0_11.index t 1 = t.val)
    ∧ (win0_12.index t 0 = 0 ∧ win0_12.index t 1 = t.val) := (by decide +kernel : ∀ t : Fin grid0.N, _)

/-- Channel `d` of head `t`. -/
abbrev chan (t : Fin cfg0.N) (d : Fin 128) : Fin 512 := ⟨128 * t.val + d.val, by have := count t; omega⟩

/-- The blocks of grid point `t`. -/
abbrev b0 (t : Fin cfg0.N) : Vec Ideal S2048x128 .f32 := iblk m c 0 t
abbrev b1 (t : Fin cfg0.N) : Vec Ideal S2048x128 .f32 := iblk m c 1 t
abbrev b2 (t : Fin cfg0.N) : Vec Ideal S2048x128 .f32 := iblk m c 2 t
abbrev b3 (t : Fin cfg0.N) : Vec Ideal S2048x128 .f32 := iblk m c 3 t
abbrev b4 (t : Fin cfg0.N) : Vec Ideal S2x128 .f32 := iblk m c 4 t
abbrev b5 (t : Fin cfg0.N) : Vec Ideal S2048x128 .f32 := iblk m c 5 t
abbrev b6 (t : Fin cfg0.N) : Vec Ideal S2048x128 .f32 := iblk m c 6 t
abbrev b7 (t : Fin cfg0.N) : Vec Ideal S2048x128 .f32 := iblk m c 7 t
abbrev b8 (t : Fin cfg0.N) : Vec Ideal S2048x128 .f32 := iblk m c 8 t
abbrev b9 (t : Fin cfg0.N) : Vec Ideal S1x1x3x128 .f32 := iblk m c 9 t

theorem b0_at (t : Fin cfg0.N) (p : Fin 2048) (d : Fin 128) : (b0 m c t (ix2 p d) : EReal) = oa m c (ix2 p (chan t d)) :=
  (congrArg (V m c main_arg1 : S2048x512.Idx → EReal) (ext2 (x := ((cfg0.win 0).blk t).view.emb (ix2 p d)) (y := ix2 p (chan t d))
    (show win0_0.index t 0 * 2048 + 1 * p.val = p.val by rw [(place t).1.1]; omega)
    (show win0_0.index t 1 * 128 + 1 * d.val = 128 * t.val + d.val by rw [(place t).1.2]; omega))).trans (congrFun (V_main_arg1 m c) _)
theorem b1_at (t : Fin cfg0.N) (p : Fin 2048) (d : Fin 128) : (b1 m c t (ix2 p d) : EReal) = proj m c (ix2 p ⟨1536 + (chan t d).val, by omega⟩) :=
  (congrArg (V m c main_arg0 : S2048x9216.Idx → EReal) (ext2 (x := ((cfg0.win 1).blk t).view.emb (ix2 p d)) (y := ix2 p ⟨1536 + (chan t d).val, by omega⟩)
    (show win0_1.index t 0 * 2048 + 1 * p.val = p.val by rw [(place t).2.1.1]; omega)
    (show win0_1.index t 1 * 128 + 1 * d.val = 1536 + (128 * t.val + d.val) by rw [(place t).2.1.2]; omega))).trans (congrFun (V_main_arg0 m c) _)
theorem b2_at (t : Fin cfg0.N) (p : Fin 2048) (d : Fin 128) : (b2 m c t (ix2 p d) : EReal) = ob m c (ix2 p (chan t d)) :=
  (congrArg (V m c main_arg2 : S2048x512.Idx → EReal) (ext2 (x := ((cfg0.win 2).blk t).view.emb (ix2 p d)) (y := ix2 p (chan t d))
    (show win0_2.index t 0 * 2048 + 1 * p.val = p.val by rw [(place t).2.2.1.1]; omega)
    (show win0_2.index t 1 * 128 + 1 * d.val = 128 * t.val + d.val by rw [(place t).2.2.1.2]; omega))).trans (congrFun (V_main_arg2 m c) _)
theorem b3_at (t : Fin cfg0.N) (p : Fin 2048) (d : Fin 128) : (b3 m c t (ix2 p d) : EReal) = proj m c (ix2 p ⟨3584 + (chan t d).val, by omega⟩) :=
  (congrArg (V m c main_arg0 : S2048x9216.Idx → EReal) (ext2 (x := ((cfg0.win 3).blk t).view.emb (ix2 p d)) (y := ix2 p ⟨3584 + (chan t d).val, by omega⟩)
    (show win0_3.index t 0 * 2048 + 1 * p.val = p.val by rw [(place t).2.2.2.1.1]; omega)
    (show win0_3.index t 1 * 128 + 1 * d.val = 3584 + (128 * t.val + d.val) by rw [(place t).2.2.2.1.2]; omega))).trans (congrFun (V_main_arg0 m c) _)
theorem b4_at (t : Fin cfg0.N) (d : Fin 128) : (b4 m c t (ix2 1 d) : EReal) = nw m c (ix2 1 d) :=
  (congrArg (V m c main_arg3 : S2x128.Idx → EReal) (ext2 (x := ((cfg0.win 4).blk t).view.emb (ix2 1 d)) (y := ix2 1 d)
    (show win0_4.index t 0 * 2 + 1 * 1 = 1 by rw [(place t).2.2.2.2.1])
    (show win0_4.index t 1 * 128 + 1 * d.val = d.val by rw [(place t).2.2.2.2.2]; omega))).trans (congrFun (V_main_arg3 m c) _)
theorem b5_at (t : Fin cfg0.N) (p : Fin 2048) (d : Fin 128) : (b5 m c t (ix2 p d) : EReal) = proj m c (ix2 p ⟨4096 + (chan t d).val, by omega⟩) :=
  (congrArg (V m c main_arg0 : S2048x9216.Idx → EReal) (ext2 (x := ((cfg0.win 5).blk t).view.emb (ix2 p d)) (y := ix2 p ⟨4096 + (chan t d).val, by omega⟩)
    (show win0_5.index t 0 * 2048 + 1 * p.val = p.val by rw [(placeC t).1.1]; omega)
    (show win0_5.index t 1 * 128 + 1 * d.val = 4096 + (128 * t.val + d.val) by rw [(placeC t).1.2]; omega))).trans (congrFun (V_main_arg0 m c) _)
theorem b6_at (t : Fin cfg0.N) (p : Fin 2048) (d : Fin 128) : (b6 m c t (ix2 p d) : EReal) = proj m c (ix2 p ⟨4608 + (chan t d).val, by omega⟩) :=
  (congrArg (V m c main_arg0 : S2048x9216.Idx → EReal) (ext2 (x := ((cfg0.win 6).blk t).view.emb (ix2 p d)) (y := ix2 p ⟨4608 + (chan t d).val, by omega⟩)
    (show win0_6.index t 0 * 2048 + 1 * p.val = p.val by rw [(placeC t).2.1.1]; omega)
    (show win0_6.index t 1 * 128 + 1 * d.val = 4608 + (128 * t.val + d.val) by rw [(placeC t).2.1.2]; omega))).trans (congrFun (V_main_arg0 m c) _)
theorem b7_at (t : Fin cfg0.N) (p : Fin 2048) (d : Fin 128) : (b7 m c t (ix2 p d) : EReal) = proj m c (ix2 p ⟨5120 + (chan t d).val, by omega⟩) :=
  (congrArg (V m c main_arg0 : S2048x9216.Idx → EReal) (ext2 (x := ((cfg0.win 7).blk t).view.emb (ix2 p d)) (y := ix2 p ⟨5120 + (chan t d).val, by omega⟩)
    (show win0_7.index t 0 * 2048 + 1 * p.val = p.val by rw [(placeC t).2.2.1.1]; omega)
    (show win0_7.index t 1 * 128 + 1 * d.val = 5120 + (128 * t.val + d.val) by rw [(placeC t).2.2.1.2]; omega))).trans (congrFun (V_main_arg0 m c) _)
theorem b8_at (t : Fin cfg0.N) (p : Fin 2048) (d : Fin 128) : (b8 m c t (ix2 p d) : EReal) = proj m c (ix2 p ⟨5632 + (chan t d).val, by omega⟩) :=
  (congrArg (V m c main_arg0 : S2048x9216.Idx → EReal) (ext2 (x := ((cfg0.win 8).blk t).view.emb (ix2 p d)) (y := ix2 p ⟨5632 + (chan t d).val, by omega⟩)
    (show win0_8.index t 0 * 2048 + 1 * p.val = p.val by rw [(placeC t).2.2.2.1.1]; omega)
    (show win0_8.index t 1 * 128 + 1 * d.val = 5632 + (128 * t.val + d.val) by rw [(placeC t).2.2.2.1.2]; omega))).trans (congrFun (V_main_arg0 m c) _)

theorem b9_at (t : Fin cfg0.N) (j : Fin 3) (d : Fin 128) : (b9 m c t (ix4 0 0 j d) : EReal) = cw m c (ix3 1 j (chan t d)) := by
  have ht := count t
  obtain ⟨e0, e1, e2, e3⟩ := (placeC t).2.2.2.2
  refine (congrArg (V m c main_v1 : S4x2x3x128.Idx → EReal) (funext fun a => match a with
    | ⟨0, _⟩ => Fin.ext (show win0_9.index t 0 * 1 + 1 * 0 = t.val by rw [e0]; omega)
    | ⟨1, _⟩ => Fin.ext (show win0_9.index t 1 * 1 + 1 * 0 = 1 by rw [e1])
    | ⟨2, _⟩ => Fin.ext (show win0_9.index t 2 * 3 + 1 * j.val = j.val by rw [e2]; omega)
    | ⟨3, _⟩ => Fin.ext (show win0_9.index t 3 * 128 + 1 * d.val = d.val by rw [e3]; omega) :
    ((cfg0.win 9).blk t).view.emb (ix4 0 0 j d) = (ix4 ⟨t.val, ht⟩ 1 j d : S4x2x3x128.Idx))).trans ?_
  refine (congrFun (V_taps m c) _).trans ?_
  refine (transpose_apply [2, 0, 1, 3] _ transposes_S2x3x4x128_S4x2x3x128_2_0_1_3 _ (ix4 1 j ⟨t.val, ht⟩ d : S2x3x4x128.Idx) fun b => match b with
    | ⟨0, _⟩ => rfl
    | ⟨1, _⟩ => rfl
    | ⟨2, _⟩ => rfl
    | ⟨3, _⟩ => rfl).trans ?_
  exact shapeCast_apply _ _ _ (ix3 1 j (chan t d)) (by
    rw [Shape.rowMajor_val_three, Shape.rowMajor_val_four]
    show (1 * 3 + j.val) * 512 + (128 * t.val + d.val) = ((1 * 3 + j.val) * 4 + t.val) * 128 + d.val
    omega)

theorem ld_row (x : Vec Ideal S2x128 .f32) (d : Fin 128) : (View.ld x r0_1 (ix2 0 d) : EReal) = x (ix2 1 d) :=
  View.ld_unit_apply_of x _ _ _ _ _ fun a => match a with
    | ⟨0, _⟩ => rfl
    | ⟨1, _⟩ => (Nat.zero_add d.val).symm

/-- The taps' rows. -/
def taps (x : Vec Ideal S1x1x3x128 .f32) : Fin 3 → Vec Ideal S1x1x1x128 .f32
  | ⟨0, _⟩ => View.ld x r0_4
  | ⟨1, _⟩ => View.ld x r0_3
  | ⟨2, _⟩ => View.ld x r0_2

theorem taps_at (x : Vec Ideal S1x1x3x128 .f32) (j : Fin 3) (d : Fin 128) : (taps x j (ix4 0 0 0 d) : EReal) = x (ix4 0 0 j d) :=
  match j with
  | ⟨0, _⟩ => View.ld_unit_apply_of x _ _ _ _ _ fun a => match a with
    | ⟨0, _⟩ => rfl | ⟨1, _⟩ => rfl | ⟨2, _⟩ => rfl | ⟨3, _⟩ => (Nat.zero_add d.val).symm
  | ⟨1, _⟩ => View.ld_unit_apply_of x _ _ _ _ _ fun a => match a with
    | ⟨0, _⟩ => rfl | ⟨1, _⟩ => rfl | ⟨2, _⟩ => rfl | ⟨3, _⟩ => (Nat.zero_add d.val).symm
  | ⟨2, _⟩ => View.ld_unit_apply_of x _ _ _ _ _ fun a => match a with
    | ⟨0, _⟩ => rfl | ⟨1, _⟩ => rfl | ⟨2, _⟩ => rfl | ⟨3, _⟩ => (Nat.zero_add d.val).symm

/-! ## The arrays after the run -/

theorem final_a : (dats m 0 c).arrAt 10 cfg0.N = arr (ya (proj m c) (oa m c)) := by
  refine (dats m 0 c).arrAt_eq_of_covers 10 _ (by decide +kernel) fun t hf y => ?_
  show (dats m 0 c).after 10 t ((cfg0.win 10).xinj (grid0.coords t) y) = arr (ya (proj m c) (oa m c)) (((cfg0.win 10).blk t).view.emb y)
  rw [after0_10]
  have y0 : (y 0).val < 2048 := (y 0).isLt
  have y1 : (y 1).val < 128 := (y 1).isLt
  have e : (cfg0.win 10).xinj (grid0.coords t) y = (ix2 ⟨(y 0).val, y0⟩ ⟨(y 1).val, y1⟩ : S2048x128.Idx) := ext2 rfl rfl
  have e0 : ((((cfg0.win 10).blk t).view.emb y) 0).val = (y 0).val := show win0_10.index t 0 * 2048 + 1 * (y 0).val = _ by rw [(placeOut t).1.1]; omega
  have e1 : ((((cfg0.win 10).blk t).view.emb y) 1).val = 128 * t.val + (y 1).val := show win0_10.index t 1 * 128 + 1 * (y 1).val = _ by rw [(placeOut t).1.2]; omega
  rw [e]
  show (out0_10 (F := Ideal) (b0 m c t) (b1 m c t) (b2 m c t) (b3 m c t) (b4 m c t) (b5 m c t) (b6 m c t) (b7 m c t) (b8 m c t) (b9 m c t)
    (ix2 ⟨(y 0).val, y0⟩ ⟨(y 1).val, y1⟩) : EReal) = _
  unfold out0_10
  rw [View.canon_unit_zero zeros2, ld_x, ld_x]
  refine (a_at _ _ _).trans ((congrArg₂ (fun a b : EReal => a * silu b) (b0_at m c t _ _) (b1_at m c t _ _)).trans ?_)
  exact congrArg₂ (ya (proj m c) (oa m c)) (Fin.ext e0.symm) (Fin.ext e1.symm)

theorem final_b : (dats m 0 c).arrAt 11 cfg0.N = arr (headed (yb (proj m c) (ob m c) (nw m c))) := by
  refine (dats m 0 c).arrAt_eq_of_covers 11 _ (by decide +kernel) fun t hf y => ?_
  show (dats m 0 c).after 11 t ((cfg0.win 11).xinj (grid0.coords t) y) = arr (headed (yb (proj m c) (ob m c) (nw m c))) (((cfg0.win 11).blk t).view.emb y)
  rw [after0_11]
  have ht := count t
  have y0 : (y 0).val < 2048 := (y 0).isLt
  have y1 : (y 1).val < 128 := (y 1).isLt
  have e : (cfg0.win 11).xinj (grid0.coords t) y = (ix2 ⟨(y 0).val, y0⟩ ⟨(y 1).val, y1⟩ : S2048x128.Idx) := ext2 rfl rfl
  have e0 : ((((cfg0.win 11).blk t).view.emb y) 0).val = (y 0).val := show win0_11.index t 0 * 2048 + 1 * (y 0).val = _ by rw [(placeOut t).2.1.1]; omega
  have e1 : ((((cfg0.win 11).blk t).view.emb y) 1).val = 128 * t.val + (y 1).val := show win0_11.index t 1 * 128 + 1 * (y 1).val = _ by rw [(placeOut t).2.1.2]; omega
  rw [e]
  show (out0_11 (F := Ideal) (b0 m c t) (b1 m c t) (b2 m c t) (b3 m c t) (b4 m c t) (b5 m c t) (b6 m c t) (b7 m c t) (b8 m c t) (b9 m c t)
    (ix2 ⟨(y 0).val, y0⟩ ⟨(y 1).val, y1⟩) : EReal) = _
  unfold out0_11
  rw [View.canon_unit_zero zeros2, ld_x, ld_x]
  refine (b_at _ _ _ _ _).trans ?_
  refine Eq.trans (b := yb (proj m c) (ob m c) (nw m c) ⟨(y 0).val, y0⟩ ⟨t.val, ht⟩ ⟨(y 1).val, y1⟩) ?_ ?_
  · exact congrArg₂ (fun a b : EReal => a * b) (congrArg₂ (fun a b : EReal => a * b) (congrArg (fun f => rms f _) (funext fun k => b2_at m c t _ k))
      ((ld_row _ _).trans (b4_at m c t _))) (congrArg silu (b3_at m c t _ _))
  · show _ = yb (proj m c) (ob m c) (nw m c) ⟨((((cfg0.win 11).blk t).view.emb y) 0).val, _⟩ ⟨((((cfg0.win 11).blk t).view.emb y) 1).val / 128, _⟩
      ⟨((((cfg0.win 11).blk t).view.emb y) 1).val % 128, _⟩
    refine congr (congrArg₂ (yb (proj m c) (ob m c) (nw m c)) (Fin.ext e0.symm) (Fin.ext ?_)) (Fin.ext ?_)
    · show t.val = _ / 128
      rw [e1]; omega
    · show (y 1).val = _ % 128
      rw [e1]; omega

theorem final_c : (dats m 0 c).arrAt 12 cfg0.N = arr (yc (proj m c) (cw m c)) := by
  refine (dats m 0 c).arrAt_eq_of_covers 12 _ (by decide +kernel) fun t hf y => ?_
  show (dats m 0 c).after 12 t ((cfg0.win 12).xinj (grid0.coords t) y) = arr (yc (proj m c) (cw m c)) (((cfg0.win 12).blk t).view.emb y)
  rw [after0_12]
  have y0 : (y 0).val < 2048 := (y 0).isLt
  have y1 : (y 1).val < 128 := (y 1).isLt
  have e : (cfg0.win 12).xinj (grid0.coords t) y = (ix2 ⟨(y 0).val, y0⟩ ⟨(y 1).val, y1⟩ : S2048x128.Idx) := ext2 rfl rfl
  have e0 : ((((cfg0.win 12).blk t).view.emb y) 0).val = (y 0).val := show win0_12.index t 0 * 2048 + 1 * (y 0).val = _ by rw [(placeOut t).2.2.1]; omega
  have e1 : ((((cfg0.win 12).blk t).view.emb y) 1).val = 128 * t.val + (y 1).val := show win0_12.index t 1 * 128 + 1 * (y 1).val = _ by rw [(placeOut t).2.2.2]; omega
  rw [e]
  show (out0_12 (F := Ideal) (b0 m c t) (b1 m c t) (b2 m c t) (b3 m c t) (b4 m c t) (b5 m c t) (b6 m c t) (b7 m c t) (b8 m c t) (b9 m c t)
    (ix2 ⟨(y 0).val, y0⟩ ⟨(y 1).val, y1⟩) : EReal) = _
  unfold out0_12
  rw [View.canon_unit_zero zeros2, ld_x, ld_x, ld_x, ld_x]
  refine (c_at _ _ _ _ (taps (b9 m c t)) _ _).trans ?_
  refine Eq.trans (b := yc (proj m c) (cw m c) ⟨(y 0).val, y0⟩ (chan t ⟨(y 1).val, y1⟩)) ?_ ?_
  · refine congrArg₂ (fun a b : EReal => a * b) (congrArg₂ (fun a b : EReal => a * b) (b6_at m c t _ _) (congrArg₂ (fun w v => conv w v _)
      (funext fun j => (taps_at _ j _).trans (b9_at m c t j _)) (funext fun s => congrArg₂ (fun a b : EReal => a * b) (b5_at m c t s _) (b7_at m c t s _))))
      (congrArg silu (b8_at m c t _ _))
  · exact congrArg₂ (yc (proj m c) (cw m c)) (Fin.ext e0.symm) (Fin.ext e1.symm)

/-! ## The claim -/

theorem algebraic : Cert.algebraic_Kernel8Ideal_Reference8Ideal := by
  intro m g m' g' _ hargs
  refine ⟨fun c => arr (ya (proj m c) (oa m c)), fun c => arr (headed (yb (proj m c) (ob m c) (nw m c))), fun c => arr (yc (proj m c) (cw m c)), ?_, ?_⟩
  · refine (θ_run _ _ _).mono (fun r h c => ?_) (Cert.Kernel8Ideal.Value.run_blocks (F := Ideal) m g)
    exact ⟨(h c).1.trans (final_a m c), (h c).2.1.trans (final_b m c), (h c).2.2.1.trans (final_c m c), (h c).2.2.2⟩
  · refine (θ_run _ _ _).mono (fun r h c => ?_) (Cert.Reference8Ideal.Value.run (F := Ideal) m' g')
    obtain ⟨h0, h1, h2, hk⟩ := h c
    obtain ⟨e0, e1, e2, e3, e4⟩ := hargs c
    refine ⟨?_, ?_, ?_, hk⟩
    · rw [e0, e1] at h0
      exact (h0.trans (Cert.Reference8Ideal.Read.val_main_v55_eq _ _)).trans (ref_a _ _)
    · rw [e0, e2, e3] at h1
      exact (h1.trans (Cert.Reference8Ideal.Read.val_main_v56_eq _ _ _)).trans (ref_b _ _ _)
    · rw [e0, e4] at h2
      exact (h2.trans (Cert.Reference8Ideal.Read.val_main_v57_eq _ _)).trans (ref_c _ _)

end Cert.BranchFwd

end
end
-- ==== Proof.GradMod.lean ====
/-
The call `grad_w_mod`: the gradient of the modulation's weights, layer by layer. Both programs end with `weights` of the devices'
conditioning rows and of the modulation's cotangent.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Geometry
public import Idealize.ShloMosaic.Lib.Pointwise.Contract
public import Idealize.ShloMosaic.PureOps.Ideal.Laws

@[expose] public section

set_option maxRecDepth 16384
set_option maxHeartbeats 1000000

noncomputable section

namespace Cert.GradMod

open Cert.Kernel6Ideal Cert.Kernel6Ideal.Gen
open Idealize.ShloMosaic hiding ix1 ix2 ix3 ix4
open Idealize.ShloMosaic.TcCoe Idealize.ShloMosaic.Tactic Idealize.ShloMosaic.ValueIdx Idealize.SL.Sem
open Cert.Reference6Ideal.Read

attribute [local instance] Cert.Kernel6Ideal.Gen.facts Cert.Reference6Ideal.Gen.facts

/-- The gradient to the weights of layer `l` at row `k` and column `q`: the sum over the devices. -/
def weights (x : S8x1024.Idx → EReal) (d : S2x8x768.Idx → EReal) (i : S2x1024x768.Idx) : EReal :=
  ∑ b : Fin 8, x (ix2 b ⟨(i 1).val, (i 1).isLt⟩) * d (ix3 ⟨(i 0).val, (i 0).isLt⟩ b ⟨(i 2).val, (i 2).isLt⟩)

theorem at2 {n k : ℕ} (x : (⟨2, ![n, k]⟩ : Shape).Idx → EReal) (i : (⟨2, ![n, k]⟩ : Shape).Idx) (a : Fin n) (b : Fin k)
    (ha : (i 0).val = a.val) (hb : (i 1).val = b.val) : x i = x (ix2 a b) :=
  congrArg x (funext fun d => match d with | ⟨0, _⟩ => Fin.ext ha | ⟨1, _⟩ => Fin.ext hb)
theorem at3 {n k l : ℕ} (x : (⟨3, ![n, k, l]⟩ : Shape).Idx → EReal) (i : (⟨3, ![n, k, l]⟩ : Shape).Idx) (a : Fin n) (b : Fin k) (c : Fin l)
    (ha : (i 0).val = a.val) (hb : (i 1).val = b.val) (hc : (i 2).val = c.val) : x i = x (ix3 a b c) :=
  congrArg x (funext fun d => match d with | ⟨0, _⟩ => Fin.ext ha | ⟨1, _⟩ => Fin.ext hb | ⟨2, _⟩ => Fin.ext hc)

/-! ## The reference -/

theorem reference_weights (x0 : S8x1024.Idx → EReal) (x1 : S2x8x768.Idx → EReal) :
    (val_main_v5 (F := Ideal) x0 x1 : S2x1024x768.Idx → EReal) = weights x0 x1 := by
  funext i
  show (val_main_v5 (F := Ideal) x0 x1 i : EReal) = _
  rw [val_main_v5_apply, val_main_v4_apply]
  unfold weights
  refine Finset.sum_congr rfl fun b _ => ?_
  refine (mul_comm (G := EReal) _ _).trans (congrArg₂ (fun a b : EReal => a * b) (at2 x0 _ _ _ rfl rfl) ?_)
  exact (val_main_v3_apply (F := Ideal) x1 _).trans (at3 x1 _ _ _ _ rfl rfl rfl)

/-! ## The kernel -/

variable (m : (ℓ : Loc nD τ sig) → Buf (Elt Ideal) ℓ) (ρ : Dev nD → PrngReg) (c : Dev nD)

/-- The product of one block, into zeros. -/
theorem product (a : FVec Ideal S8x1024 .bf16) (b : FVec Ideal S8x768 .bf16) (k : Fin 1024) (q : Fin 768) :
    matmul dot_S8x1024_S8x768_S1024x768_0_0_1_1_n_n none a b (constant S1024x768 .f32 0x00000000#32) (ix2 k q)
      = ∑ p : Fin 8, a (ix2 p k) * b (ix2 p q) := by
  refine (Ideal.matmul_constant_zero_apply _ none _ _ _).trans ((DotDims.sum_contr₁ _ rfl rfl _).trans ?_)
  exact Finset.sum_congr rfl fun p _ => congrArg₂ (fun x y : EReal => x * y)
    (at2 (a : S8x1024.Idx → EReal) _ _ _ rfl rfl) (at2 (b : S8x768.Idx → EReal) _ _ _ rfl rfl)

/-- What one grid step leaves in its result block. -/
theorem block (x0 : Vec Ideal S8x1024 .f32) (x1 : Vec Ideal S1x8x768 .f32) (k : Fin 1024) (q : Fin 768) :
    (out0_2 (F := Ideal) x0 x1 (ix3 0 k q) : EReal) = ∑ p : Fin 8, x0 (ix2 p k) * x1 (ix3 0 p q) := by
  unfold out0_2
  rw [View.canon_unit_zero (funext fun a => match a with | ⟨0, _⟩ => rfl | ⟨1, _⟩ => rfl | ⟨2, _⟩ => rfl)]
  unfold k0_pay1
  refine (shapeCast_apply _ _ _ (ix2 k q) (by
    rw [Shape.rowMajor_val_three, Shape.rowMajor_val_two]; show k.val * 768 + q.val = (0 * 1024 + k.val) * 768 + q.val; omega)).trans ?_
  refine (product _ _ k q).trans (Finset.sum_congr rfl fun p _ => congrArg₂ (fun x y : EReal => x * y) ?_ ?_)
  · show View.ld x0 r0_0 (ix2 p k) = _
    rw [View.ld_unit_zero (funext fun a => match a with | ⟨0, _⟩ => rfl | ⟨1, _⟩ => rfl)]
  · show (shapeCast S8x768 (View.ld x1 r0_1) shapeCasts_S1x8x768_S8x768 (ix2 p q) : EReal) = _
    refine (shapeCast_apply _ _ _ (ix3 0 p q) (by
      rw [Shape.rowMajor_val_three, Shape.rowMajor_val_two]; show (0 * 8 + p.val) * 768 + q.val = p.val * 768 + q.val; omega)).trans ?_
    rw [View.ld_unit_zero (funext fun a => match a with | ⟨0, _⟩ => rfl | ⟨1, _⟩ => rfl | ⟨2, _⟩ => rfl)]

theorem place : ∀ t : Fin cfg0.N, (win0_0.index t 0 = 0 ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, _)

theorem count (t : Fin cfg0.N) : t.val < 2 := t.isLt

theorem rows_block (t : Fin cfg0.N) (p : Fin 8) (k : Fin 1024) :
    (iblk m c 0 t : S8x1024.Idx → EReal) (ix2 p k) = (m ((c : Thread nD τ).loc main_arg0) : S8x1024.Idx → EReal) (ix2 p k) :=
  (at2 (V m c main_arg0 : S8x1024.Idx → EReal) (((cfg0.win 0).blk t).view.emb (ix2 p k)) p k
    (show win0_0.index t 0 * 8 + 1 * p.val = p.val by rw [(place t).1.1]; omega)
    (show win0_0.index t 1 * 1024 + 1 * k.val = k.val by rw [(place t).1.2]; omega)).trans (congrFun (V_main_arg0 m c) _)

theorem cotangent_block (t : Fin cfg0.N) (p : Fin 8) (q : Fin 768) :
    (iblk m c 1 t : S1x8x768.Idx → EReal) (ix3 0 p q)
      = (m ((c : Thread nD τ).loc main_arg1) : S2x8x768.Idx → EReal) (ix3 ⟨t.val, count t⟩ p q) :=
  (at3 (V m c main_arg1 : S2x8x768.Idx → EReal) (((cfg0.win 1).blk t).view.emb (ix3 0 p q)) ⟨t.val, count t⟩ p q
    (show win0_1.index t 0 * 1 + 1 * 0 = t.val by rw [(place t).2.1.1]; omega)
    (show win0_1.index t 1 * 8 + 1 * p.val = p.val by rw [(place t).2.1.2.1]; omega)
    (show win0_1.index t 2 * 768 + 1 * q.val = q.val by rw [(place t).2.1.2.2]; omega)).trans (congrFun (V_main_arg1 m c) _)

/-- The result array after the run. -/
theorem final : (dats m 0 c).arrAt 2 cfg0.N = weights (m ((c : Thread nD τ).loc main_arg0)) (m ((c : Thread nD τ).loc main_arg1)) := by
  refine (dats m 0 c).arrAt_eq_of_covers 2 _ (by decide +kernel) fun t hf y => ?_
  show (dats m 0 c).after 2 t ((cfg0.win 2).xinj (grid0.coords t) y)
    = weights (m ((c : Thread nD τ).loc main_arg0)) (m ((c : Thread nD τ).loc main_arg1)) (((cfg0.win 2).blk t).view.emb y)
  rw [after0_2]
  have y0 : (y 0).val < 1 := (y 0).isLt
  have y1 : (y 1).val < 1024 := (y 1).isLt
  have y2 : (y 2).val < 768 := (y 2).isLt
  have e : (cfg0.win 2).xinj (grid0.coords t) y = (ix3 0 ⟨(y 1).val, y1⟩ ⟨(y 2).val, y2⟩ : S1x1024x768.Idx) :=
    funext fun d => match d with
      | ⟨0, _⟩ => Fin.ext (show (y 0).val = 0 by omega)
      | ⟨1, _⟩ => Fin.ext rfl
      | ⟨2, _⟩ => Fin.ext rfl
  have e0 : ((((cfg0.win 2).blk t).view.emb y) 0).val = t.val := show win0_2.index t 0 * 1 + 1 * (y 0).val = t.val by rw [(place t).2.2.1]; omega
  have e1 : ((((cfg0.win 2).blk t).view.emb y) 1).val = (y 1).val := show win0_2.index t 1 * 1024 + 1 * (y 1).val = (y 1).val by rw [(place t).2.2.2.1]; omega
  have e2 : ((((cfg0.win 2).blk t).view.emb y) 2).val = (y 2).val := show win0_2.index t 2 * 768 + 1 * (y 2).val = (y 2).val by rw [(place t).2.2.2.2]; omega
  rw [e]
  refine (block _ _ _ _).trans ?_
  unfold weights
  refine Finset.sum_congr rfl fun p _ => congrArg₂ (fun a b : EReal => a * b) ?_ ?_
  · exact (rows_block m c t p _).trans (congrArg (m ((c : Thread nD τ).loc main_arg0) : S8x1024.Idx → EReal) (congrArg (ix2 p) (Fin.ext e1.symm)))
  · exact (cotangent_block m c t p _).trans (congrArg₂ (fun a b => (m ((c : Thread nD τ).loc main_arg1) : S2x8x768.Idx → EReal) (ix3 a p b))
      (Fin.ext e0.symm) (Fin.ext e2.symm))

/-! ## The claim -/

theorem algebraic : Cert.algebraic_Kernel6Ideal_Reference6Ideal := by
  intro m g m' g' _ hargs
  refine ⟨fun c => weights (m ((c : Thread nD τ).loc main_arg0)) (m ((c : Thread nD τ).loc main_arg1)), ?_, ?_⟩
  · refine (θ_run _ _ _).mono (fun r h c => ?_) (Cert.Kernel6Ideal.Value.run_blocks (F := Ideal) m g)
    exact ⟨(h c).1.trans (final m c), (h c).2⟩
  · refine (θ_run _ _ _).mono (fun r h c => ?_) (Cert.Reference6Ideal.Value.run (F := Ideal) m' g')
    obtain ⟨h0, hk⟩ := h c
    obtain ⟨e0, e1⟩ := hargs c
    refine ⟨?_, hk⟩
    rw [e0, e1] at h0
    exact (h0.trans (val_main_v5_eq _ _)).trans (reference_weights _ _)

end Cert.GradMod

end
end
-- ==== Proof.GradW.lean ====
/-
The call `grad_w_in`: the gradient of the input projection's weights, by chip. Both programs end with `weights` of the
projection's operand `h`, which their host lines compute alike, and of the projection's cotangent.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Geometry
public import Idealize.ShloMosaic.Lib.Pointwise.Contract
public import Idealize.ShloMosaic.PureOps.Ideal.Laws

@[expose] public section

set_option maxRecDepth 16384
set_option maxHeartbeats 1000000

noncomputable section

namespace Cert.GradW

open Cert.Kernel2Ideal Cert.Kernel2Ideal.Gen
open Idealize.ShloMosaic hiding ix1 ix2 ix3 ix4
open Idealize.ShloMosaic.TcCoe Idealize.ShloMosaic.Tactic Idealize.ShloMosaic.ValueIdx Idealize.SL.Sem
open Cert.Reference2Ideal.Read

attribute [local instance] Cert.Kernel2Ideal.Gen.facts Cert.Reference2Ideal.Gen.facts

/-- The gradient to the weights at chip `n`, row `k` and the chip's column `q`: the sum over the positions. -/
def weights (h : S2048x1024.Idx → EReal) (d : S2048x9216.Idx → EReal) (i : S4x1024x2304.Idx) : EReal :=
  ∑ p : Fin 2048, h (ix2 p ⟨(i 1).val, (i 1).isLt⟩)
    * d (ix2 p ⟨2304 * (i 0).val + (i 2).val, by have h0 : (i 0).val < 4 := (i 0).isLt; have h2 : (i 2).val < 2304 := (i 2).isLt; omega⟩)

/-- A matrix at an index is the matrix at the index's coordinates. -/
theorem at2 {n k : ℕ} (x : (⟨2, ![n, k]⟩ : Shape).Idx → EReal) (i : (⟨2, ![n, k]⟩ : Shape).Idx) (a : Fin n) (b : Fin k)
    (ha : (i 0).val = a.val) (hb : (i 1).val = b.val) : x i = x (ix2 a b) :=
  congrArg x (funext fun d => match d with | ⟨0, _⟩ => Fin.ext ha | ⟨1, _⟩ => Fin.ext hb)

/-! ## The reference -/

theorem reference_weights (x0 : S2048x1024.Idx → EReal) (x1 : S1x3072.Idx → EReal) (x2 : S2048x9216.Idx → EReal) :
    (val_main_v31 (F := Ideal) x0 x1 x2 : S4x1024x2304.Idx → EReal) = weights (val_main_v24 (F := Ideal) x0 x1) x2 := by
  funext i
  have h0 : (i 0).val < 4 := (i 0).isLt
  have h1 : (i 1).val < 1024 := (i 1).isLt
  have h2 : (i 2).val < 2304 := (i 2).isLt
  show (val_main_v30 (F := Ideal) x0 x1 x2 i : EReal) = _
  rw [val_main_v30_apply, val_main_v29_apply, val_main_v28_apply, val_main_v27_apply]
  unfold weights
  refine Finset.sum_congr rfl fun p _ => ?_
  refine (mul_comm (G := EReal) _ _).trans (congrArg₂ (fun a b : EReal => a * b) ?_ ?_)
  · refine at2 (val_main_v24 (F := Ideal) x0 x1) _ p _ rfl ?_
    show (((i 1).val * 4 + (i 0).val) * 2304 + (i 2).val) / 9216 = (i 1).val
    omega
  · refine at2 x2 _ p _ rfl ?_
    show (((i 1).val * 4 + (i 0).val) * 2304 + (i 2).val) % 9216 = 2304 * (i 0).val + (i 2).val
    omega

/-! ## The kernel -/

variable (m : (ℓ : Loc nD τ sig) → Buf (Elt Ideal) ℓ) (ρ : Dev nD → PrngReg) (c : Dev nD)

/-- The operand that the host lines compute. -/
abbrev operand : S2048x1024.Idx → EReal :=
  val_main_v24 (F := Ideal) (m ((c : Thread nD τ).loc main_arg0)) (m ((c : Thread nD τ).loc main_arg1))

theorem V_operand : V m c main_v24 = operand m c := by
  sl_kernel_rfl

/-- The product of one block, into zeros. -/
theorem product (a : FVec Ideal S2048x1024 .bf16) (b : FVec Ideal S2048x2304 .bf16) (k : Fin 1024) (q : Fin 2304) :
    matmul dot_S2048x1024_S2048x2304_S1024x2304_0_0_1_1_n_n none a b (constant S1024x2304 .f32 0x00000000#32) (ix2 k q)
      = ∑ p : Fin 2048, a (ix2 p k) * b (ix2 p q) := by
  refine (Ideal.matmul_constant_zero_apply _ none _ _ _).trans ((DotDims.sum_contr₁ _ rfl rfl _).trans ?_)
  exact Finset.sum_congr rfl fun p _ => congrArg₂ (fun x y : EReal => x * y)
    (at2 (a : S2048x1024.Idx → EReal) _ _ _ rfl rfl) (at2 (b : S2048x2304.Idx → EReal) _ _ _ rfl rfl)

/-- What one grid step leaves in its result block. -/
theorem block (x0 : FVec Ideal S2048x1024 .bf16) (x1 : FVec Ideal S2048x2304 .bf16) (k : Fin 1024) (q : Fin 2304) :
    out0_2 (F := Ideal) x0 x1 (ix3 0 k q) = ∑ p : Fin 2048, x0 (ix2 p k) * x1 (ix2 p q) := by
  unfold out0_2
  rw [View.canon_unit_zero (funext fun a => match a with | ⟨0, _⟩ => rfl | ⟨1, _⟩ => rfl | ⟨2, _⟩ => rfl)]
  unfold k0_pay1
  refine (shapeCast_apply _ _ _ (ix2 k q) (by
    rw [Shape.rowMajor_val_three, Shape.rowMajor_val_two]; show k.val * 2304 + q.val = (0 * 1024 + k.val) * 2304 + q.val; omega)).trans ?_
  refine (product _ _ k q).trans (Finset.sum_congr rfl fun p _ => congrArg₂ (fun x y : EReal => x * y) ?_ ?_)
  · refine (shapeCast_apply _ _ _ (ix2 p k) rfl).trans ?_
    rw [View.ld_unit_zero (funext fun a => match a with | ⟨0, _⟩ => rfl | ⟨1, _⟩ => rfl)]
  · rw [View.ld_unit_zero (funext fun a => match a with | ⟨0, _⟩ => rfl | ⟨1, _⟩ => rfl)]

theorem place0 : ∀ t : Fin cfg0.N, win0_0.index t 0 = 0 ∧ win0_0.index t 1 = 0 := (by decide +kernel : ∀ t : Fin grid0.N, _)
theorem place1 : ∀ t : Fin cfg0.N, win0_1.index t 0 = 0 ∧ win0_1.index t 1 = t.val := (by decide +kernel : ∀ t : Fin grid0.N, _)
theorem place2 : ∀ t : Fin cfg0.N, win0_2.index t 0 = t.val ∧ win0_2.index t 1 = 0 ∧ win0_2.index t 2 = 0 :=
  (by decide +kernel : ∀ t : Fin grid0.N, _)

theorem count (t : Fin cfg0.N) : t.val < 4 := t.isLt

theorem operand_block (t : Fin cfg0.N) (p : Fin 2048) (k : Fin 1024) :
    (iblk m c 0 t : S2048x1024.Idx → EReal) (ix2 p k) = operand m c (ix2 p k) :=
  (at2 (V m c main_v24 : S2048x1024.Idx → EReal) (((cfg0.win 0).blk t).view.emb (ix2 p k)) p k
    (show win0_0.index t 0 * 2048 + 1 * p.val = p.val by rw [(place0 t).1]; omega)
    (show win0_0.index t 1 * 1024 + 1 * k.val = k.val by rw [(place0 t).2]; omega)).trans (congrFun (V_operand m c) _)

theorem cotangent_block (t : Fin cfg0.N) (p : Fin 2048) (q : Fin 2304) :
    (iblk m c 1 t : S2048x2304.Idx → EReal) (ix2 p q)
      = (m ((c : Thread nD τ).loc main_arg2) : S2048x9216.Idx → EReal) (ix2 p ⟨2304 * t.val + q.val, by have := count t; omega⟩) :=
  (at2 (V m c main_arg2 : S2048x9216.Idx → EReal) (((cfg0.win 1).blk t).view.emb (ix2 p q)) p ⟨2304 * t.val + q.val, by have := count t; omega⟩
    (show win0_1.index t 0 * 2048 + 1 * p.val = p.val by rw [(place1 t).1]; omega)
    (show win0_1.index t 1 * 2304 + 1 * q.val = 2304 * t.val + q.val by rw [(place1 t).2]; omega)).trans (congrFun (V_main_arg2 m c) _)

/-- The result array after the run. -/
theorem final : (dats m 0 c).arrAt 2 cfg0.N = weights (operand m c) (m ((c : Thread nD τ).loc main_arg2)) := by
  refine (dats m 0 c).arrAt_eq_of_covers 2 _ (by decide +kernel) fun t hf y => ?_
  show (dats m 0 c).after 2 t ((cfg0.win 2).xinj (grid0.coords t) y) = weights (operand m c) (m ((c : Thread nD τ).loc main_arg2)) (((cfg0.win 2).blk t).view.emb y)
  rw [after0_2]
  have y0 : (y 0).val < 1 := (y 0).isLt
  have y1 : (y 1).val < 1024 := (y 1).isLt
  have y2 : (y 2).val < 2304 := (y 2).isLt
  have e : (cfg0.win 2).xinj (grid0.coords t) y = (ix3 0 ⟨(y 1).val, y1⟩ ⟨(y 2).val, y2⟩ : S1x1024x2304.Idx) :=
    funext fun d => match d with
      | ⟨0, _⟩ => Fin.ext (show (y 0).val = 0 by omega)
      | ⟨1, _⟩ => Fin.ext rfl
      | ⟨2, _⟩ => Fin.ext rfl
  have e0 : ((((cfg0.win 2).blk t).view.emb y) 0).val = t.val := show win0_2.index t 0 * 1 + 1 * (y 0).val = t.val by rw [(place2 t).1]; omega
  have e1 : ((((cfg0.win 2).blk t).view.emb y) 1).val = (y 1).val := show win0_2.index t 1 * 1024 + 1 * (y 1).val = (y 1).val by rw [(place2 t).2.1]; omega
  have e2 : ((((cfg0.win 2).blk t).view.emb y) 2).val = (y 2).val := show win0_2.index t 2 * 2304 + 1 * (y 2).val = (y 2).val by rw [(place2 t).2.2]; omega
  rw [e]
  refine (block _ _ _ _).trans ?_
  unfold weights
  refine Finset.sum_congr rfl fun p _ => congrArg₂ (fun a b : EReal => a * b) ?_ ?_
  · refine (operand_block m c t p _).trans (congrArg (operand m c) (congrArg (ix2 p) (Fin.ext e1.symm)))
  · refine (cotangent_block m c t p _).trans (congrArg (m ((c : Thread nD τ).loc main_arg2) : S2048x9216.Idx → EReal) (congrArg (ix2 p) (Fin.ext ?_)))
    show 2304 * t.val + (y 2).val = 2304 * _ + _
    rw [e0, e2]

/-! ## The claim -/

theorem algebraic : Cert.algebraic_Kernel2Ideal_Reference2Ideal := by
  intro m g m' g' _ hargs
  refine ⟨fun c => weights (operand m c) (m ((c : Thread nD τ).loc main_arg2)), ?_, ?_⟩
  · refine (θ_run _ _ _).mono (fun r h c => ?_) (Cert.Kernel2Ideal.Value.run_blocks (F := Ideal) m g)
    exact ⟨(h c).1.trans (final m c), (h c).2⟩
  · refine (θ_run _ _ _).mono (fun r h c => ?_) (Cert.Reference2Ideal.Value.run (F := Ideal) m' g')
    obtain ⟨h0, hk⟩ := h c
    obtain ⟨e0, e1, e2⟩ := hargs c
    refine ⟨?_, hk⟩
    rw [e0, e1, e2] at h0
    exact (h0.trans (val_main_v31_eq _ _ _)).trans (reference_weights _ _ _)

end Cert.GradW

end
end
-- ==== Proof.KernelFrame.lean ====
/-
The program and its idealization have one text: the run over any floats is a run of both.
-/
module

public import proofs.«01_k».proof.Defs
public import proofs.«01_k».proof.Proof.Gen.Kernel
public import proofs.«01_k».proof.Proof.Launch

@[expose] public section

set_option maxHeartbeats 2000000

noncomputable section

namespace Cert.Kernel.Hand

open Idealize.ShloMosaic Idealize.ShloMosaic.TcCoe Idealize.SL.Sem Idealize.ShloMosaic.Tactic

attribute [local instance] Cert.Kernel.Gen.facts Cert.KernelIdeal.Gen.facts

/-- A run of the program at machine floats is a run of the idealization's text at machine floats. -/
theorem run_eq (m : (ℓ : Loc Cert.Kernel.nD Cert.Kernel.τ Cert.Kernel.sig) → Buf (Elt Bits) ℓ) (g : Dev Cert.Kernel.nD → PrngReg)
    (Q : PUnit × MemSt Cert.Kernel.nD Cert.Kernel.τ Cert.Kernel.sig (Elt Bits) → Prop) :
    θ_run (Cert.Kernel.defs (F := Bits)) (onTc (τ := Cert.Kernel.τ) (Cert.Kernel.main (F := Bits))) ⟨m, fun _ => 0, g⟩ Q
      = θ_run (Cert.KernelIdeal.defs (F := Bits)) (onTc (τ := Cert.KernelIdeal.τ) (Cert.KernelIdeal.main (F := Bits))) ⟨m, fun _ => 0, g⟩ Q := by
  sl_kernel_rfl

/-- The program's frame. -/
theorem kept : Cert.quiescent_Kernel := fun m g _ =>
  (run_eq m g _).mpr ((θ_run Cert.KernelIdeal.defs _ _).mono (fun _ h => ⟨fun c => h.1 c, h.2⟩) (Cert.KernelIdeal.Hand.kept (F := Bits) m g))

end Cert.Kernel.Hand

end
end
-- ==== Proof.LossHead.lean ====
/-
The call `loss_head`: the loss of the last layer's result against its target, and the gradient of the loss. The kernel's two results, and
the reference's, are `gradient` and `loss`, the second in every element of a tile.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.RefVal
public import proofs.«01_k».proof.Proof.Proj
public import Idealize.ShloMosaic.Lib.Pipeline.ValueKit.Geometry
public import Idealize.ShloMosaic.Lib.Pointwise.Contract
public import Idealize.ShloMosaic.PureOps.Ideal.Laws

@[expose] public section

set_option maxRecDepth 16384
set_option maxHeartbeats 1000000

noncomputable section

namespace Cert.LossHead

open Cert.Kernel9Ideal Cert.Kernel9Ideal.Gen
open Idealize.ShloMosaic hiding ix1 ix2 ix3 ix4
open Idealize.ShloMosaic.TcCoe Idealize.ShloMosaic.Tactic Idealize.ShloMosaic.ValueIdx Idealize.SL.Sem
open Cert.Merge (one_word mean width width_real)
open Cert.ReferenceIdeal.Hand (at2)
open Cert.Proj (ext2)

attribute [local instance] Cert.Kernel9Ideal.Gen.facts Cert.Reference9Ideal.Gen.facts

/-! ## The results -/

/-- One half. -/
def half : EReal := Ideal.ofBits .f32 0x3F000000#32
/-- One over the width. -/
def scale : EReal := Ideal.ofBits .f32 0x3A800000#32

theorem half_real : half = ((1 / 2 : ℝ) : EReal) := by
  simp [half, Ideal.ofBits, Ideal.ieee, -EReal.coe_mul]; norm_num
theorem scale_real : scale = ((1 / 1024 : ℝ) : EReal) := by
  simp [scale, Ideal.ofBits, Ideal.ieee, -EReal.coe_mul]; norm_num
theorem two_real : Ideal.ofBits .f32 0x40000000#32 = ((2 : ℝ) : EReal) := by
  simp [Ideal.ofBits, Ideal.ieee, -EReal.coe_mul]; norm_num

/-- The gradient: the error over the width. -/
def gradient (x y : S2048x1024.Idx → EReal) (i : S2048x1024.Idx) : EReal := (x i - y i) * scale

/-- A row's mean square error. -/
def rowLoss (x y : S2048x1024.Idx → EReal) (r : Fin 2048) : EReal := mean fun k => (x (ix2 r k) - y (ix2 r k)) * (x (ix2 r k) - y (ix2 r k))

/-- Half the sum of the rows' mean square errors. -/
def loss (x y : S2048x1024.Idx → EReal) : EReal := half * ∑ r, rowLoss x y r

theorem half_add (a b : EReal) : half * (a + b) = half * a + half * b := by
  rw [half_real]
  exact EReal.left_distrib_of_nonneg_of_ne_top (by exact_mod_cast (by norm_num : (0 : ℝ) ≤ 1 / 2)) (EReal.coe_ne_top _) a b

/-! ## The reference -/

section Reference

open Cert.Reference9Ideal.Read

variable (x y : S2048x1024.Idx → EReal)

theorem factor (e : EReal) : Ideal.div (half * 1) width * (((2 : ℝ) : EReal) * e) = e * scale := by
  rw [width_real, Ideal.div_coe (by norm_num), half_real, scale_real, mul_one, ← mul_assoc, ← EReal.coe_mul, ← EReal.coe_mul, mul_comm]
  norm_num

theorem ref_gradient : (val_main_v14 (F := Ideal) x y : S2048x1024.Idx → EReal) = gradient x y := by
  funext i
  rw [val_main_v14_apply, val_main_v13_apply, val_main_v12_apply, val_main_v11_apply, val_main_v10_apply, val_main_v3_apply, val_main_v2_apply]
  refine Eq.trans (b := Ideal.div (half * Ideal.ofBits .f32 0x3F800000#32) width * (Ideal.ofBits .f32 0x40000000#32 * (x i - y i))) rfl ?_
  rw [one_word, two_real]
  exact factor _

/-- The rows' indices. -/
def rows : Cert.Reference9Ideal.S2048.Idx ≃ Fin 2048 where
  toFun i := ⟨(i 0).val, (i 0).isLt⟩
  invFun r := ix1 r
  left_inv i := funext fun a => match a with | ⟨0, _⟩ => rfl
  right_inv r := rfl

theorem ref_loss : (val_main_v15 (F := Ideal) x y : S8x128.Idx → EReal) = fun _ => loss x y := by
  funext i
  rw [val_main_v15_apply, val_main_v8_apply, val_main_v7_apply]
  refine congrArg (fun a : EReal => half * a) ?_
  refine (congrArg₂ (fun a b : EReal => a + b) Ideal.ofBits_zero_f32 (Fintype.sum_equiv rows _ (rowLoss x y) fun j => ?_)).trans (zero_add _)
  rw [val_main_v6_apply, val_main_v5_apply, val_main_v4_apply]
  refine congrArg (fun a : EReal => Ideal.div a width) ?_
  refine (congrArg₂ (fun a b : EReal => a + b) Ideal.ofBits_zero_f32 (Finset.sum_congr rfl fun k _ => ?_)).trans (zero_add _)
  exact congrArg (fun j => ((x j - y j) * (x j - y j) : EReal)) (ext2 rfl rfl)

end Reference

/-! ## A tile of rows -/

section Tile

theorem zeros2 : (![0, 0] : Fin 2 → ℕ) = fun _ => 0 := by funext a; fin_cases a <;> rfl

variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S8x128 .f32) (h4 : a4.IsWhole)
  (x0 x1 : Vec Ideal S512x1024 .f32) (s : Vec Ideal S8x128 .f32)

theorem outA_2 (hc : cond0_0 i) : out0_A_2 c i a1 h1 a2 h2 a3 h3 a4 h4 hc x0 x1 = k0_pay3 x0 x1 := by
  unfold out0_A_2
  rw [View.read_writes_junk_eq_canon]
  unfold kernelRun0_A; dsimp only; sl_unfold_words
  rw [View.canon_cons_unit_zero (S := S512x1024) zeros2]
  simp only [View.readAt_eq_ld, h1.read_unread, h2.read_unread, View.ld_unit_zero (S := S512x1024) zeros2]

theorem outB_2 (hc : ¬cond0_0 i) : out0_B_2 c i a1 h1 a2 h2 a3 h3 a4 h4 hc x0 x1 s = k0_pay3 x0 x1 := by
  unfold out0_B_2
  rw [View.read_writes_junk_eq_canon]
  unfold kernelRun0_B; dsimp only; sl_unfold_words
  rw [View.canon_cons_unit_zero (S := S512x1024) zeros2]
  simp only [View.readAt_eq_ld, h1.read_unread, h2.read_unread, View.ld_unit_zero (S := S512x1024) zeros2]

theorem outA_3 (hc : cond0_0 i) : out0_A_3 c i a1 h1 a2 h2 a3 h3 a4 h4 hc x0 x1 = k0_pay4 x0 x1 (k0_pay1 (F := Ideal)) := by
  unfold out0_A_3
  rw [View.read_writes_junk_eq_canon]
  unfold kernelRun0_A; dsimp only; sl_unfold_words
  rw [View.canon_cons_unit_zero (S := S8x128) zeros2]
  simp only [View.readAt_eq_ld, h1.read_unread, h2.read_unread, View.ld_unit_zero (S := S512x1024) zeros2]
  rw [View.readCov_unit_zero (S := S8x128) _ zeros2]

theorem outB_3 (hc : ¬cond0_0 i) : out0_B_3 c i a1 h1 a2 h2 a3 h3 a4 h4 hc x0 x1 s = k0_pay4 x0 x1 s := by
  unfold out0_B_3
  rw [View.read_writes_junk_eq_canon]
  unfold kernelRun0_B; dsimp only; sl_unfold_words
  rw [View.canon_cons_unit_zero (S := S8x128) zeros2]
  simp only [View.readAt_eq_ld, h1.read_unread, h2.read_unread, h4.read_unread, View.ld_unit_zero (S := S512x1024) zeros2, View.ld_unit_zero (S := S8x128) zeros2]

/-- A tile's rows' indices. -/
def tileRows : S1x512x1.Idx ≃ Fin 512 where
  toFun i := ⟨(i 1).val, (i 1).isLt⟩
  invFun r := ix3 0 r 0
  left_inv i := funext fun a => match a with
    | ⟨0, _⟩ => Fin.ext (by have h : (i 0).val < 1 := (i 0).isLt; show 0 = (i 0).val; omega)
    | ⟨1, _⟩ => rfl
    | ⟨2, _⟩ => Fin.ext (by have h : (i 2).val < 1 := (i 2).isLt; show 0 = (i 2).val; omega)
  right_inv r := rfl

/-- A tile's contribution to the loss is added. -/
theorem added (j : S8x128.Idx) : (k0_pay4 x0 x1 s j : EReal)
    = s j + half * ∑ p : Fin 512, mean fun k => (x0 (ix2 p k) - x1 (ix2 p k)) * (x0 (ix2 p k) - x1 (ix2 p k)) := by
  refine congrArg₂ (fun a b : EReal => a + b) (shapeCast_apply s _ j j rfl) (congrArg (fun a : EReal => half * a) ?_)
  refine (shapeCast_apply (s := S1) (t := S1x1x1) _ _ _ (ix1 0) (by rw [Shape.rowMajor_val_one, Shape.rowMajor_val_three]; rfl)).trans ?_
  refine (Ideal.multiReduction_add_total _ 0x00000000#32 reduces_S1x512x1_S1 (fun b => match b with | ⟨0, _⟩ => rfl) (.inl rfl) rfl _).trans ?_
  refine Fintype.sum_equiv tileRows _ _ fun i => ?_
  have i0 : (i 0).val < 1 := (i 0).isLt
  have i1 : (i 1).val < 512 := (i 1).isLt
  have i2 : (i 2).val < 1 := (i 2).isLt
  refine (shapeCast_apply (s := S512x1) (t := S1x512x1) _ _ i (ix2 ⟨(i 1).val, i1⟩ 0) (by
    rw [Shape.rowMajor_val_two, Shape.rowMajor_val_three]
    show (i 1).val * 1 + 0 = ((i 0).val * 512 + (i 1).val) * 1 + (i 2).val
    omega)).trans ?_
  refine congrArg (fun a : EReal => Ideal.div a width) ?_
  refine (shapeCast_apply (s := S512) (t := S512x1) _ _ _ (ix1 ⟨(i 1).val, i1⟩) (by
    rw [Shape.rowMajor_val_one, Shape.rowMajor_val_two]
    show (i 1).val = (i 1).val * 1 + 0
    omega)).trans ?_
  refine (Ideal.multiReduction_add_single _ 0x00000000#32 reduces_S512x1024_S512 (.inl rfl) rfl _).trans ?_
  exact Finset.sum_congr rfl fun k _ => congrArg (fun j => ((x0 j - x1 j) * (x0 j - x1 j) : EReal)) (ext2 rfl rfl)

end Tile

/-! ## The blocks -/

variable (m : (ℓ : Loc nD τ sig) → Buf (Elt Ideal) ℓ) (ρ : Dev nD → PrngReg) (c : Dev nD)

/-- The arguments on device `c`. -/
abbrev X : S2048x1024.Idx → EReal := m ((c : Thread nD τ).loc main_arg0)
abbrev Y : S2048x1024.Idx → EReal := m ((c : Thread nD τ).loc main_arg1)

theorem count (t : Fin cfg0.N) : t.val < 4 := t.isLt

theorem place : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) := (by decide +kernel : ∀ t : Fin grid0.N, _)

/-- Row `p` of grid point `t`. -/
abbrev rowOf (t : Fin cfg0.N) (p : Fin 512) : Fin 2048 := ⟨512 * t.val + p.val, by have := count t; omega⟩

/-- The blocks of grid point `t`. -/
abbrev b0 (t : Fin cfg0.N) : Vec Ideal S512x1024 .f32 := iblk m c 0 t
abbrev b1 (t : Fin cfg0.N) : Vec Ideal S512x1024 .f32 := iblk m c 1 t

theorem b0_at (t : Fin cfg0.N) (p : Fin 512) (k : Fin 1024) : (b0 m c t (ix2 p k) : EReal) = X m c (ix2 (rowOf t p) k) :=
  (congrArg (V m c main_arg0 : S2048x1024.Idx → EReal) (ext2 (x := ((cfg0.win 0).blk t).view.emb (ix2 p k)) (y := ix2 (rowOf t p) k)
    (show win0_0.index t 0 * 512 + 1 * p.val = 512 * t.val + p.val by rw [(place t).1.1]; omega)
    (show win0_0.index t 1 * 1024 + 1 * k.val = k.val by rw [(place t).1.2]; omega))).trans (congrFun (V_main_arg0 m c) _)
theorem b1_at (t : Fin cfg0.N) (p : Fin 512) (k : Fin 1024) : (b1 m c t (ix2 p k) : EReal) = Y m c (ix2 (rowOf t p) k) :=
  (congrArg (V m c main_arg1 : S2048x1024.Idx → EReal) (ext2 (x := ((cfg0.win 1).blk t).view.emb (ix2 p k)) (y := ix2 (rowOf t p) k)
    (show win0_1.index t 0 * 512 + 1 * p.val = 512 * t.val + p.val by rw [(place t).2.1.1]; omega)
    (show win0_1.index t 1 * 1024 + 1 * k.val = k.val by rw [(place t).2.1.2]; omega))).trans (congrFun (V_main_arg1 m c) _)

/-- What grid point `t` leaves of the gradient. -/
theorem left_gradient (t : Fin cfg0.N) : (outsAt0 m c t.val t.isLt).1 = k0_pay3 (b0 m c t) (b1 m c t) := by
  by_cases h : t.val % 4 = 0
  · refine (congrArg Prod.fst (outsAt0_A m c t h)).trans ?_
    dsimp only
    exact outA_2 c (grid0.coords t) (ms0_0 t) (hs0_0 t) (ms0_1 t) (hs0_1 t) (ms0_2 t) (hs0_2 t) (ms0_3 t) (hs0_3 t) (b0 m c t) (b1 m c t) ((hcond0_0 t).mpr h)
  · refine (congrArg Prod.fst (outsAt0_B m c t h)).trans ?_
    dsimp only
    exact outB_2 c (grid0.coords t) (ms0_0 t) (hs0_0 t) (ms0_1 t) (hs0_1 t) (ms0_2 t) (hs0_2 t) (ms0_3 t) (hs0_3 t) (b0 m c t) (b1 m c t) _ fun e => h ((hcond0_0 t).mp e)

/-- The rows' losses of grid point `t`. -/
def part (t : Fin cfg0.N) : EReal := ∑ p : Fin 512, rowLoss (X m c) (Y m c) (rowOf t p)

theorem part_eq (t : Fin cfg0.N) : (∑ p : Fin 512, mean fun k => (b0 m c t (ix2 p k) - b1 m c t (ix2 p k)) * (b0 m c t (ix2 p k) - b1 m c t (ix2 p k)) : EReal) = part m c t := by
  refine Finset.sum_congr rfl fun p _ => congrArg mean (funext fun k => ?_)
  have e := congrArg₂ (fun a b : EReal => a - b) (b0_at m c t p k) (b1_at m c t p k)
  exact congrArg₂ (fun a b : EReal => a * b) e e

/-- What the grid points up to the `n`-th leave of the loss. -/
theorem left_loss (j : S8x128.Idx) : ∀ (n : ℕ) (hn : n < cfg0.N),
    ((outsAt0 m c n hn).2 j : EReal) = half * ∑ s : Fin (n + 1), part m c ⟨s.val, lt_of_lt_of_le s.isLt hn⟩ := by
  intro n
  induction n with
  | zero =>
    intro hn
    rw [Fin.sum_univ_one]
    refine (congrFun (congrArg Prod.snd (outsAt0_A m c ⟨0, hn⟩ rfl)) j).trans ?_
    dsimp only
    rw [outA_3]
    refine (added (b0 m c ⟨0, hn⟩) (b1 m c ⟨0, hn⟩) _ j).trans ?_
    rw [part_eq]
    show Ideal.ofBits .f32 0x00000000#32 + half * part m c ⟨0, hn⟩ = _
    rw [Ideal.ofBits_zero_f32, zero_add]
    rfl
  | succ n ih =>
    intro hn
    have hn4 : n + 1 < 4 := hn
    rw [Fin.sum_univ_castSucc, half_add]
    refine (congrFun (congrArg Prod.snd (outsAt0_B m c ⟨n + 1, hn⟩ (show ¬(n + 1) % 4 = 0 by omega))) j).trans ?_
    dsimp only
    rw [outB_3]
    refine (added (b0 m c ⟨n + 1, hn⟩) (b1 m c ⟨n + 1, hn⟩) (outsAt0 m c n (Nat.lt_of_succ_lt hn)).2 j).trans ?_
    rw [part_eq, ih]
    rfl

/-- The grid points' parts make the whole sum. -/
theorem parts (h : 3 < cfg0.N) : ∑ s : Fin 4, part m c ⟨s.val, lt_of_lt_of_le s.isLt h⟩ = ∑ r, rowLoss (X m c) (Y m c) r := by
  refine (Fintype.sum_prod_type' (fun (s : Fin 4) (p : Fin 512) => rowLoss (X m c) (Y m c) (rowOf ⟨s.val, lt_of_lt_of_le s.isLt h⟩ p))).symm.trans ?_
  exact Fintype.sum_equiv finProdFinEquiv _ _ fun x => congrArg (rowLoss (X m c) (Y m c))
    (Fin.ext (show 512 * x.1.val + x.2.val = x.2.val + 512 * x.1.val from Nat.add_comm _ _))

/-! ## The arrays after the run -/

theorem final_gradient : (dats m 0 c).arrAt 2 cfg0.N = gradient (X m c) (Y m c) := by
  refine (dats m 0 c).arrAt_eq_of_covers 2 _ (by decide +kernel) fun t hf y => ?_
  show (dats m 0 c).after 2 t ((cfg0.win 2).xinj (grid0.coords t) y) = gradient (X m c) (Y m c) (((cfg0.win 2).blk t).view.emb y)
  rw [after0_2, left_gradient]
  have y0 : (y 0).val < 512 := (y 0).isLt
  have y1 : (y 1).val < 1024 := (y 1).isLt
  have e : (cfg0.win 2).xinj (grid0.coords t) y = (ix2 ⟨(y 0).val, y0⟩ ⟨(y 1).val, y1⟩ : S512x1024.Idx) := ext2 rfl rfl
  have e' : ((cfg0.win 2).blk t).view.emb y = (ix2 (rowOf t ⟨(y 0).val, y0⟩) ⟨(y 1).val, y1⟩ : S2048x1024.Idx) := ext2
    (show win0_2.index t 0 * 512 + 1 * (y 0).val = 512 * t.val + (y 0).val by rw [(place t).2.2.1.1]; omega)
    (show win0_2.index t 1 * 1024 + 1 * (y 1).val = (y 1).val by rw [(place t).2.2.1.2]; omega)
  rw [e, e']
  exact congrArg₂ (fun a b : EReal => (a - b) * scale) (b0_at m c t _ _) (b1_at m c t _ _)

theorem last (t : Fin cfg0.N) (hf : (cfg0.win 3).flush t = true) : t.val = 3 := by
  revert t
  decide +kernel

theorem final_loss : (dats m 0 c).arrAt 3 cfg0.N = fun _ : S8x128.Idx => loss (X m c) (Y m c) := by
  refine (dats m 0 c).arrAt_eq_of_covers 3 _ (by decide +kernel) fun t hf y => ?_
  show (dats m 0 c).after 3 t ((cfg0.win 3).xinj (grid0.coords t) y) = loss (X m c) (Y m c)
  rw [after0_3]
  obtain ⟨n, hn⟩ := t
  obtain rfl : n = 3 := last ⟨n, hn⟩ hf
  exact (left_loss m c _ 3 hn).trans (congrArg (fun a : EReal => half * a) (parts m c hn))

/-! ## The claim -/

theorem algebraic : Cert.algebraic_Kernel9Ideal_Reference9Ideal := by
  intro m g m' g' _ hargs
  refine ⟨fun c => gradient (X m c) (Y m c), fun c _ => loss (X m c) (Y m c), ?_, ?_⟩
  · refine (θ_run _ _ _).mono (fun r h c => ?_) (Cert.Kernel9Ideal.Value.run_blocks (F := Ideal) m g)
    exact ⟨(h c).1.trans (final_gradient m c), (h c).2.1.trans (final_loss m c), (h c).2.2⟩
  · refine (θ_run _ _ _).mono (fun r h c => ?_) (Cert.Reference9Ideal.Value.run (F := Ideal) m' g')
    obtain ⟨h0, h1, hk⟩ := h c
    obtain ⟨e0, e1⟩ := hargs c
    refine ⟨?_, ?_, hk⟩
    · rw [e0, e1] at h0
      exact (h0.trans (Cert.Reference9Ideal.Read.val_main_v14_eq _ _)).trans (ref_gradient _ _)
    · rw [e0, e1] at h1
      exact (h1.trans (Cert.Reference9Ideal.Read.val_main_v15_eq _ _)).trans (ref_loss _ _)

end Cert.LossHead

end
end
-- ==== Proof.MergeFwd.lean ====
/-
The call `merge_fwd`: the forward pass from the branches' outputs to the layer's result. The kernel's three results are the layer's
result, the merged branches and their output projection, in the functions of `Spec`; so are the reference's.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.RefVal
public import proofs.«01_k».proof.Proof.Back
public import Idealize.ShloMosaic.Lib.Pipeline.ValueKit.Geometry
public import Idealize.ShloMosaic.Lib.Pointwise.Contract
public import Idealize.ShloMosaic.PureOps.Ideal.Laws

@[expose] public section

set_option maxRecDepth 16384
set_option maxHeartbeats 1000000

noncomputable section

namespace Cert.MergeFwd

open Cert.Kernel5Ideal Cert.Kernel5Ideal.Gen
open Idealize.ShloMosaic hiding ix1 ix2 ix3 ix4
open Idealize.ShloMosaic.TcCoe Idealize.ShloMosaic.Tactic Idealize.ShloMosaic.ValueIdx Idealize.SL.Sem
open Cert.Merge (Args sg alpha res one_word)
open Cert.ReferenceIdeal.Hand (Arrays args)
open Cert.Proj (ext2 trow bcRow)

attribute [local instance] Cert.Kernel5Ideal.Gen.facts Cert.Reference5Ideal.Gen.facts Cert.ReferenceIdeal.Gen.facts

/-- The layer's result: the normalised residual, scaled and shifted. -/
def next (A : Args) (b : S2x1024.Idx → EReal) (i : S2048x1024.Idx) : EReal :=
  Cert.Merge.std (A.row ⟨(i 0).val, (i 0).isLt⟩) ⟨(i 1).val, (i 1).isLt⟩ * A.lg ⟨(i 1).val, (i 1).isLt⟩ + b (ix2 1 ⟨(i 1).val, (i 1).isLt⟩)
/-- The merged branches, -/
def merged (A : Args) (i : S2048x1024.Idx) : EReal := A.merged ⟨(i 0).val, (i 0).isLt⟩ ⟨(i 1).val, (i 1).isLt⟩
/-- and their output projection. -/
def out (A : Args) (i : S2048x1024.Idx) : EReal := A.out ⟨(i 0).val, (i 0).isLt⟩ ⟨(i 1).val, (i 1).isLt⟩

/-! ## The reference -/

section Reference

variable (X : Arrays) (b : S2x1024.Idx → EReal)

theorem ref_merged : (Cert.Reference5Ideal.Read.val_main_v69 (F := Ideal) X.x3 X.x4 X.x5 X.x6 X.x7 : S2048x1024.Idx → EReal) = merged (args X) :=
  funext fun i => show Cert.ReferenceIdeal.Read.val_main_v49 (F := Ideal) X.x3 X.x4 X.x5 X.x6 X.x7 i = _ from Cert.ReferenceIdeal.Hand.mg X i

theorem ref_out : (Cert.Reference5Ideal.Read.val_main_v38 (F := Ideal) X.x3 X.x4 X.x5 X.x6 X.x7 X.x8 : S2048x1024.Idx → EReal) = out (args X) :=
  funext fun i => show Cert.ReferenceIdeal.Read.val_main_v50 (F := Ideal) X.x3 X.x4 X.x5 X.x6 X.x7 X.x8 i = _ from Cert.ReferenceIdeal.Hand.ot X i

theorem ref_std (i : S2048x1024.Idx) :
    (Cert.Reference5Ideal.Read.val_main_v62 (F := Ideal) X.x1 X.x2 X.x3 X.x4 X.x5 X.x6 X.x7 X.x8 i : EReal) = Cert.Merge.std ((args X).row (i 0)) (i 1) :=
  show Cert.ReferenceIdeal.Read.val_main_v76 (F := Ideal) X.x1 X.x2 X.x3 X.x4 X.x5 X.x6 X.x7 X.x8 i = _ from Cert.ReferenceIdeal.Hand.st X i

open Cert.Reference5Ideal.Read in
theorem ref_next : (val_main_v68 (F := Ideal) X.x1 X.x2 X.x3 X.x4 X.x5 X.x6 X.x7 X.x8 X.x9 b : S2048x1024.Idx → EReal) = next (args X) b := by
  funext i
  rw [val_main_v68_apply, val_main_v67_apply, val_main_v66_apply, val_main_v65_apply, val_main_v64_apply, val_main_v63_apply, ref_std]
  exact congrArg₂ (fun a b : EReal => a + b) (congrArg₂ (fun a b : EReal => a * b) rfl (congrArg X.x9 (ext2 rfl rfl))) (congrArg b (ext2 rfl rfl))

end Reference

/-! ## The tiles -/

/-- The blocks that one grid step reads. -/
structure Tiles where
  x0 : Vec Ideal S512x1024 .f32
  x1 : Vec Ideal S1x3072 .f32
  x2 : Vec Ideal S512x1024 .f32
  x3 : Vec Ideal S512x1024 .f32
  x4 : Vec Ideal S512x1024 .f32
  x5 : Vec Ideal S512x512 .bf16
  x6 : Vec Ideal S512x512 .bf16
  x7 : Vec Ideal S512x512 .bf16
  x8 : Vec Ideal S3x512x1024 .bf16
  x9 : Vec Ideal S4x256x1024 .bf16
  x10 : Vec Ideal S2x1024 .f32
  x11 : Vec Ideal S2x1024 .f32

/-- The blocks hold the arguments' rows `r`. -/
structure Holds (A : Args) (b : S2x1024.Idx → EReal) (r : Fin 512 → Fin 2048) (B : Tiles) : Prop where
  x : ∀ p q, B.x0 (ix2 p q) = A.x (r p) q
  gate : ∀ q : Fin 1024, B.x1 (ix2 0 ⟨2048 + q.val, by omega⟩) = A.gate q
  z0 : ∀ p q, B.x2 (ix2 p q) = A.z 0 (r p) q
  z1 : ∀ p q, B.x3 (ix2 p q) = A.z 1 (r p) q
  z2 : ∀ p q, B.x4 (ix2 p q) = A.z 2 (r p) q
  y0 : ∀ p j, B.x5 (ix2 p j) = A.y 0 (r p) j
  y1 : ∀ p j, B.x6 (ix2 p j) = A.y 1 (r p) j
  y2 : ∀ p j, B.x7 (ix2 p j) = A.y 2 (r p) j
  wb : ∀ i j q, B.x8 (ix3 i j q) = A.wb i j q
  wo : ∀ k q : Fin 1024, B.x9 (ix3 ⟨k.val / 256, by omega⟩ ⟨k.val % 256, by omega⟩ q) = A.wo k q
  lg : ∀ q, B.x10 (ix2 1 q) = A.lg q
  lb : ∀ q, B.x11 (ix2 1 q) = b (ix2 1 q)

section Tile

/-- The product of a branch's tile. -/
theorem prod_at (a : Vec Ideal S512x512 .bf16) (w : Vec Ideal S1x512x1024 .bf16) (p : Fin 512) (q : Fin 1024) :
    (k0_pay2 a w (ix2 p q) : EReal) = ∑ j : Fin 512, a (ix2 p j) * w (ix3 0 j q) := by
  refine (Ideal.matmul_constant_zero_apply _ none _ _ _).trans ((DotDims.sum_contr₁ _ rfl rfl _).trans ?_)
  refine Finset.sum_congr rfl fun k _ => congrArg₂ (fun a b : EReal => a * b) (congrArg a (ext2 rfl rfl)) ?_
  exact shapeCast_apply _ _ _ (ix3 0 k q) (by
    rw [Shape.rowMajor_val_three, Shape.rowMajor_val_two]; show (0 * 512 + k.val) * 1024 + q.val = k.val * 1024 + q.val; omega)

/-- A slab of a stack of weights. -/
theorem slab_at (w : Vec Ideal S3x512x1024 .bf16) (o : ℕ) (inb : ∀ a, (![o, 0, 0] : Fin 3 → ℕ) a + S1x512x1024.size a ≤ S3x512x1024.size a)
    (i : Fin 3) (hi : i.val = o) (j : Fin 512) (q : Fin 1024) :
    View.ld (Val := Elt Ideal) (e' := .bf16) w (Rect.unit ![o, 0, 0] S1x512x1024.size inb) (ix3 0 j q) = w (ix3 i j q) :=
  View.ld_unit_apply_of w _ _ inb (ix3 0 j q) (ix3 i j q)
    fun a => match a with | ⟨0, _⟩ => hi | ⟨1, _⟩ => (Nat.zero_add j.val).symm | ⟨2, _⟩ => (Nat.zero_add q.val).symm

theorem zeros2 : (![0, 0] : Fin 2 → ℕ) = 0 := funext fun a => match a with | ⟨0, _⟩ => rfl | ⟨1, _⟩ => rfl
theorem zeros3 : (![0, 0, 0] : Fin 3 → ℕ) = 0 := funext fun a => match a with | ⟨0, _⟩ => rfl | ⟨1, _⟩ => rfl | ⟨2, _⟩ => rfl

theorem ld_y (x : Vec Ideal S512x512 .bf16) : View.ld x r0_0 = x := by rw [View.ld_unit_zero zeros2]
theorem ld_x (x : Vec Ideal S512x1024 .f32) : View.ld x r0_4 = x := by rw [View.ld_unit_zero zeros2]
theorem ld_wo (x : Vec Ideal S4x256x1024 .bf16) : View.ld x r0_5 = x := by rw [View.ld_unit_zero zeros3]

/-- The second row of the norm's scale or offset. -/
theorem ld_row (x : Vec Ideal S2x1024 .f32) (q : Fin 1024) : (View.ld x r0_7 (ix2 0 q) : EReal) = x (ix2 1 q) :=
  View.ld_unit_apply_of x _ _ _ _ _ fun a => match a with
    | ⟨0, _⟩ => rfl
    | ⟨1, _⟩ => (Nat.zero_add q.val).symm
theorem ld_gate (x : Vec Ideal S1x3072 .f32) (q : Fin 1024) : (View.ld x r0_6 (ix2 0 q) : EReal) = x (ix2 0 ⟨2048 + q.val, by omega⟩) :=
  View.ld_unit_apply_of x _ _ _ _ _ fun a => match a with
    | ⟨0, _⟩ => rfl
    | ⟨1, _⟩ => rfl

/-- The logistic function of a tile. -/
def sgTile (v : FVec Ideal S512x1024 .f32) : FVec Ideal S512x1024 .f32 :=
  divf (broadcast S512x1024 (Scalar.ofBits .f32 0x3F800000#32)) (addf (broadcast S512x1024 (Scalar.ofBits .f32 0x3F800000#32))
    (exp (subf (broadcast S512x1024 (Scalar.ofBits .f32 0x00000000#32)) v)))

theorem sgTile_at (v : FVec Ideal S512x1024 .f32) (i : S512x1024.Idx) : (sgTile v i : EReal) = sg (v i) := by
  show Ideal.div (Ideal.ofBits .f32 0x3F800000#32) (Ideal.ofBits .f32 0x3F800000#32 + Ideal.exp (Ideal.ofBits .f32 0x00000000#32 - v i)) = _
  rw [one_word, Ideal.ofBits_zero_f32, zero_sub]
  rfl

variable {A : Args} {b : S2x1024.Idx → EReal} {r : Fin 512 → Fin 2048} {B : Tiles} (h : Holds A b r B)
include h

theorem p0 (p : Fin 512) (q : Fin 1024) : (k0_pay2 (View.ld B.x5 r0_0) (View.ld B.x8 r0_1) (ix2 p q) : EReal) = A.ps 0 (r p) q := by
  rw [ld_y]
  exact (prod_at _ _ p q).trans (Finset.sum_congr rfl fun j _ => congrArg₂ (fun a b : EReal => a * b) (h.y0 p j) ((slab_at B.x8 0 _ 0 rfl j q).trans (h.wb 0 j q)))
theorem p1 (p : Fin 512) (q : Fin 1024) : (k0_pay2 (View.ld B.x6 r0_0) (View.ld B.x8 r0_2) (ix2 p q) : EReal) = A.ps 1 (r p) q := by
  rw [ld_y]
  exact (prod_at _ _ p q).trans (Finset.sum_congr rfl fun j _ => congrArg₂ (fun a b : EReal => a * b) (h.y1 p j) ((slab_at B.x8 1 _ 1 rfl j q).trans (h.wb 1 j q)))
theorem p2 (p : Fin 512) (q : Fin 1024) : (k0_pay2 (View.ld B.x7 r0_0) (View.ld B.x8 r0_3) (ix2 p q) : EReal) = A.ps 2 (r p) q := by
  rw [ld_y]
  exact (prod_at _ _ p q).trans (Finset.sum_congr rfl fun j _ => congrArg₂ (fun a b : EReal => a * b) (h.y2 p j) ((slab_at B.x8 2 _ 2 rfl j q).trans (h.wb 2 j q)))

omit h in
/-- The tile of the merged branches. -/
def Tiles.mg (B : Tiles) : FVec Ideal S512x1024 .bf16 :=
  k0_pay4 (k0_pay8 B.x0 B.x1 B.x2 B.x3 B.x4 B.x5 B.x6 B.x7 B.x8 B.x9 B.x10 B.x11) (k0_pay9 B.x0 B.x1 B.x2 B.x3 B.x4 B.x5 B.x6 B.x7 B.x8 B.x9 B.x10 B.x11)
    (View.ld B.x4 r0_4)

theorem mg_at (p : Fin 512) (q : Fin 1024) : (B.mg (ix2 p q) : EReal) = A.merged (r p) q := by
  show (addf (addf (mulf (sgTile (View.ld B.x2 r0_4)) (k0_pay2 (View.ld B.x5 r0_0) (View.ld B.x8 r0_1)))
    (mulf (sgTile (View.ld B.x3 r0_4)) (k0_pay2 (View.ld B.x6 r0_0) (View.ld B.x8 r0_2))))
    (mulf (sgTile (View.ld B.x4 r0_4)) (k0_pay2 (View.ld B.x7 r0_0) (View.ld B.x8 r0_3))) (ix2 p q) : EReal) = _
  rw [ld_x, ld_x, ld_x]
  refine congrArg₂ (fun a b : EReal => a + b) (congrArg₂ (fun a b : EReal => a + b) (congrArg₂ (fun a b : EReal => a * b) ?_ (p0 h p q))
    (congrArg₂ (fun a b : EReal => a * b) ?_ (p1 h p q))) (congrArg₂ (fun a b : EReal => a * b) ?_ (p2 h p q))
  · exact (sgTile_at _ _).trans (congrArg sg (h.z0 p q))
  · exact (sgTile_at _ _).trans (congrArg sg (h.z1 p q))
  · exact (sgTile_at _ _).trans (congrArg sg (h.z2 p q))

omit h in
/-- The tile of the output projection. -/
def Tiles.out (B : Tiles) : FVec Ideal S512x1024 .f32 :=
  k0_pay5 (k0_pay8 B.x0 B.x1 B.x2 B.x3 B.x4 B.x5 B.x6 B.x7 B.x8 B.x9 B.x10 B.x11) (k0_pay9 B.x0 B.x1 B.x2 B.x3 B.x4 B.x5 B.x6 B.x7 B.x8 B.x9 B.x10 B.x11)
    (View.ld B.x4 r0_4) (View.ld B.x9 r0_5)

theorem out_at (p : Fin 512) (q : Fin 1024) : (B.out (ix2 p q) : EReal) = A.out (r p) q := by
  refine (Ideal.matmul_constant_zero_apply _ none _ _ _).trans ((DotDims.sum_contr₁ _ rfl rfl _).trans ?_)
  refine Finset.sum_congr rfl fun (k : Fin 1024) _ => congrArg₂ (fun a b : EReal => a * b) ?_ ?_
  · refine Eq.trans (congrArg (B.mg : S512x1024.Idx → EReal) (?_ : _ = ix2 p k)) (mg_at h p k)
    exact ext2 rfl rfl
  refine (shapeCast_apply _ _ _ (ix3 ⟨k.val / 256, by omega⟩ ⟨k.val % 256, by omega⟩ q) (by
    rw [Shape.rowMajor_val_three, Shape.rowMajor_val_two]
    show (k.val / 256 * 256 + k.val % 256) * 1024 + q.val = k.val * 1024 + q.val
    omega)).trans ?_
  refine (shapeCast_apply _ _ _ (ix3 ⟨k.val / 256, by omega⟩ ⟨k.val % 256, by omega⟩ q) rfl).trans ?_
  rw [ld_wo]
  exact h.wo k q

omit h in
/-- The tile of the residual. -/
def Tiles.res (B : Tiles) : FVec Ideal S512x1024 .f32 :=
  addf (mulf (broadcast S512x1024 (Scalar.ofBits .f32 0x3FB504F3#32)) (View.ld B.x0 r0_4))
    (mulf (broadcastTo S512x1024 (addf (broadcast S1x1024 (Scalar.ofBits .f32 0x3F800000#32)) (View.ld B.x1 r0_6)) broadcasts_S1x1024_S512x1024) B.out)

theorem res_row (p : Fin 512) : trow B.res p = A.row (r p) := by
  funext q
  refine congrArg₂ (fun a b : EReal => a + b) (congrArg (fun a : EReal => alpha * a) ?_)
    (congrArg₂ (fun a b : EReal => a * b) ((bcRow _ p q).trans (congrArg₂ (fun a b : EReal => a + b) one_word ((ld_gate _ q).trans (h.gate q)))) (out_at h p q))
  exact (congrFun (ld_x B.x0) _).trans (h.x p q)

omit h in
/-- The tile of the layer's result. -/
def Tiles.next (B : Tiles) : FVec Ideal S512x1024 .f32 :=
  addf (mulf (Cert.Kernel4Ideal.Hand.std B.res) (broadcastTo S512x1024 (View.ld B.x10 r0_7) broadcasts_S1x1024_S512x1024))
    (broadcastTo S512x1024 (View.ld B.x11 r0_7) broadcasts_S1x1024_S512x1024)

theorem next_at (p : Fin 512) (q : Fin 1024) : (B.next (ix2 p q) : EReal) = Cert.Merge.std (A.row (r p)) q * A.lg q + b (ix2 1 q) :=
  congrArg₂ (fun a b : EReal => a + b) (congrArg₂ (fun a b : EReal => a * b)
    ((Cert.Back.std_at _ p q).trans (congrArg (fun f => Cert.Merge.std f q) (res_row h p))) ((bcRow _ p q).trans ((ld_row _ q).trans (h.lg q))))
    ((bcRow _ p q).trans ((ld_row _ q).trans (h.lb q)))

omit h in
theorem out12 (B : Tiles) : out0_12 (F := Ideal) B.x0 B.x1 B.x2 B.x3 B.x4 B.x5 B.x6 B.x7 B.x8 B.x9 B.x10 B.x11 = B.next := by
  unfold out0_12
  rw [View.canon_unit_zero zeros2]
  rfl
omit h in
theorem out13 (B : Tiles) : out0_13 (F := Ideal) B.x0 B.x1 B.x2 B.x3 B.x4 B.x5 B.x6 B.x7 B.x8 B.x9 B.x10 B.x11 = B.mg := by
  unfold out0_13
  rw [View.canon_unit_zero zeros2]
  rfl
omit h in
theorem out14 (B : Tiles) : out0_14 (F := Ideal) B.x0 B.x1 B.x2 B.x3 B.x4 B.x5 B.x6 B.x7 B.x8 B.x9 B.x10 B.x11 = B.out := by
  unfold out0_14
  rw [View.canon_unit_zero zeros2]
  rfl

end Tile

/-! ## The blocks -/

variable (m : (ℓ : Loc nD τ sig) → Buf (Elt Ideal) ℓ) (ρ : Dev nD → PrngReg) (c : Dev nD)

/-- The arguments on device `c`; the gradient, which `Arrays` has too, plays no part. -/
abbrev given : Arrays where
  x0 := m ((c : Thread nD τ).loc main_arg0)
  x1 := m ((c : Thread nD τ).loc main_arg0)
  x2 := m ((c : Thread nD τ).loc main_arg1)
  x3 := m ((c : Thread nD τ).loc main_arg2)
  x4 := m ((c : Thread nD τ).loc main_arg3)
  x5 := m ((c : Thread nD τ).loc main_arg4)
  x6 := m ((c : Thread nD τ).loc main_arg5)
  x7 := m ((c : Thread nD τ).loc main_arg6)
  x8 := m ((c : Thread nD τ).loc main_arg7)
  x9 := m ((c : Thread nD τ).loc main_arg8)
/-- The norm's offset. -/
abbrev offset : S2x1024.Idx → EReal := m ((c : Thread nD τ).loc main_arg9)

theorem V_wb : V m c main_v0 = (given m c).x7 := by
  sl_kernel_rfl
theorem V_wo : V m c main_v2 = shapeCast S4x256x1024 ((given m c).x8 : S1024x1024.Idx → EReal) shapeCasts_S1024x1024_S4x256x1024 := by
  sl_kernel_rfl

/-- The blocks at grid point `t`. -/
abbrev at' (t : Fin cfg0.N) : Tiles where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t

theorem count (t : Fin cfg0.N) : t.val < 4 := t.isLt

theorem place : ∀ t : Fin cfg0.N, (win0_0.index t 0 = t.val ∧ win0_0.index t 1 = 0) ∧ (win0_1.index t 0 = 0 ∧ win0_1.index t 1 = 0)
    ∧ (win0_2.index t 0 = t.val ∧ win0_2.index t 1 = 6) ∧ (win0_3.index t 0 = t.val ∧ win0_3.index t 1 = 7) ∧ (win0_4.index t 0 = t.val ∧ win0_4.index t 1 = 8)
    ∧ (win0_5.index t 0 = t.val ∧ win0_5.index t 1 = 0) ∧ (win0_6.index t 0 = t.val ∧ win0_6.index t 1 = 0) ∧ (win0_7.index t 0 = t.val ∧ win0_7.index t 1 = 0) :=
  (by decide +kernel : ∀ t : Fin grid0.N, _)
theorem placeW : ∀ t : Fin cfg0.N, (win0_8.index t 0 = 0 ∧ win0_8.index t 1 = 0 ∧ win0_8.index t 2 = 0) ∧ (win0_9.index t 0 = 0 ∧ win0_9.index t 1 = 0 ∧ win0_9.index t 2 = 0)
    ∧ (win0_10.index t 0 = 0 ∧ win0_10.index t 1 = 0) ∧ (win0_11.index t 0 = 0 ∧ win0_11.index t 1 = 0) := (by decide +kernel : ∀ t : Fin grid0.N, _)
theorem placeOut : ∀ t : Fin cfg0.N, (win0_12.index t 0 = t.val ∧ win0_12.index t 1 = 0) ∧ (win0_13.index t 0 = t.val ∧ win0_13.index t 1 = 0)
    ∧ (win0_14.index t 0 = t.val ∧ win0_14.index t 1 = 0) := (by decide +kernel : ∀ t : Fin grid0.N, _)

/-- Row `p` of grid point `t`. -/
abbrev rowOf (t : Fin cfg0.N) (p : Fin 512) : Fin 2048 := ⟨512 * t.val + p.val, by have := count t; omega⟩

theorem holds (t : Fin cfg0.N) : Holds (args (given m c)) (offset m c) (rowOf t) (at' m c t) := by
  obtain ⟨⟨a0, b0⟩, ⟨a1, b1⟩, ⟨a2, b2⟩, ⟨a3, b3⟩, ⟨a4, b4⟩, ⟨a5, b5⟩, ⟨a6, b6⟩, a7, b7⟩ := place t
  obtain ⟨⟨a8, b8, c8⟩, ⟨a9, b9, c9⟩, ⟨a10, b10⟩, a11, b11⟩ := placeW t
  constructor
  · intro p q
    exact (congrArg (V m c main_arg0 : S2048x1024.Idx → EReal) (ext2 (x := ((cfg0.win 0).blk t).view.emb (ix2 p q)) (y := ix2 (rowOf t p) q)
      (show win0_0.index t 0 * 512 + 1 * p.val = 512 * t.val + p.val by rw [a0]; omega)
      (show win0_0.index t 1 * 1024 + 1 * q.val = q.val by rw [b0]; omega))).trans (congrFun (V_main_arg0 m c) _)
  · intro q
    exact (congrArg (V m c main_arg1 : S1x3072.Idx → EReal) (ext2 (x := ((cfg0.win 1).blk t).view.emb (ix2 0 ⟨2048 + q.val, by omega⟩)) (y := ix2 0 ⟨2048 + q.val, by omega⟩)
      (show win0_1.index t 0 * 1 + 1 * 0 = 0 by rw [a1])
      (show win0_1.index t 1 * 3072 + 1 * (2048 + q.val) = 2048 + q.val by rw [b1]; omega))).trans (congrFun (V_main_arg1 m c) _)
  · intro p q
    exact (congrArg (V m c main_arg2 : S2048x9216.Idx → EReal) (ext2 (x := ((cfg0.win 2).blk t).view.emb (ix2 p q)) (y := ix2 (rowOf t p) ⟨6144 + 1024 * (0 : Fin 3).val + q.val, by omega⟩)
      (show win0_2.index t 0 * 512 + 1 * p.val = 512 * t.val + p.val by rw [a2]; omega)
      (show win0_2.index t 1 * 1024 + 1 * q.val = 6144 + 1024 * 0 + q.val by rw [b2]; omega))).trans (congrFun (V_main_arg2 m c) _)
  · intro p q
    exact (congrArg (V m c main_arg2 : S2048x9216.Idx → EReal) (ext2 (x := ((cfg0.win 3).blk t).view.emb (ix2 p q)) (y := ix2 (rowOf t p) ⟨6144 + 1024 * (1 : Fin 3).val + q.val, by omega⟩)
      (show win0_3.index t 0 * 512 + 1 * p.val = 512 * t.val + p.val by rw [a3]; omega)
      (show win0_3.index t 1 * 1024 + 1 * q.val = 6144 + 1024 * 1 + q.val by rw [b3]; omega))).trans (congrFun (V_main_arg2 m c) _)
  · intro p q
    exact (congrArg (V m c main_arg2 : S2048x9216.Idx → EReal) (ext2 (x := ((cfg0.win 4).blk t).view.emb (ix2 p q)) (y := ix2 (rowOf t p) ⟨6144 + 1024 * (2 : Fin 3).val + q.val, by omega⟩)
      (show win0_4.index t 0 * 512 + 1 * p.val = 512 * t.val + p.val by rw [a4]; omega)
      (show win0_4.index t 1 * 1024 + 1 * q.val = 6144 + 1024 * 2 + q.val by rw [b4]; omega))).trans (congrFun (V_main_arg2 m c) _)
  · intro p j
    exact (congrArg (V m c main_arg3 : S2048x512.Idx → EReal) (ext2 (x := ((cfg0.win 5).blk t).view.emb (ix2 p j)) (y := ix2 (rowOf t p) j)
      (show win0_5.index t 0 * 512 + 1 * p.val = 512 * t.val + p.val by rw [a5]; omega)
      (show win0_5.index t 1 * 512 + 1 * j.val = j.val by rw [b5]; omega))).trans (congrFun (V_main_arg3 m c) _)
  · intro p j
    exact (congrArg (V m c main_arg4 : S2048x512.Idx → EReal) (ext2 (x := ((cfg0.win 6).blk t).view.emb (ix2 p j)) (y := ix2 (rowOf t p) j)
      (show win0_6.index t 0 * 512 + 1 * p.val = 512 * t.val + p.val by rw [a6]; omega)
      (show win0_6.index t 1 * 512 + 1 * j.val = j.val by rw [b6]; omega))).trans (congrFun (V_main_arg4 m c) _)
  · intro p j
    exact (congrArg (V m c main_arg5 : S2048x512.Idx → EReal) (ext2 (x := ((cfg0.win 7).blk t).view.emb (ix2 p j)) (y := ix2 (rowOf t p) j)
      (show win0_7.index t 0 * 512 + 1 * p.val = 512 * t.val + p.val by rw [a7]; omega)
      (show win0_7.index t 1 * 512 + 1 * j.val = j.val by rw [b7]; omega))).trans (congrFun (V_main_arg5 m c) _)
  · intro i j q
    refine (congrArg (V m c main_v0 : S3x512x1024.Idx → EReal) (funext fun d => match d with
      | ⟨0, _⟩ => Fin.ext (show win0_8.index t 0 * 3 + 1 * i.val = i.val by rw [a8]; omega)
      | ⟨1, _⟩ => Fin.ext (show win0_8.index t 1 * 512 + 1 * j.val = j.val by rw [b8]; omega)
      | ⟨2, _⟩ => Fin.ext (show win0_8.index t 2 * 1024 + 1 * q.val = q.val by rw [c8]; omega) :
      ((cfg0.win 8).blk t).view.emb (ix3 i j q) = (ix3 i j q : S3x512x1024.Idx))).trans ?_
    exact congrFun (V_wb m c) _
  · intro k q
    refine (congrArg (V m c main_v2 : S4x256x1024.Idx → EReal) (funext fun d => match d with
      | ⟨0, _⟩ => Fin.ext (show win0_9.index t 0 * 4 + 1 * (k.val / 256) = k.val / 256 by rw [a9]; omega)
      | ⟨1, _⟩ => Fin.ext (show win0_9.index t 1 * 256 + 1 * (k.val % 256) = k.val % 256 by rw [b9]; omega)
      | ⟨2, _⟩ => Fin.ext (show win0_9.index t 2 * 1024 + 1 * q.val = q.val by rw [c9]; omega) :
      ((cfg0.win 9).blk t).view.emb (ix3 ⟨k.val / 256, by omega⟩ ⟨k.val % 256, by omega⟩ q)
        = (ix3 ⟨k.val / 256, by omega⟩ ⟨k.val % 256, by omega⟩ q : S4x256x1024.Idx))).trans ?_
    refine (congrFun (V_wo m c) _).trans ?_
    exact shapeCast_apply _ _ _ (ix2 k q) (by
      rw [Shape.rowMajor_val_three, Shape.rowMajor_val_two]
      show k.val * 1024 + q.val = (k.val / 256 * 256 + k.val % 256) * 1024 + q.val
      omega)
  · intro q
    exact (congrArg (V m c main_arg8 : S2x1024.Idx → EReal) (ext2 (x := ((cfg0.win 10).blk t).view.emb (ix2 1 q)) (y := ix2 1 q)
      (show win0_10.index t 0 * 2 + 1 * 1 = 1 by rw [a10])
      (show win0_10.index t 1 * 1024 + 1 * q.val = q.val by rw [b10]; omega))).trans (congrFun (V_main_arg8 m c) _)
  · intro q
    exact (congrArg (V m c main_arg9 : S2x1024.Idx → EReal) (ext2 (x := ((cfg0.win 11).blk t).view.emb (ix2 1 q)) (y := ix2 1 q)
      (show win0_11.index t 0 * 2 + 1 * 1 = 1 by rw [a11])
      (show win0_11.index t 1 * 1024 + 1 * q.val = q.val by rw [b11]; omega))).trans (congrFun (V_main_arg9 m c) _)

/-! ## The results -/

/-- The three arrays after the run: the layer's result, -/
theorem final_next : (dats m 0 c).arrAt 12 cfg0.N = next (args (given m c)) (offset m c) := by
  refine (dats m 0 c).arrAt_eq_of_covers 12 _ (by decide +kernel) fun t hf y => ?_
  show (dats m 0 c).after 12 t ((cfg0.win 12).xinj (grid0.coords t) y) = next (args (given m c)) (offset m c) (((cfg0.win 12).blk t).view.emb y)
  rw [after0_12]
  have y0 : (y 0).val < 512 := (y 0).isLt
  have y1 : (y 1).val < 1024 := (y 1).isLt
  have e : (cfg0.win 12).xinj (grid0.coords t) y = (ix2 ⟨(y 0).val, y0⟩ ⟨(y 1).val, y1⟩ : S512x1024.Idx) := ext2 rfl rfl
  have e0 : ((((cfg0.win 12).blk t).view.emb y) 0).val = 512 * t.val + (y 0).val := show win0_12.index t 0 * 512 + 1 * (y 0).val = _ by rw [(placeOut t).1.1]; omega
  have e1 : ((((cfg0.win 12).blk t).view.emb y) 1).val = (y 1).val := show win0_12.index t 1 * 1024 + 1 * (y 1).val = _ by rw [(placeOut t).1.2]; omega
  rw [e]
  refine (congrFun (out12 (at' m c t)) _).trans ((next_at (holds m c t) _ _).trans ?_)
  exact congrArg₂ (fun p q => Cert.Merge.std ((args (given m c)).row p) q * (args (given m c)).lg q + offset m c (ix2 1 q)) (Fin.ext e0.symm) (Fin.ext e1.symm)

/-- the merged branches -/
theorem final_merged : (dats m 0 c).arrAt 13 cfg0.N = merged (args (given m c)) := by
  refine (dats m 0 c).arrAt_eq_of_covers 13 _ (by decide +kernel) fun t hf y => ?_
  show (dats m 0 c).after 13 t ((cfg0.win 13).xinj (grid0.coords t) y) = merged (args (given m c)) (((cfg0.win 13).blk t).view.emb y)
  rw [after0_13]
  have y0 : (y 0).val < 512 := (y 0).isLt
  have y1 : (y 1).val < 1024 := (y 1).isLt
  have e : (cfg0.win 13).xinj (grid0.coords t) y = (ix2 ⟨(y 0).val, y0⟩ ⟨(y 1).val, y1⟩ : S512x1024.Idx) := ext2 rfl rfl
  have e0 : ((((cfg0.win 13).blk t).view.emb y) 0).val = 512 * t.val + (y 0).val := show win0_13.index t 0 * 512 + 1 * (y 0).val = _ by rw [(placeOut t).2.1.1]; omega
  have e1 : ((((cfg0.win 13).blk t).view.emb y) 1).val = (y 1).val := show win0_13.index t 1 * 1024 + 1 * (y 1).val = _ by rw [(placeOut t).2.1.2]; omega
  rw [e]
  refine (congrFun (out13 (at' m c t)) _).trans ((mg_at (holds m c t) _ _).trans ?_)
  exact congrArg₂ (args (given m c)).merged (Fin.ext e0.symm) (Fin.ext e1.symm)

/-- and their output projection. -/
theorem final_out : (dats m 0 c).arrAt 14 cfg0.N = out (args (given m c)) := by
  refine (dats m 0 c).arrAt_eq_of_covers 14 _ (by decide +kernel) fun t hf y => ?_
  show (dats m 0 c).after 14 t ((cfg0.win 14).xinj (grid0.coords t) y) = out (args (given m c)) (((cfg0.win 14).blk t).view.emb y)
  rw [after0_14]
  have y0 : (y 0).val < 512 := (y 0).isLt
  have y1 : (y 1).val < 1024 := (y 1).isLt
  have e : (cfg0.win 14).xinj (grid0.coords t) y = (ix2 ⟨(y 0).val, y0⟩ ⟨(y 1).val, y1⟩ : S512x1024.Idx) := ext2 rfl rfl
  have e0 : ((((cfg0.win 14).blk t).view.emb y) 0).val = 512 * t.val + (y 0).val := show win0_14.index t 0 * 512 + 1 * (y 0).val = _ by rw [(placeOut t).2.2.1]; omega
  have e1 : ((((cfg0.win 14).blk t).view.emb y) 1).val = (y 1).val := show win0_14.index t 1 * 1024 + 1 * (y 1).val = _ by rw [(placeOut t).2.2.2]; omega
  rw [e]
  refine (congrFun (out14 (at' m c t)) _).trans ((out_at (holds m c t) _ _).trans ?_)
  exact congrArg₂ (args (given m c)).out (Fin.ext e0.symm) (Fin.ext e1.symm)

/-! ## The claim -/

theorem algebraic : Cert.algebraic_Kernel5Ideal_Reference5Ideal := by
  intro m g m' g' _ hargs
  refine ⟨fun c => next (args (given m c)) (offset m c), fun c => merged (args (given m c)), fun c => out (args (given m c)), ?_, ?_⟩
  · refine (θ_run _ _ _).mono (fun r h c => ?_) (Cert.Kernel5Ideal.Value.run_blocks (F := Ideal) m g)
    exact ⟨(h c).1.trans (final_next m c), (h c).2.1.trans (final_merged m c), (h c).2.2.1.trans (final_out m c), (h c).2.2.2⟩
  · refine (θ_run _ _ _).mono (fun r h c => ?_) (Cert.Reference5Ideal.Value.run (F := Ideal) m' g')
    obtain ⟨h0, h1, h2, hk⟩ := h c
    obtain ⟨e0, e1, e2, e3, e4, e5, e6, e7, e8, e9⟩ := hargs c
    refine ⟨?_, ?_, ?_, hk⟩
    · refine (h0.trans (Cert.Reference5Ideal.Read.val_main_v68_eq m' c)).trans ?_
      rw [e0, e1, e2, e3, e4, e5, e6, e7, e8, e9]
      exact ref_next (given m c) (offset m c)
    · rw [e2, e3, e4, e5, e6] at h1
      exact (h1.trans (Cert.Reference5Ideal.Read.val_main_v69_eq _ _ _ _ _)).trans (ref_merged (given m c))
    · rw [e2, e3, e4, e5, e6, e7] at h2
      exact (h2.trans (Cert.Reference5Ideal.Read.val_main_v38_eq _ _ _ _ _ _)).trans (ref_out (given m c))

end Cert.MergeFwd

end
end
-- ==== Proof.ModRows.lean ====
/-
The call `mod_rows`: the modulation's product, for every layer and every device's conditioning row. Both programs end with `rows` of
the conditioning rows and of the weights, the layers' columns side by side.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.GradMod

@[expose] public section

set_option maxRecDepth 16384
set_option maxHeartbeats 1000000

noncomputable section

namespace Cert.ModRows

open Cert.Kernel7Ideal Cert.Kernel7Ideal.Gen
open Idealize.ShloMosaic hiding ix1 ix2 ix3 ix4
open Idealize.ShloMosaic.TcCoe Idealize.ShloMosaic.Tactic Idealize.ShloMosaic.ValueIdx Idealize.SL.Sem
open Cert.Reference7Ideal.Read
open Cert.GradMod (at2 at3)

attribute [local instance] Cert.Kernel7Ideal.Gen.facts Cert.Reference7Ideal.Gen.facts

/-- Column `n` of device `b`'s row: of layer `n / 768` the column `n % 768`. -/
def rows (x : S8x1024.Idx → EReal) (w : S2x1024x768.Idx → EReal) (i : S8x1536.Idx) : EReal :=
  ∑ k : Fin 1024, x (ix2 ⟨(i 0).val, (i 0).isLt⟩ k)
    * w (ix3 ⟨(i 1).val / 768, by have h : (i 1).val < 1536 := (i 1).isLt; omega⟩ k ⟨(i 1).val % 768, by omega⟩)

/-! ## The reference -/

theorem reference_rows (x0 : S8x1024.Idx → EReal) (x1 : S2x1024x768.Idx → EReal) :
    (val_main_v1 (F := Ideal) x0 x1 : S8x1536.Idx → EReal) = rows x0 x1 := by
  funext i
  have h0 : (i 0).val < 8 := (i 0).isLt
  have h1 : (i 1).val < 1536 := (i 1).isLt
  show (val_main_v1 (F := Ideal) x0 x1 i : EReal) = _
  rw [val_main_v1_apply, val_main_v0_apply]
  unfold rows
  refine Finset.sum_congr rfl fun k _ => congrArg₂ (fun a b : EReal => a * b) (at2 x0 _ _ _ ?_ rfl) (at3 x1 _ _ _ _ ?_ rfl ?_)
  · show ((i 0).val * 1536 + (i 1).val) / 1536 = (i 0).val
    omega
  · show ((i 0).val * 1536 + (i 1).val) / 768 % 2 = (i 1).val / 768
    omega
  · show ((i 0).val * 1536 + (i 1).val) % 768 = (i 1).val % 768
    omega

/-! ## The kernel -/

variable (m : (ℓ : Loc nD τ sig) → Buf (Elt Ideal) ℓ) (ρ : Dev nD → PrngReg) (c : Dev nD)

/-- The product of one block, into zeros. -/
theorem product (a : FVec Ideal S8x1024 .bf16) (b : FVec Ideal S1024x768 .bf16) (p : Fin 8) (q : Fin 768) :
    matmul dot_S8x1024_S1024x768_S8x768_1_0_0_1_n_n none a b (constant S8x768 .f32 0x00000000#32) (ix2 p q)
      = ∑ k : Fin 1024, a (ix2 p k) * b (ix2 k q) := by
  refine (Ideal.matmul_constant_zero_apply _ none _ _ _).trans ((DotDims.sum_contr₁ _ rfl rfl _).trans ?_)
  exact Finset.sum_congr rfl fun k _ => congrArg₂ (fun x y : EReal => x * y)
    (at2 (a : S8x1024.Idx → EReal) _ _ _ rfl rfl) (at2 (b : S1024x768.Idx → EReal) _ _ _ rfl rfl)

/-- What one grid step leaves in its result block. -/
theorem block (x0 : Vec Ideal S8x1024 .f32) (x1 : Vec Ideal S1x1024x768 .f32) (p : Fin 8) (q : Fin 768) :
    (out0_2 (F := Ideal) x0 x1 (ix2 p q) : EReal) = ∑ k : Fin 1024, x0 (ix2 p k) * x1 (ix3 0 k q) := by
  unfold out0_2
  rw [View.canon_unit_zero (funext fun a => match a with | ⟨0, _⟩ => rfl | ⟨1, _⟩ => rfl)]
  unfold k0_pay1
  refine (product _ _ p q).trans (Finset.sum_congr rfl fun k _ => congrArg₂ (fun x y : EReal => x * y) ?_ ?_)
  · show View.ld x0 r0_0 (ix2 p k) = _
    rw [View.ld_unit_zero (funext fun a => match a with | ⟨0, _⟩ => rfl | ⟨1, _⟩ => rfl)]
  · show (shapeCast S1024x768 (View.ld x1 r0_1) shapeCasts_S1x1024x768_S1024x768 (ix2 k q) : EReal) = _
    refine (shapeCast_apply _ _ _ (ix3 0 k q) (by
      rw [Shape.rowMajor_val_three, Shape.rowMajor_val_two]; show (0 * 1024 + k.val) * 768 + q.val = k.val * 768 + q.val; omega)).trans ?_
    rw [View.ld_unit_zero (funext fun a => match a with | ⟨0, _⟩ => rfl | ⟨1, _⟩ => rfl | ⟨2, _⟩ => rfl)]

theorem place : ∀ t : Fin cfg0.N, (win0_0.index t 0 = 0 ∧ win0_0.index t 1 = 0)
    ∧ (win0_1.index t 0 = t.val ∧ win0_1.index t 1 = 0 ∧ win0_1.index t 2 = 0)
    ∧ (win0_2.index t 0 = 0 ∧ win0_2.index t 1 = t.val) :=
  (by decide +kernel : ∀ t : Fin grid0.N, _)

theorem count (t : Fin cfg0.N) : t.val < 2 := t.isLt

theorem rows_block (t : Fin cfg0.N) (p : Fin 8) (k : Fin 1024) :
    (iblk m c 0 t : S8x1024.Idx → EReal) (ix2 p k) = (m ((c : Thread nD τ).loc main_arg0) : S8x1024.Idx → EReal) (ix2 p k) :=
  (at2 (V m c main_arg0 : S8x1024.Idx → EReal) (((cfg0.win 0).blk t).view.emb (ix2 p k)) p k
    (show win0_0.index t 0 * 8 + 1 * p.val = p.val by rw [(place t).1.1]; omega)
    (show win0_0.index t 1 * 1024 + 1 * k.val = k.val by rw [(place t).1.2]; omega)).trans (congrFun (V_main_arg0 m c) _)

theorem weights_block (t : Fin cfg0.N) (k : Fin 1024) (q : Fin 768) :
    (iblk m c 1 t : S1x1024x768.Idx → EReal) (ix3 0 k q)
      = (m ((c : Thread nD τ).loc main_arg1) : S2x1024x768.Idx → EReal) (ix3 ⟨t.val, count t⟩ k q) :=
  (at3 (V m c main_arg1 : S2x1024x768.Idx → EReal) (((cfg0.win 1).blk t).view.emb (ix3 0 k q)) ⟨t.val, count t⟩ k q
    (show win0_1.index t 0 * 1 + 1 * 0 = t.val by rw [(place t).2.1.1]; omega)
    (show win0_1.index t 1 * 1024 + 1 * k.val = k.val by rw [(place t).2.1.2.1]; omega)
    (show win0_1.index t 2 * 768 + 1 * q.val = q.val by rw [(place t).2.1.2.2]; omega)).trans (congrFun (V_main_arg1 m c) _)

/-- The result array after the run. -/
theorem final : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  show (dats m 0 c).after 2 t ((cfg0.win 2).xinj (grid0.coords t) y)
    = rows (m ((c : Thread nD τ).loc main_arg0)) (m ((c : Thread nD τ).loc main_arg1)) (((cfg0.win 2).blk t).view.emb y)
  rw [after0_2]
  have y0 : (y 0).val < 8 := (y 0).isLt
  have y1 : (y 1).val < 768 := (y 1).isLt
  have e : (cfg0.win 2).xinj (grid0.coords t) y = (ix2 ⟨(y 0).val, y0⟩ ⟨(y 1).val, y1⟩ : S8x768.Idx) :=
    funext fun d => match d with
      | ⟨0, _⟩ => Fin.ext rfl
      | ⟨1, _⟩ => Fin.ext rfl
  have e0 : ((((cfg0.win 2).blk t).view.emb y) 0).val = (y 0).val := show win0_2.index t 0 * 8 + 1 * (y 0).val = _ by rw [(place t).2.2.1]; omega
  have e1 : ((((cfg0.win 2).blk t).view.emb y) 1).val = 768 * t.val + (y 1).val := show win0_2.index t 1 * 768 + 1 * (y 1).val = _ by rw [(place t).2.2.2]; omega
  rw [e]
  refine (block _ _ _ _).trans ?_
  unfold rows
  refine Finset.sum_congr rfl fun k _ => congrArg₂ (fun a b : EReal => a * b) ?_ ?_
  · exact (rows_block m c t _ k).trans (congrArg (fun a => (m ((c : Thread nD τ).loc main_arg0) : S8x1024.Idx → EReal) (ix2 a k)) (Fin.ext e0.symm))
  · exact (weights_block m c t k _).trans (congrArg₂ (fun a b => (m ((c : Thread nD τ).loc main_arg1) : S2x1024x768.Idx → EReal) (ix3 a k b))
      (Fin.ext (show t.val = _ / 768 by rw [e1]; omega)) (Fin.ext (show (y 1).val = _ % 768 by rw [e1]; omega)))

/-! ## The claim -/

theorem algebraic : Cert.algebraic_Kernel7Ideal_Reference7Ideal := by
  intro m g m' g' _ hargs
  refine ⟨fun c => rows (m ((c : Thread nD τ).loc main_arg0)) (m ((c : Thread nD τ).loc main_arg1)), ?_, ?_⟩
  · refine (θ_run _ _ _).mono (fun r h c => ?_) (Cert.Kernel7Ideal.Value.run_blocks (F := Ideal) m g)
    exact ⟨(h c).1.trans (final m c), (h c).2⟩
  · refine (θ_run _ _ _).mono (fun r h c => ?_) (Cert.Reference7Ideal.Value.run (F := Ideal) m' g')
    obtain ⟨h0, hk⟩ := h c
    obtain ⟨e0, e1⟩ := hargs c
    refine ⟨?_, hk⟩
    rw [e0, e1] at h0
    exact (h0.trans (val_main_v1_eq _ _)).trans (reference_rows _ _)

end Cert.ModRows

end
end
-- ==== Proof.ProjFrame.lean ====
/-
The call `proj_fwd`: the program and its idealization have one text, and the run over any floats is a run of both.
-/
module

public import proofs.«01_k».proof.Defs
public import proofs.«01_k».proof.Proof.Gen.Kernel3
public import proofs.«01_k».proof.Proof.ProjLaunch

@[expose] public section

set_option maxHeartbeats 2000000

noncomputable section

namespace Cert.Kernel3.Hand

open Idealize.ShloMosaic Idealize.ShloMosaic.TcCoe Idealize.SL.Sem Idealize.ShloMosaic.Tactic

attribute [local instance] Cert.Kernel3.Gen.facts Cert.Kernel3Ideal.Gen.facts

/-- A run of the program at machine floats is a run of the idealization's text at machine floats. -/
theorem run_eq (m : (ℓ : Loc Cert.Kernel3.nD Cert.Kernel3.τ Cert.Kernel3.sig) → Buf (Elt Bits) ℓ) (g : Dev Cert.Kernel3.nD → PrngReg)
    (Q : PUnit × MemSt Cert.Kernel3.nD Cert.Kernel3.τ Cert.Kernel3.sig (Elt Bits) → Prop) :
    θ_run (Cert.Kernel3.defs (F := Bits)) (onTc (τ := Cert.Kernel3.τ) (Cert.Kernel3.main (F := Bits))) ⟨m, fun _ => 0, g⟩ Q
      = θ_run (Cert.Kernel3Ideal.defs (F := Bits)) (onTc (τ := Cert.Kernel3Ideal.τ) (Cert.Kernel3Ideal.main (F := Bits))) ⟨m, fun _ => 0, g⟩ Q := by
  sl_kernel_rfl

/-- The program's frame. -/
theorem kept : Cert.quiescent_Kernel3 := fun m g _ =>
  (run_eq m g _).mpr ((θ_run Cert.Kernel3Ideal.defs _ _).mono (fun _ h => ⟨fun c => h.1 c, h.2⟩) (Cert.Kernel3Ideal.Hand.kept (F := Bits) m g))

end Cert.Kernel3.Hand

end
end
-- ==== Proof.RefFrame.lean ====
/-
The reference's frame: its run leaves the arguments as they were, and it declares no semaphore.
-/
module

public import proofs.«01_k».proof.Defs
public import proofs.«01_k».proof.Proof.Gen.ReferenceIdeal
public import proofs.«01_k».proof.Proof.Gen.ReferenceIdeal.Run
public import Idealize.ShloMosaic.Lib.Claim

@[expose] public section

set_option maxHeartbeats 1000000

noncomputable section

namespace Cert.ReferenceIdeal.Hand

open Idealize.ShloMosaic Idealize.ShloMosaic.TcCoe Idealize.SL.Sem

attribute [local instance] Cert.ReferenceIdeal.Gen.facts

theorem kept : Cert.quiescent_ReferenceIdeal := fun m g _ =>
  (θ_run Cert.ReferenceIdeal.defs _ _).mono
    (fun r h => ⟨fun c => (h c).2.2.2.2.2.2.2.2.2.2, sem_eq_zero_of_no_sems (by decide) r.2⟩)
    (Cert.ReferenceIdeal.Value.run m g)

end Cert.ReferenceIdeal.Hand

end
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite
public import proofs.«01_k».proof.Proof.Gen.On_written
public import proofs.«01_k».proof.Proof.Algebra
public import proofs.«01_k».proof.Proof.Gen.Kernel3
public import proofs.«01_k».proof.Proof.Gen.Kernel4
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel3Ideal
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Back
public import proofs.«01_k».proof.Proof.BackFrame
public import proofs.«01_k».proof.Proof.BranchFwd
public import proofs.«01_k».proof.Proof.GradMod
public import proofs.«01_k».proof.Proof.GradW
public import proofs.«01_k».proof.Proof.KernelFrame
public import proofs.«01_k».proof.Proof.LossHead
public import proofs.«01_k».proof.Proof.MergeFwd
public import proofs.«01_k».proof.Proof.ModRows
public import proofs.«01_k».proof.Proof.Proj
public import proofs.«01_k».proof.Proof.ProjFrame
public import proofs.«01_k».proof.Proof.RefFrame

@[expose] public section

open Idealize.ShloMosaic Idealize.ShloMosaic.TcCoe Idealize.SL.Sem

noncomputable section

namespace Cert.Proof

attribute [local instance] Cert.Reference2Ideal.Gen.facts Cert.Reference3Ideal.Gen.facts Cert.Reference4Ideal.Gen.facts
  Cert.Reference5Ideal.Gen.facts Cert.Reference6Ideal.Gen.facts Cert.Reference7Ideal.Gen.facts Cert.Reference8Ideal.Gen.facts
  Cert.Reference9Ideal.Gen.facts

/-- The second reference's frame. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The third reference's frame. -/
theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

/-- The fourth reference's frame. -/
theorem frame_reference4 : Cert.quiescent_Reference4Ideal := fun m g _ =>
  (θ_run Cert.Reference4Ideal.defs _ _).mono (fun r h => ⟨fun c => (h c).2.2.2, sem_eq_zero_of_no_sems (by decide) r.2⟩)
    (Cert.Reference4Ideal.Value.run m g)

/-- The fifth reference's frame. -/
theorem frame_reference5 : Cert.quiescent_Reference5Ideal := fun m g _ =>
  (θ_run Cert.Reference5Ideal.defs _ _).mono (fun r h => ⟨fun c => (h c).2.2.2, sem_eq_zero_of_no_sems (by decide) r.2⟩)
    (Cert.Reference5Ideal.Value.run m g)

/-- The sixth reference's frame. -/
theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The seventh reference's frame. -/
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The eighth reference's frame. -/
theorem frame_reference8 : Cert.quiescent_Reference8Ideal := fun m g _ =>
  (θ_run Cert.Reference8Ideal.defs _ _).mono (fun r h => ⟨fun c => (h c).2.2.2, sem_eq_zero_of_no_sems (by decide) r.2⟩)
    (Cert.Reference8Ideal.Value.run m g)

/-- The ninth reference's frame. -/
theorem frame_reference9 : Cert.quiescent_Reference9Ideal := fun m g _ =>
  (θ_run Cert.Reference9Ideal.defs _ _).mono (fun r h => ⟨fun c => (h c).2.2, sem_eq_zero_of_no_sems (by decide) r.2⟩)
    (Cert.Reference9Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts, Cert.Pre_finite4.Gen.facts, Cert.On_written.Gen.facts,
    Cert.Kernel.Hand.kept, fun m ρ _ => Cert.KernelIdeal.Hand.kept m ρ, fun m ρ _ => Cert.KernelIdeal.Hand.kept m ρ, Cert.ReferenceIdeal.Hand.kept,
    fun m ρ _ => Cert.ReferenceIdeal.Hand.kept m ρ trivial,
    fun m ρ _ => Cert.Kernel2.Gen.frame m ρ, fun m ρ _ => Cert.Kernel2Ideal.Gen.frame m ρ, frame_reference2,
    Cert.Kernel3.Hand.kept, fun m ρ _ => Cert.Kernel3Ideal.Hand.kept m ρ, frame_reference3,
    Cert.Kernel4.Hand.kept, fun m ρ _ => Cert.Kernel4Ideal.Hand.kept m ρ, fun m ρ _ => Cert.Kernel4Ideal.Hand.kept m ρ, frame_reference4,
    fun m ρ _ => frame_reference4 m ρ trivial,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    trivial, Cert.KernelIdeal.Hand.algebraic, trivial, Cert.GradW.algebraic, trivial, Cert.Proj.algebraic, trivial,
    Cert.Back.algebraic, trivial, Cert.MergeFwd.algebraic, trivial, Cert.GradMod.algebraic,
    trivial, Cert.ModRows.algebraic, trivial, Cert.BranchFwd.algebraic, trivial, Cert.LossHead.algebraic⟩

end Cert.Proof

end
end
